-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_RefAIdeal (m : (ℓ : Loc Cert.RefAIdeal.nD Cert.RefAIdeal.τ Cert.RefAIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_RefBIdeal (m : (ℓ : Loc Cert.RefBIdeal.nD Cert.RefBIdeal.τ Cert.RefBIdeal.sig) → Buf (Elt Ideal) ℓ) : Prop :=
  True

def Pre_MergeA (m : (ℓ : Loc Cert.MergeA.nD Cert.MergeA.τ Cert.MergeA.sig) → Buf (Elt Bits) ℓ) : Prop :=
  True

def Pre_MergeAIdeal (m : (ℓ : Loc Cert.MergeAIdeal.nD Cert.MergeAIdeal.τ Cert.MergeAIdeal.sig) → Buf (Elt Ideal) ℓ) : Prop :=
  True

def Pre_RefMAIdeal (m : (ℓ : Loc Cert.RefMAIdeal.nD Cert.RefMAIdeal.τ Cert.RefMAIdeal.sig) → Buf (Elt Ideal) ℓ) : Prop :=
  True

def Pre_MergeB (m : (ℓ : Loc Cert.MergeB.nD Cert.MergeB.τ Cert.MergeB.sig) → Buf (Elt Bits) ℓ) : Prop :=
  True

def Pre_MergeBIdeal (m : (ℓ : Loc Cert.MergeBIdeal.nD Cert.MergeBIdeal.τ Cert.MergeBIdeal.sig) → Buf (Elt Ideal) ℓ) : Prop :=
  True

def Pre_RefMBIdeal (m : (ℓ : Loc Cert.RefMBIdeal.nD Cert.RefMBIdeal.τ Cert.RefMBIdeal.sig) → Buf (Elt Ideal) ℓ) : Prop :=
  True

def Pre_SampleA (m : (ℓ : Loc Cert.SampleA.nD Cert.SampleA.τ Cert.SampleA.sig) → Buf (Elt Bits) ℓ) : Prop :=
  True

def Pre_SampleAIdeal (m : (ℓ : Loc Cert.SampleAIdeal.nD Cert.SampleAIdeal.τ Cert.SampleAIdeal.sig) → Buf (Elt Ideal) ℓ) : Prop :=
  True

def Pre_RefSAIdeal (m : (ℓ : Loc Cert.RefSAIdeal.nD Cert.RefSAIdeal.τ Cert.RefSAIdeal.sig) → Buf (Elt Ideal) ℓ) : Prop :=
  True

def Pre_SampleB (m : (ℓ : Loc Cert.SampleB.nD Cert.SampleB.τ Cert.SampleB.sig) → Buf (Elt Bits) ℓ) : Prop :=
  True

def Pre_SampleBIdeal (m : (ℓ : Loc Cert.SampleBIdeal.nD Cert.SampleBIdeal.τ Cert.SampleBIdeal.sig) → Buf (Elt Ideal) ℓ) : Prop :=
  True

def Pre_RefSBIdeal (m : (ℓ : Loc Cert.RefSBIdeal.nD Cert.RefSBIdeal.τ Cert.RefSBIdeal.sig) → Buf (Elt Ideal) ℓ) : Prop :=
  True

def Pre_SMergeB (m : (ℓ : Loc Cert.SMergeB.nD Cert.SMergeB.τ Cert.SMergeB.sig) → Buf (Elt Bits) ℓ) : Prop :=
  True

def Pre_SMergeBIdeal (m : (ℓ : Loc Cert.SMergeBIdeal.nD Cert.SMergeBIdeal.τ Cert.SMergeBIdeal.sig) → Buf (Elt Ideal) ℓ) : Prop :=
  True

def Pre_RefSMBIdeal (m : (ℓ : Loc Cert.RefSMBIdeal.nD Cert.RefSMBIdeal.τ Cert.RefSMBIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2)
      ∧ r.2.mem ((c.tc : Thread Cert.ProjA.nD Cert.ProjA.τ).loc Cert.ProjA.main_arg3) = m ((c.tc : Thread Cert.ProjA.nD Cert.ProjA.τ).loc Cert.ProjA.main_arg3)
      ∧ r.2.mem ((c.tc : Thread Cert.ProjA.nD Cert.ProjA.τ).loc Cert.ProjA.main_arg4) = m ((c.tc : Thread Cert.ProjA.nD Cert.ProjA.τ).loc Cert.ProjA.main_arg4))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
      ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3)
      ∧ r.2.mem ((c.tc : Thread Cert.ProjAIdeal.nD Cert.ProjAIdeal.τ).loc Cert.ProjAIdeal.main_arg4) = m ((c.tc : Thread Cert.ProjAIdeal.nD Cert.ProjAIdeal.τ).loc Cert.ProjAIdeal.main_arg4))
      ∧ r.2.sem = fun _ => 0)

def quiescent_RefAIdeal [hRefAIdeal : Cert.RefAIdeal.Facts] : Prop :=
  ∀ (m : (ℓ : Loc Cert.RefAIdeal.nD Cert.RefAIdeal.τ Cert.RefAIdeal.sig) → Buf (Elt Ideal) ℓ) (g : Dev Cert.RefAIdeal.nD → PrngReg), Pre_RefAIdeal m →
    θ_run (Cert.RefAIdeal.defs (F := Ideal)) (onTc (τ := Cert.RefAIdeal.τ) (Cert.RefAIdeal.main (F := Ideal))) ⟨m, fun _ => 0, g⟩ (fun r => (∀ c : Dev Cert.RefAIdeal.nD,
      r.2.mem ((c.tc : Thread Cert.RefAIdeal.nD Cert.RefAIdeal.τ).loc Cert.RefAIdeal.main_arg0) = m ((c.tc : Thread Cert.RefAIdeal.nD Cert.RefAIdeal.τ).loc Cert.RefAIdeal.main_arg0)
      ∧ r.2.mem ((c.tc : Thread Cert.RefAIdeal.nD Cert.RefAIdeal.τ).loc Cert.RefAIdeal.main_arg1) = m ((c.tc : Thread Cert.RefAIdeal.nD Cert.RefAIdeal.τ).loc Cert.RefAIdeal.main_arg1)
      ∧ r.2.mem ((c.tc : Thread Cert.RefAIdeal.nD Cert.RefAIdeal.τ).loc Cert.RefAIdeal.main_arg2) = m ((c.tc : Thread Cert.RefAIdeal.nD Cert.RefAIdeal.τ).loc Cert.RefAIdeal.main_arg2)
      ∧ r.2.mem ((c.tc : Thread Cert.RefAIdeal.nD Cert.RefAIdeal.τ).loc Cert.RefAIdeal.main_arg3) = m ((c.tc : Thread Cert.RefAIdeal.nD Cert.RefAIdeal.τ).loc Cert.RefAIdeal.main_arg3)
      ∧ r.2.mem ((c.tc : Thread Cert.RefAIdeal.nD Cert.RefAIdeal.τ).loc Cert.RefAIdeal.main_arg4) = m ((c.tc : Thread Cert.RefAIdeal.nD Cert.RefAIdeal.τ).loc Cert.RefAIdeal.main_arg4))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2)
      ∧ r.2.mem ((c.tc : Thread Cert.ProjB.nD Cert.ProjB.τ).loc Cert.ProjB.main_arg3) = m ((c.tc : Thread Cert.ProjB.nD Cert.ProjB.τ).loc Cert.ProjB.main_arg3)
      ∧ r.2.mem ((c.tc : Thread Cert.ProjB.nD Cert.ProjB.τ).loc Cert.ProjB.main_arg4) = m ((c.tc : Thread Cert.ProjB.nD Cert.ProjB.τ).loc Cert.ProjB.main_arg4))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2)
      ∧ r.2.mem ((c.tc : Thread Cert.ProjBIdeal.nD Cert.ProjBIdeal.τ).loc Cert.ProjBIdeal.main_arg3) = m ((c.tc : Thread Cert.ProjBIdeal.nD Cert.ProjBIdeal.τ).loc Cert.ProjBIdeal.main_arg3)
      ∧ r.2.mem ((c.tc : Thread Cert.ProjBIdeal.nD Cert.ProjBIdeal.τ).loc Cert.ProjBIdeal.main_arg4) = m ((c.tc : Thread Cert.ProjBIdeal.nD Cert.ProjBIdeal.τ).loc Cert.ProjBIdeal.main_arg4))
      ∧ r.2.sem = fun _ => 0)

def quiescent_RefBIdeal [hRefBIdeal : Cert.RefBIdeal.Facts] : Prop :=
  ∀ (m : (ℓ : Loc Cert.RefBIdeal.nD Cert.RefBIdeal.τ Cert.RefBIdeal.sig) → Buf (Elt Ideal) ℓ) (g : Dev Cert.RefBIdeal.nD → PrngReg), Pre_RefBIdeal m →
    θ_run (Cert.RefBIdeal.defs (F := Ideal)) (onTc (τ := Cert.RefBIdeal.τ) (Cert.RefBIdeal.main (F := Ideal))) ⟨m, fun _ => 0, g⟩ (fun r => (∀ c : Dev Cert.RefBIdeal.nD,
      r.2.mem ((c.tc : Thread Cert.RefBIdeal.nD Cert.RefBIdeal.τ).loc Cert.RefBIdeal.main_arg0) = m ((c.tc : Thread Cert.RefBIdeal.nD Cert.RefBIdeal.τ).loc Cert.RefBIdeal.main_arg0)
      ∧ r.2.mem ((c.tc : Thread Cert.RefBIdeal.nD Cert.RefBIdeal.τ).loc Cert.RefBIdeal.main_arg1) = m ((c.tc : Thread Cert.RefBIdeal.nD Cert.RefBIdeal.τ).loc Cert.RefBIdeal.main_arg1)
      ∧ r.2.mem ((c.tc : Thread Cert.RefBIdeal.nD Cert.RefBIdeal.τ).loc Cert.RefBIdeal.main_arg2) = m ((c.tc : Thread Cert.RefBIdeal.nD Cert.RefBIdeal.τ).loc Cert.RefBIdeal.main_arg2)
      ∧ r.2.mem ((c.tc : Thread Cert.RefBIdeal.nD Cert.RefBIdeal.τ).loc Cert.RefBIdeal.main_arg3) = m ((c.tc : Thread Cert.RefBIdeal.nD Cert.RefBIdeal.τ).loc Cert.RefBIdeal.main_arg3)
      ∧ r.2.mem ((c.tc : Thread Cert.RefBIdeal.nD Cert.RefBIdeal.τ).loc Cert.RefBIdeal.main_arg4) = m ((c.tc : Thread Cert.RefBIdeal.nD Cert.RefBIdeal.τ).loc Cert.RefBIdeal.main_arg4))
      ∧ r.2.sem = fun _ => 0)

def quiescent_MergeA [hMergeA : Cert.MergeA.Facts] : Prop :=
  ∀ (m : (ℓ : Loc Cert.MergeA.nD Cert.MergeA.τ Cert.MergeA.sig) → Buf (Elt Bits) ℓ) (g : Dev Cert.MergeA.nD → PrngReg), Pre_MergeA m →
    θ_run (Cert.MergeA.defs (F := Bits)) (onTc (τ := Cert.MergeA.τ) (Cert.MergeA.main (F := Bits))) ⟨m, fun _ => 0, g⟩ (fun r => (∀ c : Dev Cert.MergeA.nD,
      r.2.mem ((c.tc : Thread Cert.MergeA.nD Cert.MergeA.τ).loc Cert.MergeA.main_arg0) = m ((c.tc : Thread Cert.MergeA.nD Cert.MergeA.τ).loc Cert.MergeA.main_arg0)
      ∧ r.2.mem ((c.tc : Thread Cert.MergeA.nD Cert.MergeA.τ).loc Cert.MergeA.main_arg1) = m ((c.tc : Thread Cert.MergeA.nD Cert.MergeA.τ).loc Cert.MergeA.main_arg1)
      ∧ r.2.mem ((c.tc : Thread Cert.MergeA.nD Cert.MergeA.τ).loc Cert.MergeA.main_arg2) = m ((c.tc : Thread Cert.MergeA.nD Cert.MergeA.τ).loc Cert.MergeA.main_arg2)
      ∧ r.2.mem ((c.tc : Thread Cert.MergeA.nD Cert.MergeA.τ).loc Cert.MergeA.main_arg3) = m ((c.tc : Thread Cert.MergeA.nD Cert.MergeA.τ).loc Cert.MergeA.main_arg3)
      ∧ r.2.mem ((c.tc : Thread Cert.MergeA.nD Cert.MergeA.τ).loc Cert.MergeA.main_arg4) = m ((c.tc : Thread Cert.MergeA.nD Cert.MergeA.τ).loc Cert.MergeA.main_arg4)
      ∧ r.2.mem ((c.tc : Thread Cert.MergeA.nD Cert.MergeA.τ).loc Cert.MergeA.main_arg5) = m ((c.tc : Thread Cert.MergeA.nD Cert.MergeA.τ).loc Cert.MergeA.main_arg5)
      ∧ r.2.mem ((c.tc : Thread Cert.MergeA.nD Cert.MergeA.τ).loc Cert.MergeA.main_arg6) = m ((c.tc : Thread Cert.MergeA.nD Cert.MergeA.τ).loc Cert.MergeA.main_arg6)
      ∧ r.2.mem ((c.tc : Thread Cert.MergeA.nD Cert.MergeA.τ).loc Cert.MergeA.main_arg7) = m ((c.tc : Thread Cert.MergeA.nD Cert.MergeA.τ).loc Cert.MergeA.main_arg7)
      ∧ r.2.mem ((c.tc : Thread Cert.MergeA.nD Cert.MergeA.τ).loc Cert.MergeA.main_arg8) = m ((c.tc : Thread Cert.MergeA.nD Cert.MergeA.τ).loc Cert.MergeA.main_arg8))
      ∧ r.2.sem = fun _ => 0)

def quiescent_MergeAIdeal [hMergeAIdeal : Cert.MergeAIdeal.Facts] : Prop :=
  ∀ (m : (ℓ : Loc Cert.MergeAIdeal.nD Cert.MergeAIdeal.τ Cert.MergeAIdeal.sig) → Buf (Elt Ideal) ℓ) (g : Dev Cert.MergeAIdeal.nD → PrngReg), Pre_MergeAIdeal m →
    θ_run (Cert.MergeAIdeal.defs (F := Ideal)) (onTc (τ := Cert.MergeAIdeal.τ) (Cert.MergeAIdeal.main (F := Ideal))) ⟨m, fun _ => 0, g⟩ (fun r => (∀ c : Dev Cert.MergeAIdeal.nD,
      r.2.mem ((c.tc : Thread Cert.MergeAIdeal.nD Cert.MergeAIdeal.τ).loc Cert.MergeAIdeal.main_arg0) = m ((c.tc : Thread Cert.MergeAIdeal.nD Cert.MergeAIdeal.τ).loc Cert.MergeAIdeal.main_arg0)
      ∧ r.2.mem ((c.tc : Thread Cert.MergeAIdeal.nD Cert.MergeAIdeal.τ).loc Cert.MergeAIdeal.main_arg1) = m ((c.tc : Thread Cert.MergeAIdeal.nD Cert.MergeAIdeal.τ).loc Cert.MergeAIdeal.main_arg1)
      ∧ r.2.mem ((c.tc : Thread Cert.MergeAIdeal.nD Cert.MergeAIdeal.τ).loc Cert.MergeAIdeal.main_arg2) = m ((c.tc : Thread Cert.MergeAIdeal.nD Cert.MergeAIdeal.τ).loc Cert.MergeAIdeal.main_arg2)
      ∧ r.2.mem ((c.tc : Thread Cert.MergeAIdeal.nD Cert.MergeAIdeal.τ).loc Cert.MergeAIdeal.main_arg3) = m ((c.tc : Thread Cert.MergeAIdeal.nD Cert.MergeAIdeal.τ).loc Cert.MergeAIdeal.main_arg3)
      ∧ r.2.mem ((c.tc : Thread Cert.MergeAIdeal.nD Cert.MergeAIdeal.τ).loc Cert.MergeAIdeal.main_arg4) = m ((c.tc : Thread Cert.MergeAIdeal.nD Cert.MergeAIdeal.τ).loc Cert.MergeAIdeal.main_arg4)
      ∧ r.2.mem ((c.tc : Thread Cert.MergeAIdeal.nD Cert.MergeAIdeal.τ).loc Cert.MergeAIdeal.main_arg5) = m ((c.tc : Thread Cert.MergeAIdeal.nD Cert.MergeAIdeal.τ).loc Cert.MergeAIdeal.main_arg5)
      ∧ r.2.mem ((c.tc : Thread Cert.MergeAIdeal.nD Cert.MergeAIdeal.τ).loc Cert.MergeAIdeal.main_arg6) = m ((c.tc : Thread Cert.MergeAIdeal.nD Cert.MergeAIdeal.τ).loc Cert.MergeAIdeal.main_arg6)
      ∧ r.2.mem ((c.tc : Thread Cert.MergeAIdeal.nD Cert.MergeAIdeal.τ).loc Cert.MergeAIdeal.main_arg7) = m ((c.tc : Thread Cert.MergeAIdeal.nD Cert.MergeAIdeal.τ).loc Cert.MergeAIdeal.main_arg7)
      ∧ r.2.mem ((c.tc : Thread Cert.MergeAIdeal.nD Cert.MergeAIdeal.τ).loc Cert.MergeAIdeal.main_arg8) = m ((c.tc : Thread Cert.MergeAIdeal.nD Cert.MergeAIdeal.τ).loc Cert.MergeAIdeal.main_arg8))
      ∧ r.2.sem = fun _ => 0)

def quiescent_RefMAIdeal [hRefMAIdeal : Cert.RefMAIdeal.Facts] : Prop :=
  ∀ (m : (ℓ : Loc Cert.RefMAIdeal.nD Cert.RefMAIdeal.τ Cert.RefMAIdeal.sig) → Buf (Elt Ideal) ℓ) (g : Dev Cert.RefMAIdeal.nD → PrngReg), Pre_RefMAIdeal m →
    θ_run (Cert.RefMAIdeal.defs (F := Ideal)) (onTc (τ := Cert.RefMAIdeal.τ) (Cert.RefMAIdeal.main (F := Ideal))) ⟨m, fun _ => 0, g⟩ (fun r => (∀ c : Dev Cert.RefMAIdeal.nD,
      r.2.mem ((c.tc : Thread Cert.RefMAIdeal.nD Cert.RefMAIdeal.τ).loc Cert.RefMAIdeal.main_arg0) = m ((c.tc : Thread Cert.RefMAIdeal.nD Cert.RefMAIdeal.τ).loc Cert.RefMAIdeal.main_arg0)
      ∧ r.2.mem ((c.tc : Thread Cert.RefMAIdeal.nD Cert.RefMAIdeal.τ).loc Cert.RefMAIdeal.main_arg1) = m ((c.tc : Thread Cert.RefMAIdeal.nD Cert.RefMAIdeal.τ).loc Cert.RefMAIdeal.main_arg1)
      ∧ r.2.mem ((c.tc : Thread Cert.RefMAIdeal.nD Cert.RefMAIdeal.τ).loc Cert.RefMAIdeal.main_arg2) = m ((c.tc : Thread Cert.RefMAIdeal.nD Cert.RefMAIdeal.τ).loc Cert.RefMAIdeal.main_arg2)
      ∧ r.2.mem ((c.tc : Thread Cert.RefMAIdeal.nD Cert.RefMAIdeal.τ).loc Cert.RefMAIdeal.main_arg3) = m ((c.tc : Thread Cert.RefMAIdeal.nD Cert.RefMAIdeal.τ).loc Cert.RefMAIdeal.main_arg3)
      ∧ r.2.mem ((c.tc : Thread Cert.RefMAIdeal.nD Cert.RefMAIdeal.τ).loc Cert.RefMAIdeal.main_arg4) = m ((c.tc : Thread Cert.RefMAIdeal.nD Cert.RefMAIdeal.τ).loc Cert.RefMAIdeal.main_arg4)
      ∧ r.2.mem ((c.tc : Thread Cert.RefMAIdeal.nD Cert.RefMAIdeal.τ).loc Cert.RefMAIdeal.main_arg5) = m ((c.tc : Thread Cert.RefMAIdeal.nD Cert.RefMAIdeal.τ).loc Cert.RefMAIdeal.main_arg5)
      ∧ r.2.mem ((c.tc : Thread Cert.RefMAIdeal.nD Cert.RefMAIdeal.τ).loc Cert.RefMAIdeal.main_arg6) = m ((c.tc : Thread Cert.RefMAIdeal.nD Cert.RefMAIdeal.τ).loc Cert.RefMAIdeal.main_arg6)
      ∧ r.2.mem ((c.tc : Thread Cert.RefMAIdeal.nD Cert.RefMAIdeal.τ).loc Cert.RefMAIdeal.main_arg7) = m ((c.tc : Thread Cert.RefMAIdeal.nD Cert.RefMAIdeal.τ).loc Cert.RefMAIdeal.main_arg7)
      ∧ r.2.mem ((c.tc : Thread Cert.RefMAIdeal.nD Cert.RefMAIdeal.τ).loc Cert.RefMAIdeal.main_arg8) = m ((c.tc : Thread Cert.RefMAIdeal.nD Cert.RefMAIdeal.τ).loc Cert.RefMAIdeal.main_arg8))
      ∧ r.2.sem = fun _ => 0)

def quiescent_MergeB [hMergeB : Cert.MergeB.Facts] : Prop :=
  ∀ (m : (ℓ : Loc Cert.MergeB.nD Cert.MergeB.τ Cert.MergeB.sig) → Buf (Elt Bits) ℓ) (g : Dev Cert.MergeB.nD → PrngReg), Pre_MergeB m →
    θ_run (Cert.MergeB.defs (F := Bits)) (onTc (τ := Cert.MergeB.τ) (Cert.MergeB.main (F := Bits))) ⟨m, fun _ => 0, g⟩ (fun r => (∀ c : Dev Cert.MergeB.nD,
      r.2.mem ((c.tc : Thread Cert.MergeB.nD Cert.MergeB.τ).loc Cert.MergeB.main_arg0) = m ((c.tc : Thread Cert.MergeB.nD Cert.MergeB.τ).loc Cert.MergeB.main_arg0)
      ∧ r.2.mem ((c.tc : Thread Cert.MergeB.nD Cert.MergeB.τ).loc Cert.MergeB.main_arg1) = m ((c.tc : Thread Cert.MergeB.nD Cert.MergeB.τ).loc Cert.MergeB.main_arg1)
      ∧ r.2.mem ((c.tc : Thread Cert.MergeB.nD Cert.MergeB.τ).loc Cert.MergeB.main_arg2) = m ((c.tc : Thread Cert.MergeB.nD Cert.MergeB.τ).loc Cert.MergeB.main_arg2)
      ∧ r.2.mem ((c.tc : Thread Cert.MergeB.nD Cert.MergeB.τ).loc Cert.MergeB.main_arg3) = m ((c.tc : Thread Cert.MergeB.nD Cert.MergeB.τ).loc Cert.MergeB.main_arg3)
      ∧ r.2.mem ((c.tc : Thread Cert.MergeB.nD Cert.MergeB.τ).loc Cert.MergeB.main_arg4) = m ((c.tc : Thread Cert.MergeB.nD Cert.MergeB.τ).loc Cert.MergeB.main_arg4)
      ∧ r.2.mem ((c.tc : Thread Cert.MergeB.nD Cert.MergeB.τ).loc Cert.MergeB.main_arg5) = m ((c.tc : Thread Cert.MergeB.nD Cert.MergeB.τ).loc Cert.MergeB.main_arg5))
      ∧ r.2.sem = fun _ => 0)

def quiescent_MergeBIdeal [hMergeBIdeal : Cert.MergeBIdeal.Facts] : Prop :=
  ∀ (m : (ℓ : Loc Cert.MergeBIdeal.nD Cert.MergeBIdeal.τ Cert.MergeBIdeal.sig) → Buf (Elt Ideal) ℓ) (g : Dev Cert.MergeBIdeal.nD → PrngReg), Pre_MergeBIdeal m →
    θ_run (Cert.MergeBIdeal.defs (F := Ideal)) (onTc (τ := Cert.MergeBIdeal.τ) (Cert.MergeBIdeal.main (F := Ideal))) ⟨m, fun _ => 0, g⟩ (fun r => (∀ c : Dev Cert.MergeBIdeal.nD,
      r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
      ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
      ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
      ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3)
      ∧ r.2.mem ((c.tc : Thread Cert.MergeBIdeal.nD Cert.MergeBIdeal.τ).loc Cert.MergeBIdeal.main_arg4) = m ((c.tc : Thread Cert.MergeBIdeal.nD Cert.MergeBIdeal.τ).loc Cert.MergeBIdeal.main_arg4)
      ∧ r.2.mem ((c.tc : Thread Cert.MergeBIdeal.nD Cert.MergeBIdeal.τ).loc Cert.MergeBIdeal.main_arg5) = m ((c.tc : Thread Cert.MergeBIdeal.nD Cert.MergeBIdeal.τ).loc Cert.MergeBIdeal.main_arg5))
      ∧ r.2.sem = fun _ => 0)

def quiescent_RefMBIdeal [hRefMBIdeal : Cert.RefMBIdeal.Facts] : Prop :=
  ∀ (m : (ℓ : Loc Cert.RefMBIdeal.nD Cert.RefMBIdeal.τ Cert.RefMBIdeal.sig) → Buf (Elt Ideal) ℓ) (g : Dev Cert.RefMBIdeal.nD → PrngReg), Pre_RefMBIdeal m →
    θ_run (Cert.RefMBIdeal.defs (F := Ideal)) (onTc (τ := Cert.RefMBIdeal.τ) (Cert.RefMBIdeal.main (F := Ideal))) ⟨m, fun _ => 0, g⟩ (fun r => (∀ c : Dev Cert.RefMBIdeal.nD,
      r.2.mem ((c.tc : Thread Cert.RefMBIdeal.nD Cert.RefMBIdeal.τ).loc Cert.RefMBIdeal.main_arg0) = m ((c.tc : Thread Cert.RefMBIdeal.nD Cert.RefMBIdeal.τ).loc Cert.RefMBIdeal.main_arg0)
      ∧ r.2.mem ((c.tc : Thread Cert.RefMBIdeal.nD Cert.RefMBIdeal.τ).loc Cert.RefMBIdeal.main_arg1) = m ((c.tc : Thread Cert.RefMBIdeal.nD Cert.RefMBIdeal.τ).loc Cert.RefMBIdeal.main_arg1)
      ∧ r.2.mem ((c.tc : Thread Cert.RefMBIdeal.nD Cert.RefMBIdeal.τ).loc Cert.RefMBIdeal.main_arg2) = m ((c.tc : Thread Cert.RefMBIdeal.nD Cert.RefMBIdeal.τ).loc Cert.RefMBIdeal.main_arg2)
      ∧ r.2.mem ((c.tc : Thread Cert.RefMBIdeal.nD Cert.RefMBIdeal.τ).loc Cert.RefMBIdeal.main_arg3) = m ((c.tc : Thread Cert.RefMBIdeal.nD Cert.RefMBIdeal.τ).loc Cert.RefMBIdeal.main_arg3)
      ∧ r.2.mem ((c.tc : Thread Cert.RefMBIdeal.nD Cert.RefMBIdeal.τ).loc Cert.RefMBIdeal.main_arg4) = m ((c.tc : Thread Cert.RefMBIdeal.nD Cert.RefMBIdeal.τ).loc Cert.RefMBIdeal.main_arg4)
      ∧ r.2.mem ((c.tc : Thread Cert.RefMBIdeal.nD Cert.RefMBIdeal.τ).loc Cert.RefMBIdeal.main_arg5) = m ((c.tc : Thread Cert.RefMBIdeal.nD Cert.RefMBIdeal.τ).loc Cert.RefMBIdeal.main_arg5))
      ∧ r.2.sem = fun _ => 0)

def quiescent_SampleA [hSampleA : Cert.SampleA.Facts] : Prop :=
  ∀ (m : (ℓ : Loc Cert.SampleA.nD Cert.SampleA.τ Cert.SampleA.sig) → Buf (Elt Bits) ℓ) (g : Dev Cert.SampleA.nD → PrngReg), Pre_SampleA m →
    θ_run (Cert.SampleA.defs (F := Bits)) (onTc (τ := Cert.SampleA.τ) (Cert.SampleA.main (F := Bits))) ⟨m, fun _ => 0, g⟩ (fun r => (∀ c : Dev Cert.SampleA.nD,
      r.2.mem ((c.tc : Thread Cert.SampleA.nD Cert.SampleA.τ).loc Cert.SampleA.main_arg0) = m ((c.tc : Thread Cert.SampleA.nD Cert.SampleA.τ).loc Cert.SampleA.main_arg0)
      ∧ r.2.mem ((c.tc : Thread Cert.SampleA.nD Cert.SampleA.τ).loc Cert.SampleA.main_arg1) = m ((c.tc : Thread Cert.SampleA.nD Cert.SampleA.τ).loc Cert.SampleA.main_arg1)
      ∧ r.2.mem ((c.tc : Thread Cert.SampleA.nD Cert.SampleA.τ).loc Cert.SampleA.main_arg2) = m ((c.tc : Thread Cert.SampleA.nD Cert.SampleA.τ).loc Cert.SampleA.main_arg2)
      ∧ r.2.mem ((c.tc : Thread Cert.SampleA.nD Cert.SampleA.τ).loc Cert.SampleA.main_arg3) = m ((c.tc : Thread Cert.SampleA.nD Cert.SampleA.τ).loc Cert.SampleA.main_arg3)
      ∧ r.2.mem ((c.tc : Thread Cert.SampleA.nD Cert.SampleA.τ).loc Cert.SampleA.main_arg4) = m ((c.tc : Thread Cert.SampleA.nD Cert.SampleA.τ).loc Cert.SampleA.main_arg4))
      ∧ r.2.sem = fun _ => 0)

def quiescent_SampleAIdeal [hSampleAIdeal : Cert.SampleAIdeal.Facts] : Prop :=
  ∀ (m : (ℓ : Loc Cert.SampleAIdeal.nD Cert.SampleAIdeal.τ Cert.SampleAIdeal.sig) → Buf (Elt Ideal) ℓ) (g : Dev Cert.SampleAIdeal.nD → PrngReg), Pre_SampleAIdeal m →
    θ_run (Cert.SampleAIdeal.defs (F := Ideal)) (onTc (τ := Cert.SampleAIdeal.τ) (Cert.SampleAIdeal.main (F := Ideal))) ⟨m, fun _ => 0, g⟩ (fun r => (∀ c : Dev Cert.SampleAIdeal.nD,
      r.2.mem ((c.tc : Thread Cert.SampleAIdeal.nD Cert.SampleAIdeal.τ).loc Cert.SampleAIdeal.main_arg0) = m ((c.tc : Thread Cert.SampleAIdeal.nD Cert.SampleAIdeal.τ).loc Cert.SampleAIdeal.main_arg0)
      ∧ r.2.mem ((c.tc : Thread Cert.SampleAIdeal.nD Cert.SampleAIdeal.τ).loc Cert.SampleAIdeal.main_arg1) = m ((c.tc : Thread Cert.SampleAIdeal.nD Cert.SampleAIdeal.τ).loc Cert.SampleAIdeal.main_arg1)
      ∧ r.2.mem ((c.tc : Thread Cert.SampleAIdeal.nD Cert.SampleAIdeal.τ).loc Cert.SampleAIdeal.main_arg2) = m ((c.tc : Thread Cert.SampleAIdeal.nD Cert.SampleAIdeal.τ).loc Cert.SampleAIdeal.main_arg2)
      ∧ r.2.mem ((c.tc : Thread Cert.SampleAIdeal.nD Cert.SampleAIdeal.τ).loc Cert.SampleAIdeal.main_arg3) = m ((c.tc : Thread Cert.SampleAIdeal.nD Cert.SampleAIdeal.τ).loc Cert.SampleAIdeal.main_arg3)
      ∧ r.2.mem ((c.tc : Thread Cert.SampleAIdeal.nD Cert.SampleAIdeal.τ).loc Cert.SampleAIdeal.main_arg4) = m ((c.tc : Thread Cert.SampleAIdeal.nD Cert.SampleAIdeal.τ).loc Cert.SampleAIdeal.main_arg4))
      ∧ r.2.sem = fun _ => 0)

def quiescent_RefSAIdeal [hRefSAIdeal : Cert.RefSAIdeal.Facts] : Prop :=
  ∀ (m : (ℓ : Loc Cert.RefSAIdeal.nD Cert.RefSAIdeal.τ Cert.RefSAIdeal.sig) → Buf (Elt Ideal) ℓ) (g : Dev Cert.RefSAIdeal.nD → PrngReg), Pre_RefSAIdeal m →
    θ_run (Cert.RefSAIdeal.defs (F := Ideal)) (onTc (τ := Cert.RefSAIdeal.τ) (Cert.RefSAIdeal.main (F := Ideal))) ⟨m, fun _ => 0, g⟩ (fun r => (∀ c : Dev Cert.RefSAIdeal.nD,
      r.2.mem ((c.tc : Thread Cert.RefSAIdeal.nD Cert.RefSAIdeal.τ).loc Cert.RefSAIdeal.main_arg0) = m ((c.tc : Thread Cert.RefSAIdeal.nD Cert.RefSAIdeal.τ).loc Cert.RefSAIdeal.main_arg0)
      ∧ r.2.mem ((c.tc : Thread Cert.RefSAIdeal.nD Cert.RefSAIdeal.τ).loc Cert.RefSAIdeal.main_arg1) = m ((c.tc : Thread Cert.RefSAIdeal.nD Cert.RefSAIdeal.τ).loc Cert.RefSAIdeal.main_arg1)
      ∧ r.2.mem ((c.tc : Thread Cert.RefSAIdeal.nD Cert.RefSAIdeal.τ).loc Cert.RefSAIdeal.main_arg2) = m ((c.tc : Thread Cert.RefSAIdeal.nD Cert.RefSAIdeal.τ).loc Cert.RefSAIdeal.main_arg2)
      ∧ r.2.mem ((c.tc : Thread Cert.RefSAIdeal.nD Cert.RefSAIdeal.τ).loc Cert.RefSAIdeal.main_arg3) = m ((c.tc : Thread Cert.RefSAIdeal.nD Cert.RefSAIdeal.τ).loc Cert.RefSAIdeal.main_arg3)
      ∧ r.2.mem ((c.tc : Thread Cert.RefSAIdeal.nD Cert.RefSAIdeal.τ).loc Cert.RefSAIdeal.main_arg4) = m ((c.tc : Thread Cert.RefSAIdeal.nD Cert.RefSAIdeal.τ).loc Cert.RefSAIdeal.main_arg4))
      ∧ r.2.sem = fun _ => 0)

def quiescent_SampleB [hSampleB : Cert.SampleB.Facts] : Prop :=
  ∀ (m : (ℓ : Loc Cert.SampleB.nD Cert.SampleB.τ Cert.SampleB.sig) → Buf (Elt Bits) ℓ) (g : Dev Cert.SampleB.nD → PrngReg), Pre_SampleB m →
    θ_run (Cert.SampleB.defs (F := Bits)) (onTc (τ := Cert.SampleB.τ) (Cert.SampleB.main (F := Bits))) ⟨m, fun _ => 0, g⟩ (fun r => (∀ c : Dev Cert.SampleB.nD,
      r.2.mem ((c.tc : Thread Cert.SampleB.nD Cert.SampleB.τ).loc Cert.SampleB.main_arg0) = m ((c.tc : Thread Cert.SampleB.nD Cert.SampleB.τ).loc Cert.SampleB.main_arg0)
      ∧ r.2.mem ((c.tc : Thread Cert.SampleB.nD Cert.SampleB.τ).loc Cert.SampleB.main_arg1) = m ((c.tc : Thread Cert.SampleB.nD Cert.SampleB.τ).loc Cert.SampleB.main_arg1)
      ∧ r.2.mem ((c.tc : Thread Cert.SampleB.nD Cert.SampleB.τ).loc Cert.SampleB.main_arg2) = m ((c.tc : Thread Cert.SampleB.nD Cert.SampleB.τ).loc Cert.SampleB.main_arg2)
      ∧ r.2.mem ((c.tc : Thread Cert.SampleB.nD Cert.SampleB.τ).loc Cert.SampleB.main_arg3) = m ((c.tc : Thread Cert.SampleB.nD Cert.SampleB.τ).loc Cert.SampleB.main_arg3)
      ∧ r.2.mem ((c.tc : Thread Cert.SampleB.nD Cert.SampleB.τ).loc Cert.SampleB.main_arg4) = m ((c.tc : Thread Cert.SampleB.nD Cert.SampleB.τ).loc Cert.SampleB.main_arg4))
      ∧ r.2.sem = fun _ => 0)

def quiescent_SampleBIdeal [hSampleBIdeal : Cert.SampleBIdeal.Facts] : Prop :=
  ∀ (m : (ℓ : Loc Cert.SampleBIdeal.nD Cert.SampleBIdeal.τ Cert.SampleBIdeal.sig) → Buf (Elt Ideal) ℓ) (g : Dev Cert.SampleBIdeal.nD → PrngReg), Pre_SampleBIdeal m →
    θ_run (Cert.SampleBIdeal.defs (F := Ideal)) (onTc (τ := Cert.SampleBIdeal.τ) (Cert.SampleBIdeal.main (F := Ideal))) ⟨m, fun _ => 0, g⟩ (fun r => (∀ c : Dev Cert.SampleBIdeal.nD,
      r.2.mem ((c.tc : Thread Cert.SampleBIdeal.nD Cert.SampleBIdeal.τ).loc Cert.SampleBIdeal.main_arg0) = m ((c.tc : Thread Cert.SampleBIdeal.nD Cert.SampleBIdeal.τ).loc Cert.SampleBIdeal.main_arg0)
      ∧ r.2.mem ((c.tc : Thread Cert.SampleBIdeal.nD Cert.SampleBIdeal.τ).loc Cert.SampleBIdeal.main_arg1) = m ((c.tc : Thread Cert.SampleBIdeal.nD Cert.SampleBIdeal.τ).loc Cert.SampleBIdeal.main_arg1)
      ∧ r.2.mem ((c.tc : Thread Cert.SampleBIdeal.nD Cert.SampleBIdeal.τ).loc Cert.SampleBIdeal.main_arg2) = m ((c.tc : Thread Cert.SampleBIdeal.nD Cert.SampleBIdeal.τ).loc Cert.SampleBIdeal.main_arg2)
      ∧ r.2.mem ((c.tc : Thread Cert.SampleBIdeal.nD Cert.SampleBIdeal.τ).loc Cert.SampleBIdeal.main_arg3) = m ((c.tc : Thread Cert.SampleBIdeal.nD Cert.SampleBIdeal.τ).loc Cert.SampleBIdeal.main_arg3)
      ∧ r.2.mem ((c.tc : Thread Cert.SampleBIdeal.nD Cert.SampleBIdeal.τ).loc Cert.SampleBIdeal.main_arg4) = m ((c.tc : Thread Cert.SampleBIdeal.nD Cert.SampleBIdeal.τ).loc Cert.SampleBIdeal.main_arg4))
      ∧ r.2.sem = fun _ => 0)

def quiescent_RefSBIdeal [hRefSBIdeal : Cert.RefSBIdeal.Facts] : Prop :=
  ∀ (m : (ℓ : Loc Cert.RefSBIdeal.nD Cert.RefSBIdeal.τ Cert.RefSBIdeal.sig) → Buf (Elt Ideal) ℓ) (g : Dev Cert.RefSBIdeal.nD → PrngReg), Pre_RefSBIdeal m →
    θ_run (Cert.RefSBIdeal.defs (F := Ideal)) (onTc (τ := Cert.RefSBIdeal.τ) (Cert.RefSBIdeal.main (F := Ideal))) ⟨m, fun _ => 0, g⟩ (fun r => (∀ c : Dev Cert.RefSBIdeal.nD,
      r.2.mem ((c.tc : Thread Cert.RefSBIdeal.nD Cert.RefSBIdeal.τ).loc Cert.RefSBIdeal.main_arg0) = m ((c.tc : Thread Cert.RefSBIdeal.nD Cert.RefSBIdeal.τ).loc Cert.RefSBIdeal.main_arg0)
      ∧ r.2.mem ((c.tc : Thread Cert.RefSBIdeal.nD Cert.RefSBIdeal.τ).loc Cert.RefSBIdeal.main_arg1) = m ((c.tc : Thread Cert.RefSBIdeal.nD Cert.RefSBIdeal.τ).loc Cert.RefSBIdeal.main_arg1)
      ∧ r.2.mem ((c.tc : Thread Cert.RefSBIdeal.nD Cert.RefSBIdeal.τ).loc Cert.RefSBIdeal.main_arg2) = m ((c.tc : Thread Cert.RefSBIdeal.nD Cert.RefSBIdeal.τ).loc Cert.RefSBIdeal.main_arg2)
      ∧ r.2.mem ((c.tc : Thread Cert.RefSBIdeal.nD Cert.RefSBIdeal.τ).loc Cert.RefSBIdeal.main_arg3) = m ((c.tc : Thread Cert.RefSBIdeal.nD Cert.RefSBIdeal.τ).loc Cert.RefSBIdeal.main_arg3)
      ∧ r.2.mem ((c.tc : Thread Cert.RefSBIdeal.nD Cert.RefSBIdeal.τ).loc Cert.RefSBIdeal.main_arg4) = m ((c.tc : Thread Cert.RefSBIdeal.nD Cert.RefSBIdeal.τ).loc Cert.RefSBIdeal.main_arg4))
      ∧ r.2.sem = fun _ => 0)

def quiescent_SMergeB [hSMergeB : Cert.SMergeB.Facts] : Prop :=
  ∀ (m : (ℓ : Loc Cert.SMergeB.nD Cert.SMergeB.τ Cert.SMergeB.sig) → Buf (Elt Bits) ℓ) (g : Dev Cert.SMergeB.nD → PrngReg), Pre_SMergeB m →
    θ_run (Cert.SMergeB.defs (F := Bits)) (onTc (τ := Cert.SMergeB.τ) (Cert.SMergeB.main (F := Bits))) ⟨m, fun _ => 0, g⟩ (fun r => (∀ c : Dev Cert.SMergeB.nD,
      r.2.mem ((c.tc : Thread Cert.SMergeB.nD Cert.SMergeB.τ).loc Cert.SMergeB.main_arg0) = m ((c.tc : Thread Cert.SMergeB.nD Cert.SMergeB.τ).loc Cert.SMergeB.main_arg0)
      ∧ r.2.mem ((c.tc : Thread Cert.SMergeB.nD Cert.SMergeB.τ).loc Cert.SMergeB.main_arg1) = m ((c.tc : Thread Cert.SMergeB.nD Cert.SMergeB.τ).loc Cert.SMergeB.main_arg1)
      ∧ r.2.mem ((c.tc : Thread Cert.SMergeB.nD Cert.SMergeB.τ).loc Cert.SMergeB.main_arg2) = m ((c.tc : Thread Cert.SMergeB.nD Cert.SMergeB.τ).loc Cert.SMergeB.main_arg2)
      ∧ r.2.mem ((c.tc : Thread Cert.SMergeB.nD Cert.SMergeB.τ).loc Cert.SMergeB.main_arg3) = m ((c.tc : Thread Cert.SMergeB.nD Cert.SMergeB.τ).loc Cert.SMergeB.main_arg3)
      ∧ r.2.mem ((c.tc : Thread Cert.SMergeB.nD Cert.SMergeB.τ).loc Cert.SMergeB.main_arg4) = m ((c.tc : Thread Cert.SMergeB.nD Cert.SMergeB.τ).loc Cert.SMergeB.main_arg4)
      ∧ r.2.mem ((c.tc : Thread Cert.SMergeB.nD Cert.SMergeB.τ).loc Cert.SMergeB.main_arg5) = m ((c.tc : Thread Cert.SMergeB.nD Cert.SMergeB.τ).loc Cert.SMergeB.main_arg5))
      ∧ r.2.sem = fun _ => 0)

def quiescent_SMergeBIdeal [hSMergeBIdeal : Cert.SMergeBIdeal.Facts] : Prop :=
  ∀ (m : (ℓ : Loc Cert.SMergeBIdeal.nD Cert.SMergeBIdeal.τ Cert.SMergeBIdeal.sig) → Buf (Elt Ideal) ℓ) (g : Dev Cert.SMergeBIdeal.nD → PrngReg), Pre_SMergeBIdeal m →
    θ_run (Cert.SMergeBIdeal.defs (F := Ideal)) (onTc (τ := Cert.SMergeBIdeal.τ) (Cert.SMergeBIdeal.main (F := Ideal))) ⟨m, fun _ => 0, g⟩ (fun r => (∀ c : Dev Cert.SMergeBIdeal.nD,
      r.2.mem ((c.tc : Thread Cert.SMergeBIdeal.nD Cert.SMergeBIdeal.τ).loc Cert.SMergeBIdeal.main_arg0) = m ((c.tc : Thread Cert.SMergeBIdeal.nD Cert.SMergeBIdeal.τ).loc Cert.SMergeBIdeal.main_arg0)
      ∧ r.2.mem ((c.tc : Thread Cert.SMergeBIdeal.nD Cert.SMergeBIdeal.τ).loc Cert.SMergeBIdeal.main_arg1) = m ((c.tc : Thread Cert.SMergeBIdeal.nD Cert.SMergeBIdeal.τ).loc Cert.SMergeBIdeal.main_arg1)
      ∧ r.2.mem ((c.tc : Thread Cert.SMergeBIdeal.nD Cert.SMergeBIdeal.τ).loc Cert.SMergeBIdeal.main_arg2) = m ((c.tc : Thread Cert.SMergeBIdeal.nD Cert.SMergeBIdeal.τ).loc Cert.SMergeBIdeal.main_arg2)
      ∧ r.2.mem ((c.tc : Thread Cert.SMergeBIdeal.nD Cert.SMergeBIdeal.τ).loc Cert.SMergeBIdeal.main_arg3) = m ((c.tc : Thread Cert.SMergeBIdeal.nD Cert.SMergeBIdeal.τ).loc Cert.SMergeBIdeal.main_arg3)
      ∧ r.2.mem ((c.tc : Thread Cert.SMergeBIdeal.nD Cert.SMergeBIdeal.τ).loc Cert.SMergeBIdeal.main_arg4) = m ((c.tc : Thread Cert.SMergeBIdeal.nD Cert.SMergeBIdeal.τ).loc Cert.SMergeBIdeal.main_arg4)
      ∧ r.2.mem ((c.tc : Thread Cert.SMergeBIdeal.nD Cert.SMergeBIdeal.τ).loc Cert.SMergeBIdeal.main_arg5) = m ((c.tc : Thread Cert.SMergeBIdeal.nD Cert.SMergeBIdeal.τ).loc Cert.SMergeBIdeal.main_arg5))
      ∧ r.2.sem = fun _ => 0)

def quiescent_RefSMBIdeal [hRefSMBIdeal : Cert.RefSMBIdeal.Facts] : Prop :=
  ∀ (m : (ℓ : Loc Cert.RefSMBIdeal.nD Cert.RefSMBIdeal.τ Cert.RefSMBIdeal.sig) → Buf (Elt Ideal) ℓ) (g : Dev Cert.RefSMBIdeal.nD → PrngReg), Pre_RefSMBIdeal m →
    θ_run (Cert.RefSMBIdeal.defs (F := Ideal)) (onTc (τ := Cert.RefSMBIdeal.τ) (Cert.RefSMBIdeal.main (F := Ideal))) ⟨m, fun _ => 0, g⟩ (fun r => (∀ c : Dev Cert.RefSMBIdeal.nD,
      r.2.mem ((c.tc : Thread Cert.RefSMBIdeal.nD Cert.RefSMBIdeal.τ).loc Cert.RefSMBIdeal.main_arg0) = m ((c.tc : Thread Cert.RefSMBIdeal.nD Cert.RefSMBIdeal.τ).loc Cert.RefSMBIdeal.main_arg0)
      ∧ r.2.mem ((c.tc : Thread Cert.RefSMBIdeal.nD Cert.RefSMBIdeal.τ).loc Cert.RefSMBIdeal.main_arg1) = m ((c.tc : Thread Cert.RefSMBIdeal.nD Cert.RefSMBIdeal.τ).loc Cert.RefSMBIdeal.main_arg1)
      ∧ r.2.mem ((c.tc : Thread Cert.RefSMBIdeal.nD Cert.RefSMBIdeal.τ).loc Cert.RefSMBIdeal.main_arg2) = m ((c.tc : Thread Cert.RefSMBIdeal.nD Cert.RefSMBIdeal.τ).loc Cert.RefSMBIdeal.main_arg2)
      ∧ r.2.mem ((c.tc : Thread Cert.RefSMBIdeal.nD Cert.RefSMBIdeal.τ).loc Cert.RefSMBIdeal.main_arg3) = m ((c.tc : Thread Cert.RefSMBIdeal.nD Cert.RefSMBIdeal.τ).loc Cert.RefSMBIdeal.main_arg3)
      ∧ r.2.mem ((c.tc : Thread Cert.RefSMBIdeal.nD Cert.RefSMBIdeal.τ).loc Cert.RefSMBIdeal.main_arg4) = m ((c.tc : Thread Cert.RefSMBIdeal.nD Cert.RefSMBIdeal.τ).loc Cert.RefSMBIdeal.main_arg4)
      ∧ r.2.mem ((c.tc : Thread Cert.RefSMBIdeal.nD Cert.RefSMBIdeal.τ).loc Cert.RefSMBIdeal.main_arg5) = m ((c.tc : Thread Cert.RefSMBIdeal.nD Cert.RefSMBIdeal.τ).loc Cert.RefSMBIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_ProjA_ProjAIdeal : Prop :=
  True

def algebraic_ProjAIdeal_RefAIdeal [hProjAIdeal : Cert.ProjAIdeal.Facts] [hRefAIdeal : Cert.RefAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.RefAIdeal.nD Cert.RefAIdeal.τ Cert.RefAIdeal.sig) → Buf (Elt Ideal) ℓ) (g' : Dev Cert.RefAIdeal.nD → PrngReg), Pre_ProjAIdeal m →
    (∀ c : Dev Cert.ProjAIdeal.nD,
      m' ((c.tc : Thread Cert.RefAIdeal.nD Cert.RefAIdeal.τ).loc Cert.RefAIdeal.main_arg0) = m ((c.tc : Thread Cert.ProjAIdeal.nD Cert.ProjAIdeal.τ).loc Cert.ProjAIdeal.main_arg0)
      ∧ m' ((c.tc : Thread Cert.RefAIdeal.nD Cert.RefAIdeal.τ).loc Cert.RefAIdeal.main_arg1) = m ((c.tc : Thread Cert.ProjAIdeal.nD Cert.ProjAIdeal.τ).loc Cert.ProjAIdeal.main_arg1)
      ∧ m' ((c.tc : Thread Cert.RefAIdeal.nD Cert.RefAIdeal.τ).loc Cert.RefAIdeal.main_arg2) = m ((c.tc : Thread Cert.ProjAIdeal.nD Cert.ProjAIdeal.τ).loc Cert.ProjAIdeal.main_arg2)
      ∧ m' ((c.tc : Thread Cert.RefAIdeal.nD Cert.RefAIdeal.τ).loc Cert.RefAIdeal.main_arg3) = m ((c.tc : Thread Cert.ProjAIdeal.nD Cert.ProjAIdeal.τ).loc Cert.ProjAIdeal.main_arg3)
      ∧ m' ((c.tc : Thread Cert.RefAIdeal.nD Cert.RefAIdeal.τ).loc Cert.RefAIdeal.main_arg4) = m ((c.tc : Thread Cert.ProjAIdeal.nD Cert.ProjAIdeal.τ).loc Cert.ProjAIdeal.main_arg4)) →
    ∃ (v0 : (c : Dev Cert.ProjAIdeal.nD) → Buf (Elt Ideal) ((c.tc : Thread Cert.ProjAIdeal.nD Cert.ProjAIdeal.τ).loc Cert.ProjAIdeal.main_v44)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v44) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2)
          ∧ r.2.mem ((c.tc : Thread Cert.ProjAIdeal.nD Cert.ProjAIdeal.τ).loc Cert.ProjAIdeal.main_arg3) = m ((c.tc : Thread Cert.ProjAIdeal.nD Cert.ProjAIdeal.τ).loc Cert.ProjAIdeal.main_arg3)
          ∧ r.2.mem ((c.tc : Thread Cert.ProjAIdeal.nD Cert.ProjAIdeal.τ).loc Cert.ProjAIdeal.main_arg4) = m ((c.tc : Thread Cert.ProjAIdeal.nD Cert.ProjAIdeal.τ).loc Cert.ProjAIdeal.main_arg4))
      ∧ θ_run (Cert.RefAIdeal.defs (F := Ideal)) (onTc (τ := Cert.RefAIdeal.τ) (Cert.RefAIdeal.main (F := Ideal))) ⟨m', fun _ => 0, g'⟩ (fun r => ∀ c : Dev Cert.RefAIdeal.nD,
          r.2.mem ((c.tc : Thread Cert.RefAIdeal.nD Cert.RefAIdeal.τ).loc Cert.RefAIdeal.main_v115) = v0 c
          ∧ r.2.mem ((c.tc : Thread Cert.RefAIdeal.nD Cert.RefAIdeal.τ).loc Cert.RefAIdeal.main_arg0) = m' ((c.tc : Thread Cert.RefAIdeal.nD Cert.RefAIdeal.τ).loc Cert.RefAIdeal.main_arg0)
          ∧ r.2.mem ((c.tc : Thread Cert.RefAIdeal.nD Cert.RefAIdeal.τ).loc Cert.RefAIdeal.main_arg1) = m' ((c.tc : Thread Cert.RefAIdeal.nD Cert.RefAIdeal.τ).loc Cert.RefAIdeal.main_arg1)
          ∧ r.2.mem ((c.tc : Thread Cert.RefAIdeal.nD Cert.RefAIdeal.τ).loc Cert.RefAIdeal.main_arg2) = m' ((c.tc : Thread Cert.RefAIdeal.nD Cert.RefAIdeal.τ).loc Cert.RefAIdeal.main_arg2)
          ∧ r.2.mem ((c.tc : Thread Cert.RefAIdeal.nD Cert.RefAIdeal.τ).loc Cert.RefAIdeal.main_arg3) = m' ((c.tc : Thread Cert.RefAIdeal.nD Cert.RefAIdeal.τ).loc Cert.RefAIdeal.main_arg3)
          ∧ r.2.mem ((c.tc : Thread Cert.RefAIdeal.nD Cert.RefAIdeal.τ).loc Cert.RefAIdeal.main_arg4) = m' ((c.tc : Thread Cert.RefAIdeal.nD Cert.RefAIdeal.τ).loc Cert.RefAIdeal.main_arg4))

def preserves_ProjB_ProjBIdeal : Prop :=
  True

def algebraic_ProjBIdeal_RefBIdeal [hProjBIdeal : Cert.ProjBIdeal.Facts] [hRefBIdeal : Cert.RefBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.RefBIdeal.nD Cert.RefBIdeal.τ Cert.RefBIdeal.sig) → Buf (Elt Ideal) ℓ) (g' : Dev Cert.RefBIdeal.nD → PrngReg), Pre_ProjBIdeal m →
    (∀ c : Dev Cert.ProjBIdeal.nD,
      m' ((c.tc : Thread Cert.RefBIdeal.nD Cert.RefBIdeal.τ).loc Cert.RefBIdeal.main_arg0) = m ((c.tc : Thread Cert.ProjBIdeal.nD Cert.ProjBIdeal.τ).loc Cert.ProjBIdeal.main_arg0)
      ∧ m' ((c.tc : Thread Cert.RefBIdeal.nD Cert.RefBIdeal.τ).loc Cert.RefBIdeal.main_arg1) = m ((c.tc : Thread Cert.ProjBIdeal.nD Cert.ProjBIdeal.τ).loc Cert.ProjBIdeal.main_arg1)
      ∧ m' ((c.tc : Thread Cert.RefBIdeal.nD Cert.RefBIdeal.τ).loc Cert.RefBIdeal.main_arg2) = m ((c.tc : Thread Cert.ProjBIdeal.nD Cert.ProjBIdeal.τ).loc Cert.ProjBIdeal.main_arg2)
      ∧ m' ((c.tc : Thread Cert.RefBIdeal.nD Cert.RefBIdeal.τ).loc Cert.RefBIdeal.main_arg3) = m ((c.tc : Thread Cert.ProjBIdeal.nD Cert.ProjBIdeal.τ).loc Cert.ProjBIdeal.main_arg3)
      ∧ m' ((c.tc : Thread Cert.RefBIdeal.nD Cert.RefBIdeal.τ).loc Cert.RefBIdeal.main_arg4) = m ((c.tc : Thread Cert.ProjBIdeal.nD Cert.ProjBIdeal.τ).loc Cert.ProjBIdeal.main_arg4)) →
    ∃ (v0 : (c : Dev Cert.ProjBIdeal.nD) → Buf (Elt Ideal) ((c.tc : Thread Cert.ProjBIdeal.nD Cert.ProjBIdeal.τ).loc Cert.ProjBIdeal.main_v61)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v61) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2)
          ∧ r.2.mem ((c.tc : Thread Cert.ProjBIdeal.nD Cert.ProjBIdeal.τ).loc Cert.ProjBIdeal.main_arg3) = m ((c.tc : Thread Cert.ProjBIdeal.nD Cert.ProjBIdeal.τ).loc Cert.ProjBIdeal.main_arg3)
          ∧ r.2.mem ((c.tc : Thread Cert.ProjBIdeal.nD Cert.ProjBIdeal.τ).loc Cert.ProjBIdeal.main_arg4) = m ((c.tc : Thread Cert.ProjBIdeal.nD Cert.ProjBIdeal.τ).loc Cert.ProjBIdeal.main_arg4))
      ∧ θ_run (Cert.RefBIdeal.defs (F := Ideal)) (onTc (τ := Cert.RefBIdeal.τ) (Cert.RefBIdeal.main (F := Ideal))) ⟨m', fun _ => 0, g'⟩ (fun r => ∀ c : Dev Cert.RefBIdeal.nD,
          r.2.mem ((c.tc : Thread Cert.RefBIdeal.nD Cert.RefBIdeal.τ).loc Cert.RefBIdeal.main_v194) = v0 c
          ∧ r.2.mem ((c.tc : Thread Cert.RefBIdeal.nD Cert.RefBIdeal.τ).loc Cert.RefBIdeal.main_arg0) = m' ((c.tc : Thread Cert.RefBIdeal.nD Cert.RefBIdeal.τ).loc Cert.RefBIdeal.main_arg0)
          ∧ r.2.mem ((c.tc : Thread Cert.RefBIdeal.nD Cert.RefBIdeal.τ).loc Cert.RefBIdeal.main_arg1) = m' ((c.tc : Thread Cert.RefBIdeal.nD Cert.RefBIdeal.τ).loc Cert.RefBIdeal.main_arg1)
          ∧ r.2.mem ((c.tc : Thread Cert.RefBIdeal.nD Cert.RefBIdeal.τ).loc Cert.RefBIdeal.main_arg2) = m' ((c.tc : Thread Cert.RefBIdeal.nD Cert.RefBIdeal.τ).loc Cert.RefBIdeal.main_arg2)
          ∧ r.2.mem ((c.tc : Thread Cert.RefBIdeal.nD Cert.RefBIdeal.τ).loc Cert.RefBIdeal.main_arg3) = m' ((c.tc : Thread Cert.RefBIdeal.nD Cert.RefBIdeal.τ).loc Cert.RefBIdeal.main_arg3)
          ∧ r.2.mem ((c.tc : Thread Cert.RefBIdeal.nD Cert.RefBIdeal.τ).loc Cert.RefBIdeal.main_arg4) = m' ((c.tc : Thread Cert.RefBIdeal.nD Cert.RefBIdeal.τ).loc Cert.RefBIdeal.main_arg4))

def preserves_MergeA_MergeAIdeal : Prop :=
  True

def algebraic_MergeAIdeal_RefMAIdeal [hMergeAIdeal : Cert.MergeAIdeal.Facts] [hRefMAIdeal : Cert.RefMAIdeal.Facts] : Prop :=
  ∀ (m : (ℓ : Loc Cert.MergeAIdeal.nD Cert.MergeAIdeal.τ Cert.MergeAIdeal.sig) → Buf (Elt Ideal) ℓ) (g : Dev Cert.MergeAIdeal.nD → PrngReg)
    (m' : (ℓ : Loc Cert.RefMAIdeal.nD Cert.RefMAIdeal.τ Cert.RefMAIdeal.sig) → Buf (Elt Ideal) ℓ) (g' : Dev Cert.RefMAIdeal.nD → PrngReg), Pre_MergeAIdeal m →
    (∀ c : Dev Cert.MergeAIdeal.nD,
      m' ((c.tc : Thread Cert.RefMAIdeal.nD Cert.RefMAIdeal.τ).loc Cert.RefMAIdeal.main_arg0) = m ((c.tc : Thread Cert.MergeAIdeal.nD Cert.MergeAIdeal.τ).loc Cert.MergeAIdeal.main_arg0)
      ∧ m' ((c.tc : Thread Cert.RefMAIdeal.nD Cert.RefMAIdeal.τ).loc Cert.RefMAIdeal.main_arg1) = m ((c.tc : Thread Cert.MergeAIdeal.nD Cert.MergeAIdeal.τ).loc Cert.MergeAIdeal.main_arg1)
      ∧ m' ((c.tc : Thread Cert.RefMAIdeal.nD Cert.RefMAIdeal.τ).loc Cert.RefMAIdeal.main_arg2) = m ((c.tc : Thread Cert.MergeAIdeal.nD Cert.MergeAIdeal.τ).loc Cert.MergeAIdeal.main_arg2)
      ∧ m' ((c.tc : Thread Cert.RefMAIdeal.nD Cert.RefMAIdeal.τ).loc Cert.RefMAIdeal.main_arg3) = m ((c.tc : Thread Cert.MergeAIdeal.nD Cert.MergeAIdeal.τ).loc Cert.MergeAIdeal.main_arg3)
      ∧ m' ((c.tc : Thread Cert.RefMAIdeal.nD Cert.RefMAIdeal.τ).loc Cert.RefMAIdeal.main_arg4) = m ((c.tc : Thread Cert.MergeAIdeal.nD Cert.MergeAIdeal.τ).loc Cert.MergeAIdeal.main_arg4)
      ∧ m' ((c.tc : Thread Cert.RefMAIdeal.nD Cert.RefMAIdeal.τ).loc Cert.RefMAIdeal.main_arg5) = m ((c.tc : Thread Cert.MergeAIdeal.nD Cert.MergeAIdeal.τ).loc Cert.MergeAIdeal.main_arg5)
      ∧ m' ((c.tc : Thread Cert.RefMAIdeal.nD Cert.RefMAIdeal.τ).loc Cert.RefMAIdeal.main_arg6) = m ((c.tc : Thread Cert.MergeAIdeal.nD Cert.MergeAIdeal.τ).loc Cert.MergeAIdeal.main_arg6)
      ∧ m' ((c.tc : Thread Cert.RefMAIdeal.nD Cert.RefMAIdeal.τ).loc Cert.RefMAIdeal.main_arg7) = m ((c.tc : Thread Cert.MergeAIdeal.nD Cert.MergeAIdeal.τ).loc Cert.MergeAIdeal.main_arg7)
      ∧ m' ((c.tc : Thread Cert.RefMAIdeal.nD Cert.RefMAIdeal.τ).loc Cert.RefMAIdeal.main_arg8) = m ((c.tc : Thread Cert.MergeAIdeal.nD Cert.MergeAIdeal.τ).loc Cert.MergeAIdeal.main_arg8)) →
    ∃ (v0 : (c : Dev Cert.MergeAIdeal.nD) → Buf (Elt Ideal) ((c.tc : Thread Cert.MergeAIdeal.nD Cert.MergeAIdeal.τ).loc Cert.MergeAIdeal.main_v1)),
      θ_run (Cert.MergeAIdeal.defs (F := Ideal)) (onTc (τ := Cert.MergeAIdeal.τ) (Cert.MergeAIdeal.main (F := Ideal))) ⟨m, fun _ => 0, g⟩ (fun r => ∀ c : Dev Cert.MergeAIdeal.nD,
          r.2.mem ((c.tc : Thread Cert.MergeAIdeal.nD Cert.MergeAIdeal.τ).loc Cert.MergeAIdeal.main_v1) = v0 c
          ∧ r.2.mem ((c.tc : Thread Cert.MergeAIdeal.nD Cert.MergeAIdeal.τ).loc Cert.MergeAIdeal.main_arg0) = m ((c.tc : Thread Cert.MergeAIdeal.nD Cert.MergeAIdeal.τ).loc Cert.MergeAIdeal.main_arg0)
          ∧ r.2.mem ((c.tc : Thread Cert.MergeAIdeal.nD Cert.MergeAIdeal.τ).loc Cert.MergeAIdeal.main_arg1) = m ((c.tc : Thread Cert.MergeAIdeal.nD Cert.MergeAIdeal.τ).loc Cert.MergeAIdeal.main_arg1)
          ∧ r.2.mem ((c.tc : Thread Cert.MergeAIdeal.nD Cert.MergeAIdeal.τ).loc Cert.MergeAIdeal.main_arg2) = m ((c.tc : Thread Cert.MergeAIdeal.nD Cert.MergeAIdeal.τ).loc Cert.MergeAIdeal.main_arg2)
          ∧ r.2.mem ((c.tc : Thread Cert.MergeAIdeal.nD Cert.MergeAIdeal.τ).loc Cert.MergeAIdeal.main_arg3) = m ((c.tc : Thread Cert.MergeAIdeal.nD Cert.MergeAIdeal.τ).loc Cert.MergeAIdeal.main_arg3)
          ∧ r.2.mem ((c.tc : Thread Cert.MergeAIdeal.nD Cert.MergeAIdeal.τ).loc Cert.MergeAIdeal.main_arg4) = m ((c.tc : Thread Cert.MergeAIdeal.nD Cert.MergeAIdeal.τ).loc Cert.MergeAIdeal.main_arg4)
          ∧ r.2.mem ((c.tc : Thread Cert.MergeAIdeal.nD Cert.MergeAIdeal.τ).loc Cert.MergeAIdeal.main_arg5) = m ((c.tc : Thread Cert.MergeAIdeal.nD Cert.MergeAIdeal.τ).loc Cert.MergeAIdeal.main_arg5)
          ∧ r.2.mem ((c.tc : Thread Cert.MergeAIdeal.nD Cert.MergeAIdeal.τ).loc Cert.MergeAIdeal.main_arg6) = m ((c.tc : Thread Cert.MergeAIdeal.nD Cert.MergeAIdeal.τ).loc Cert.MergeAIdeal.main_arg6)
          ∧ r.2.mem ((c.tc : Thread Cert.MergeAIdeal.nD Cert.MergeAIdeal.τ).loc Cert.MergeAIdeal.main_arg7) = m ((c.tc : Thread Cert.MergeAIdeal.nD Cert.MergeAIdeal.τ).loc Cert.MergeAIdeal.main_arg7)
          ∧ r.2.mem ((c.tc : Thread Cert.MergeAIdeal.nD Cert.MergeAIdeal.τ).loc Cert.MergeAIdeal.main_arg8) = m ((c.tc : Thread Cert.MergeAIdeal.nD Cert.MergeAIdeal.τ).loc Cert.MergeAIdeal.main_arg8))
      ∧ θ_run (Cert.RefMAIdeal.defs (F := Ideal)) (onTc (τ := Cert.RefMAIdeal.τ) (Cert.RefMAIdeal.main (F := Ideal))) ⟨m', fun _ => 0, g'⟩ (fun r => ∀ c : Dev Cert.RefMAIdeal.nD,
          r.2.mem ((c.tc : Thread Cert.RefMAIdeal.nD Cert.RefMAIdeal.τ).loc Cert.RefMAIdeal.main_v25) = v0 c
          ∧ r.2.mem ((c.tc : Thread Cert.RefMAIdeal.nD Cert.RefMAIdeal.τ).loc Cert.RefMAIdeal.main_arg0) = m' ((c.tc : Thread Cert.RefMAIdeal.nD Cert.RefMAIdeal.τ).loc Cert.RefMAIdeal.main_arg0)
          ∧ r.2.mem ((c.tc : Thread Cert.RefMAIdeal.nD Cert.RefMAIdeal.τ).loc Cert.RefMAIdeal.main_arg1) = m' ((c.tc : Thread Cert.RefMAIdeal.nD Cert.RefMAIdeal.τ).loc Cert.RefMAIdeal.main_arg1)
          ∧ r.2.mem ((c.tc : Thread Cert.RefMAIdeal.nD Cert.RefMAIdeal.τ).loc Cert.RefMAIdeal.main_arg2) = m' ((c.tc : Thread Cert.RefMAIdeal.nD Cert.RefMAIdeal.τ).loc Cert.RefMAIdeal.main_arg2)
          ∧ r.2.mem ((c.tc : Thread Cert.RefMAIdeal.nD Cert.RefMAIdeal.τ).loc Cert.RefMAIdeal.main_arg3) = m' ((c.tc : Thread Cert.RefMAIdeal.nD Cert.RefMAIdeal.τ).loc Cert.RefMAIdeal.main_arg3)
          ∧ r.2.mem ((c.tc : Thread Cert.RefMAIdeal.nD Cert.RefMAIdeal.τ).loc Cert.RefMAIdeal.main_arg4) = m' ((c.tc : Thread Cert.RefMAIdeal.nD Cert.RefMAIdeal.τ).loc Cert.RefMAIdeal.main_arg4)
          ∧ r.2.mem ((c.tc : Thread Cert.RefMAIdeal.nD Cert.RefMAIdeal.τ).loc Cert.RefMAIdeal.main_arg5) = m' ((c.tc : Thread Cert.RefMAIdeal.nD Cert.RefMAIdeal.τ).loc Cert.RefMAIdeal.main_arg5)
          ∧ r.2.mem ((c.tc : Thread Cert.RefMAIdeal.nD Cert.RefMAIdeal.τ).loc Cert.RefMAIdeal.main_arg6) = m' ((c.tc : Thread Cert.RefMAIdeal.nD Cert.RefMAIdeal.τ).loc Cert.RefMAIdeal.main_arg6)
          ∧ r.2.mem ((c.tc : Thread Cert.RefMAIdeal.nD Cert.RefMAIdeal.τ).loc Cert.RefMAIdeal.main_arg7) = m' ((c.tc : Thread Cert.RefMAIdeal.nD Cert.RefMAIdeal.τ).loc Cert.RefMAIdeal.main_arg7)
          ∧ r.2.mem ((c.tc : Thread Cert.RefMAIdeal.nD Cert.RefMAIdeal.τ).loc Cert.RefMAIdeal.main_arg8) = m' ((c.tc : Thread Cert.RefMAIdeal.nD Cert.RefMAIdeal.τ).loc Cert.RefMAIdeal.main_arg8))

def preserves_MergeB_MergeBIdeal : Prop :=
  True

def algebraic_MergeBIdeal_RefMBIdeal [hMergeBIdeal : Cert.MergeBIdeal.Facts] [hRefMBIdeal : Cert.RefMBIdeal.Facts] : Prop :=
  ∀ (m : (ℓ : Loc Cert.MergeBIdeal.nD Cert.MergeBIdeal.τ Cert.MergeBIdeal.sig) → Buf (Elt Ideal) ℓ) (g : Dev Cert.MergeBIdeal.nD → PrngReg)
    (m' : (ℓ : Loc Cert.RefMBIdeal.nD Cert.RefMBIdeal.τ Cert.RefMBIdeal.sig) → Buf (Elt Ideal) ℓ) (g' : Dev Cert.RefMBIdeal.nD → PrngReg), Pre_MergeBIdeal m →
    (∀ c : Dev Cert.MergeBIdeal.nD,
      m' ((c.tc : Thread Cert.RefMBIdeal.nD Cert.RefMBIdeal.τ).loc Cert.RefMBIdeal.main_arg0) = m ((c.tc : Thread Cert.MergeBIdeal.nD Cert.MergeBIdeal.τ).loc Cert.MergeBIdeal.main_arg0)
      ∧ m' ((c.tc : Thread Cert.RefMBIdeal.nD Cert.RefMBIdeal.τ).loc Cert.RefMBIdeal.main_arg1) = m ((c.tc : Thread Cert.MergeBIdeal.nD Cert.MergeBIdeal.τ).loc Cert.MergeBIdeal.main_arg1)
      ∧ m' ((c.tc : Thread Cert.RefMBIdeal.nD Cert.RefMBIdeal.τ).loc Cert.RefMBIdeal.main_arg2) = m ((c.tc : Thread Cert.MergeBIdeal.nD Cert.MergeBIdeal.τ).loc Cert.MergeBIdeal.main_arg2)
      ∧ m' ((c.tc : Thread Cert.RefMBIdeal.nD Cert.RefMBIdeal.τ).loc Cert.RefMBIdeal.main_arg3) = m ((c.tc : Thread Cert.MergeBIdeal.nD Cert.MergeBIdeal.τ).loc Cert.MergeBIdeal.main_arg3)
      ∧ m' ((c.tc : Thread Cert.RefMBIdeal.nD Cert.RefMBIdeal.τ).loc Cert.RefMBIdeal.main_arg4) = m ((c.tc : Thread Cert.MergeBIdeal.nD Cert.MergeBIdeal.τ).loc Cert.MergeBIdeal.main_arg4)
      ∧ m' ((c.tc : Thread Cert.RefMBIdeal.nD Cert.RefMBIdeal.τ).loc Cert.RefMBIdeal.main_arg5) = m ((c.tc : Thread Cert.MergeBIdeal.nD Cert.MergeBIdeal.τ).loc Cert.MergeBIdeal.main_arg5)) →
    ∃ (v0 : (c : Dev Cert.MergeBIdeal.nD) → Buf (Elt Ideal) ((c.tc : Thread Cert.MergeBIdeal.nD Cert.MergeBIdeal.τ).loc Cert.MergeBIdeal.main_v1)),
      θ_run (Cert.MergeBIdeal.defs (F := Ideal)) (onTc (τ := Cert.MergeBIdeal.τ) (Cert.MergeBIdeal.main (F := Ideal))) ⟨m, fun _ => 0, g⟩ (fun r => ∀ c : Dev Cert.MergeBIdeal.nD,
          r.2.mem ((c.tc : Thread Cert.MergeBIdeal.nD Cert.MergeBIdeal.τ).loc Cert.MergeBIdeal.main_v1) = v0 c
          ∧ r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
          ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
          ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
          ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3)
          ∧ r.2.mem ((c.tc : Thread Cert.MergeBIdeal.nD Cert.MergeBIdeal.τ).loc Cert.MergeBIdeal.main_arg4) = m ((c.tc : Thread Cert.MergeBIdeal.nD Cert.MergeBIdeal.τ).loc Cert.MergeBIdeal.main_arg4)
          ∧ r.2.mem ((c.tc : Thread Cert.MergeBIdeal.nD Cert.MergeBIdeal.τ).loc Cert.MergeBIdeal.main_arg5) = m ((c.tc : Thread Cert.MergeBIdeal.nD Cert.MergeBIdeal.τ).loc Cert.MergeBIdeal.main_arg5))
      ∧ θ_run (Cert.RefMBIdeal.defs (F := Ideal)) (onTc (τ := Cert.RefMBIdeal.τ) (Cert.RefMBIdeal.main (F := Ideal))) ⟨m', fun _ => 0, g'⟩ (fun r => ∀ c : Dev Cert.RefMBIdeal.nD,
          r.2.mem ((c.tc : Thread Cert.RefMBIdeal.nD Cert.RefMBIdeal.τ).loc Cert.RefMBIdeal.main_v6) = v0 c
          ∧ r.2.mem ((c.tc : Thread Cert.RefMBIdeal.nD Cert.RefMBIdeal.τ).loc Cert.RefMBIdeal.main_arg0) = m' ((c.tc : Thread Cert.RefMBIdeal.nD Cert.RefMBIdeal.τ).loc Cert.RefMBIdeal.main_arg0)
          ∧ r.2.mem ((c.tc : Thread Cert.RefMBIdeal.nD Cert.RefMBIdeal.τ).loc Cert.RefMBIdeal.main_arg1) = m' ((c.tc : Thread Cert.RefMBIdeal.nD Cert.RefMBIdeal.τ).loc Cert.RefMBIdeal.main_arg1)
          ∧ r.2.mem ((c.tc : Thread Cert.RefMBIdeal.nD Cert.RefMBIdeal.τ).loc Cert.RefMBIdeal.main_arg2) = m' ((c.tc : Thread Cert.RefMBIdeal.nD Cert.RefMBIdeal.τ).loc Cert.RefMBIdeal.main_arg2)
          ∧ r.2.mem ((c.tc : Thread Cert.RefMBIdeal.nD Cert.RefMBIdeal.τ).loc Cert.RefMBIdeal.main_arg3) = m' ((c.tc : Thread Cert.RefMBIdeal.nD Cert.RefMBIdeal.τ).loc Cert.RefMBIdeal.main_arg3)
          ∧ r.2.mem ((c.tc : Thread Cert.RefMBIdeal.nD Cert.RefMBIdeal.τ).loc Cert.RefMBIdeal.main_arg4) = m' ((c.tc : Thread Cert.RefMBIdeal.nD Cert.RefMBIdeal.τ).loc Cert.RefMBIdeal.main_arg4)
          ∧ r.2.mem ((c.tc : Thread Cert.RefMBIdeal.nD Cert.RefMBIdeal.τ).loc Cert.RefMBIdeal.main_arg5) = m' ((c.tc : Thread Cert.RefMBIdeal.nD Cert.RefMBIdeal.τ).loc Cert.RefMBIdeal.main_arg5))

def preserves_SampleA_SampleAIdeal : Prop :=
  True

def algebraic_SampleAIdeal_RefSAIdeal [hSampleAIdeal : Cert.SampleAIdeal.Facts] [hRefSAIdeal : Cert.RefSAIdeal.Facts] : Prop :=
  ∀ (m : (ℓ : Loc Cert.SampleAIdeal.nD Cert.SampleAIdeal.τ Cert.SampleAIdeal.sig) → Buf (Elt Ideal) ℓ) (g : Dev Cert.SampleAIdeal.nD → PrngReg)
    (m' : (ℓ : Loc Cert.RefSAIdeal.nD Cert.RefSAIdeal.τ Cert.RefSAIdeal.sig) → Buf (Elt Ideal) ℓ) (g' : Dev Cert.RefSAIdeal.nD → PrngReg), Pre_SampleAIdeal m →
    (∀ c : Dev Cert.SampleAIdeal.nD,
      m' ((c.tc : Thread Cert.RefSAIdeal.nD Cert.RefSAIdeal.τ).loc Cert.RefSAIdeal.main_arg0) = m ((c.tc : Thread Cert.SampleAIdeal.nD Cert.SampleAIdeal.τ).loc Cert.SampleAIdeal.main_arg0)
      ∧ m' ((c.tc : Thread Cert.RefSAIdeal.nD Cert.RefSAIdeal.τ).loc Cert.RefSAIdeal.main_arg1) = m ((c.tc : Thread Cert.SampleAIdeal.nD Cert.SampleAIdeal.τ).loc Cert.SampleAIdeal.main_arg1)
      ∧ m' ((c.tc : Thread Cert.RefSAIdeal.nD Cert.RefSAIdeal.τ).loc Cert.RefSAIdeal.main_arg2) = m ((c.tc : Thread Cert.SampleAIdeal.nD Cert.SampleAIdeal.τ).loc Cert.SampleAIdeal.main_arg2)
      ∧ m' ((c.tc : Thread Cert.RefSAIdeal.nD Cert.RefSAIdeal.τ).loc Cert.RefSAIdeal.main_arg3) = m ((c.tc : Thread Cert.SampleAIdeal.nD Cert.SampleAIdeal.τ).loc Cert.SampleAIdeal.main_arg3)
      ∧ m' ((c.tc : Thread Cert.RefSAIdeal.nD Cert.RefSAIdeal.τ).loc Cert.RefSAIdeal.main_arg4) = m ((c.tc : Thread Cert.SampleAIdeal.nD Cert.SampleAIdeal.τ).loc Cert.SampleAIdeal.main_arg4)) →
    ∃ (v0 : (c : Dev Cert.SampleAIdeal.nD) → Buf (Elt Ideal) ((c.tc : Thread Cert.SampleAIdeal.nD Cert.SampleAIdeal.τ).loc Cert.SampleAIdeal.main_v46)),
      θ_run (Cert.SampleAIdeal.defs (F := Ideal)) (onTc (τ := Cert.SampleAIdeal.τ) (Cert.SampleAIdeal.main (F := Ideal))) ⟨m, fun _ => 0, g⟩ (fun r => ∀ c : Dev Cert.SampleAIdeal.nD,
          r.2.mem ((c.tc : Thread Cert.SampleAIdeal.nD Cert.SampleAIdeal.τ).loc Cert.SampleAIdeal.main_v46) = v0 c
          ∧ r.2.mem ((c.tc : Thread Cert.SampleAIdeal.nD Cert.SampleAIdeal.τ).loc Cert.SampleAIdeal.main_arg0) = m ((c.tc : Thread Cert.SampleAIdeal.nD Cert.SampleAIdeal.τ).loc Cert.SampleAIdeal.main_arg0)
          ∧ r.2.mem ((c.tc : Thread Cert.SampleAIdeal.nD Cert.SampleAIdeal.τ).loc Cert.SampleAIdeal.main_arg1) = m ((c.tc : Thread Cert.SampleAIdeal.nD Cert.SampleAIdeal.τ).loc Cert.SampleAIdeal.main_arg1)
          ∧ r.2.mem ((c.tc : Thread Cert.SampleAIdeal.nD Cert.SampleAIdeal.τ).loc Cert.SampleAIdeal.main_arg2) = m ((c.tc : Thread Cert.SampleAIdeal.nD Cert.SampleAIdeal.τ).loc Cert.SampleAIdeal.main_arg2)
          ∧ r.2.mem ((c.tc : Thread Cert.SampleAIdeal.nD Cert.SampleAIdeal.τ).loc Cert.SampleAIdeal.main_arg3) = m ((c.tc : Thread Cert.SampleAIdeal.nD Cert.SampleAIdeal.τ).loc Cert.SampleAIdeal.main_arg3)
          ∧ r.2.mem ((c.tc : Thread Cert.SampleAIdeal.nD Cert.SampleAIdeal.τ).loc Cert.SampleAIdeal.main_arg4) = m ((c.tc : Thread Cert.SampleAIdeal.nD Cert.SampleAIdeal.τ).loc Cert.SampleAIdeal.main_arg4))
      ∧ θ_run (Cert.RefSAIdeal.defs (F := Ideal)) (onTc (τ := Cert.RefSAIdeal.τ) (Cert.RefSAIdeal.main (F := Ideal))) ⟨m', fun _ => 0, g'⟩ (fun r => ∀ c : Dev Cert.RefSAIdeal.nD,
          r.2.mem ((c.tc : Thread Cert.RefSAIdeal.nD Cert.RefSAIdeal.τ).loc Cert.RefSAIdeal.main_v117) = v0 c
          ∧ r.2.mem ((c.tc : Thread Cert.RefSAIdeal.nD Cert.RefSAIdeal.τ).loc Cert.RefSAIdeal.main_arg0) = m' ((c.tc : Thread Cert.RefSAIdeal.nD Cert.RefSAIdeal.τ).loc Cert.RefSAIdeal.main_arg0)
          ∧ r.2.mem ((c.tc : Thread Cert.RefSAIdeal.nD Cert.RefSAIdeal.τ).loc Cert.RefSAIdeal.main_arg1) = m' ((c.tc : Thread Cert.RefSAIdeal.nD Cert.RefSAIdeal.τ).loc Cert.RefSAIdeal.main_arg1)
          ∧ r.2.mem ((c.tc : Thread Cert.RefSAIdeal.nD Cert.RefSAIdeal.τ).loc Cert.RefSAIdeal.main_arg2) = m' ((c.tc : Thread Cert.RefSAIdeal.nD Cert.RefSAIdeal.τ).loc Cert.RefSAIdeal.main_arg2)
          ∧ r.2.mem ((c.tc : Thread Cert.RefSAIdeal.nD Cert.RefSAIdeal.τ).loc Cert.RefSAIdeal.main_arg3) = m' ((c.tc : Thread Cert.RefSAIdeal.nD Cert.RefSAIdeal.τ).loc Cert.RefSAIdeal.main_arg3)
          ∧ r.2.mem ((c.tc : Thread Cert.RefSAIdeal.nD Cert.RefSAIdeal.τ).loc Cert.RefSAIdeal.main_arg4) = m' ((c.tc : Thread Cert.RefSAIdeal.nD Cert.RefSAIdeal.τ).loc Cert.RefSAIdeal.main_arg4))

def preserves_SampleB_SampleBIdeal : Prop :=
  True

def algebraic_SampleBIdeal_RefSBIdeal [hSampleBIdeal : Cert.SampleBIdeal.Facts] [hRefSBIdeal : Cert.RefSBIdeal.Facts] : Prop :=
  ∀ (m : (ℓ : Loc Cert.SampleBIdeal.nD Cert.SampleBIdeal.τ Cert.SampleBIdeal.sig) → Buf (Elt Ideal) ℓ) (g : Dev Cert.SampleBIdeal.nD → PrngReg)
    (m' : (ℓ : Loc Cert.RefSBIdeal.nD Cert.RefSBIdeal.τ Cert.RefSBIdeal.sig) → Buf (Elt Ideal) ℓ) (g' : Dev Cert.RefSBIdeal.nD → PrngReg), Pre_SampleBIdeal m →
    (∀ c : Dev Cert.SampleBIdeal.nD,
      m' ((c.tc : Thread Cert.RefSBIdeal.nD Cert.RefSBIdeal.τ).loc Cert.RefSBIdeal.main_arg0) = m ((c.tc : Thread Cert.SampleBIdeal.nD Cert.SampleBIdeal.τ).loc Cert.SampleBIdeal.main_arg0)
      ∧ m' ((c.tc : Thread Cert.RefSBIdeal.nD Cert.RefSBIdeal.τ).loc Cert.RefSBIdeal.main_arg1) = m ((c.tc : Thread Cert.SampleBIdeal.nD Cert.SampleBIdeal.τ).loc Cert.SampleBIdeal.main_arg1)
      ∧ m' ((c.tc : Thread Cert.RefSBIdeal.nD Cert.RefSBIdeal.τ).loc Cert.RefSBIdeal.main_arg2) = m ((c.tc : Thread Cert.SampleBIdeal.nD Cert.SampleBIdeal.τ).loc Cert.SampleBIdeal.main_arg2)
      ∧ m' ((c.tc : Thread Cert.RefSBIdeal.nD Cert.RefSBIdeal.τ).loc Cert.RefSBIdeal.main_arg3) = m ((c.tc : Thread Cert.SampleBIdeal.nD Cert.SampleBIdeal.τ).loc Cert.SampleBIdeal.main_arg3)
      ∧ m' ((c.tc : Thread Cert.RefSBIdeal.nD Cert.RefSBIdeal.τ).loc Cert.RefSBIdeal.main_arg4) = m ((c.tc : Thread Cert.SampleBIdeal.nD Cert.SampleBIdeal.τ).loc Cert.SampleBIdeal.main_arg4)) →
    ∃ (v0 : (c : Dev Cert.SampleBIdeal.nD) → Buf (Elt Ideal) ((c.tc : Thread Cert.SampleBIdeal.nD Cert.SampleBIdeal.τ).loc Cert.SampleBIdeal.main_v63)),
      θ_run (Cert.SampleBIdeal.defs (F := Ideal)) (onTc (τ := Cert.SampleBIdeal.τ) (Cert.SampleBIdeal.main (F := Ideal))) ⟨m, fun _ => 0, g⟩ (fun r => ∀ c : Dev Cert.SampleBIdeal.nD,
          r.2.mem ((c.tc : Thread Cert.SampleBIdeal.nD Cert.SampleBIdeal.τ).loc Cert.SampleBIdeal.main_v63) = v0 c
          ∧ r.2.mem ((c.tc : Thread Cert.SampleBIdeal.nD Cert.SampleBIdeal.τ).loc Cert.SampleBIdeal.main_arg0) = m ((c.tc : Thread Cert.SampleBIdeal.nD Cert.SampleBIdeal.τ).loc Cert.SampleBIdeal.main_arg0)
          ∧ r.2.mem ((c.tc : Thread Cert.SampleBIdeal.nD Cert.SampleBIdeal.τ).loc Cert.SampleBIdeal.main_arg1) = m ((c.tc : Thread Cert.SampleBIdeal.nD Cert.SampleBIdeal.τ).loc Cert.SampleBIdeal.main_arg1)
          ∧ r.2.mem ((c.tc : Thread Cert.SampleBIdeal.nD Cert.SampleBIdeal.τ).loc Cert.SampleBIdeal.main_arg2) = m ((c.tc : Thread Cert.SampleBIdeal.nD Cert.SampleBIdeal.τ).loc Cert.SampleBIdeal.main_arg2)
          ∧ r.2.mem ((c.tc : Thread Cert.SampleBIdeal.nD Cert.SampleBIdeal.τ).loc Cert.SampleBIdeal.main_arg3) = m ((c.tc : Thread Cert.SampleBIdeal.nD Cert.SampleBIdeal.τ).loc Cert.SampleBIdeal.main_arg3)
          ∧ r.2.mem ((c.tc : Thread Cert.SampleBIdeal.nD Cert.SampleBIdeal.τ).loc Cert.SampleBIdeal.main_arg4) = m ((c.tc : Thread Cert.SampleBIdeal.nD Cert.SampleBIdeal.τ).loc Cert.SampleBIdeal.main_arg4))
      ∧ θ_run (Cert.RefSBIdeal.defs (F := Ideal)) (onTc (τ := Cert.RefSBIdeal.τ) (Cert.RefSBIdeal.main (F := Ideal))) ⟨m', fun _ => 0, g'⟩ (fun r => ∀ c : Dev Cert.RefSBIdeal.nD,
          r.2.mem ((c.tc : Thread Cert.RefSBIdeal.nD Cert.RefSBIdeal.τ).loc Cert.RefSBIdeal.main_v196) = v0 c
          ∧ r.2.mem ((c.tc : Thread Cert.RefSBIdeal.nD Cert.RefSBIdeal.τ).loc Cert.RefSBIdeal.main_arg0) = m' ((c.tc : Thread Cert.RefSBIdeal.nD Cert.RefSBIdeal.τ).loc Cert.RefSBIdeal.main_arg0)
          ∧ r.2.mem ((c.tc : Thread Cert.RefSBIdeal.nD Cert.RefSBIdeal.τ).loc Cert.RefSBIdeal.main_arg1) = m' ((c.tc : Thread Cert.RefSBIdeal.nD Cert.RefSBIdeal.τ).loc Cert.RefSBIdeal.main_arg1)
          ∧ r.2.mem ((c.tc : Thread Cert.RefSBIdeal.nD Cert.RefSBIdeal.τ).loc Cert.RefSBIdeal.main_arg2) = m' ((c.tc : Thread Cert.RefSBIdeal.nD Cert.RefSBIdeal.τ).loc Cert.RefSBIdeal.main_arg2)
          ∧ r.2.mem ((c.tc : Thread Cert.RefSBIdeal.nD Cert.RefSBIdeal.τ).loc Cert.RefSBIdeal.main_arg3) = m' ((c.tc : Thread Cert.RefSBIdeal.nD Cert.RefSBIdeal.τ).loc Cert.RefSBIdeal.main_arg3)
          ∧ r.2.mem ((c.tc : Thread Cert.RefSBIdeal.nD Cert.RefSBIdeal.τ).loc Cert.RefSBIdeal.main_arg4) = m' ((c.tc : Thread Cert.RefSBIdeal.nD Cert.RefSBIdeal.τ).loc Cert.RefSBIdeal.main_arg4))

def preserves_SMergeB_SMergeBIdeal : Prop :=
  True

def algebraic_SMergeBIdeal_RefSMBIdeal [hSMergeBIdeal : Cert.SMergeBIdeal.Facts] [hRefSMBIdeal : Cert.RefSMBIdeal.Facts] : Prop :=
  ∀ (m : (ℓ : Loc Cert.SMergeBIdeal.nD Cert.SMergeBIdeal.τ Cert.SMergeBIdeal.sig) → Buf (Elt Ideal) ℓ) (g : Dev Cert.SMergeBIdeal.nD → PrngReg)
    (m' : (ℓ : Loc Cert.RefSMBIdeal.nD Cert.RefSMBIdeal.τ Cert.RefSMBIdeal.sig) → Buf (Elt Ideal) ℓ) (g' : Dev Cert.RefSMBIdeal.nD → PrngReg), Pre_SMergeBIdeal m →
    (∀ c : Dev Cert.SMergeBIdeal.nD,
      m' ((c.tc : Thread Cert.RefSMBIdeal.nD Cert.RefSMBIdeal.τ).loc Cert.RefSMBIdeal.main_arg0) = m ((c.tc : Thread Cert.SMergeBIdeal.nD Cert.SMergeBIdeal.τ).loc Cert.SMergeBIdeal.main_arg0)
      ∧ m' ((c.tc : Thread Cert.RefSMBIdeal.nD Cert.RefSMBIdeal.τ).loc Cert.RefSMBIdeal.main_arg1) = m ((c.tc : Thread Cert.SMergeBIdeal.nD Cert.SMergeBIdeal.τ).loc Cert.SMergeBIdeal.main_arg1)
      ∧ m' ((c.tc : Thread Cert.RefSMBIdeal.nD Cert.RefSMBIdeal.τ).loc Cert.RefSMBIdeal.main_arg2) = m ((c.tc : Thread Cert.SMergeBIdeal.nD Cert.SMergeBIdeal.τ).loc Cert.SMergeBIdeal.main_arg2)
      ∧ m' ((c.tc : Thread Cert.RefSMBIdeal.nD Cert.RefSMBIdeal.τ).loc Cert.RefSMBIdeal.main_arg3) = m ((c.tc : Thread Cert.SMergeBIdeal.nD Cert.SMergeBIdeal.τ).loc Cert.SMergeBIdeal.main_arg3)
      ∧ m' ((c.tc : Thread Cert.RefSMBIdeal.nD Cert.RefSMBIdeal.τ).loc Cert.RefSMBIdeal.main_arg4) = m ((c.tc : Thread Cert.SMergeBIdeal.nD Cert.SMergeBIdeal.τ).loc Cert.SMergeBIdeal.main_arg4)
      ∧ m' ((c.tc : Thread Cert.RefSMBIdeal.nD Cert.RefSMBIdeal.τ).loc Cert.RefSMBIdeal.main_arg5) = m ((c.tc : Thread Cert.SMergeBIdeal.nD Cert.SMergeBIdeal.τ).loc Cert.SMergeBIdeal.main_arg5)) →
    ∃ (v0 : (c : Dev Cert.SMergeBIdeal.nD) → Buf (Elt Ideal) ((c.tc : Thread Cert.SMergeBIdeal.nD Cert.SMergeBIdeal.τ).loc Cert.SMergeBIdeal.main_v1)),
      θ_run (Cert.SMergeBIdeal.defs (F := Ideal)) (onTc (τ := Cert.SMergeBIdeal.τ) (Cert.SMergeBIdeal.main (F := Ideal))) ⟨m, fun _ => 0, g⟩ (fun r => ∀ c : Dev Cert.SMergeBIdeal.nD,
          r.2.mem ((c.tc : Thread Cert.SMergeBIdeal.nD Cert.SMergeBIdeal.τ).loc Cert.SMergeBIdeal.main_v1) = v0 c
          ∧ r.2.mem ((c.tc : Thread Cert.SMergeBIdeal.nD Cert.SMergeBIdeal.τ).loc Cert.SMergeBIdeal.main_arg0) = m ((c.tc : Thread Cert.SMergeBIdeal.nD Cert.SMergeBIdeal.τ).loc Cert.SMergeBIdeal.main_arg0)
          ∧ r.2.mem ((c.tc : Thread Cert.SMergeBIdeal.nD Cert.SMergeBIdeal.τ).loc Cert.SMergeBIdeal.main_arg1) = m ((c.tc : Thread Cert.SMergeBIdeal.nD Cert.SMergeBIdeal.τ).loc Cert.SMergeBIdeal.main_arg1)
          ∧ r.2.mem ((c.tc : Thread Cert.SMergeBIdeal.nD Cert.SMergeBIdeal.τ).loc Cert.SMergeBIdeal.main_arg2) = m ((c.tc : Thread Cert.SMergeBIdeal.nD Cert.SMergeBIdeal.τ).loc Cert.SMergeBIdeal.main_arg2)
          ∧ r.2.mem ((c.tc : Thread Cert.SMergeBIdeal.nD Cert.SMergeBIdeal.τ).loc Cert.SMergeBIdeal.main_arg3) = m ((c.tc : Thread Cert.SMergeBIdeal.nD Cert.SMergeBIdeal.τ).loc Cert.SMergeBIdeal.main_arg3)
          ∧ r.2.mem ((c.tc : Thread Cert.SMergeBIdeal.nD Cert.SMergeBIdeal.τ).loc Cert.SMergeBIdeal.main_arg4) = m ((c.tc : Thread Cert.SMergeBIdeal.nD Cert.SMergeBIdeal.τ).loc Cert.SMergeBIdeal.main_arg4)
          ∧ r.2.mem ((c.tc : Thread Cert.SMergeBIdeal.nD Cert.SMergeBIdeal.τ).loc Cert.SMergeBIdeal.main_arg5) = m ((c.tc : Thread Cert.SMergeBIdeal.nD Cert.SMergeBIdeal.τ).loc Cert.SMergeBIdeal.main_arg5))
      ∧ θ_run (Cert.RefSMBIdeal.defs (F := Ideal)) (onTc (τ := Cert.RefSMBIdeal.τ) (Cert.RefSMBIdeal.main (F := Ideal))) ⟨m', fun _ => 0, g'⟩ (fun r => ∀ c : Dev Cert.RefSMBIdeal.nD,
          r.2.mem ((c.tc : Thread Cert.RefSMBIdeal.nD Cert.RefSMBIdeal.τ).loc Cert.RefSMBIdeal.main_v6) = v0 c
          ∧ r.2.mem ((c.tc : Thread Cert.RefSMBIdeal.nD Cert.RefSMBIdeal.τ).loc Cert.RefSMBIdeal.main_arg0) = m' ((c.tc : Thread Cert.RefSMBIdeal.nD Cert.RefSMBIdeal.τ).loc Cert.RefSMBIdeal.main_arg0)
          ∧ r.2.mem ((c.tc : Thread Cert.RefSMBIdeal.nD Cert.RefSMBIdeal.τ).loc Cert.RefSMBIdeal.main_arg1) = m' ((c.tc : Thread Cert.RefSMBIdeal.nD Cert.RefSMBIdeal.τ).loc Cert.RefSMBIdeal.main_arg1)
          ∧ r.2.mem ((c.tc : Thread Cert.RefSMBIdeal.nD Cert.RefSMBIdeal.τ).loc Cert.RefSMBIdeal.main_arg2) = m' ((c.tc : Thread Cert.RefSMBIdeal.nD Cert.RefSMBIdeal.τ).loc Cert.RefSMBIdeal.main_arg2)
          ∧ r.2.mem ((c.tc : Thread Cert.RefSMBIdeal.nD Cert.RefSMBIdeal.τ).loc Cert.RefSMBIdeal.main_arg3) = m' ((c.tc : Thread Cert.RefSMBIdeal.nD Cert.RefSMBIdeal.τ).loc Cert.RefSMBIdeal.main_arg3)
          ∧ r.2.mem ((c.tc : Thread Cert.RefSMBIdeal.nD Cert.RefSMBIdeal.τ).loc Cert.RefSMBIdeal.main_arg4) = m' ((c.tc : Thread Cert.RefSMBIdeal.nD Cert.RefSMBIdeal.τ).loc Cert.RefSMBIdeal.main_arg4)
          ∧ r.2.mem ((c.tc : Thread Cert.RefSMBIdeal.nD Cert.RefSMBIdeal.τ).loc Cert.RefSMBIdeal.main_arg5) = m' ((c.tc : Thread Cert.RefSMBIdeal.nD Cert.RefSMBIdeal.τ).loc Cert.RefSMBIdeal.main_arg5))

def Claim : Prop :=
  ∃ (hKernel : Cert.Kernel.Facts) (hKernelIdeal : Cert.KernelIdeal.Facts) (hReferenceIdeal : Cert.ReferenceIdeal.Facts) (hProjA : Cert.ProjA.Facts) (hProjAIdeal : Cert.ProjAIdeal.Facts) (hRefAIdeal : Cert.RefAIdeal.Facts) (hProjB : Cert.ProjB.Facts) (hProjBIdeal : Cert.ProjBIdeal.Facts) (hRefBIdeal : Cert.RefBIdeal.Facts) (hMergeA : Cert.MergeA.Facts) (hMergeAIdeal : Cert.MergeAIdeal.Facts) (hRefMAIdeal : Cert.RefMAIdeal.Facts) (hMergeB : Cert.MergeB.Facts) (hMergeBIdeal : Cert.MergeBIdeal.Facts) (hRefMBIdeal : Cert.RefMBIdeal.Facts) (hSampleA : Cert.SampleA.Facts) (hSampleAIdeal : Cert.SampleAIdeal.Facts) (hRefSAIdeal : Cert.RefSAIdeal.Facts) (hSampleB : Cert.SampleB.Facts) (hSampleBIdeal : Cert.SampleBIdeal.Facts) (hRefSBIdeal : Cert.RefSBIdeal.Facts) (hSMergeB : Cert.SMergeB.Facts) (hSMergeBIdeal : Cert.SMergeBIdeal.Facts) (hRefSMBIdeal : Cert.RefSMBIdeal.Facts),
    quiescent_Kernel (hKernel := hKernel)
    ∧ quiescent_KernelIdeal (hKernelIdeal := hKernelIdeal)
    ∧ quiescent_ReferenceIdeal (hReferenceIdeal := hReferenceIdeal)
    ∧ quiescent_ProjA (hProjA := hProjA)
    ∧ quiescent_ProjAIdeal (hProjAIdeal := hProjAIdeal)
    ∧ quiescent_RefAIdeal (hRefAIdeal := hRefAIdeal)
    ∧ quiescent_ProjB (hProjB := hProjB)
    ∧ quiescent_ProjBIdeal (hProjBIdeal := hProjBIdeal)
    ∧ quiescent_RefBIdeal (hRefBIdeal := hRefBIdeal)
    ∧ quiescent_MergeA (hMergeA := hMergeA)
    ∧ quiescent_MergeAIdeal (hMergeAIdeal := hMergeAIdeal)
    ∧ quiescent_RefMAIdeal (hRefMAIdeal := hRefMAIdeal)
    ∧ quiescent_MergeB (hMergeB := hMergeB)
    ∧ quiescent_MergeBIdeal (hMergeBIdeal := hMergeBIdeal)
    ∧ quiescent_RefMBIdeal (hRefMBIdeal := hRefMBIdeal)
    ∧ quiescent_SampleA (hSampleA := hSampleA)
    ∧ quiescent_SampleAIdeal (hSampleAIdeal := hSampleAIdeal)
    ∧ quiescent_RefSAIdeal (hRefSAIdeal := hRefSAIdeal)
    ∧ quiescent_SampleB (hSampleB := hSampleB)
    ∧ quiescent_SampleBIdeal (hSampleBIdeal := hSampleBIdeal)
    ∧ quiescent_RefSBIdeal (hRefSBIdeal := hRefSBIdeal)
    ∧ quiescent_SMergeB (hSMergeB := hSMergeB)
    ∧ quiescent_SMergeBIdeal (hSMergeBIdeal := hSMergeBIdeal)
    ∧ quiescent_RefSMBIdeal (hRefSMBIdeal := hRefSMBIdeal)
    ∧ preserves_Kernel_KernelIdeal
    ∧ algebraic_KernelIdeal_ReferenceIdeal (hKernelIdeal := hKernelIdeal) (hReferenceIdeal := hReferenceIdeal)
    ∧ preserves_ProjA_ProjAIdeal
    ∧ algebraic_ProjAIdeal_RefAIdeal (hProjAIdeal := hProjAIdeal) (hRefAIdeal := hRefAIdeal)
    ∧ preserves_ProjB_ProjBIdeal
    ∧ algebraic_ProjBIdeal_RefBIdeal (hProjBIdeal := hProjBIdeal) (hRefBIdeal := hRefBIdeal)
    ∧ preserves_MergeA_MergeAIdeal
    ∧ algebraic_MergeAIdeal_RefMAIdeal (hMergeAIdeal := hMergeAIdeal) (hRefMAIdeal := hRefMAIdeal)
    ∧ preserves_MergeB_MergeBIdeal
    ∧ algebraic_MergeBIdeal_RefMBIdeal (hMergeBIdeal := hMergeBIdeal) (hRefMBIdeal := hRefMBIdeal)
    ∧ preserves_SampleA_SampleAIdeal
    ∧ algebraic_SampleAIdeal_RefSAIdeal (hSampleAIdeal := hSampleAIdeal) (hRefSAIdeal := hRefSAIdeal)
    ∧ preserves_SampleB_SampleBIdeal
    ∧ algebraic_SampleBIdeal_RefSBIdeal (hSampleBIdeal := hSampleBIdeal) (hRefSBIdeal := hRefSBIdeal)
    ∧ preserves_SMergeB_SMergeBIdeal
    ∧ algebraic_SMergeBIdeal_RefSMBIdeal (hSMergeBIdeal := hSMergeBIdeal) (hRefSMBIdeal := hRefSMBIdeal)
-- ==== Kernel.lean ====
abbrev S4x4096x5376 : Shape := ⟨3, ![4, 4096, 5376]⟩
abbrev S4x2x256x256 : Shape := ⟨4, ![4, 2, 256, 256]⟩
abbrev S256 : Shape := ⟨1, ![256]⟩
abbrev S1x256 : Shape := ⟨2, ![1, 256]⟩
abbrev S64 : Shape := ⟨1, ![64]⟩
abbrev S64x1 : Shape := ⟨2, ![64, 1]⟩
abbrev S_ : Shape := ⟨0, ![]⟩
abbrev S64x256 : Shape := ⟨2, ![64, 256]⟩
abbrev S4x4096x1024 : Shape := ⟨3, ![4, 4096, 1024]⟩
abbrev S4x4x64x4096 : Shape := ⟨4, ![4, 4, 64, 4096]⟩
abbrev S4x4x24x4096 : Shape := ⟨4, ![4, 4, 24, 4096]⟩
abbrev S1x128x512 : Shape := ⟨3, ![1, 128, 512]⟩
abbrev S1x1x256x128 : Shape := ⟨4, ![1, 1, 256, 128]⟩
abbrev S1x128x128 : Shape := ⟨3, ![1, 128, 128]⟩
abbrev S1x2x64x128 : Shape := ⟨4, ![1, 2, 64, 128]⟩
abbrev S1x2x24x128 : Shape := ⟨4, ![1, 2, 24, 128]⟩
abbrev S128x512 : Shape := ⟨2, ![128, 512]⟩
abbrev S128x128 : Shape := ⟨2, ![128, 128]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩
abbrev S128x1 : Shape := ⟨2, ![128, 1]⟩
abbrev S64x128 : Shape := ⟨2, ![64, 128]⟩
abbrev S1x128 : Shape := ⟨2, ![1, 128]⟩
abbrev S128 : Shape := ⟨1, ![128]⟩
abbrev S128x256 : Shape := ⟨2, ![128, 256]⟩
abbrev S1x1x1x128 : Shape := ⟨4, ![1, 1, 1, 128]⟩
abbrev S1x1x64x128 : Shape := ⟨4, ![1, 1, 64, 128]⟩

abbrev nBuf : Space → Nat
  | .hbm => 51
  | .vmem => 15
  | .smem => 0
  | _ => 0

abbrev bufTy : (tb : Table) → Fin (tcTables nBuf tb) → BufTy
  | .hbm, ⟨0, _⟩ => ⟨S4x4096x5376, .f32⟩
  | .hbm, ⟨1, _⟩ => ⟨S4x2x256x256, .f32⟩
  | .hbm, ⟨2, _⟩ => ⟨S256, .i32⟩
  | .hbm, ⟨3, _⟩ => ⟨S1x256, .i32⟩
  | .hbm, ⟨4, _⟩ => ⟨S64, .i32⟩
  | .hbm, ⟨5, _⟩ => ⟨S64x1, .i32⟩
  | .hbm, ⟨6, _⟩ => ⟨S_, .i32⟩
  | .hbm, ⟨7, _⟩ => ⟨S1x256, .i32⟩
  | .hbm, ⟨8, _⟩ => ⟨S1x256, .i32⟩
  | .hbm, ⟨9, _⟩ => ⟨S_, .i32⟩
  | .hbm, ⟨10, _⟩ => ⟨S64x1, .i32⟩
  | .hbm, ⟨11, _⟩ => ⟨S64x1, .i32⟩
  | .hbm, ⟨12, _⟩ => ⟨S_, .i32⟩
  | .hbm, ⟨13, _⟩ => ⟨S64x1, .i32⟩
  | .hbm, ⟨14, _⟩ => ⟨S64x1, .i32⟩
  | .hbm, ⟨15, _⟩ => ⟨S_, .i32⟩
  | .hbm, ⟨16, _⟩ => ⟨S64x1, .i32⟩
  | .hbm, ⟨17, _⟩ => ⟨S64x1, .i32⟩
  | .hbm, ⟨18, _⟩ => ⟨S64x256, .i32⟩
  | .hbm, ⟨19, _⟩ => ⟨S64x256, .i32⟩
  | .hbm, ⟨20, _⟩ => ⟨S64x256, .i1⟩
  | .hbm, ⟨21, _⟩ => ⟨S_, .i32⟩
  | .hbm, ⟨22, _⟩ => ⟨S1x256, .i32⟩
  | .hbm, ⟨23, _⟩ => ⟨S1x256, .i32⟩
  | .hbm, ⟨24, _⟩ => ⟨S_, .i32⟩
  | .hbm, ⟨25, _⟩ => ⟨S1x256, .i32⟩
  | .hbm, ⟨26, _⟩ => ⟨S1x256, .i32⟩
  | .hbm, ⟨27, _⟩ => ⟨S_, .i32⟩
  | .hbm, ⟨28, _⟩ => ⟨S1x256, .i32⟩
  | .hbm, ⟨29, _⟩ => ⟨S1x256, .i32⟩
  | .hbm, ⟨30, _⟩ => ⟨S_, .i32⟩
  | .hbm, ⟨31, _⟩ => ⟨S64x1, .i32⟩
  | .hbm, ⟨32, _⟩ => ⟨S64x1, .i32⟩
  | .hbm, ⟨33, _⟩ => ⟨S64x256, .i32⟩
  | .hbm, ⟨34, _⟩ => ⟨S64x256, .i32⟩
  | .hbm, ⟨35, _⟩ => ⟨S64x256, .i1⟩
  | .hbm, ⟨36, _⟩ => ⟨S64x256, .i1⟩
  | .hbm, ⟨37, _⟩ => ⟨S_, .i32⟩
  | .hbm, ⟨38, _⟩ => ⟨S1x256, .i32⟩
  | .hbm, ⟨39, _⟩ => ⟨S1x256, .i1⟩
  | .hbm, ⟨40, _⟩ => ⟨S64x256, .i1⟩
  | .hbm, ⟨41, _⟩ => ⟨S64x256, .i1⟩
  | .hbm, ⟨42, _⟩ => ⟨S_, .i32⟩
  | .hbm, ⟨43, _⟩ => ⟨S64x1, .i32⟩
  | .hbm, ⟨44, _⟩ => ⟨S64x1, .i1⟩
  | .hbm, ⟨45, _⟩ => ⟨S64x256, .i1⟩
  | .hbm, ⟨46, _⟩ => ⟨S64x256, .i1⟩
  | .hbm, ⟨47, _⟩ => ⟨S64x256, .bf16⟩
  | .hbm, ⟨48, _⟩ => ⟨S4x4096x1024, .f32⟩
  | .hbm, ⟨49, _⟩ => ⟨S4x4x64x4096, .f32⟩
  | .hbm, ⟨50, _⟩ => ⟨S4x4x24x4096, .i32⟩
  | .local _ .vmem, ⟨0, _⟩ => ⟨S1x128x512, .f32⟩
  | .local _ .vmem, ⟨1, _⟩ => ⟨S1x128x512, .f32⟩
  | .local _ .vmem, ⟨2, _⟩ => ⟨S1x1x256x128, .f32⟩
  | .local _ .vmem, ⟨3, _⟩ => ⟨S1x1x256x128, .f32⟩
  | .local _ .vmem, ⟨4, _⟩ => ⟨S1x1x256x128, .f32⟩
  | .local _ .vmem, ⟨5, _⟩ => ⟨S1x1x256x128, .f32⟩
  | .local _ .vmem, ⟨6, _⟩ => ⟨S64x256, .bf16⟩
  | .local _ .vmem, ⟨7, _⟩ => ⟨S1x128x128, .f32⟩
  | .local _ .vmem, ⟨8, _⟩ => ⟨S1x128x128, .f32⟩
  | .local _ .vmem, ⟨9, _⟩ => ⟨S1x128x512, .f32⟩
  | .local _ .vmem, ⟨10, _⟩ => ⟨S1x128x512, .f32⟩
  | .local _ .vmem, ⟨11, _⟩ => ⟨S1x2x64x128, .f32⟩
  | .local _ .vmem, ⟨12, _⟩ => ⟨S1x2x64x128, .f32⟩
  | .local _ .vmem, ⟨13, _⟩ => ⟨S1x2x24x128, .i32⟩
  | .local _ .vmem, ⟨14, _⟩ => ⟨S1x2x24x128, .i32⟩
  | _, _ => ⟨S4x4096x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_c_5 : Ref sig .tc := ⟨.hbm, 27, rfl⟩
abbrev main_v19 : Ref sig .tc := ⟨.hbm, 28, rfl⟩
abbrev main_v20 : Ref sig .tc := ⟨.hbm, 29, rfl⟩
abbrev main_c_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_7 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36_0 : Ref sig .tc := ⟨.hbm, 48, rfl⟩
abbrev main_v36_1 : Ref sig .tc := ⟨.hbm, 49, rfl⟩
abbrev main_v36_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 2, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg0.toNat, c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg1
  let c0_i32 : BitVec 32 := 0#32
  ![arg0.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2x24x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S4x4096x5376 : Shape := ⟨3, ![4, 4096, 5376]⟩
abbrev S4x2x256x256 : Shape := ⟨4, ![4, 2, 256, 256]⟩
abbrev S4x4096x1024 : Shape := ⟨3, ![4, 4096, 1024]⟩
abbrev S4x4096x4x4x64 : Shape := ⟨5, ![4, 4096, 4, 4, 64]⟩
abbrev S4x1x255x256 : Shape := ⟨4, ![4, 1, 255, 256]⟩
abbrev S4x255x256 : Shape := ⟨3, ![4, 255, 256]⟩
abbrev S4x255x4x64 : Shape := ⟨4, ![4, 255, 4, 64]⟩
abbrev S4x4096x256 : Shape := ⟨3, ![4, 4096, 256]⟩
abbrev S4x4096x2x128 : Shape := ⟨4, ![4, 4096, 2, 128]⟩
abbrev S4x4096x2x8 : Shape := ⟨4, ![4, 4096, 2, 8]⟩
abbrev S4x4096x16 : Shape := ⟨3, ![4, 4096, 16]⟩
abbrev S255 : Shape := ⟨1, ![255]⟩
abbrev S_ : Shape := ⟨0, ![]⟩
abbrev S4096 : Shape := ⟨1, ![4096]⟩
abbrev S4x4x255x4096x4 : Shape := ⟨5, ![4, 4, 255, 4096, 4]⟩
abbrev S4x4x4x4096x255 : Shape := ⟨5, ![4, 4, 4, 4096, 255]⟩
abbrev S1x255 : Shape := ⟨2, ![1, 255]⟩
abbrev S4096x1 : Shape := ⟨2, ![4096, 1]⟩
abbrev S4096x255 : Shape := ⟨2, ![4096, 255]⟩
abbrev S4x4x4x4096 : Shape := ⟨4, ![4, 4, 4, 4096]⟩
abbrev S4x4x4x4096x1 : Shape := ⟨5, ![4, 4, 4, 4096, 1]⟩
abbrev S4x4x64x4x4096 : Shape := ⟨5, ![4, 4, 64, 4, 4096]⟩
abbrev S4x4096x16x64 : Shape := ⟨4, ![4, 4096, 16, 64]⟩
abbrev S4x4096x16x1 : Shape := ⟨4, ![4, 4096, 16, 1]⟩

abbrev nBuf : Space → Nat
  | .hbm => 69
  | .vmem => 0
  | .smem => 0
  | _ => 0

abbrev bufTy : (tb : Table) → Fin (tcTables nBuf tb) → BufTy
  | .hbm, ⟨0, _⟩ => ⟨S4x4096x5376, .f32⟩
  | .hbm, ⟨1, _⟩ => ⟨S4x2x256x256, .f32⟩
  | .hbm, ⟨2, _⟩ => ⟨S4x4096x1024, .f32⟩
  | .hbm, ⟨3, _⟩ => ⟨S4x4096x4x4x64, .f32⟩
  | .hbm, ⟨4, _⟩ => ⟨S4x1x255x256, .f32⟩
  | .hbm, ⟨5, _⟩ => ⟨S4x255x256, .f32⟩
  | .hbm, ⟨6, _⟩ => ⟨S4x255x4x64, .f32⟩
  | .hbm, ⟨7, _⟩ => ⟨S4x1x255x256, .f32⟩
  | .hbm, ⟨8, _⟩ => ⟨S4x255x256, .f32⟩
  | .hbm, ⟨9, _⟩ => ⟨S4x255x4x64, .f32⟩
  | .hbm, ⟨10, _⟩ => ⟨S4x4096x256, .f32⟩
  | .hbm, ⟨11, _⟩ => ⟨S4x4096x2x128, .f32⟩
  | .hbm, ⟨12, _⟩ => ⟨S4x4096x2x8, .f32⟩
  | .hbm, ⟨13, _⟩ => ⟨S4x4096x16, .f32⟩
  | .hbm, ⟨14, _⟩ => ⟨S255, .i32⟩
  | .hbm, ⟨15, _⟩ => ⟨S_, .i32⟩
  | .hbm, ⟨16, _⟩ => ⟨S255, .i32⟩
  | .hbm, ⟨17, _⟩ => ⟨S255, .i32⟩
  | .hbm, ⟨18, _⟩ => ⟨S_, .i32⟩
  | .hbm, ⟨19, _⟩ => ⟨S255, .i32⟩
  | .hbm, ⟨20, _⟩ => ⟨S255, .i32⟩
  | .hbm, ⟨21, _⟩ => ⟨S_, .i32⟩
  | .hbm, ⟨22, _⟩ => ⟨S255, .i32⟩
  | .hbm, ⟨23, _⟩ => ⟨S255, .i32⟩
  | .hbm, ⟨24, _⟩ => ⟨S4096, .i32⟩
  | .hbm, ⟨25, _⟩ => ⟨S4x4x255x4096x4, .f32⟩
  | .hbm, ⟨26, _⟩ => ⟨S4x4x4x4096x255, .f32⟩
  | .hbm, ⟨27, _⟩ => ⟨S_, .f32⟩
  | .hbm, ⟨28, _⟩ => ⟨S4x4x4x4096x255, .f32⟩
  | .hbm, ⟨29, _⟩ => ⟨S4x4x4x4096x255, .f32⟩
  | .hbm, ⟨30, _⟩ => ⟨S1x255, .i32⟩
  | .hbm, ⟨31, _⟩ => ⟨S4096x1, .i32⟩
  | .hbm, ⟨32, _⟩ => ⟨S4096x255, .i32⟩
  | .hbm, ⟨33, _⟩ => ⟨S4096x255, .i32⟩
  | .hbm, ⟨34, _⟩ => ⟨S4096x255, .i1⟩
  | .hbm, ⟨35, _⟩ => ⟨S_, .f32⟩
  | .hbm, ⟨36, _⟩ => ⟨S_, .f32⟩
  | .hbm, ⟨37, _⟩ => ⟨S4x4x4x4096x255, .i1⟩
  | .hbm, ⟨38, _⟩ => ⟨S4x4x4x4096x255, .f32⟩
  | .hbm, ⟨39, _⟩ => ⟨S4x4x4x4096x255, .f32⟩
  | .hbm, ⟨40, _⟩ => ⟨S_, .f32⟩
  | .hbm, ⟨41, _⟩ => ⟨S4x4x4x4096, .f32⟩
  | .hbm, ⟨42, _⟩ => ⟨S4x4x4x4096x1, .f32⟩
  | .hbm, ⟨43, _⟩ => ⟨S4x4x4x4096x1, .f32⟩
  | .hbm, ⟨44, _⟩ => ⟨S_, .f32⟩
  | .hbm, ⟨45, _⟩ => ⟨S4x4x4x4096x1, .f32⟩
  | .hbm, ⟨46, _⟩ => ⟨S4x4x4x4096x1, .i1⟩
  | .hbm, ⟨47, _⟩ => ⟨S_, .f32⟩
  | .hbm, ⟨48, _⟩ => ⟨S_, .f32⟩
  | .hbm, ⟨49, _⟩ => ⟨S4x4x4x4096x1, .f32⟩
  | .hbm, ⟨50, _⟩ => ⟨S4x4x4x4096x1, .f32⟩
  | .hbm, ⟨51, _⟩ => ⟨S4x4x4x4096x255, .f32⟩
  | .hbm, ⟨52, _⟩ => ⟨S4x4x4x4096x255, .f32⟩
  | .hbm, ⟨53, _⟩ => ⟨S4x4x4x4096x255, .f32⟩
  | .hbm, ⟨54, _⟩ => ⟨S_, .f32⟩
  | .hbm, ⟨55, _⟩ => ⟨S4x4x4x4096, .f32⟩
  | .hbm, ⟨56, _⟩ => ⟨S4x4x4x4096x1, .f32⟩
  | .hbm, ⟨57, _⟩ => ⟨S_, .f32⟩
  | .hbm, ⟨58, _⟩ => ⟨S4x4x4x4096x1, .f32⟩
  | .hbm, ⟨59, _⟩ => ⟨S4x4x4x4096x1, .f32⟩
  | .hbm, ⟨60, _⟩ => ⟨S4x4x4x4096x255, .f32⟩
  | .hbm, ⟨61, _⟩ => ⟨S4x4x4x4096x255, .f32⟩
  | .hbm, ⟨62, _⟩ => ⟨S4x4x64x4x4096, .f32⟩
  | .hbm, ⟨63, _⟩ => ⟨S4x4096x4x4x64, .f32⟩
  | .hbm, ⟨64, _⟩ => ⟨S4x4096x16x64, .f32⟩
  | .hbm, ⟨65, _⟩ => ⟨S4x4096x16x1, .f32⟩
  | .hbm, ⟨66, _⟩ => ⟨S4x4096x16x64, .f32⟩
  | .hbm, ⟨67, _⟩ => ⟨S4x4096x16x64, .f32⟩
  | .hbm, ⟨68, _⟩ => ⟨S4x4096x1024, .f32⟩
  | _, _ => ⟨S4x4096x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_v15 : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_call1_v0 : Ref sig .tc := ⟨.hbm, 48, rfl⟩
abbrev main_call1_v1 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== ProjA.lean ====
abbrev S4x4096x1024 : Shape := ⟨3, ![4, 4096, 1024]⟩
abbrev S1024 : Shape := ⟨1, ![1024]⟩
abbrev S1024x5120 : Shape := ⟨2, ![1024, 5120]⟩
abbrev S64 : Shape := ⟨1, ![64]⟩
abbrev S4096 : Shape := ⟨1, ![4096]⟩
abbrev S1x4096 : Shape := ⟨2, ![1, 4096]⟩
abbrev S4x4096 : Shape := ⟨2, ![4, 4096]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S16384x1024 : Shape := ⟨2, ![16384, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1x1024 : Shape := ⟨2, ![1, 1024]⟩
abbrev S16384x5120 : Shape := ⟨2, ![16384, 5120]⟩
abbrev S1024x1024 : Shape := ⟨2, ![1024, 1024]⟩
abbrev S1024x256 : Shape := ⟨2, ![1024, 256]⟩
abbrev S1024x128 : Shape := ⟨2, ![1024, 128]⟩
abbrev S1024x1 : Shape := ⟨2, ![1024, 1]⟩

abbrev nBuf : Space → Nat
  | .hbm => 70
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x5120, .f32⟩
  | .hbm, ⟨3, _⟩ => ⟨S64, .f32⟩
  | .hbm, ⟨4, _⟩ => ⟨S64, .f32⟩
  | .hbm, ⟨5, _⟩ => ⟨S4096, .i32⟩
  | .hbm, ⟨6, _⟩ => ⟨S1x4096, .i32⟩
  | .hbm, ⟨7, _⟩ => ⟨S4x4096, .i32⟩
  | .hbm, ⟨8, _⟩ => ⟨S16384, .i32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S16384, .f32⟩
  | .hbm, ⟨18, _⟩ => ⟨S16384x1, .f32⟩
  | .hbm, ⟨19, _⟩ => ⟨S1x32, .f32⟩
  | .hbm, ⟨20, _⟩ => ⟨S16384x32, .f32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S16384x128, .f32⟩
  | .hbm, ⟨26, _⟩ => ⟨S16384x32, .f32⟩
  | .hbm, ⟨27, _⟩ => ⟨S16384x32, .f32⟩
  | .hbm, ⟨28, _⟩ => ⟨S16384x128, .f32⟩
  | .hbm, ⟨29, _⟩ => ⟨S16384x1024, .f32⟩
  | .hbm, ⟨30, _⟩ => ⟨S1024x5120, .bf16⟩
  | .hbm, ⟨31, _⟩ => ⟨S1x64, .f32⟩
  | .hbm, ⟨32, _⟩ => ⟨S4x64, .f32⟩
  | .hbm, ⟨33, _⟩ => ⟨S256, .f32⟩
  | .hbm, ⟨34, _⟩ => ⟨S1x256, .f32⟩
  | .hbm, ⟨35, _⟩ => ⟨S1x64, .f32⟩
  | .hbm, ⟨36, _⟩ => ⟨S4x64, .f32⟩
  | .hbm, ⟨37, _⟩ => ⟨S256, .f32⟩
  | .hbm, ⟨38, _⟩ => ⟨S1x256, .f32⟩
  | .hbm, ⟨39, _⟩ => ⟨S256, .i32⟩
  | .hbm, ⟨40, _⟩ => ⟨S_, .i32⟩
  | .hbm, ⟨41, _⟩ => ⟨S_, .i32⟩
  | .hbm, ⟨42, _⟩ => ⟨S256, .i32⟩
  | .hbm, ⟨43, _⟩ => ⟨S256, .i32⟩
  | .hbm, ⟨44, _⟩ => ⟨S256, .i32⟩
  | .hbm, ⟨45, _⟩ => ⟨S_, .i32⟩
  | .hbm, ⟨46, _⟩ => ⟨S256, .i32⟩
  | .hbm, ⟨47, _⟩ => ⟨S256, .i1⟩
  | .hbm, ⟨48, _⟩ => ⟨S256, .i32⟩
  | .hbm, ⟨49, _⟩ => ⟨S256, .i32⟩
  | .hbm, ⟨50, _⟩ => ⟨S_, .i32⟩
  | .hbm, ⟨51, _⟩ => ⟨S256, .i32⟩
  | .hbm, ⟨52, _⟩ => ⟨S256, .i1⟩
  | .hbm, ⟨53, _⟩ => ⟨S256, .i1⟩
  | .hbm, ⟨54, _⟩ => ⟨S_, .i32⟩
  | .hbm, ⟨55, _⟩ => ⟨S256, .i32⟩
  | .hbm, ⟨56, _⟩ => ⟨S256, .i32⟩
  | .hbm, ⟨57, _⟩ => ⟨S256, .i32⟩
  | .hbm, ⟨58, _⟩ => ⟨S256x1, .i32⟩
  | .hbm, ⟨59, _⟩ => ⟨S1x256, .i32⟩
  | .hbm, ⟨60, _⟩ => ⟨S256x256, .i32⟩
  | .hbm, ⟨61, _⟩ => ⟨S256x256, .i32⟩
  | .hbm, ⟨62, _⟩ => ⟨S256x256, .i1⟩
  | .hbm, ⟨63, _⟩ => ⟨S256x256, .f32⟩
  | .hbm, ⟨64, _⟩ => ⟨S_, .f32⟩
  | .hbm, ⟨65, _⟩ => ⟨S256x256, .f32⟩
  | .hbm, ⟨66, _⟩ => ⟨S256x256, .f32⟩
  | .hbm, ⟨67, _⟩ => ⟨S256x256, .bf16⟩
  | .hbm, ⟨68, _⟩ => ⟨S1x1024, .f32⟩
  | .hbm, ⟨69, _⟩ => ⟨S16384x5120, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1x256, .f32⟩
  | .local _ .vmem, ⟨10, _⟩ => ⟨S1x256, .f32⟩
  | .local _ .vmem, ⟨11, _⟩ => ⟨S256x256, .bf16⟩
  | .local _ .vmem, ⟨12, _⟩ => ⟨S1024x256, .f32⟩
  | .local _ .vmem, ⟨13, _⟩ => ⟨S1024x256, .f32⟩
  | .local _ .vmem, ⟨14, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_c : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_0 : Ref sig .tc := ⟨.hbm, 54, rfl⟩
abbrev main_call0_v12 : Ref sig .tc := ⟨.hbm, 55, rfl⟩
abbrev main_call0_v13 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_1 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 20], ![false, false]⟩

def k0_cond2 (i : grid0.Coords) : BitVec 1 :=
  let arg1 : BitVec 32 := BitVec.ofNat 32 (i 1).val
  let c12_i32 : BitVec 32 := 12#32
  let v7 : BitVec 1 := Scalar.cmpi .sge arg1 c12_i32
  let c20_i32 : BitVec 32 := 20#32
  let v8 : BitVec 1 := Scalar.cmpi .slt arg1 c20_i32
  let v9 : BitVec 1 := Scalar.andi v7 v8
  let v10 : BitVec 32 := Scalar.extui v9
  let c0_i32_4 : BitVec 32 := 0#32
  let v11 : BitVec 1 := Scalar.cmpi .ne v10 c0_i32_4
  v11

def k0_cond3 (i : grid0.Coords) : BitVec 1 :=
  let arg1 : BitVec 32 := BitVec.ofNat 32 (i 1).val
  let c0_i32_5 : BitVec 32 := 0#32
  let v12 : BitVec 1 := Scalar.cmpi .sge arg1 c0_i32_5
  let c6_i32 : BitVec 32 := 6#32
  let v13 : BitVec 1 := Scalar.cmpi .slt arg1 c6_i32
  let v14 : BitVec 1 := Scalar.andi v12 v13
  let v15 : BitVec 32 := Scalar.extui v14
  let c0_i32_6 : BitVec 32 := 0#32
  let v16 : BitVec 1 := Scalar.cmpi .ne v15 c0_i32_6
  v16

def k0_cond4 (i : grid0.Coords) : BitVec 1 :=
  let arg1 : BitVec 32 := BitVec.ofNat 32 (i 1).val
  let c6_i32_7 : BitVec 32 := 6#32
  let v17 : BitVec 1 := Scalar.cmpi .sge arg1 c6_i32_7
  let c12_i32_8 : BitVec 32 := 12#32
  let v18 : BitVec 1 := Scalar.cmpi .slt arg1 c12_i32_8
  let v19 : BitVec 1 := Scalar.andi v17 v18
  let v20 : BitVec 32 := Scalar.extui v19
  let c0_i32_9 : BitVec 32 := 0#32
  let v21 : BitVec 1 := Scalar.cmpi .ne v20 c0_i32_9
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefAIdeal.lean ====
abbrev S4x4096x1024 : Shape := ⟨3, ![4, 4096, 1024]⟩
abbrev S1024 : Shape := ⟨1, ![1024]⟩
abbrev S1024x5120 : Shape := ⟨2, ![1024, 5120]⟩
abbrev S64 : Shape := ⟨1, ![64]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5120 : Shape := ⟨3, ![4, 4096, 5120]⟩
abbrev S4x4096x1536 : Shape := ⟨3, ![4, 4096, 1536]⟩
abbrev S4x4096x24x64 : Shape := ⟨4, ![4, 4096, 24, 64]⟩
abbrev S4x4096x24 : Shape := ⟨3, ![4, 4096, 24]⟩
abbrev S4x4096x24x1 : Shape := ⟨4, ![4, 4096, 24, 1]⟩
abbrev S1x1x1x64 : Shape := ⟨4, ![1, 1, 1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4x4096x24x32 : Shape := ⟨4, ![4, 4096, 24, 32]⟩
abbrev S1x4096x1x32 : Shape := ⟨4, ![1, 4096, 1, 32]⟩
abbrev S4x4096x2048 : Shape := ⟨3, ![4, 4096, 2048]⟩
abbrev S16384x5120 : Shape := ⟨2, ![16384, 5120]⟩

abbrev nBuf : Space → Nat
  | .hbm => 134
  | .vmem => 0
  | .smem => 0
  | _ => 0

abbrev hbmTy0_0 (i : Nat) : BufTy := match i % 128 with
  | 0 => ⟨S4x4096x1024, .f32⟩
  | 1 => ⟨S1024, .f32⟩
  | 2 => ⟨S1024x5120, .f32⟩
  | 3 => ⟨S64, .f32⟩
  | 4 => ⟨S64, .f32⟩
  | 5 => ⟨S4096, .i32⟩
  | 6 => ⟨S4x4096x1024, .f32⟩
  | 7 => ⟨S_, .f32⟩
  | 8 => ⟨S4x4096, .f32⟩
  | 9 => ⟨S4x4096x1, .f32⟩
  | 10 => ⟨S_, .f32⟩
  | 11 => ⟨S4x4096x1, .f32⟩
  | 12 => ⟨S4x4096x1, .f32⟩
  | 13 => ⟨S_, .f32⟩
  | 14 => ⟨S4x4096x1, .f32⟩
  | 15 => ⟨S4x4096x1, .f32⟩
  | 16 => ⟨S4x4096x1, .f32⟩
  | 17 => ⟨S4x4096x1024, .f32⟩
  | 18 => ⟨S4x4096x1024, .f32⟩
  | 19 => ⟨S1x1x1024, .f32⟩
  | 20 => ⟨S4x4096x1024, .f32⟩
  | 21 => ⟨S4x4096x1024, .f32⟩
  | 22 => ⟨S4x4096x5120, .f32⟩
  | 23 => ⟨S4x4096x1536, .f32⟩
  | 24 => ⟨S4x4096x24x64, .f32⟩
  | 25 => ⟨S4x4096x1536, .f32⟩
  | 26 => ⟨S4x4096x24x64, .f32⟩
  | 27 => ⟨S4x4096x24x64, .f32⟩
  | 28 => ⟨S_, .f32⟩
  | 29 => ⟨S4x4096x24, .f32⟩
  | 30 => ⟨S4x4096x24x1, .f32⟩
  | 31 => ⟨S_, .f32⟩
  | 32 => ⟨S4x4096x24x1, .f32⟩
  | 33 => ⟨S4x4096x24x1, .f32⟩
  | 34 => ⟨S_, .f32⟩
  | 35 => ⟨S4x4096x24x1, .f32⟩
  | 36 => ⟨S4x4096x24x1, .f32⟩
  | 37 => ⟨S4x4096x24x1, .f32⟩
  | 38 => ⟨S4x4096x24x64, .f32⟩
  | 39 => ⟨S4x4096x24x64, .f32⟩
  | 40 => ⟨S1x1x1x64, .f32⟩
  | 41 => ⟨S4x4096x24x64, .f32⟩
  | 42 => ⟨S4x4096x24x64, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S4096, .f32⟩
  | 52 => ⟨S4096x1, .f32⟩
  | 53 => ⟨S1x32, .f32⟩
  | 54 => ⟨S4096x32, .f32⟩
  | 55 => ⟨S4096x32, .f32⟩
  | 56 => ⟨S4096x32, .f32⟩
  | 57 => ⟨S4096x32, .f32⟩
  | 58 => ⟨S4096x1x32, .f32⟩
  | 59 => ⟨S4096x32, .f32⟩
  | 60 => ⟨S4096x1x32, .f32⟩
  | 61 => ⟨S4x4096x24x32, .f32⟩
  | 62 => ⟨S4x4096x24x32, .f32⟩
  | 63 => ⟨S1x4096x1x32, .f32⟩
  | 64 => ⟨S4x4096x24x32, .f32⟩
  | 65 => ⟨S4x4096x24x32, .f32⟩
  | 66 => ⟨S1x4096x1x32, .f32⟩
  | 67 => ⟨S4x4096x24x32, .f32⟩
  | 68 => ⟨S4x4096x24x32, .f32⟩
  | 69 => ⟨S4x4096x24x32, .f32⟩
  | 70 => ⟨S1x4096x1x32, .f32⟩
  | 71 => ⟨S4x4096x24x32, .f32⟩
  | 72 => ⟨S4x4096x24x32, .f32⟩
  | 73 => ⟨S1x4096x1x32, .f32⟩
  | 74 => ⟨S4x4096x24x32, .f32⟩
  | 75 => ⟨S4x4096x24x32, .f32⟩
  | 76 => ⟨S4x4096x24x32, .f32⟩
  | 77 => ⟨S4x4096x24x64, .f32⟩
  | 78 => ⟨S4x4096x24x64, .f32⟩
  | 79 => ⟨S_, .f32⟩
  | 80 => ⟨S4x4096x24, .f32⟩
  | 81 => ⟨S4x4096x24x1, .f32⟩
  | 82 => ⟨S_, .f32⟩
  | 83 => ⟨S4x4096x24x1, .f32⟩
  | 84 => ⟨S4x4096x24x1, .f32⟩
  | 85 => ⟨S_, .f32⟩
  | 86 => ⟨S4x4096x24x1, .f32⟩
  | 87 => ⟨S4x4096x24x1, .f32⟩
  | 88 => ⟨S4x4096x24x1, .f32⟩
  | 89 => ⟨S4x4096x24x64, .f32⟩
  | 90 => ⟨S4x4096x24x64, .f32⟩
  | 91 => ⟨S1x1x1x64, .f32⟩
  | 92 => ⟨S4x4096x24x64, .f32⟩
  | 93 => ⟨S4x4096x24x64, .f32⟩
  | 94 => ⟨S32, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S4096, .f32⟩
  | 103 => ⟨S4096x1, .f32⟩
  | 104 => ⟨S1x32, .f32⟩
  | 105 => ⟨S4096x32, .f32⟩
  | 106 => ⟨S4096x32, .f32⟩
  | 107 => ⟨S4096x32, .f32⟩
  | 108 => ⟨S4096x32, .f32⟩
  | 109 => ⟨S4096x1x32, .f32⟩
  | 110 => ⟨S4096x32, .f32⟩
  | 111 => ⟨S4096x1x32, .f32⟩
  | 112 => ⟨S4x4096x24x32, .f32⟩
  | 113 => ⟨S4x4096x24x32, .f32⟩
  | 114 => ⟨S1x4096x1x32, .f32⟩
  | 115 => ⟨S4x4096x24x32, .f32⟩
  | 116 => ⟨S4x4096x24x32, .f32⟩
  | 117 => ⟨S1x4096x1x32, .f32⟩
  | 118 => ⟨S4x4096x24x32, .f32⟩
  | 119 => ⟨S4x4096x24x32, .f32⟩
  | 120 => ⟨S4x4096x24x32, .f32⟩
  | 121 => ⟨S1x4096x1x32, .f32⟩
  | 122 => ⟨S4x4096x24x32, .f32⟩
  | 123 => ⟨S4x4096x24x32, .f32⟩
  | 124 => ⟨S1x4096x1x32, .f32⟩
  | 125 => ⟨S4x4096x24x32, .f32⟩
  | 126 => ⟨S4x4096x24x32, .f32⟩
  | 127 => ⟨S4x4096x24x32, .f32⟩
  | _ => ⟨S4x4096x1024, .f32⟩

abbrev hbmTy0_1 (i : Nat) : BufTy := match i % 128 with
  | 0 => ⟨S4x4096x24x64, .f32⟩
  | 1 => ⟨S4x4096x1536, .f32⟩
  | 2 => ⟨S4x4096x1536, .f32⟩
  | 3 => ⟨S4x4096x2048, .f32⟩
  | 4 => ⟨S4x4096x5120, .f32⟩
  | 5 => ⟨S16384x5120, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_7 : Ref sig .tc := ⟨.hbm, 79, rfl⟩
abbrev main_v66 : Ref sig .tc := ⟨.hbm, 80, rfl⟩
abbrev main_v67 : Ref sig .tc := ⟨.hbm, 81, rfl⟩
abbrev main_cst_8 : Ref sig .tc := ⟨.hbm, 82, rfl⟩
abbrev main_v68 : Ref sig .tc := ⟨.hbm, 83, rfl⟩
abbrev main_v69 : Ref sig .tc := ⟨.hbm, 84, rfl⟩
abbrev main_cst_9 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_10 : Ref sig .tc := ⟨.hbm, 96, rfl⟩
abbrev main_v80 : Ref sig .tc := ⟨.hbm, 97, rfl⟩
abbrev main_v81 : Ref sig .tc := ⟨.hbm, 98, rfl⟩
abbrev main_cst_11 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩

abbrev nD : Nat := 1
abbrev τ : Topo := Topo.v7x

variable {F : FTy → Type} [FloatOps F]
-- ==== ProjB.lean ====
abbrev S4x4096x1024 : Shape := ⟨3, ![4, 4096, 1024]⟩
abbrev S1024 : Shape := ⟨1, ![1024]⟩
abbrev S1024x3632 : Shape := ⟨2, ![1024, 3632]⟩
abbrev S64 : Shape := ⟨1, ![64]⟩
abbrev S4096 : Shape := ⟨1, ![4096]⟩
abbrev S1x4096 : Shape := ⟨2, ![1, 4096]⟩
abbrev S4x4096 : Shape := ⟨2, ![4, 4096]⟩
abbrev S16384 : Shape := ⟨1, ![16384]⟩
abbrev S32 : Shape := ⟨1, ![32]⟩
abbrev S_ : Shape := ⟨0, ![]⟩
abbrev S16384x1 : Shape := ⟨2, ![16384, 1]⟩
abbrev S1x32 : Shape := ⟨2, ![1, 32]⟩
abbrev S16384x32 : Shape := ⟨2, ![16384, 32]⟩
abbrev S16384x128 : Shape := ⟨2, ![16384, 128]⟩
abbrev S16384x1024 : Shape := ⟨2, ![16384, 1024]⟩
abbrev S1024x1024 : Shape := ⟨2, ![1024, 1024]⟩
abbrev S1024x1536 : Shape := ⟨2, ![1024, 1536]⟩
abbrev S1024x48 : Shape := ⟨2, ![1024, 48]⟩
abbrev S1024x8 : Shape := ⟨2, ![1024, 8]⟩
abbrev S1024x128 : Shape := ⟨2, ![1024, 128]⟩
abbrev S1024x5376 : Shape := ⟨2, ![1024, 5376]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1x1024 : Shape := ⟨2, ![1, 1024]⟩
abbrev S16384x5376 : Shape := ⟨2, ![16384, 5376]⟩
abbrev S1024x256 : Shape := ⟨2, ![1024, 256]⟩
abbrev S1024x1 : Shape := ⟨2, ![1024, 1]⟩

abbrev nBuf : Space → Nat
  | .hbm => 99
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3632, .f32⟩
  | .hbm, ⟨3, _⟩ => ⟨S64, .f32⟩
  | .hbm, ⟨4, _⟩ => ⟨S64, .f32⟩
  | .hbm, ⟨5, _⟩ => ⟨S4096, .i32⟩
  | .hbm, ⟨6, _⟩ => ⟨S1x4096, .i32⟩
  | .hbm, ⟨7, _⟩ => ⟨S4x4096, .i32⟩
  | .hbm, ⟨8, _⟩ => ⟨S16384, .i32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S16384, .f32⟩
  | .hbm, ⟨18, _⟩ => ⟨S16384x1, .f32⟩
  | .hbm, ⟨19, _⟩ => ⟨S1x32, .f32⟩
  | .hbm, ⟨20, _⟩ => ⟨S16384x32, .f32⟩
  | .hbm, ⟨21, _⟩ => ⟨S16384x32, .f32⟩
  | .hbm, ⟨22, _⟩ => ⟨S16384x32, .f32⟩
  | .hbm, ⟨23, _⟩ => ⟨S16384x32, .f32⟩
  | .hbm, ⟨24, _⟩ => ⟨S16384x32, .f32⟩
  | .hbm, ⟨25, _⟩ => ⟨S16384x128, .f32⟩
  | .hbm, ⟨26, _⟩ => ⟨S16384x32, .f32⟩
  | .hbm, ⟨27, _⟩ => ⟨S16384x32, .f32⟩
  | .hbm, ⟨28, _⟩ => ⟨S16384x128, .f32⟩
  | .hbm, ⟨29, _⟩ => ⟨S16384x1024, .f32⟩
  | .hbm, ⟨30, _⟩ => ⟨S1024x1024, .f32⟩
  | .hbm, ⟨31, _⟩ => ⟨S1024x1536, .f32⟩
  | .hbm, ⟨32, _⟩ => ⟨S1024x48, .f32⟩
  | .hbm, ⟨33, _⟩ => ⟨S1024x1024, .f32⟩
  | .hbm, ⟨34, _⟩ => ⟨S1024x8, .f32⟩
  | .hbm, ⟨35, _⟩ => ⟨S_, .i32⟩
  | .hbm, ⟨36, _⟩ => ⟨S_, .f32⟩
  | .hbm, ⟨37, _⟩ => ⟨S1024x128, .f32⟩
  | .hbm, ⟨38, _⟩ => ⟨S1024x8, .f32⟩
  | .hbm, ⟨39, _⟩ => ⟨S_, .i32⟩
  | .hbm, ⟨40, _⟩ => ⟨S_, .f32⟩
  | .hbm, ⟨41, _⟩ => ⟨S1024x128, .f32⟩
  | .hbm, ⟨42, _⟩ => ⟨S1024x8, .f32⟩
  | .hbm, ⟨43, _⟩ => ⟨S_, .i32⟩
  | .hbm, ⟨44, _⟩ => ⟨S_, .f32⟩
  | .hbm, ⟨45, _⟩ => ⟨S1024x128, .f32⟩
  | .hbm, ⟨46, _⟩ => ⟨S1024x8, .f32⟩
  | .hbm, ⟨47, _⟩ => ⟨S_, .i32⟩
  | .hbm, ⟨48, _⟩ => ⟨S_, .f32⟩
  | .hbm, ⟨49, _⟩ => ⟨S1024x128, .f32⟩
  | .hbm, ⟨50, _⟩ => ⟨S1024x8, .f32⟩
  | .hbm, ⟨51, _⟩ => ⟨S_, .i32⟩
  | .hbm, ⟨52, _⟩ => ⟨S_, .f32⟩
  | .hbm, ⟨53, _⟩ => ⟨S1024x128, .f32⟩
  | .hbm, ⟨54, _⟩ => ⟨S1024x8, .f32⟩
  | .hbm, ⟨55, _⟩ => ⟨S_, .i32⟩
  | .hbm, ⟨56, _⟩ => ⟨S_, .f32⟩
  | .hbm, ⟨57, _⟩ => ⟨S1024x128, .f32⟩
  | .hbm, ⟨58, _⟩ => ⟨S1024x5376, .f32⟩
  | .hbm, ⟨59, _⟩ => ⟨S1024x5376, .bf16⟩
  | .hbm, ⟨60, _⟩ => ⟨S1x64, .f32⟩
  | .hbm, ⟨61, _⟩ => ⟨S4x64, .f32⟩
  | .hbm, ⟨62, _⟩ => ⟨S256, .f32⟩
  | .hbm, ⟨63, _⟩ => ⟨S1x256, .f32⟩
  | .hbm, ⟨64, _⟩ => ⟨S1x64, .f32⟩
  | .hbm, ⟨65, _⟩ => ⟨S4x64, .f32⟩
  | .hbm, ⟨66, _⟩ => ⟨S256, .f32⟩
  | .hbm, ⟨67, _⟩ => ⟨S1x256, .f32⟩
  | .hbm, ⟨68, _⟩ => ⟨S256, .i32⟩
  | .hbm, ⟨69, _⟩ => ⟨S_, .i32⟩
  | .hbm, ⟨70, _⟩ => ⟨S_, .i32⟩
  | .hbm, ⟨71, _⟩ => ⟨S256, .i32⟩
  | .hbm, ⟨72, _⟩ => ⟨S256, .i32⟩
  | .hbm, ⟨73, _⟩ => ⟨S256, .i32⟩
  | .hbm, ⟨74, _⟩ => ⟨S_, .i32⟩
  | .hbm, ⟨75, _⟩ => ⟨S256, .i32⟩
  | .hbm, ⟨76, _⟩ => ⟨S256, .i1⟩
  | .hbm, ⟨77, _⟩ => ⟨S256, .i32⟩
  | .hbm, ⟨78, _⟩ => ⟨S256, .i32⟩
  | .hbm, ⟨79, _⟩ => ⟨S_, .i32⟩
  | .hbm, ⟨80, _⟩ => ⟨S256, .i32⟩
  | .hbm, ⟨81, _⟩ => ⟨S256, .i1⟩
  | .hbm, ⟨82, _⟩ => ⟨S256, .i1⟩
  | .hbm, ⟨83, _⟩ => ⟨S_, .i32⟩
  | .hbm, ⟨84, _⟩ => ⟨S256, .i32⟩
  | .hbm, ⟨85, _⟩ => ⟨S256, .i32⟩
  | .hbm, ⟨86, _⟩ => ⟨S256, .i32⟩
  | .hbm, ⟨87, _⟩ => ⟨S256x1, .i32⟩
  | .hbm, ⟨88, _⟩ => ⟨S1x256, .i32⟩
  | .hbm, ⟨89, _⟩ => ⟨S256x256, .i32⟩
  | .hbm, ⟨90, _⟩ => ⟨S256x256, .i32⟩
  | .hbm, ⟨91, _⟩ => ⟨S256x256, .i1⟩
  | .hbm, ⟨92, _⟩ => ⟨S256x256, .f32⟩
  | .hbm, ⟨93, _⟩ => ⟨S_, .f32⟩
  | .hbm, ⟨94, _⟩ => ⟨S256x256, .f32⟩
  | .hbm, ⟨95, _⟩ => ⟨S256x256, .f32⟩
  | .hbm, ⟨96, _⟩ => ⟨S256x256, .bf16⟩
  | .hbm, ⟨97, _⟩ => ⟨S1x1024, .f32⟩
  | .hbm, ⟨98, _⟩ => ⟨S16384x5376, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1x256, .f32⟩
  | .local _ .vmem, ⟨10, _⟩ => ⟨S1x256, .f32⟩
  | .local _ .vmem, ⟨11, _⟩ => ⟨S256x256, .bf16⟩
  | .local _ .vmem, ⟨12, _⟩ => ⟨S1024x256, .f32⟩
  | .local _ .vmem, ⟨13, _⟩ => ⟨S1024x256, .f32⟩
  | .local _ .vmem, ⟨14, _⟩ => ⟨S1024x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c : Ref sig .tc := ⟨.hbm, 35, rfl⟩
abbrev main_call0_v0 : Ref sig .tc := ⟨.hbm, 36, rfl⟩
abbrev main_v28 : Ref sig .tc := ⟨.hbm, 37, rfl⟩
abbrev main_v29 : Ref sig .tc := ⟨.hbm, 38, rfl⟩
abbrev main_c_1 : Ref sig .tc := ⟨.hbm, 39, rfl⟩
abbrev main_call1_v0 : Ref sig .tc := ⟨.hbm, 40, rfl⟩
abbrev main_v30 : Ref sig .tc := ⟨.hbm, 41, rfl⟩
abbrev main_v31 : Ref sig .tc := ⟨.hbm, 42, rfl⟩
abbrev main_c_2 : Ref sig .tc := ⟨.hbm, 43, rfl⟩
abbrev main_call2_v0 : Ref sig .tc := ⟨.hbm, 44, rfl⟩
abbrev main_v32 : Ref sig .tc := ⟨.hbm, 45, rfl⟩
abbrev main_v33 : Ref sig .tc := ⟨.hbm, 46, rfl⟩
abbrev main_c_3 : Ref sig .tc := ⟨.hbm, 47, rfl⟩
abbrev main_call3_v0 : Ref sig .tc := ⟨.hbm, 48, rfl⟩
abbrev main_v34 : Ref sig .tc := ⟨.hbm, 49, rfl⟩
abbrev main_v35 : Ref sig .tc := ⟨.hbm, 50, rfl⟩
abbrev main_c_4 : Ref sig .tc := ⟨.hbm, 51, rfl⟩
abbrev main_call4_v0 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_call5_v0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_6 : Ref sig .tc := ⟨.hbm, 69, rfl⟩
abbrev main_call6_v0 : Ref sig .tc := ⟨.hbm, 70, rfl⟩
abbrev main_call6_v1 : Ref sig .tc := ⟨.hbm, 71, rfl⟩
abbrev main_call6_v2 : Ref sig .tc := ⟨.hbm, 72, rfl⟩
abbrev main_call6_v3 : Ref sig .tc := ⟨.hbm, 73, rfl⟩
abbrev main_call6_v4 : Ref sig .tc := ⟨.hbm, 74, rfl⟩
abbrev main_call6_v5 : Ref sig .tc := ⟨.hbm, 75, rfl⟩
abbrev main_call6_v6 : Ref sig .tc := ⟨.hbm, 76, rfl⟩
abbrev main_call6_v7 : Ref sig .tc := ⟨.hbm, 77, rfl⟩
abbrev main_call6_v8 : Ref sig .tc := ⟨.hbm, 78, rfl⟩
abbrev main_call6_c : Ref sig .tc := ⟨.hbm, 79, rfl⟩
abbrev main_call6_v9 : Ref sig .tc := ⟨.hbm, 80, rfl⟩
abbrev main_call6_v10 : Ref sig .tc := ⟨.hbm, 81, rfl⟩
abbrev main_call6_v11 : Ref sig .tc := ⟨.hbm, 82, rfl⟩
abbrev main_call6_c_0 : Ref sig .tc := ⟨.hbm, 83, rfl⟩
abbrev main_call6_v12 : Ref sig .tc := ⟨.hbm, 84, rfl⟩
abbrev main_call6_v13 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_7 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 21], ![false, false]⟩

def k0_cond2 (i : grid0.Coords) : BitVec 1 :=
  let arg1 : BitVec 32 := BitVec.ofNat 32 (i 1).val
  let c8_i32 : BitVec 32 := 8#32
  let v7 : BitVec 1 := Scalar.cmpi .sge arg1 c8_i32
  let c12_i32 : BitVec 32 := 12#32
  let v8 : BitVec 1 := Scalar.cmpi .slt arg1 c12_i32
  let v9 : BitVec 1 := Scalar.andi v7 v8
  let c13_i32 : BitVec 32 := 13#32
  let v10 : BitVec 1 := Scalar.cmpi .sge arg1 c13_i32
  let c14_i32 : BitVec 32 := 14#32
  let v11 : BitVec 1 := Scalar.cmpi .slt arg1 c14_i32
  let v12 : BitVec 1 := Scalar.andi v10 v11
  let v13 : BitVec 1 := Scalar.ori v9 v12
  let c15_i32 : BitVec 32 := 15#32
  let v14 : BitVec 1 := Scalar.cmpi .sge arg1 c15_i32
  let c16_i32 : BitVec 32 := 16#32
  let v15 : BitVec 1 := Scalar.cmpi .slt arg1 c16_i32
  let v16 : BitVec 1 := Scalar.andi v14 v15
  let v17 : BitVec 1 := Scalar.ori v13 v16
  let c17_i32 : BitVec 32 := 17#32
  let v18 : BitVec 1 := Scalar.cmpi .sge arg1 c17_i32
  let c18_i32 : BitVec 32 := 18#32
  let v19 : BitVec 1 := Scalar.cmpi .slt arg1 c18_i32
  let v20 : BitVec 1 := Scalar.andi v18 v19
  let v21 : BitVec 1 := Scalar.ori v17 v20
  let v22 : BitVec 32 := Scalar.extui v21
  let c0_i32_4 : BitVec 32 := 0#32
  let v23 : BitVec 1 := Scalar.cmpi .ne v22 c0_i32_4
  v23

def k0_cond3 (i : grid0.Coords) : BitVec 1 :=
  let arg1 : BitVec 32 := BitVec.ofNat 32 (i 1).val
  let c18_i32_5 : BitVec 32 := 18#32
  let v24 : BitVec 1 := Scalar.cmpi .sge arg1 c18_i32_5
  let c21_i32 : BitVec 32 := 21#32
  let v25 : BitVec 1 := Scalar.cmpi .slt arg1 c21_i32
  let v26 : BitVec 1 := Scalar.andi v24 v25
  let v27 : BitVec 32 := Scalar.extui v26
  let c0_i32_6 : BitVec 32 := 0#32
  let v28 : BitVec 1 := Scalar.cmpi .ne v27 c0_i32_6
  v28

def k0_cond4 (i : grid0.Coords) : BitVec 1 :=
  let arg1 : BitVec 32 := BitVec.ofNat 32 (i 1).val
  let c0_i32_7 : BitVec 32 := 0#32
  let v29 : BitVec 1 := Scalar.cmpi .sge arg1 c0_i32_7
  let c4_i32 : BitVec 32 := 4#32
  let v30 : BitVec 1 := Scalar.cmpi .slt arg1 c4_i32
  let v31 : BitVec 1 := Scalar.andi v29 v30
  let v32 : BitVec 32 := Scalar.extui v31
  let c0_i32_8 : BitVec 32 := 0#32
  let v33 : BitVec 1 := Scalar.cmpi .ne v32 c0_i32_8
  v33

def k0_cond5 (i : grid0.Coords) : BitVec 1 :=
  let arg1 : BitVec 32 := BitVec.ofNat 32 (i 1).val
  let c12_i32_9 : BitVec 32 := 12#32
  let v34 : BitVec 1 := Scalar.cmpi .sge arg1 c12_i32_9
  let c13_i32_10 : BitVec 32 := 13#32
  let v35 : BitVec 1 := Scalar.cmpi .slt arg1 c13_i32_10
  let v36 : BitVec 1 := Scalar.andi v34 v35
  let v37 : BitVec 32 := Scalar.extui v36
  let c0_i32_11 : BitVec 32 := 0#32
  let v38 : BitVec 1 := Scalar.cmpi .ne v37 c0_i32_11
  v38

def k0_cond6 (i : grid0.Coords) : BitVec 1 :=
  let arg1 : BitVec 32 := BitVec.ofNat 32 (i 1).val
  let c4_i32_12 : BitVec 32 := 4#32
  let v39 : BitVec 1 := Scalar.cmpi .sge arg1 c4_i32_12
  let c8_i32_13 : BitVec 32 := 8#32
  let v40 : BitVec 1 := Scalar.cmpi .slt arg1 c8_i32_13
  let v41 : BitVec 1 := Scalar.andi v39 v40
  let v42 : BitVec 32 := Scalar.extui v41
  let c0_i32_14 : BitVec 32 := 0#32
  let v43 : BitVec 1 := Scalar.cmpi .ne v42 c0_i32_14
  v43

def k0_cond7 (i : grid0.Coords) : BitVec 1 :=
  let arg1 : BitVec 32 := BitVec.ofNat 32 (i 1).val
  let c14_i32_15 : BitVec 32 := 14#32
  let v44 : BitVec 1 := Scalar.cmpi .sge arg1 c14_i32_15
  let c15_i32_16 : BitVec 32 := 15#32
  let v45 : BitVec 1 := Scalar.cmpi .slt arg1 c15_i32_16
  let v46 : BitVec 1 := Scalar.andi v44 v45
  let c16_i32_17 : BitVec 32 := 16#32
  let v47 : BitVec 1 := Scalar.cmpi .sge arg1 c16_i32_17
  let c17_i32_18 : BitVec 32 := 17#32
  let v48 : BitVec 1 := Scalar.cmpi .slt arg1 c17_i32_18
  let v49 : BitVec 1 := Scalar.andi v47 v48
  let v50 : BitVec 1 := Scalar.ori v46 v49
  let v51 : BitVec 32 := Scalar.extui v50
  let c0_i32_19 : BitVec 32 := 0#32
  let v52 : BitVec 1 := Scalar.cmpi .ne v51 c0_i32_19
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefBIdeal.lean ====
abbrev S4x4096x1024 : Shape := ⟨3, ![4, 4096, 1024]⟩
abbrev S1024 : Shape := ⟨1, ![1024]⟩
abbrev S1024x3632 : Shape := ⟨2, ![1024, 3632]⟩
abbrev S64 : Shape := ⟨1, ![64]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3632 : Shape := ⟨3, ![4, 4096, 3632]⟩
abbrev S4x4096x16x64 : Shape := ⟨4, ![4, 4096, 16, 64]⟩
abbrev S4x4096x16 : Shape := ⟨3, ![4, 4096, 16]⟩
abbrev S4x4096x16x1 : Shape := ⟨4, ![4, 4096, 16, 1]⟩
abbrev S1x1x1x64 : Shape := ⟨4, ![1, 1, 1, 64]⟩
abbrev S4x4096x256 : Shape := ⟨3, ![4, 4096, 256]⟩
abbrev S4x4096x4x64 : Shape := ⟨4, ![4, 4096, 4, 64]⟩
abbrev S4x4096x4 : Shape := ⟨3, ![4, 4096, 4]⟩
abbrev S4x4096x4x1 : Shape := ⟨4, ![4, 4096, 4, 1]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4x4096x4x32 : Shape := ⟨4, ![4, 4096, 4, 32]⟩
abbrev S1x4096x1x32 : Shape := ⟨4, ![1, 4096, 1, 32]⟩
abbrev S4x4096x48 : Shape := ⟨3, ![4, 4096, 48]⟩
abbrev S4x4096x6x8 : Shape := ⟨4, ![4, 4096, 6, 8]⟩
abbrev S4x4096x6x128 : Shape := ⟨4, ![4, 4096, 6, 128]⟩
abbrev S4x4096x16x32 : Shape := ⟨4, ![4, 4096, 16, 32]⟩
abbrev S4x4096x768 : Shape := ⟨3, ![4, 4096, 768]⟩
abbrev S4x4096x5376 : Shape := ⟨3, ![4, 4096, 5376]⟩
abbrev S16384x5376 : Shape := ⟨2, ![16384, 5376]⟩

abbrev nBuf : Space → Nat
  | .hbm => 225
  | .vmem => 0
  | .smem => 0
  | _ => 0

abbrev hbmTy0_0 (i : Nat) : BufTy := match i % 128 with
  | 0 => ⟨S4x4096x1024, .f32⟩
  | 1 => ⟨S1024, .f32⟩
  | 2 => ⟨S1024x3632, .f32⟩
  | 3 => ⟨S64, .f32⟩
  | 4 => ⟨S64, .f32⟩
  | 5 => ⟨S4096, .i32⟩
  | 6 => ⟨S4x4096x1024, .f32⟩
  | 7 => ⟨S_, .f32⟩
  | 8 => ⟨S4x4096, .f32⟩
  | 9 => ⟨S4x4096x1, .f32⟩
  | 10 => ⟨S_, .f32⟩
  | 11 => ⟨S4x4096x1, .f32⟩
  | 12 => ⟨S4x4096x1, .f32⟩
  | 13 => ⟨S_, .f32⟩
  | 14 => ⟨S4x4096x1, .f32⟩
  | 15 => ⟨S4x4096x1, .f32⟩
  | 16 => ⟨S4x4096x1, .f32⟩
  | 17 => ⟨S4x4096x1024, .f32⟩
  | 18 => ⟨S4x4096x1024, .f32⟩
  | 19 => ⟨S1x1x1024, .f32⟩
  | 20 => ⟨S4x4096x1024, .f32⟩
  | 21 => ⟨S4x4096x1024, .f32⟩
  | 22 => ⟨S4x4096x3632, .f32⟩
  | 23 => ⟨S4x4096x1024, .f32⟩
  | 24 => ⟨S4x4096x16x64, .f32⟩
  | 25 => ⟨S4x4096x16x64, .f32⟩
  | 26 => ⟨S_, .f32⟩
  | 27 => ⟨S4x4096x16, .f32⟩
  | 28 => ⟨S4x4096x16x1, .f32⟩
  | 29 => ⟨S_, .f32⟩
  | 30 => ⟨S4x4096x16x1, .f32⟩
  | 31 => ⟨S4x4096x16x1, .f32⟩
  | 32 => ⟨S_, .f32⟩
  | 33 => ⟨S4x4096x16x1, .f32⟩
  | 34 => ⟨S4x4096x16x1, .f32⟩
  | 35 => ⟨S4x4096x16x1, .f32⟩
  | 36 => ⟨S4x4096x16x64, .f32⟩
  | 37 => ⟨S4x4096x16x64, .f32⟩
  | 38 => ⟨S1x1x1x64, .f32⟩
  | 39 => ⟨S4x4096x16x64, .f32⟩
  | 40 => ⟨S4x4096x16x64, .f32⟩
  | 41 => ⟨S4x4096x256, .f32⟩
  | 42 => ⟨S4x4096x256, .f32⟩
  | 43 => ⟨S4x4096x256, .f32⟩
  | 44 => ⟨S4x4096x256, .f32⟩
  | 45 => ⟨S4x4096x256, .f32⟩
  | 46 => ⟨S4x4096x256, .f32⟩
  | 47 => ⟨S4x4096x4x64, .f32⟩
  | 48 => ⟨S4x4096x4x64, .f32⟩
  | 49 => ⟨S_, .f32⟩
  | 50 => ⟨S4x4096x4, .f32⟩
  | 51 => ⟨S4x4096x4x1, .f32⟩
  | 52 => ⟨S_, .f32⟩
  | 53 => ⟨S4x4096x4x1, .f32⟩
  | 54 => ⟨S4x4096x4x1, .f32⟩
  | 55 => ⟨S_, .f32⟩
  | 56 => ⟨S4x4096x4x1, .f32⟩
  | 57 => ⟨S4x4096x4x1, .f32⟩
  | 58 => ⟨S4x4096x4x1, .f32⟩
  | 59 => ⟨S4x4096x4x64, .f32⟩
  | 60 => ⟨S4x4096x4x64, .f32⟩
  | 61 => ⟨S1x1x1x64, .f32⟩
  | 62 => ⟨S4x4096x4x64, .f32⟩
  | 63 => ⟨S4x4096x4x64, .f32⟩
  | 64 => ⟨S4x4096x4x64, .f32⟩
  | 65 => ⟨S4x4096x4x64, .f32⟩
  | 66 => ⟨S_, .f32⟩
  | 67 => ⟨S4x4096x4, .f32⟩
  | 68 => ⟨S4x4096x4x1, .f32⟩
  | 69 => ⟨S_, .f32⟩
  | 70 => ⟨S4x4096x4x1, .f32⟩
  | 71 => ⟨S4x4096x4x1, .f32⟩
  | 72 => ⟨S_, .f32⟩
  | 73 => ⟨S4x4096x4x1, .f32⟩
  | 74 => ⟨S4x4096x4x1, .f32⟩
  | 75 => ⟨S4x4096x4x1, .f32⟩
  | 76 => ⟨S4x4096x4x64, .f32⟩
  | 77 => ⟨S4x4096x4x64, .f32⟩
  | 78 => ⟨S1x1x1x64, .f32⟩
  | 79 => ⟨S4x4096x4x64, .f32⟩
  | 80 => ⟨S4x4096x4x64, .f32⟩
  | 81 => ⟨S4x4096x4x64, .f32⟩
  | 82 => ⟨S4x4096x4x64, .f32⟩
  | 83 => ⟨S_, .f32⟩
  | 84 => ⟨S4x4096x4, .f32⟩
  | 85 => ⟨S4x4096x4x1, .f32⟩
  | 86 => ⟨S_, .f32⟩
  | 87 => ⟨S4x4096x4x1, .f32⟩
  | 88 => ⟨S4x4096x4x1, .f32⟩
  | 89 => ⟨S_, .f32⟩
  | 90 => ⟨S4x4096x4x1, .f32⟩
  | 91 => ⟨S4x4096x4x1, .f32⟩
  | 92 => ⟨S4x4096x4x1, .f32⟩
  | 93 => ⟨S4x4096x4x64, .f32⟩
  | 94 => ⟨S4x4096x4x64, .f32⟩
  | 95 => ⟨S1x1x1x64, .f32⟩
  | 96 => ⟨S4x4096x4x64, .f32⟩
  | 97 => ⟨S4x4096x4x64, .f32⟩
  | 98 => ⟨S32, .f32⟩
  | 99 => ⟨S32, .f32⟩
  | 100 => ⟨S_, .f32⟩
  | 101 => ⟨S32, .f32⟩
  | 102 => ⟨S32, .f32⟩
  | 103 => ⟨S_, .f32⟩
  | 104 => ⟨S32, .f32⟩
  | 105 => ⟨S32, .f32⟩
  | 106 => ⟨S4096, .f32⟩
  | 107 => ⟨S4096x1, .f32⟩
  | 108 => ⟨S1x32, .f32⟩
  | 109 => ⟨S4096x32, .f32⟩
  | 110 => ⟨S4096x32, .f32⟩
  | 111 => ⟨S4096x32, .f32⟩
  | 112 => ⟨S4096x32, .f32⟩
  | 113 => ⟨S4096x1x32, .f32⟩
  | 114 => ⟨S4096x32, .f32⟩
  | 115 => ⟨S4096x1x32, .f32⟩
  | 116 => ⟨S4x4096x4x32, .f32⟩
  | 117 => ⟨S4x4096x4x32, .f32⟩
  | 118 => ⟨S1x4096x1x32, .f32⟩
  | 119 => ⟨S4x4096x4x32, .f32⟩
  | 120 => ⟨S4x4096x4x32, .f32⟩
  | 121 => ⟨S1x4096x1x32, .f32⟩
  | 122 => ⟨S4x4096x4x32, .f32⟩
  | 123 => ⟨S4x4096x4x32, .f32⟩
  | 124 => ⟨S4x4096x4x32, .f32⟩
  | 125 => ⟨S1x4096x1x32, .f32⟩
  | 126 => ⟨S4x4096x4x32, .f32⟩
  | 127 => ⟨S4x4096x4x32, .f32⟩
  | _ => ⟨S4x4096x1024, .f32⟩

abbrev hbmTy0_1 (i : Nat) : BufTy := match i % 128 with
  | 0 => ⟨S1x4096x1x32, .f32⟩
  | 1 => ⟨S4x4096x4x32, .f32⟩
  | 2 => ⟨S4x4096x4x32, .f32⟩
  | 3 => ⟨S4x4096x4x32, .f32⟩
  | 4 => ⟨S4x4096x4x64, .f32⟩
  | 5 => ⟨S32, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S4096, .f32⟩
  | 14 => ⟨S4096x1, .f32⟩
  | 15 => ⟨S1x32, .f32⟩
  | 16 => ⟨S4096x32, .f32⟩
  | 17 => ⟨S4096x32, .f32⟩
  | 18 => ⟨S4096x32, .f32⟩
  | 19 => ⟨S4096x32, .f32⟩
  | 20 => ⟨S4096x1x32, .f32⟩
  | 21 => ⟨S4096x32, .f32⟩
  | 22 => ⟨S4096x1x32, .f32⟩
  | 23 => ⟨S4x4096x4x32, .f32⟩
  | 24 => ⟨S4x4096x4x32, .f32⟩
  | 25 => ⟨S1x4096x1x32, .f32⟩
  | 26 => ⟨S4x4096x4x32, .f32⟩
  | 27 => ⟨S4x4096x4x32, .f32⟩
  | 28 => ⟨S1x4096x1x32, .f32⟩
  | 29 => ⟨S4x4096x4x32, .f32⟩
  | 30 => ⟨S4x4096x4x32, .f32⟩
  | 31 => ⟨S4x4096x4x32, .f32⟩
  | 32 => ⟨S1x4096x1x32, .f32⟩
  | 33 => ⟨S4x4096x4x32, .f32⟩
  | 34 => ⟨S4x4096x4x32, .f32⟩
  | 35 => ⟨S1x4096x1x32, .f32⟩
  | 36 => ⟨S4x4096x4x32, .f32⟩
  | 37 => ⟨S4x4096x4x32, .f32⟩
  | 38 => ⟨S4x4096x4x32, .f32⟩
  | 39 => ⟨S4x4096x4x64, .f32⟩
  | 40 => ⟨S4x4096x48, .f32⟩
  | 41 => ⟨S4x4096x48, .f32⟩
  | 42 => ⟨S4x4096x48, .f32⟩
  | 43 => ⟨S_, .f32⟩
  | 44 => ⟨S4x4096x48, .f32⟩
  | 45 => ⟨S4x4096x48, .f32⟩
  | 46 => ⟨S_, .f32⟩
  | 47 => ⟨S4x4096x48, .f32⟩
  | 48 => ⟨S4x4096x48, .f32⟩
  | 49 => ⟨S4x4096x6x8, .f32⟩
  | 50 => ⟨S_, .f32⟩
  | 51 => ⟨S_, .f32⟩
  | 52 => ⟨S4x4096x6x128, .f32⟩
  | 53 => ⟨S4x4096x1024, .f32⟩
  | 54 => ⟨S4x4096x1024, .f32⟩
  | 55 => ⟨S32, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S4096, .f32⟩
  | 64 => ⟨S4096x1, .f32⟩
  | 65 => ⟨S1x32, .f32⟩
  | 66 => ⟨S4096x32, .f32⟩
  | 67 => ⟨S4096x32, .f32⟩
  | 68 => ⟨S4096x32, .f32⟩
  | 69 => ⟨S4096x32, .f32⟩
  | 70 => ⟨S4096x1x32, .f32⟩
  | 71 => ⟨S4096x32, .f32⟩
  | 72 => ⟨S4096x1x32, .f32⟩
  | 73 => ⟨S4x4096x16x32, .f32⟩
  | 74 => ⟨S4x4096x16x32, .f32⟩
  | 75 => ⟨S1x4096x1x32, .f32⟩
  | 76 => ⟨S4x4096x16x32, .f32⟩
  | 77 => ⟨S4x4096x16x32, .f32⟩
  | 78 => ⟨S1x4096x1x32, .f32⟩
  | 79 => ⟨S4x4096x16x32, .f32⟩
  | 80 => ⟨S4x4096x16x32, .f32⟩
  | 81 => ⟨S4x4096x16x32, .f32⟩
  | 82 => ⟨S1x4096x1x32, .f32⟩
  | 83 => ⟨S4x4096x16x32, .f32⟩
  | 84 => ⟨S4x4096x16x32, .f32⟩
  | 85 => ⟨S1x4096x1x32, .f32⟩
  | 86 => ⟨S4x4096x16x32, .f32⟩
  | 87 => ⟨S4x4096x16x32, .f32⟩
  | 88 => ⟨S4x4096x16x32, .f32⟩
  | 89 => ⟨S4x4096x16x64, .f32⟩
  | 90 => ⟨S4x4096x1024, .f32⟩
  | 91 => ⟨S4x4096x256, .f32⟩
  | 92 => ⟨S4x4096x256, .f32⟩
  | 93 => ⟨S4x4096x256, .f32⟩
  | 94 => ⟨S4x4096x768, .f32⟩
  | 95 => ⟨S4x4096x5376, .f32⟩
  | 96 => ⟨S16384x5376, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_11 : Ref sig .tc := ⟨.hbm, 83, rfl⟩
abbrev main_v66 : Ref sig .tc := ⟨.hbm, 84, rfl⟩
abbrev main_v67 : Ref sig .tc := ⟨.hbm, 85, rfl⟩
abbrev main_cst_12 : Ref sig .tc := ⟨.hbm, 86, rfl⟩
abbrev main_v68 : Ref sig .tc := ⟨.hbm, 87, rfl⟩
abbrev main_v69 : Ref sig .tc := ⟨.hbm, 88, rfl⟩
abbrev main_cst_13 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_14 : Ref sig .tc := ⟨.hbm, 100, rfl⟩
abbrev main_v80 : Ref sig .tc := ⟨.hbm, 101, rfl⟩
abbrev main_v81 : Ref sig .tc := ⟨.hbm, 102, rfl⟩
abbrev main_cst_15 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_cst_16 : Ref sig .tc := ⟨.hbm, 135, rfl⟩
abbrev main_v113 : Ref sig .tc := ⟨.hbm, 136, rfl⟩
abbrev main_v114 : Ref sig .tc := ⟨.hbm, 137, rfl⟩
abbrev main_cst_17 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_cst_18 : Ref sig .tc := ⟨.hbm, 171, rfl⟩
abbrev main_v147 : Ref sig .tc := ⟨.hbm, 172, rfl⟩
abbrev main_v148 : Ref sig .tc := ⟨.hbm, 173, rfl⟩
abbrev main_cst_19 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_cst_20 : Ref sig .tc := ⟨.hbm, 178, rfl⟩
abbrev main_call0_v0 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_cst_21 : Ref sig .tc := ⟨.hbm, 185, rfl⟩
abbrev main_v157 : Ref sig .tc := ⟨.hbm, 186, rfl⟩
abbrev main_v158 : Ref sig .tc := ⟨.hbm, 187, rfl⟩
abbrev main_cst_22 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_v181 : Ref sig .tc := ⟨.hbm, 211, rfl⟩
abbrev main_v182 : Ref sig .tc := ⟨.hbm, 212, rfl⟩
abbrev main_v183 : Ref sig .tc := ⟨.hbm, 213, rfl⟩
abbrev main_v184 : Ref sig .tc := ⟨.hbm, 214, rfl⟩
abbrev main_v185 : Ref sig .tc := ⟨.hbm, 215, rfl⟩
abbrev main_v186 : Ref sig .tc := ⟨.hbm, 216, rfl⟩
abbrev main_v187 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩

abbrev nD : Nat := 1
abbrev τ : Topo := Topo.v7x

variable {F : FTy → Type} [FloatOps F]
-- ==== MergeA.lean ====
abbrev S16384x512 : Shape := ⟨2, ![16384, 512]⟩
abbrev S16384x5120 : Shape := ⟨2, ![16384, 5120]⟩
abbrev S16384x1024 : Shape := ⟨2, ![16384, 1024]⟩
abbrev S512x1024 : Shape := ⟨2, ![512, 1024]⟩
abbrev S512x512 : Shape := ⟨2, ![512, 512]⟩

abbrev nBuf : Space → Nat
  | .hbm => 11
  | .vmem => 19
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x5120, .f32⟩
  | .hbm, ⟨7, _⟩ => ⟨S16384x1024, .f32⟩
  | .hbm, ⟨8, _⟩ => ⟨S512x1024, .f32⟩
  | .hbm, ⟨9, _⟩ => ⟨S512x1024, .bf16⟩
  | .hbm, ⟨10, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefMAIdeal.lean ====
abbrev S16384x512 : Shape := ⟨2, ![16384, 512]⟩
abbrev S16384x5120 : Shape := ⟨2, ![16384, 5120]⟩
abbrev S16384x1024 : Shape := ⟨2, ![16384, 1024]⟩
abbrev S512x1024 : Shape := ⟨2, ![512, 1024]⟩
abbrev S1x16384x512 : Shape := ⟨3, ![1, 16384, 512]⟩
abbrev S3x16384x512 : Shape := ⟨3, ![3, 16384, 512]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x512, .f32⟩
  | .hbm, ⟨6, _⟩ => ⟨S16384x5120, .f32⟩
  | .hbm, ⟨7, _⟩ => ⟨S16384x1024, .f32⟩
  | .hbm, ⟨8, _⟩ => ⟨S512x1024, .f32⟩
  | .hbm, ⟨9, _⟩ => ⟨S1x16384x512, .f32⟩
  | .hbm, ⟨10, _⟩ => ⟨S1x16384x512, .f32⟩
  | .hbm, ⟨11, _⟩ => ⟨S1x16384x512, .f32⟩
  | .hbm, ⟨12, _⟩ => ⟨S3x16384x512, .f32⟩
  | .hbm, ⟨13, _⟩ => ⟨S_, .f32⟩
  | .hbm, ⟨14, _⟩ => ⟨S16384x512, .f32⟩
  | .hbm, ⟨15, _⟩ => ⟨S_, .f32⟩
  | .hbm, ⟨16, _⟩ => ⟨S16384x512, .f32⟩
  | .hbm, ⟨17, _⟩ => ⟨S16384x512, .f32⟩
  | .hbm, ⟨18, _⟩ => ⟨S1x16384x512, .f32⟩
  | .hbm, ⟨19, _⟩ => ⟨S3x16384x512, .f32⟩
  | .hbm, ⟨20, _⟩ => ⟨S3x16384x512, .f32⟩
  | .hbm, ⟨21, _⟩ => ⟨S3x16384x512, .f32⟩
  | .hbm, ⟨22, _⟩ => ⟨S_, .f32⟩
  | .hbm, ⟨23, _⟩ => ⟨S16384x512, .f32⟩
  | .hbm, ⟨24, _⟩ => ⟨S1x16384x512, .f32⟩
  | .hbm, ⟨25, _⟩ => ⟨S3x16384x512, .f32⟩
  | .hbm, ⟨26, _⟩ => ⟨S3x16384x512, .f32⟩
  | .hbm, ⟨27, _⟩ => ⟨S1x16384x512, .f32⟩
  | .hbm, ⟨28, _⟩ => ⟨S1x16384x512, .f32⟩
  | .hbm, ⟨29, _⟩ => ⟨S1x16384x512, .f32⟩
  | .hbm, ⟨30, _⟩ => ⟨S3x16384x512, .f32⟩
  | .hbm, ⟨31, _⟩ => ⟨S3x16384x512, .f32⟩
  | .hbm, ⟨32, _⟩ => ⟨S_, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x1024, .f32⟩
  | .hbm, ⟨46, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩

abbrev nD : Nat := 1
abbrev τ : Topo := Topo.v7x

variable {F : FTy → Type} [FloatOps F]
-- ==== MergeB.lean ====
abbrev S16384x1024 : Shape := ⟨2, ![16384, 1024]⟩
abbrev S16384x5376 : Shape := ⟨2, ![16384, 5376]⟩
abbrev S1024x1024 : Shape := ⟨2, ![1024, 1024]⟩
abbrev S512x1024 : Shape := ⟨2, ![512, 1024]⟩

abbrev nBuf : Space → Nat
  | .hbm => 8
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x5376, .f32⟩
  | .hbm, ⟨4, _⟩ => ⟨S16384x1024, .f32⟩
  | .hbm, ⟨5, _⟩ => ⟨S1024x1024, .f32⟩
  | .hbm, ⟨6, _⟩ => ⟨S1024x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeBIdeal.lean ====
abbrev S16384x1024 : Shape := ⟨2, ![16384, 1024]⟩
abbrev S16384x5376 : Shape := ⟨2, ![16384, 5376]⟩
abbrev S1024x1024 : Shape := ⟨2, ![1024, 1024]⟩
abbrev S512x1024 : Shape := ⟨2, ![512, 1024]⟩

abbrev nBuf : Space → Nat
  | .hbm => 8
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x5376, .f32⟩
  | .hbm, ⟨4, _⟩ => ⟨S16384x1024, .f32⟩
  | .hbm, ⟨5, _⟩ => ⟨S1024x1024, .f32⟩
  | .hbm, ⟨6, _⟩ => ⟨S1024x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S512x1024, .f32⟩
  | .local _ .vmem, ⟨12, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefMBIdeal.lean ====
abbrev S16384x1024 : Shape := ⟨2, ![16384, 1024]⟩
abbrev S16384x5376 : Shape := ⟨2, ![16384, 5376]⟩
abbrev S1024x1024 : Shape := ⟨2, ![1024, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x5376, .f32⟩
  | .hbm, ⟨4, _⟩ => ⟨S16384x1024, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩

abbrev nD : Nat := 1
abbrev τ : Topo := Topo.v7x

variable {F : FTy → Type} [FloatOps F]
-- ==== SampleA.lean ====
abbrev S32x4x1024 : Shape := ⟨3, ![32, 4, 1024]⟩
abbrev S1024 : Shape := ⟨1, ![1024]⟩
abbrev S1024x5120 : Shape := ⟨2, ![1024, 5120]⟩
abbrev S64 : Shape := ⟨1, ![64]⟩
abbrev S4 : Shape := ⟨1, ![4]⟩
abbrev S_ : Shape := ⟨0, ![]⟩
abbrev S1x4 : Shape := ⟨2, ![1, 4]⟩
abbrev S32x4 : Shape := ⟨2, ![32, 4]⟩
abbrev S128 : Shape := ⟨1, ![128]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S128x128 : Shape := ⟨2, ![128, 128]⟩
abbrev S128x1024 : Shape := ⟨2, ![128, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1x1024 : Shape := ⟨2, ![1, 1024]⟩
abbrev S128x5120 : Shape := ⟨2, ![128, 5120]⟩
abbrev S1024x256 : Shape := ⟨2, ![1024, 256]⟩
abbrev S128x256 : Shape := ⟨2, ![128, 256]⟩

abbrev nBuf : Space → Nat
  | .hbm => 73
  | .vmem => 12
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x5120, .f32⟩
  | .hbm, ⟨3, _⟩ => ⟨S64, .f32⟩
  | .hbm, ⟨4, _⟩ => ⟨S64, .f32⟩
  | .hbm, ⟨5, _⟩ => ⟨S4, .i32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S1x4, .i32⟩
  | .hbm, ⟨10, _⟩ => ⟨S32x4, .i32⟩
  | .hbm, ⟨11, _⟩ => ⟨S128, .i32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S128, .f32⟩
  | .hbm, ⟨21, _⟩ => ⟨S128x1, .f32⟩
  | .hbm, ⟨22, _⟩ => ⟨S1x32, .f32⟩
  | .hbm, ⟨23, _⟩ => ⟨S128x32, .f32⟩
  | .hbm, ⟨24, _⟩ => ⟨S128x32, .f32⟩
  | .hbm, ⟨25, _⟩ => ⟨S128x32, .f32⟩
  | .hbm, ⟨26, _⟩ => ⟨S128x32, .f32⟩
  | .hbm, ⟨27, _⟩ => ⟨S128x32, .f32⟩
  | .hbm, ⟨28, _⟩ => ⟨S128x128, .f32⟩
  | .hbm, ⟨29, _⟩ => ⟨S128x32, .f32⟩
  | .hbm, ⟨30, _⟩ => ⟨S128x32, .f32⟩
  | .hbm, ⟨31, _⟩ => ⟨S128x128, .f32⟩
  | .hbm, ⟨32, _⟩ => ⟨S128x1024, .f32⟩
  | .hbm, ⟨33, _⟩ => ⟨S1024x5120, .bf16⟩
  | .hbm, ⟨34, _⟩ => ⟨S1x64, .f32⟩
  | .hbm, ⟨35, _⟩ => ⟨S4x64, .f32⟩
  | .hbm, ⟨36, _⟩ => ⟨S256, .f32⟩
  | .hbm, ⟨37, _⟩ => ⟨S1x256, .f32⟩
  | .hbm, ⟨38, _⟩ => ⟨S1x64, .f32⟩
  | .hbm, ⟨39, _⟩ => ⟨S4x64, .f32⟩
  | .hbm, ⟨40, _⟩ => ⟨S256, .f32⟩
  | .hbm, ⟨41, _⟩ => ⟨S1x256, .f32⟩
  | .hbm, ⟨42, _⟩ => ⟨S256, .i32⟩
  | .hbm, ⟨43, _⟩ => ⟨S_, .i32⟩
  | .hbm, ⟨44, _⟩ => ⟨S_, .i32⟩
  | .hbm, ⟨45, _⟩ => ⟨S256, .i32⟩
  | .hbm, ⟨46, _⟩ => ⟨S256, .i32⟩
  | .hbm, ⟨47, _⟩ => ⟨S256, .i32⟩
  | .hbm, ⟨48, _⟩ => ⟨S_, .i32⟩
  | .hbm, ⟨49, _⟩ => ⟨S256, .i32⟩
  | .hbm, ⟨50, _⟩ => ⟨S256, .i1⟩
  | .hbm, ⟨51, _⟩ => ⟨S256, .i32⟩
  | .hbm, ⟨52, _⟩ => ⟨S256, .i32⟩
  | .hbm, ⟨53, _⟩ => ⟨S_, .i32⟩
  | .hbm, ⟨54, _⟩ => ⟨S256, .i32⟩
  | .hbm, ⟨55, _⟩ => ⟨S256, .i1⟩
  | .hbm, ⟨56, _⟩ => ⟨S256, .i1⟩
  | .hbm, ⟨57, _⟩ => ⟨S_, .i32⟩
  | .hbm, ⟨58, _⟩ => ⟨S256, .i32⟩
  | .hbm, ⟨59, _⟩ => ⟨S256, .i32⟩
  | .hbm, ⟨60, _⟩ => ⟨S256, .i32⟩
  | .hbm, ⟨61, _⟩ => ⟨S256x1, .i32⟩
  | .hbm, ⟨62, _⟩ => ⟨S1x256, .i32⟩
  | .hbm, ⟨63, _⟩ => ⟨S256x256, .i32⟩
  | .hbm, ⟨64, _⟩ => ⟨S256x256, .i32⟩
  | .hbm, ⟨65, _⟩ => ⟨S256x256, .i1⟩
  | .hbm, ⟨66, _⟩ => ⟨S256x256, .f32⟩
  | .hbm, ⟨67, _⟩ => ⟨S_, .f32⟩
  | .hbm, ⟨68, _⟩ => ⟨S256x256, .f32⟩
  | .hbm, ⟨69, _⟩ => ⟨S256x256, .f32⟩
  | .hbm, ⟨70, _⟩ => ⟨S256x256, .bf16⟩
  | .hbm, ⟨71, _⟩ => ⟨S1x1024, .f32⟩
  | .hbm, ⟨72, _⟩ => ⟨S128x5120, .f32⟩
  | .local _ .vmem, ⟨0, _⟩ => ⟨S128x1024, .f32⟩
  | .local _ .vmem, ⟨1, _⟩ => ⟨S1x1024, .f32⟩
  | .local _ .vmem, ⟨2, _⟩ => ⟨S1024x256, .bf16⟩
  | .local _ .vmem, ⟨3, _⟩ => ⟨S1024x256, .bf16⟩
  | .local _ .vmem, ⟨4, _⟩ => ⟨S128x128, .f32⟩
  | .local _ .vmem, ⟨5, _⟩ => ⟨S128x128, .f32⟩
  | .local _ .vmem, ⟨6, _⟩ => ⟨S1x256, .f32⟩
  | .local _ .vmem, ⟨7, _⟩ => ⟨S1x256, .f32⟩
  | .local _ .vmem, ⟨8, _⟩ => ⟨S256x256, .bf16⟩
  | .local _ .vmem, ⟨9, _⟩ => ⟨S128x256, .f32⟩
  | .local _ .vmem, ⟨10, _⟩ => ⟨S128x256, .f32⟩
  | .local _ .vmem, ⟨11, _⟩ => ⟨S128x1024, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_1 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_c : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_c_0 : Ref sig .tc := ⟨.hbm, 57, rfl⟩
abbrev main_call0_v12 : Ref sig .tc := ⟨.hbm, 58, rfl⟩
abbrev main_call0_v13 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_2 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![1, 20], ![false, false]⟩

def k0_cond2 (i : grid0.Coords) : BitVec 1 :=
  let arg1 : BitVec 32 := BitVec.ofNat 32 (i 1).val
  let c12_i32 : BitVec 32 := 12#32
  let v7 : BitVec 1 := Scalar.cmpi .sge arg1 c12_i32
  let c20_i32 : BitVec 32 := 20#32
  let v8 : BitVec 1 := Scalar.cmpi .slt arg1 c20_i32
  let v9 : BitVec 1 := Scalar.andi v7 v8
  let v10 : BitVec 32 := Scalar.extui v9
  let c0_i32_4 : BitVec 32 := 0#32
  let v11 : BitVec 1 := Scalar.cmpi .ne v10 c0_i32_4
  v11

def k0_cond3 (i : grid0.Coords) : BitVec 1 :=
  let arg1 : BitVec 32 := BitVec.ofNat 32 (i 1).val
  let c0_i32_5 : BitVec 32 := 0#32
  let v12 : BitVec 1 := Scalar.cmpi .sge arg1 c0_i32_5
  let c6_i32 : BitVec 32 := 6#32
  let v13 : BitVec 1 := Scalar.cmpi .slt arg1 c6_i32
  let v14 : BitVec 1 := Scalar.andi v12 v13
  let v15 : BitVec 32 := Scalar.extui v14
  let c0_i32_6 : BitVec 32 := 0#32
  let v16 : BitVec 1 := Scalar.cmpi .ne v15 c0_i32_6
  v16

def k0_cond4 (i : grid0.Coords) : BitVec 1 :=
  let arg1 : BitVec 32 := BitVec.ofNat 32 (i 1).val
  let c6_i32_7 : BitVec 32 := 6#32
  let v17 : BitVec 1 := Scalar.cmpi .sge arg1 c6_i32_7
  let c12_i32_8 : BitVec 32 := 12#32
  let v18 : BitVec 1 := Scalar.cmpi .slt arg1 c12_i32_8
  let v19 : BitVec 1 := Scalar.andi v17 v18
  let v20 : BitVec 32 := Scalar.extui v19
  let c0_i32_9 : BitVec 32 := 0#32
  let v21 : BitVec 1 := Scalar.cmpi .ne v20 c0_i32_9
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefSAIdeal.lean ====
abbrev S32x4x1024 : Shape := ⟨3, ![32, 4, 1024]⟩
abbrev S1024 : Shape := ⟨1, ![1024]⟩
abbrev S1024x5120 : Shape := ⟨2, ![1024, 5120]⟩
abbrev S64 : Shape := ⟨1, ![64]⟩
abbrev S4 : Shape := ⟨1, ![4]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x5120 : Shape := ⟨3, ![32, 4, 5120]⟩
abbrev S32x4x1536 : Shape := ⟨3, ![32, 4, 1536]⟩
abbrev S32x4x24x64 : Shape := ⟨4, ![32, 4, 24, 64]⟩
abbrev S32x4x24 : Shape := ⟨3, ![32, 4, 24]⟩
abbrev S32x4x24x1 : Shape := ⟨4, ![32, 4, 24, 1]⟩
abbrev S1x1x1x64 : Shape := ⟨4, ![1, 1, 1, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S4x1x32 : Shape := ⟨3, ![4, 1, 32]⟩
abbrev S32x4x24x32 : Shape := ⟨4, ![32, 4, 24, 32]⟩
abbrev S1x4x1x32 : Shape := ⟨4, ![1, 4, 1, 32]⟩
abbrev S32x4x2048 : Shape := ⟨3, ![32, 4, 2048]⟩
abbrev S128x5120 : Shape := ⟨2, ![128, 5120]⟩

abbrev nBuf : Space → Nat
  | .hbm => 137
  | .vmem => 0
  | .smem => 0
  | _ => 0

abbrev hbmTy0_0 (i : Nat) : BufTy := match i % 128 with
  | 0 => ⟨S32x4x1024, .f32⟩
  | 1 => ⟨S1024, .f32⟩
  | 2 => ⟨S1024x5120, .f32⟩
  | 3 => ⟨S64, .f32⟩
  | 4 => ⟨S64, .f32⟩
  | 5 => ⟨S4, .i32⟩
  | 6 => ⟨S_, .i32⟩
  | 7 => ⟨S4, .i32⟩
  | 8 => ⟨S4, .i32⟩
  | 9 => ⟨S32x4x1024, .f32⟩
  | 10 => ⟨S_, .f32⟩
  | 11 => ⟨S32x4, .f32⟩
  | 12 => ⟨S32x4x1, .f32⟩
  | 13 => ⟨S_, .f32⟩
  | 14 => ⟨S32x4x1, .f32⟩
  | 15 => ⟨S32x4x1, .f32⟩
  | 16 => ⟨S_, .f32⟩
  | 17 => ⟨S32x4x1, .f32⟩
  | 18 => ⟨S32x4x1, .f32⟩
  | 19 => ⟨S32x4x1, .f32⟩
  | 20 => ⟨S32x4x1024, .f32⟩
  | 21 => ⟨S32x4x1024, .f32⟩
  | 22 => ⟨S1x1x1024, .f32⟩
  | 23 => ⟨S32x4x1024, .f32⟩
  | 24 => ⟨S32x4x1024, .f32⟩
  | 25 => ⟨S32x4x5120, .f32⟩
  | 26 => ⟨S32x4x1536, .f32⟩
  | 27 => ⟨S32x4x24x64, .f32⟩
  | 28 => ⟨S32x4x1536, .f32⟩
  | 29 => ⟨S32x4x24x64, .f32⟩
  | 30 => ⟨S32x4x24x64, .f32⟩
  | 31 => ⟨S_, .f32⟩
  | 32 => ⟨S32x4x24, .f32⟩
  | 33 => ⟨S32x4x24x1, .f32⟩
  | 34 => ⟨S_, .f32⟩
  | 35 => ⟨S32x4x24x1, .f32⟩
  | 36 => ⟨S32x4x24x1, .f32⟩
  | 37 => ⟨S_, .f32⟩
  | 38 => ⟨S32x4x24x1, .f32⟩
  | 39 => ⟨S32x4x24x1, .f32⟩
  | 40 => ⟨S32x4x24x1, .f32⟩
  | 41 => ⟨S32x4x24x64, .f32⟩
  | 42 => ⟨S32x4x24x64, .f32⟩
  | 43 => ⟨S1x1x1x64, .f32⟩
  | 44 => ⟨S32x4x24x64, .f32⟩
  | 45 => ⟨S32x4x24x64, .f32⟩
  | 46 => ⟨S32, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S4, .f32⟩
  | 55 => ⟨S4x1, .f32⟩
  | 56 => ⟨S1x32, .f32⟩
  | 57 => ⟨S4x32, .f32⟩
  | 58 => ⟨S4x32, .f32⟩
  | 59 => ⟨S4x32, .f32⟩
  | 60 => ⟨S4x32, .f32⟩
  | 61 => ⟨S4x1x32, .f32⟩
  | 62 => ⟨S4x32, .f32⟩
  | 63 => ⟨S4x1x32, .f32⟩
  | 64 => ⟨S32x4x24x32, .f32⟩
  | 65 => ⟨S32x4x24x32, .f32⟩
  | 66 => ⟨S1x4x1x32, .f32⟩
  | 67 => ⟨S32x4x24x32, .f32⟩
  | 68 => ⟨S32x4x24x32, .f32⟩
  | 69 => ⟨S1x4x1x32, .f32⟩
  | 70 => ⟨S32x4x24x32, .f32⟩
  | 71 => ⟨S32x4x24x32, .f32⟩
  | 72 => ⟨S32x4x24x32, .f32⟩
  | 73 => ⟨S1x4x1x32, .f32⟩
  | 74 => ⟨S32x4x24x32, .f32⟩
  | 75 => ⟨S32x4x24x32, .f32⟩
  | 76 => ⟨S1x4x1x32, .f32⟩
  | 77 => ⟨S32x4x24x32, .f32⟩
  | 78 => ⟨S32x4x24x32, .f32⟩
  | 79 => ⟨S32x4x24x32, .f32⟩
  | 80 => ⟨S32x4x24x64, .f32⟩
  | 81 => ⟨S32x4x24x64, .f32⟩
  | 82 => ⟨S_, .f32⟩
  | 83 => ⟨S32x4x24, .f32⟩
  | 84 => ⟨S32x4x24x1, .f32⟩
  | 85 => ⟨S_, .f32⟩
  | 86 => ⟨S32x4x24x1, .f32⟩
  | 87 => ⟨S32x4x24x1, .f32⟩
  | 88 => ⟨S_, .f32⟩
  | 89 => ⟨S32x4x24x1, .f32⟩
  | 90 => ⟨S32x4x24x1, .f32⟩
  | 91 => ⟨S32x4x24x1, .f32⟩
  | 92 => ⟨S32x4x24x64, .f32⟩
  | 93 => ⟨S32x4x24x64, .f32⟩
  | 94 => ⟨S1x1x1x64, .f32⟩
  | 95 => ⟨S32x4x24x64, .f32⟩
  | 96 => ⟨S32x4x24x64, .f32⟩
  | 97 => ⟨S32, .f32⟩
  | 98 => ⟨S32, .f32⟩
  | 99 => ⟨S_, .f32⟩
  | 100 => ⟨S32, .f32⟩
  | 101 => ⟨S32, .f32⟩
  | 102 => ⟨S_, .f32⟩
  | 103 => ⟨S32, .f32⟩
  | 104 => ⟨S32, .f32⟩
  | 105 => ⟨S4, .f32⟩
  | 106 => ⟨S4x1, .f32⟩
  | 107 => ⟨S1x32, .f32⟩
  | 108 => ⟨S4x32, .f32⟩
  | 109 => ⟨S4x32, .f32⟩
  | 110 => ⟨S4x32, .f32⟩
  | 111 => ⟨S4x32, .f32⟩
  | 112 => ⟨S4x1x32, .f32⟩
  | 113 => ⟨S4x32, .f32⟩
  | 114 => ⟨S4x1x32, .f32⟩
  | 115 => ⟨S32x4x24x32, .f32⟩
  | 116 => ⟨S32x4x24x32, .f32⟩
  | 117 => ⟨S1x4x1x32, .f32⟩
  | 118 => ⟨S32x4x24x32, .f32⟩
  | 119 => ⟨S32x4x24x32, .f32⟩
  | 120 => ⟨S1x4x1x32, .f32⟩
  | 121 => ⟨S32x4x24x32, .f32⟩
  | 122 => ⟨S32x4x24x32, .f32⟩
  | 123 => ⟨S32x4x24x32, .f32⟩
  | 124 => ⟨S1x4x1x32, .f32⟩
  | 125 => ⟨S32x4x24x32, .f32⟩
  | 126 => ⟨S32x4x24x32, .f32⟩
  | 127 => ⟨S1x4x1x32, .f32⟩
  | _ => ⟨S32x4x1024, .f32⟩

abbrev hbmTy0_1 (i : Nat) : BufTy := match i % 128 with
  | 0 => ⟨S32x4x24x32, .f32⟩
  | 1 => ⟨S32x4x24x32, .f32⟩
  | 2 => ⟨S32x4x24x32, .f32⟩
  | 3 => ⟨S32x4x24x64, .f32⟩
  | 4 => ⟨S32x4x1536, .f32⟩
  | 5 => ⟨S32x4x1536, .f32⟩
  | 6 => ⟨S32x4x2048, .f32⟩
  | 7 => ⟨S32x4x5120, .f32⟩
  | 8 => ⟨S128x5120, .f32⟩
  | _ => ⟨S32x4x1024, .f32⟩

abbrev hbmTy (i : Nat) : BufTy := match i / 128 with
  | 0 => hbmTy0_0 i
  | 1 => hbmTy0_1 i
  | _ => ⟨S32x4x1024, .f32⟩

abbrev bufTy : (tb : Table) → Fin (tcTables nBuf tb) → BufTy
  | .hbm, ⟨i, _⟩ => hbmTy i
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_7 : Ref sig .tc := ⟨.hbm, 82, rfl⟩
abbrev main_v68 : Ref sig .tc := ⟨.hbm, 83, rfl⟩
abbrev main_v69 : Ref sig .tc := ⟨.hbm, 84, rfl⟩
abbrev main_cst_8 : Ref sig .tc := ⟨.hbm, 85, rfl⟩
abbrev main_v70 : Ref sig .tc := ⟨.hbm, 86, rfl⟩
abbrev main_v71 : Ref sig .tc := ⟨.hbm, 87, rfl⟩
abbrev main_cst_9 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_10 : Ref sig .tc := ⟨.hbm, 99, rfl⟩
abbrev main_v82 : Ref sig .tc := ⟨.hbm, 100, rfl⟩
abbrev main_v83 : Ref sig .tc := ⟨.hbm, 101, rfl⟩
abbrev main_cst_11 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩

abbrev nD : Nat := 1
abbrev τ : Topo := Topo.v7x

variable {F : FTy → Type} [FloatOps F]
-- ==== SampleB.lean ====
abbrev S32x4x1024 : Shape := ⟨3, ![32, 4, 1024]⟩
abbrev S1024 : Shape := ⟨1, ![1024]⟩
abbrev S1024x3632 : Shape := ⟨2, ![1024, 3632]⟩
abbrev S64 : Shape := ⟨1, ![64]⟩
abbrev S4 : Shape := ⟨1, ![4]⟩
abbrev S_ : Shape := ⟨0, ![]⟩
abbrev S1x4 : Shape := ⟨2, ![1, 4]⟩
abbrev S32x4 : Shape := ⟨2, ![32, 4]⟩
abbrev S128 : Shape := ⟨1, ![128]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S128x128 : Shape := ⟨2, ![128, 128]⟩
abbrev S128x1024 : Shape := ⟨2, ![128, 1024]⟩
abbrev S1024x1024 : Shape := ⟨2, ![1024, 1024]⟩
abbrev S1024x1536 : Shape := ⟨2, ![1024, 1536]⟩
abbrev S1024x48 : Shape := ⟨2, ![1024, 48]⟩
abbrev S1024x8 : Shape := ⟨2, ![1024, 8]⟩
abbrev S1024x128 : Shape := ⟨2, ![1024, 128]⟩
abbrev S1024x5376 : Shape := ⟨2, ![1024, 5376]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S1x1024 : Shape := ⟨2, ![1, 1024]⟩
abbrev S128x5376 : Shape := ⟨2, ![128, 5376]⟩
abbrev S1024x256 : Shape := ⟨2, ![1024, 256]⟩
abbrev S128x256 : Shape := ⟨2, ![128, 256]⟩

abbrev nBuf : Space → Nat
  | .hbm => 102
  | .vmem => 12
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x3632, .f32⟩
  | .hbm, ⟨3, _⟩ => ⟨S64, .f32⟩
  | .hbm, ⟨4, _⟩ => ⟨S64, .f32⟩
  | .hbm, ⟨5, _⟩ => ⟨S4, .i32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S1x4, .i32⟩
  | .hbm, ⟨10, _⟩ => ⟨S32x4, .i32⟩
  | .hbm, ⟨11, _⟩ => ⟨S128, .i32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S128, .f32⟩
  | .hbm, ⟨21, _⟩ => ⟨S128x1, .f32⟩
  | .hbm, ⟨22, _⟩ => ⟨S1x32, .f32⟩
  | .hbm, ⟨23, _⟩ => ⟨S128x32, .f32⟩
  | .hbm, ⟨24, _⟩ => ⟨S128x32, .f32⟩
  | .hbm, ⟨25, _⟩ => ⟨S128x32, .f32⟩
  | .hbm, ⟨26, _⟩ => ⟨S128x32, .f32⟩
  | .hbm, ⟨27, _⟩ => ⟨S128x32, .f32⟩
  | .hbm, ⟨28, _⟩ => ⟨S128x128, .f32⟩
  | .hbm, ⟨29, _⟩ => ⟨S128x32, .f32⟩
  | .hbm, ⟨30, _⟩ => ⟨S128x32, .f32⟩
  | .hbm, ⟨31, _⟩ => ⟨S128x128, .f32⟩
  | .hbm, ⟨32, _⟩ => ⟨S128x1024, .f32⟩
  | .hbm, ⟨33, _⟩ => ⟨S1024x1024, .f32⟩
  | .hbm, ⟨34, _⟩ => ⟨S1024x1536, .f32⟩
  | .hbm, ⟨35, _⟩ => ⟨S1024x48, .f32⟩
  | .hbm, ⟨36, _⟩ => ⟨S1024x1024, .f32⟩
  | .hbm, ⟨37, _⟩ => ⟨S1024x8, .f32⟩
  | .hbm, ⟨38, _⟩ => ⟨S_, .i32⟩
  | .hbm, ⟨39, _⟩ => ⟨S_, .f32⟩
  | .hbm, ⟨40, _⟩ => ⟨S1024x128, .f32⟩
  | .hbm, ⟨41, _⟩ => ⟨S1024x8, .f32⟩
  | .hbm, ⟨42, _⟩ => ⟨S_, .i32⟩
  | .hbm, ⟨43, _⟩ => ⟨S_, .f32⟩
  | .hbm, ⟨44, _⟩ => ⟨S1024x128, .f32⟩
  | .hbm, ⟨45, _⟩ => ⟨S1024x8, .f32⟩
  | .hbm, ⟨46, _⟩ => ⟨S_, .i32⟩
  | .hbm, ⟨47, _⟩ => ⟨S_, .f32⟩
  | .hbm, ⟨48, _⟩ => ⟨S1024x128, .f32⟩
  | .hbm, ⟨49, _⟩ => ⟨S1024x8, .f32⟩
  | .hbm, ⟨50, _⟩ => ⟨S_, .i32⟩
  | .hbm, ⟨51, _⟩ => ⟨S_, .f32⟩
  | .hbm, ⟨52, _⟩ => ⟨S1024x128, .f32⟩
  | .hbm, ⟨53, _⟩ => ⟨S1024x8, .f32⟩
  | .hbm, ⟨54, _⟩ => ⟨S_, .i32⟩
  | .hbm, ⟨55, _⟩ => ⟨S_, .f32⟩
  | .hbm, ⟨56, _⟩ => ⟨S1024x128, .f32⟩
  | .hbm, ⟨57, _⟩ => ⟨S1024x8, .f32⟩
  | .hbm, ⟨58, _⟩ => ⟨S_, .i32⟩
  | .hbm, ⟨59, _⟩ => ⟨S_, .f32⟩
  | .hbm, ⟨60, _⟩ => ⟨S1024x128, .f32⟩
  | .hbm, ⟨61, _⟩ => ⟨S1024x5376, .f32⟩
  | .hbm, ⟨62, _⟩ => ⟨S1024x5376, .bf16⟩
  | .hbm, ⟨63, _⟩ => ⟨S1x64, .f32⟩
  | .hbm, ⟨64, _⟩ => ⟨S4x64, .f32⟩
  | .hbm, ⟨65, _⟩ => ⟨S256, .f32⟩
  | .hbm, ⟨66, _⟩ => ⟨S1x256, .f32⟩
  | .hbm, ⟨67, _⟩ => ⟨S1x64, .f32⟩
  | .hbm, ⟨68, _⟩ => ⟨S4x64, .f32⟩
  | .hbm, ⟨69, _⟩ => ⟨S256, .f32⟩
  | .hbm, ⟨70, _⟩ => ⟨S1x256, .f32⟩
  | .hbm, ⟨71, _⟩ => ⟨S256, .i32⟩
  | .hbm, ⟨72, _⟩ => ⟨S_, .i32⟩
  | .hbm, ⟨73, _⟩ => ⟨S_, .i32⟩
  | .hbm, ⟨74, _⟩ => ⟨S256, .i32⟩
  | .hbm, ⟨75, _⟩ => ⟨S256, .i32⟩
  | .hbm, ⟨76, _⟩ => ⟨S256, .i32⟩
  | .hbm, ⟨77, _⟩ => ⟨S_, .i32⟩
  | .hbm, ⟨78, _⟩ => ⟨S256, .i32⟩
  | .hbm, ⟨79, _⟩ => ⟨S256, .i1⟩
  | .hbm, ⟨80, _⟩ => ⟨S256, .i32⟩
  | .hbm, ⟨81, _⟩ => ⟨S256, .i32⟩
  | .hbm, ⟨82, _⟩ => ⟨S_, .i32⟩
  | .hbm, ⟨83, _⟩ => ⟨S256, .i32⟩
  | .hbm, ⟨84, _⟩ => ⟨S256, .i1⟩
  | .hbm, ⟨85, _⟩ => ⟨S256, .i1⟩
  | .hbm, ⟨86, _⟩ => ⟨S_, .i32⟩
  | .hbm, ⟨87, _⟩ => ⟨S256, .i32⟩
  | .hbm, ⟨88, _⟩ => ⟨S256, .i32⟩
  | .hbm, ⟨89, _⟩ => ⟨S256, .i32⟩
  | .hbm, ⟨90, _⟩ => ⟨S256x1, .i32⟩
  | .hbm, ⟨91, _⟩ => ⟨S1x256, .i32⟩
  | .hbm, ⟨92, _⟩ => ⟨S256x256, .i32⟩
  | .hbm, ⟨93, _⟩ => ⟨S256x256, .i32⟩
  | .hbm, ⟨94, _⟩ => ⟨S256x256, .i1⟩
  | .hbm, ⟨95, _⟩ => ⟨S256x256, .f32⟩
  | .hbm, ⟨96, _⟩ => ⟨S_, .f32⟩
  | .hbm, ⟨97, _⟩ => ⟨S256x256, .f32⟩
  | .hbm, ⟨98, _⟩ => ⟨S256x256, .f32⟩
  | .hbm, ⟨99, _⟩ => ⟨S256x256, .bf16⟩
  | .hbm, ⟨100, _⟩ => ⟨S1x1024, .f32⟩
  | .hbm, ⟨101, _⟩ => ⟨S128x5376, .f32⟩
  | .local _ .vmem, ⟨0, _⟩ => ⟨S128x1024, .f32⟩
  | .local _ .vmem, ⟨1, _⟩ => ⟨S1x1024, .f32⟩
  | .local _ .vmem, ⟨2, _⟩ => ⟨S1024x256, .bf16⟩
  | .local _ .vmem, ⟨3, _⟩ => ⟨S1024x256, .bf16⟩
  | .local _ .vmem, ⟨4, _⟩ => ⟨S128x128, .f32⟩
  | .local _ .vmem, ⟨5, _⟩ => ⟨S128x128, .f32⟩
  | .local _ .vmem, ⟨6, _⟩ => ⟨S1x256, .f32⟩
  | .local _ .vmem, ⟨7, _⟩ => ⟨S1x256, .f32⟩
  | .local _ .vmem, ⟨8, _⟩ => ⟨S256x256, .bf16⟩
  | .local _ .vmem, ⟨9, _⟩ => ⟨S128x256, .f32⟩
  | .local _ .vmem, ⟨10, _⟩ => ⟨S128x256, .f32⟩
  | .local _ .vmem, ⟨11, _⟩ => ⟨S128x1024, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_1 : Ref sig .tc := ⟨.hbm, 38, rfl⟩
abbrev main_call0_v0 : Ref sig .tc := ⟨.hbm, 39, rfl⟩
abbrev main_v30 : Ref sig .tc := ⟨.hbm, 40, rfl⟩
abbrev main_v31 : Ref sig .tc := ⟨.hbm, 41, rfl⟩
abbrev main_c_2 : Ref sig .tc := ⟨.hbm, 42, rfl⟩
abbrev main_call1_v0 : Ref sig .tc := ⟨.hbm, 43, rfl⟩
abbrev main_v32 : Ref sig .tc := ⟨.hbm, 44, rfl⟩
abbrev main_v33 : Ref sig .tc := ⟨.hbm, 45, rfl⟩
abbrev main_c_3 : Ref sig .tc := ⟨.hbm, 46, rfl⟩
abbrev main_call2_v0 : Ref sig .tc := ⟨.hbm, 47, rfl⟩
abbrev main_v34 : Ref sig .tc := ⟨.hbm, 48, rfl⟩
abbrev main_v35 : Ref sig .tc := ⟨.hbm, 49, rfl⟩
abbrev main_c_4 : Ref sig .tc := ⟨.hbm, 50, rfl⟩
abbrev main_call3_v0 : Ref sig .tc := ⟨.hbm, 51, rfl⟩
abbrev main_v36 : Ref sig .tc := ⟨.hbm, 52, rfl⟩
abbrev main_v37 : Ref sig .tc := ⟨.hbm, 53, rfl⟩
abbrev main_c_5 : Ref sig .tc := ⟨.hbm, 54, rfl⟩
abbrev main_call4_v0 : Ref sig .tc := ⟨.hbm, 55, rfl⟩
abbrev main_v38 : Ref sig .tc := ⟨.hbm, 56, rfl⟩
abbrev main_v39 : Ref sig .tc := ⟨.hbm, 57, rfl⟩
abbrev main_c_6 : Ref sig .tc := ⟨.hbm, 58, rfl⟩
abbrev main_call5_v0 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_7 : Ref sig .tc := ⟨.hbm, 72, rfl⟩
abbrev main_call6_v0 : Ref sig .tc := ⟨.hbm, 73, rfl⟩
abbrev main_call6_v1 : Ref sig .tc := ⟨.hbm, 74, rfl⟩
abbrev main_call6_v2 : Ref sig .tc := ⟨.hbm, 75, rfl⟩
abbrev main_call6_v3 : Ref sig .tc := ⟨.hbm, 76, rfl⟩
abbrev main_call6_v4 : Ref sig .tc := ⟨.hbm, 77, rfl⟩
abbrev main_call6_v5 : Ref sig .tc := ⟨.hbm, 78, rfl⟩
abbrev main_call6_v6 : Ref sig .tc := ⟨.hbm, 79, rfl⟩
abbrev main_call6_v7 : Ref sig .tc := ⟨.hbm, 80, rfl⟩
abbrev main_call6_v8 : Ref sig .tc := ⟨.hbm, 81, rfl⟩
abbrev main_call6_c : Ref sig .tc := ⟨.hbm, 82, rfl⟩
abbrev main_call6_v9 : Ref sig .tc := ⟨.hbm, 83, rfl⟩
abbrev main_call6_v10 : Ref sig .tc := ⟨.hbm, 84, rfl⟩
abbrev main_call6_v11 : Ref sig .tc := ⟨.hbm, 85, rfl⟩
abbrev main_call6_c_0 : Ref sig .tc := ⟨.hbm, 86, rfl⟩
abbrev main_call6_v12 : Ref sig .tc := ⟨.hbm, 87, rfl⟩
abbrev main_call6_v13 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_8 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![1, 21], ![false, false]⟩

def k0_cond2 (i : grid0.Coords) : BitVec 1 :=
  let arg1 : BitVec 32 := BitVec.ofNat 32 (i 1).val
  let c8_i32 : BitVec 32 := 8#32
  let v7 : BitVec 1 := Scalar.cmpi .sge arg1 c8_i32
  let c12_i32 : BitVec 32 := 12#32
  let v8 : BitVec 1 := Scalar.cmpi .slt arg1 c12_i32
  let v9 : BitVec 1 := Scalar.andi v7 v8
  let c13_i32 : BitVec 32 := 13#32
  let v10 : BitVec 1 := Scalar.cmpi .sge arg1 c13_i32
  let c14_i32 : BitVec 32 := 14#32
  let v11 : BitVec 1 := Scalar.cmpi .slt arg1 c14_i32
  let v12 : BitVec 1 := Scalar.andi v10 v11
  let v13 : BitVec 1 := Scalar.ori v9 v12
  let c15_i32 : BitVec 32 := 15#32
  let v14 : BitVec 1 := Scalar.cmpi .sge arg1 c15_i32
  let c16_i32 : BitVec 32 := 16#32
  let v15 : BitVec 1 := Scalar.cmpi .slt arg1 c16_i32
  let v16 : BitVec 1 := Scalar.andi v14 v15
  let v17 : BitVec 1 := Scalar.ori v13 v16
  let c17_i32 : BitVec 32 := 17#32
  let v18 : BitVec 1 := Scalar.cmpi .sge arg1 c17_i32
  let c18_i32 : BitVec 32 := 18#32
  let v19 : BitVec 1 := Scalar.cmpi .slt arg1 c18_i32
  let v20 : BitVec 1 := Scalar.andi v18 v19
  let v21 : BitVec 1 := Scalar.ori v17 v20
  let v22 : BitVec 32 := Scalar.extui v21
  let c0_i32_4 : BitVec 32 := 0#32
  let v23 : BitVec 1 := Scalar.cmpi .ne v22 c0_i32_4
  v23

def k0_cond3 (i : grid0.Coords) : BitVec 1 :=
  let arg1 : BitVec 32 := BitVec.ofNat 32 (i 1).val
  let c18_i32_5 : BitVec 32 := 18#32
  let v24 : BitVec 1 := Scalar.cmpi .sge arg1 c18_i32_5
  let c21_i32 : BitVec 32 := 21#32
  let v25 : BitVec 1 := Scalar.cmpi .slt arg1 c21_i32
  let v26 : BitVec 1 := Scalar.andi v24 v25
  let v27 : BitVec 32 := Scalar.extui v26
  let c0_i32_6 : BitVec 32 := 0#32
  let v28 : BitVec 1 := Scalar.cmpi .ne v27 c0_i32_6
  v28

def k0_cond4 (i : grid0.Coords) : BitVec 1 :=
  let arg1 : BitVec 32 := BitVec.ofNat 32 (i 1).val
  let c0_i32_7 : BitVec 32 := 0#32
  let v29 : BitVec 1 := Scalar.cmpi .sge arg1 c0_i32_7
  let c4_i32 : BitVec 32 := 4#32
  let v30 : BitVec 1 := Scalar.cmpi .slt arg1 c4_i32
  let v31 : BitVec 1 := Scalar.andi v29 v30
  let v32 : BitVec 32 := Scalar.extui v31
  let c0_i32_8 : BitVec 32 := 0#32
  let v33 : BitVec 1 := Scalar.cmpi .ne v32 c0_i32_8
  v33

def k0_cond5 (i : grid0.Coords) : BitVec 1 :=
  let arg1 : BitVec 32 := BitVec.ofNat 32 (i 1).val
  let c12_i32_9 : BitVec 32 := 12#32
  let v34 : BitVec 1 := Scalar.cmpi .sge arg1 c12_i32_9
  let c13_i32_10 : BitVec 32 := 13#32
  let v35 : BitVec 1 := Scalar.cmpi .slt arg1 c13_i32_10
  let v36 : BitVec 1 := Scalar.andi v34 v35
  let v37 : BitVec 32 := Scalar.extui v36
  let c0_i32_11 : BitVec 32 := 0#32
  let v38 : BitVec 1 := Scalar.cmpi .ne v37 c0_i32_11
  v38

def k0_cond6 (i : grid0.Coords) : BitVec 1 :=
  let arg1 : BitVec 32 := BitVec.ofNat 32 (i 1).val
  let c4_i32_12 : BitVec 32 := 4#32
  let v39 : BitVec 1 := Scalar.cmpi .sge arg1 c4_i32_12
  let c8_i32_13 : BitVec 32 := 8#32
  let v40 : BitVec 1 := Scalar.cmpi .slt arg1 c8_i32_13
  let v41 : BitVec 1 := Scalar.andi v39 v40
  let v42 : BitVec 32 := Scalar.extui v41
  let c0_i32_14 : BitVec 32 := 0#32
  let v43 : BitVec 1 := Scalar.cmpi .ne v42 c0_i32_14
  v43

def k0_cond7 (i : grid0.Coords) : BitVec 1 :=
  let arg1 : BitVec 32 := BitVec.ofNat 32 (i 1).val
  let c14_i32_15 : BitVec 32 := 14#32
  let v44 : BitVec 1 := Scalar.cmpi .sge arg1 c14_i32_15
  let c15_i32_16 : BitVec 32 := 15#32
  let v45 : BitVec 1 := Scalar.cmpi .slt arg1 c15_i32_16
  let v46 : BitVec 1 := Scalar.andi v44 v45
  let c16_i32_17 : BitVec 32 := 16#32
  let v47 : BitVec 1 := Scalar.cmpi .sge arg1 c16_i32_17
  let c17_i32_18 : BitVec 32 := 17#32
  let v48 : BitVec 1 := Scalar.cmpi .slt arg1 c17_i32_18
  let v49 : BitVec 1 := Scalar.andi v47 v48
  let v50 : BitVec 1 := Scalar.ori v46 v49
  let v51 : BitVec 32 := Scalar.extui v50
  let c0_i32_19 : BitVec 32 := 0#32
  let v52 : BitVec 1 := Scalar.cmpi .ne v51 c0_i32_19
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefSBIdeal.lean ====
abbrev S32x4x1024 : Shape := ⟨3, ![32, 4, 1024]⟩
abbrev S1024 : Shape := ⟨1, ![1024]⟩
abbrev S1024x3632 : Shape := ⟨2, ![1024, 3632]⟩
abbrev S64 : Shape := ⟨1, ![64]⟩
abbrev S4 : Shape := ⟨1, ![4]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x3632 : Shape := ⟨3, ![32, 4, 3632]⟩
abbrev S32x4x16x64 : Shape := ⟨4, ![32, 4, 16, 64]⟩
abbrev S32x4x16 : Shape := ⟨3, ![32, 4, 16]⟩
abbrev S32x4x16x1 : Shape := ⟨4, ![32, 4, 16, 1]⟩
abbrev S1x1x1x64 : Shape := ⟨4, ![1, 1, 1, 64]⟩
abbrev S32x4x256 : Shape := ⟨3, ![32, 4, 256]⟩
abbrev S32x4x4x64 : Shape := ⟨4, ![32, 4, 4, 64]⟩
abbrev S32x4x4 : Shape := ⟨3, ![32, 4, 4]⟩
abbrev S32x4x4x1 : Shape := ⟨4, ![32, 4, 4, 1]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S4x1x32 : Shape := ⟨3, ![4, 1, 32]⟩
abbrev S32x4x4x32 : Shape := ⟨4, ![32, 4, 4, 32]⟩
abbrev S1x4x1x32 : Shape := ⟨4, ![1, 4, 1, 32]⟩
abbrev S32x4x48 : Shape := ⟨3, ![32, 4, 48]⟩
abbrev S32x4x6x8 : Shape := ⟨4, ![32, 4, 6, 8]⟩
abbrev S32x4x6x128 : Shape := ⟨4, ![32, 4, 6, 128]⟩
abbrev S32x4x16x32 : Shape := ⟨4, ![32, 4, 16, 32]⟩
abbrev S32x4x768 : Shape := ⟨3, ![32, 4, 768]⟩
abbrev S32x4x5376 : Shape := ⟨3, ![32, 4, 5376]⟩
abbrev S128x5376 : Shape := ⟨2, ![128, 5376]⟩

abbrev nBuf : Space → Nat
  | .hbm => 228
  | .vmem => 0
  | .smem => 0
  | _ => 0

abbrev hbmTy0_0 (i : Nat) : BufTy := match i % 128 with
  | 0 => ⟨S32x4x1024, .f32⟩
  | 1 => ⟨S1024, .f32⟩
  | 2 => ⟨S1024x3632, .f32⟩
  | 3 => ⟨S64, .f32⟩
  | 4 => ⟨S64, .f32⟩
  | 5 => ⟨S4, .i32⟩
  | 6 => ⟨S_, .i32⟩
  | 7 => ⟨S4, .i32⟩
  | 8 => ⟨S4, .i32⟩
  | 9 => ⟨S32x4x1024, .f32⟩
  | 10 => ⟨S_, .f32⟩
  | 11 => ⟨S32x4, .f32⟩
  | 12 => ⟨S32x4x1, .f32⟩
  | 13 => ⟨S_, .f32⟩
  | 14 => ⟨S32x4x1, .f32⟩
  | 15 => ⟨S32x4x1, .f32⟩
  | 16 => ⟨S_, .f32⟩
  | 17 => ⟨S32x4x1, .f32⟩
  | 18 => ⟨S32x4x1, .f32⟩
  | 19 => ⟨S32x4x1, .f32⟩
  | 20 => ⟨S32x4x1024, .f32⟩
  | 21 => ⟨S32x4x1024, .f32⟩
  | 22 => ⟨S1x1x1024, .f32⟩
  | 23 => ⟨S32x4x1024, .f32⟩
  | 24 => ⟨S32x4x1024, .f32⟩
  | 25 => ⟨S32x4x3632, .f32⟩
  | 26 => ⟨S32x4x1024, .f32⟩
  | 27 => ⟨S32x4x16x64, .f32⟩
  | 28 => ⟨S32x4x16x64, .f32⟩
  | 29 => ⟨S_, .f32⟩
  | 30 => ⟨S32x4x16, .f32⟩
  | 31 => ⟨S32x4x16x1, .f32⟩
  | 32 => ⟨S_, .f32⟩
  | 33 => ⟨S32x4x16x1, .f32⟩
  | 34 => ⟨S32x4x16x1, .f32⟩
  | 35 => ⟨S_, .f32⟩
  | 36 => ⟨S32x4x16x1, .f32⟩
  | 37 => ⟨S32x4x16x1, .f32⟩
  | 38 => ⟨S32x4x16x1, .f32⟩
  | 39 => ⟨S32x4x16x64, .f32⟩
  | 40 => ⟨S32x4x16x64, .f32⟩
  | 41 => ⟨S1x1x1x64, .f32⟩
  | 42 => ⟨S32x4x16x64, .f32⟩
  | 43 => ⟨S32x4x16x64, .f32⟩
  | 44 => ⟨S32x4x256, .f32⟩
  | 45 => ⟨S32x4x256, .f32⟩
  | 46 => ⟨S32x4x256, .f32⟩
  | 47 => ⟨S32x4x256, .f32⟩
  | 48 => ⟨S32x4x256, .f32⟩
  | 49 => ⟨S32x4x256, .f32⟩
  | 50 => ⟨S32x4x4x64, .f32⟩
  | 51 => ⟨S32x4x4x64, .f32⟩
  | 52 => ⟨S_, .f32⟩
  | 53 => ⟨S32x4x4, .f32⟩
  | 54 => ⟨S32x4x4x1, .f32⟩
  | 55 => ⟨S_, .f32⟩
  | 56 => ⟨S32x4x4x1, .f32⟩
  | 57 => ⟨S32x4x4x1, .f32⟩
  | 58 => ⟨S_, .f32⟩
  | 59 => ⟨S32x4x4x1, .f32⟩
  | 60 => ⟨S32x4x4x1, .f32⟩
  | 61 => ⟨S32x4x4x1, .f32⟩
  | 62 => ⟨S32x4x4x64, .f32⟩
  | 63 => ⟨S32x4x4x64, .f32⟩
  | 64 => ⟨S1x1x1x64, .f32⟩
  | 65 => ⟨S32x4x4x64, .f32⟩
  | 66 => ⟨S32x4x4x64, .f32⟩
  | 67 => ⟨S32x4x4x64, .f32⟩
  | 68 => ⟨S32x4x4x64, .f32⟩
  | 69 => ⟨S_, .f32⟩
  | 70 => ⟨S32x4x4, .f32⟩
  | 71 => ⟨S32x4x4x1, .f32⟩
  | 72 => ⟨S_, .f32⟩
  | 73 => ⟨S32x4x4x1, .f32⟩
  | 74 => ⟨S32x4x4x1, .f32⟩
  | 75 => ⟨S_, .f32⟩
  | 76 => ⟨S32x4x4x1, .f32⟩
  | 77 => ⟨S32x4x4x1, .f32⟩
  | 78 => ⟨S32x4x4x1, .f32⟩
  | 79 => ⟨S32x4x4x64, .f32⟩
  | 80 => ⟨S32x4x4x64, .f32⟩
  | 81 => ⟨S1x1x1x64, .f32⟩
  | 82 => ⟨S32x4x4x64, .f32⟩
  | 83 => ⟨S32x4x4x64, .f32⟩
  | 84 => ⟨S32x4x4x64, .f32⟩
  | 85 => ⟨S32x4x4x64, .f32⟩
  | 86 => ⟨S_, .f32⟩
  | 87 => ⟨S32x4x4, .f32⟩
  | 88 => ⟨S32x4x4x1, .f32⟩
  | 89 => ⟨S_, .f32⟩
  | 90 => ⟨S32x4x4x1, .f32⟩
  | 91 => ⟨S32x4x4x1, .f32⟩
  | 92 => ⟨S_, .f32⟩
  | 93 => ⟨S32x4x4x1, .f32⟩
  | 94 => ⟨S32x4x4x1, .f32⟩
  | 95 => ⟨S32x4x4x1, .f32⟩
  | 96 => ⟨S32x4x4x64, .f32⟩
  | 97 => ⟨S32x4x4x64, .f32⟩
  | 98 => ⟨S1x1x1x64, .f32⟩
  | 99 => ⟨S32x4x4x64, .f32⟩
  | 100 => ⟨S32x4x4x64, .f32⟩
  | 101 => ⟨S32, .f32⟩
  | 102 => ⟨S32, .f32⟩
  | 103 => ⟨S_, .f32⟩
  | 104 => ⟨S32, .f32⟩
  | 105 => ⟨S32, .f32⟩
  | 106 => ⟨S_, .f32⟩
  | 107 => ⟨S32, .f32⟩
  | 108 => ⟨S32, .f32⟩
  | 109 => ⟨S4, .f32⟩
  | 110 => ⟨S4x1, .f32⟩
  | 111 => ⟨S1x32, .f32⟩
  | 112 => ⟨S4x32, .f32⟩
  | 113 => ⟨S4x32, .f32⟩
  | 114 => ⟨S4x32, .f32⟩
  | 115 => ⟨S4x32, .f32⟩
  | 116 => ⟨S4x1x32, .f32⟩
  | 117 => ⟨S4x32, .f32⟩
  | 118 => ⟨S4x1x32, .f32⟩
  | 119 => ⟨S32x4x4x32, .f32⟩
  | 120 => ⟨S32x4x4x32, .f32⟩
  | 121 => ⟨S1x4x1x32, .f32⟩
  | 122 => ⟨S32x4x4x32, .f32⟩
  | 123 => ⟨S32x4x4x32, .f32⟩
  | 124 => ⟨S1x4x1x32, .f32⟩
  | 125 => ⟨S32x4x4x32, .f32⟩
  | 126 => ⟨S32x4x4x32, .f32⟩
  | 127 => ⟨S32x4x4x32, .f32⟩
  | _ => ⟨S32x4x1024, .f32⟩

abbrev hbmTy0_1 (i : Nat) : BufTy := match i % 128 with
  | 0 => ⟨S1x4x1x32, .f32⟩
  | 1 => ⟨S32x4x4x32, .f32⟩
  | 2 => ⟨S32x4x4x32, .f32⟩
  | 3 => ⟨S1x4x1x32, .f32⟩
  | 4 => ⟨S32x4x4x32, .f32⟩
  | 5 => ⟨S32x4x4x32, .f32⟩
  | 6 => ⟨S32x4x4x32, .f32⟩
  | 7 => ⟨S32x4x4x64, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S4, .f32⟩
  | 17 => ⟨S4x1, .f32⟩
  | 18 => ⟨S1x32, .f32⟩
  | 19 => ⟨S4x32, .f32⟩
  | 20 => ⟨S4x32, .f32⟩
  | 21 => ⟨S4x32, .f32⟩
  | 22 => ⟨S4x32, .f32⟩
  | 23 => ⟨S4x1x32, .f32⟩
  | 24 => ⟨S4x32, .f32⟩
  | 25 => ⟨S4x1x32, .f32⟩
  | 26 => ⟨S32x4x4x32, .f32⟩
  | 27 => ⟨S32x4x4x32, .f32⟩
  | 28 => ⟨S1x4x1x32, .f32⟩
  | 29 => ⟨S32x4x4x32, .f32⟩
  | 30 => ⟨S32x4x4x32, .f32⟩
  | 31 => ⟨S1x4x1x32, .f32⟩
  | 32 => ⟨S32x4x4x32, .f32⟩
  | 33 => ⟨S32x4x4x32, .f32⟩
  | 34 => ⟨S32x4x4x32, .f32⟩
  | 35 => ⟨S1x4x1x32, .f32⟩
  | 36 => ⟨S32x4x4x32, .f32⟩
  | 37 => ⟨S32x4x4x32, .f32⟩
  | 38 => ⟨S1x4x1x32, .f32⟩
  | 39 => ⟨S32x4x4x32, .f32⟩
  | 40 => ⟨S32x4x4x32, .f32⟩
  | 41 => ⟨S32x4x4x32, .f32⟩
  | 42 => ⟨S32x4x4x64, .f32⟩
  | 43 => ⟨S32x4x48, .f32⟩
  | 44 => ⟨S32x4x48, .f32⟩
  | 45 => ⟨S32x4x48, .f32⟩
  | 46 => ⟨S_, .f32⟩
  | 47 => ⟨S32x4x48, .f32⟩
  | 48 => ⟨S32x4x48, .f32⟩
  | 49 => ⟨S_, .f32⟩
  | 50 => ⟨S32x4x48, .f32⟩
  | 51 => ⟨S32x4x48, .f32⟩
  | 52 => ⟨S32x4x6x8, .f32⟩
  | 53 => ⟨S_, .f32⟩
  | 54 => ⟨S_, .f32⟩
  | 55 => ⟨S32x4x6x128, .f32⟩
  | 56 => ⟨S32x4x1024, .f32⟩
  | 57 => ⟨S32x4x1024, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S4, .f32⟩
  | 67 => ⟨S4x1, .f32⟩
  | 68 => ⟨S1x32, .f32⟩
  | 69 => ⟨S4x32, .f32⟩
  | 70 => ⟨S4x32, .f32⟩
  | 71 => ⟨S4x32, .f32⟩
  | 72 => ⟨S4x32, .f32⟩
  | 73 => ⟨S4x1x32, .f32⟩
  | 74 => ⟨S4x32, .f32⟩
  | 75 => ⟨S4x1x32, .f32⟩
  | 76 => ⟨S32x4x16x32, .f32⟩
  | 77 => ⟨S32x4x16x32, .f32⟩
  | 78 => ⟨S1x4x1x32, .f32⟩
  | 79 => ⟨S32x4x16x32, .f32⟩
  | 80 => ⟨S32x4x16x32, .f32⟩
  | 81 => ⟨S1x4x1x32, .f32⟩
  | 82 => ⟨S32x4x16x32, .f32⟩
  | 83 => ⟨S32x4x16x32, .f32⟩
  | 84 => ⟨S32x4x16x32, .f32⟩
  | 85 => ⟨S1x4x1x32, .f32⟩
  | 86 => ⟨S32x4x16x32, .f32⟩
  | 87 => ⟨S32x4x16x32, .f32⟩
  | 88 => ⟨S1x4x1x32, .f32⟩
  | 89 => ⟨S32x4x16x32, .f32⟩
  | 90 => ⟨S32x4x16x32, .f32⟩
  | 91 => ⟨S32x4x16x32, .f32⟩
  | 92 => ⟨S32x4x16x64, .f32⟩
  | 93 => ⟨S32x4x1024, .f32⟩
  | 94 => ⟨S32x4x256, .f32⟩
  | 95 => ⟨S32x4x256, .f32⟩
  | 96 => ⟨S32x4x256, .f32⟩
  | 97 => ⟨S32x4x768, .f32⟩
  | 98 => ⟨S32x4x5376, .f32⟩
  | 99 => ⟨S128x5376, .f32⟩
  | _ => ⟨S32x4x1024, .f32⟩

abbrev hbmTy (i : Nat) : BufTy := match i / 128 with
  | 0 => hbmTy0_0 i
  | 1 => hbmTy0_1 i
  | _ => ⟨S32x4x1024, .f32⟩

abbrev bufTy : (tb : Table) → Fin (tcTables nBuf tb) → BufTy
  | .hbm, ⟨i, _⟩ => hbmTy i
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_cst_10 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_11 : Ref sig .tc := ⟨.hbm, 86, rfl⟩
abbrev main_v68 : Ref sig .tc := ⟨.hbm, 87, rfl⟩
abbrev main_v69 : Ref sig .tc := ⟨.hbm, 88, rfl⟩
abbrev main_cst_12 : Ref sig .tc := ⟨.hbm, 89, rfl⟩
abbrev main_v70 : Ref sig .tc := ⟨.hbm, 90, rfl⟩
abbrev main_v71 : Ref sig .tc := ⟨.hbm, 91, rfl⟩
abbrev main_cst_13 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_14 : Ref sig .tc := ⟨.hbm, 103, rfl⟩
abbrev main_v82 : Ref sig .tc := ⟨.hbm, 104, rfl⟩
abbrev main_v83 : Ref sig .tc := ⟨.hbm, 105, rfl⟩
abbrev main_cst_15 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_cst_16 : Ref sig .tc := ⟨.hbm, 138, rfl⟩
abbrev main_v115 : Ref sig .tc := ⟨.hbm, 139, rfl⟩
abbrev main_v116 : Ref sig .tc := ⟨.hbm, 140, rfl⟩
abbrev main_cst_17 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_cst_18 : Ref sig .tc := ⟨.hbm, 174, rfl⟩
abbrev main_v149 : Ref sig .tc := ⟨.hbm, 175, rfl⟩
abbrev main_v150 : Ref sig .tc := ⟨.hbm, 176, rfl⟩
abbrev main_cst_19 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_cst_20 : Ref sig .tc := ⟨.hbm, 181, rfl⟩
abbrev main_call0_v0 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_cst_21 : Ref sig .tc := ⟨.hbm, 188, rfl⟩
abbrev main_v159 : Ref sig .tc := ⟨.hbm, 189, rfl⟩
abbrev main_v160 : Ref sig .tc := ⟨.hbm, 190, rfl⟩
abbrev main_cst_22 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩
abbrev main_v185 : Ref sig .tc := ⟨.hbm, 216, rfl⟩
abbrev main_v186 : Ref sig .tc := ⟨.hbm, 217, rfl⟩
abbrev main_v187 : Ref sig .tc := ⟨.hbm, 218, rfl⟩
abbrev main_v188 : Ref sig .tc := ⟨.hbm, 219, rfl⟩
abbrev main_v189 : Ref sig .tc := ⟨.hbm, 220, rfl⟩
abbrev main_v190 : Ref sig .tc := ⟨.hbm, 221, rfl⟩
abbrev main_v191 : Ref sig .tc := ⟨.hbm, 222, rfl⟩
abbrev main_v192 : Ref sig .tc := ⟨.hbm, 223, rfl⟩
abbrev main_v193 : Ref sig .tc := ⟨.hbm, 224, rfl⟩
abbrev main_v194 : Ref sig .tc := ⟨.hbm, 225, rfl⟩
abbrev main_v195 : Ref sig .tc := ⟨.hbm, 226, rfl⟩
abbrev main_v196 : Ref sig .tc := ⟨.hbm, 227, rfl⟩

abbrev nD : Nat := 1
abbrev τ : Topo := Topo.v7x

variable {F : FTy → Type} [FloatOps F]
-- ==== SMergeB.lean ====
abbrev S128x1024 : Shape := ⟨2, ![128, 1024]⟩
abbrev S128x5376 : Shape := ⟨2, ![128, 5376]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x5376, .f32⟩
  | .hbm, ⟨4, _⟩ => ⟨S128x1024, .f32⟩
  | .hbm, ⟨5, _⟩ => ⟨S1024x1024, .f32⟩
  | .hbm, ⟨6, _⟩ => ⟨S1024x1024, .bf16⟩
  | .hbm, ⟨7, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S1024x1024, .bf16⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefSMBIdeal.lean ====
abbrev S128x1024 : Shape := ⟨2, ![128, 1024]⟩
abbrev S128x5376 : Shape := ⟨2, ![128, 5376]⟩
abbrev S1024x1024 : Shape := ⟨2, ![1024, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x5376, .f32⟩
  | .hbm, ⟨4, _⟩ => ⟨S128x1024, .f32⟩
  | .hbm, ⟨5, _⟩ => ⟨S1024x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩

abbrev nD : Nat := 1
abbrev τ : Topo := Topo.v7x

variable {F : FTy → Type} [FloatOps F]
-- ==== Proof.CmpMath.lean ====
/-
  The mathematics of one row of the compressed attention over the extended reals, free of both programs: the two
  spellings of the guarded softmax are one function, a masked last entry takes no part in it, and a sum over 128 lanes
  of which one half holds zeros is the sum over the other half.
-/
module

public import Idealize.ShloMosaic.Lib.Pointwise

@[expose] public section

noncomputable section

namespace Cert.Attn

open Idealize.ShloMosaic

/-- Two reads of a vector at indices whose coordinates are equal numbers. -/
theorem at2 {α : Type} {n0 n1 : ℕ} (x : (⟨2, ![n0, n1]⟩ : Shape).Idx → α) {a a' : Fin n0} {b b' : Fin n1}
    (ha : a.val = a'.val) (hb : b.val = b'.val) : x (ix2 a b) = x (ix2 a' b') := by
  rw [Fin.ext ha, Fin.ext hb]

theorem at3 {α : Type} {n0 n1 n2 : ℕ} (x : (⟨3, ![n0, n1, n2]⟩ : Shape).Idx → α) {a a' : Fin n0} {b b' : Fin n1}
    {c c' : Fin n2} (ha : a.val = a'.val) (hb : b.val = b'.val) (hc : c.val = c'.val) :
    x (ix3 a b c) = x (ix3 a' b' c') := by
  rw [Fin.ext ha, Fin.ext hb, Fin.ext hc]

theorem at4 {α : Type} {n0 n1 n2 n3 : ℕ} (x : (⟨4, ![n0, n1, n2, n3]⟩ : Shape).Idx → α) {a a' : Fin n0} {b b' : Fin n1}
    {c c' : Fin n2} {d d' : Fin n3} (ha : a.val = a'.val) (hb : b.val = b'.val) (hc : c.val = c'.val) (hd : d.val = d'.val) :
    x (ix4 a b c d) = x (ix4 a' b' c' d') := by
  rw [Fin.ext ha, Fin.ext hb, Fin.ext hc, Fin.ext hd]

/-- The greatest entry of a row, from −∞. -/
def rowMax {n : ℕ} (s : Fin n → EReal) : EReal := Finset.univ.fold max ⊥ s

/-- A softmax weight with a given shift `m` and a floor `t` under the denominator. -/
def wt {n : ℕ} (t m : EReal) (s : Fin n → EReal) (c : Fin n) : EReal :=
  Ideal.div (Ideal.exp (s c - m)) (max (∑ x, Ideal.exp (s x - m)) t)

/-- The kernel's shift: the row's maximum unless that is −∞. -/
def shiftK (m : EReal) : EReal := if ⊥ < m then m else 0

/-- The reference's shift: the row's maximum if that is finite. -/
def shiftR (m : EReal) : EReal := if max m (-m) < ⊤ then m else 0

theorem le_rowMax {n : ℕ} (s : Fin n → EReal) (c : Fin n) : s c ≤ rowMax s := by
  unfold rowMax
  rw [Finset.le_fold_max]
  exact Or.inr ⟨c, Finset.mem_univ c, le_rfl⟩

theorem exp_nonneg (x : EReal) : 0 ≤ Ideal.exp x := by
  induction x using EReal.rec with
  | bot => exact le_rfl
  | top => exact le_top
  | coe r => exact EReal.coe_nonneg.mpr (Real.exp_pos r).le

theorem exp_bot : Ideal.exp ⊥ = 0 := rfl
theorem exp_top : Ideal.exp ⊤ = ⊤ := rfl

theorem div_top (x : EReal) : Ideal.div x ⊤ = 0 := by simp [Ideal.div]

theorem div_zero_left {t : EReal} (ht : 0 < t) : Ideal.div 0 t = 0 := by
  simp [Ideal.div, ht.ne']

/-- THE TWO SHIFTS GIVE ONE WEIGHT: they differ only where the row's maximum is +∞, and there both weights are 0
    (the kernel's numerator is `exp (s − ∞) = 0`, the reference's denominator is +∞). -/
theorem wt_shift {n : ℕ} (t : EReal) (ht : 0 < t) (s : Fin n → EReal) (c : Fin n) :
    wt t (shiftK (rowMax s)) s c = wt t (shiftR (rowMax s)) s c := by
  rcases eq_or_ne (rowMax s) ⊤ with h | h
  · have hk : shiftK (rowMax s) = ⊤ := by simp [shiftK, h]
    have hr : shiftR (rowMax s) = 0 := by simp [shiftR, h]
    rw [hk, hr]
    obtain ⟨x, hx⟩ : ∃ x, s x = ⊤ := by
      have : ⊤ ≤ rowMax s := h.ge
      unfold rowMax at this
      rw [Finset.le_fold_max] at this
      rcases this with h' | ⟨x, _, hx⟩
      · exact absurd h' (by simp)
      · exact ⟨x, top_le_iff.mp hx⟩
    have hden : (∑ x, Ideal.exp (s x - 0)) = ⊤ := by
      apply top_le_iff.mp
      calc (⊤ : EReal) = Ideal.exp (s x - 0) := by rw [hx]; simp [exp_top]
        _ ≤ ∑ x, Ideal.exp (s x - 0) :=
          Finset.single_le_sum (f := fun x => Ideal.exp (s x - 0)) (fun i _ => exp_nonneg _) (Finset.mem_univ x)
    have hnum : ∀ y, Ideal.exp (s y - ⊤) = 0 := fun y => by
      rw [show s y - ⊤ = ⊥ from by simp [sub_eq_add_neg], exp_bot]
    unfold wt
    rw [hden, max_eq_left le_top, div_top]
    simp only [hnum, Finset.sum_const_zero, max_eq_right ht.le, div_zero_left ht]
  · have e : shiftK (rowMax s) = shiftR (rowMax s) := by
      rcases eq_or_ne (rowMax s) ⊥ with h' | h'
      · simp [shiftK, shiftR, h']
      · have h1 : ⊥ < rowMax s := bot_lt_iff_ne_bot.mpr h'
        have h2 : max (rowMax s) (-rowMax s) < ⊤ := by
          refine max_lt (lt_top_iff_ne_top.mpr h) (lt_top_iff_ne_top.mpr ?_)
          rwa [Ne, EReal.neg_eq_top_iff]
        simp [shiftK, shiftR, h1, h2]
    rw [e]

/-- A last entry that is −∞ changes no weight of the others. -/
theorem rowMax_castSucc {n : ℕ} (s : Fin (n + 1) → EReal) (h : s (Fin.last n) = ⊥) :
    rowMax s = rowMax fun c : Fin n => s c.castSucc := by
  unfold rowMax
  rw [Fin.univ_castSuccEmb, Finset.fold_cons, h, Finset.fold_map]
  simp only [bot_le, max_eq_right]
  rfl

theorem wt_castSucc {n : ℕ} (t m : EReal) (hm : m ≠ ⊥) (s : Fin (n + 1) → EReal) (h : s (Fin.last n) = ⊥) (c : Fin n) :
    wt t m s c.castSucc = wt t m (fun c : Fin n => s c.castSucc) c := by
  unfold wt
  rw [Fin.sum_univ_castSucc, h]
  simp [exp_bot, sub_eq_add_neg, EReal.bot_add]

theorem wt_last {n : ℕ} (t m : EReal) (ht : 0 < t) (s : Fin (n + 1) → EReal) (h : s (Fin.last n) = ⊥) :
    wt t m s (Fin.last n) = 0 := by
  unfold wt
  rw [h, show (⊥ : EReal) - m = ⊥ from by simp [sub_eq_add_neg, EReal.bot_add], exp_bot]
  exact div_zero_left (lt_of_lt_of_le ht (le_max_right _ _))

/-- The kernel's weighted sum over `n + 1` chunks of which the last is masked is the reference's over `n`. -/
theorem sum_wt {n : ℕ} (t : EReal) (ht : 0 < t) (s : Fin (n + 1) → EReal) (h : s (Fin.last n) = ⊥) (v : Fin (n + 1) → EReal) :
    ∑ c, wt t (shiftK (rowMax s)) s c * v c
      = ∑ c : Fin n, wt t (shiftR (rowMax fun c : Fin n => s c.castSucc)) (fun c : Fin n => s c.castSucc) c * v c.castSucc := by
  have hm : shiftK (rowMax s) ≠ ⊥ := by
    unfold shiftK
    split_ifs with h'
    · exact h'.ne'
    · exact EReal.zero_ne_bot
  rw [Fin.sum_univ_castSucc, wt_last t _ ht s h, zero_mul, add_zero]
  refine Finset.sum_congr rfl fun c _ => ?_
  rw [wt_castSucc t _ hm s h, rowMax_castSucc s h, wt_shift t ht]

/-- 128 lanes of which the upper half hold zeros. -/
theorem sum_low (f g : Fin 128 → EReal) :
    (∑ x : Fin 128, (if x.val < 64 then f x else 0) * g x)
      = ∑ d : Fin 64, f ⟨d.val, by omega⟩ * g ⟨d.val, by omega⟩ := by
  refine (Fin.sum_univ_add (a := 64) (b := 64) fun x : Fin 128 => (if x.val < 64 then f x else 0) * g x).trans ?_
  simp [Fin.castAdd, Fin.castLE]

/-- 128 lanes of which the lower half hold zeros. -/
theorem sum_high (f g : Fin 128 → EReal) :
    (∑ x : Fin 128, (if x.val < 64 then 0 else f x) * g x)
      = ∑ d : Fin 64, f ⟨64 + d.val, by omega⟩ * g ⟨64 + d.val, by omega⟩ := by
  refine (Fin.sum_univ_add (a := 64) (b := 64) fun x : Fin 128 => (if x.val < 64 then 0 else f x) * g x).trans ?_
  simp [Fin.natAdd]

/-- A positive real factor moves out of a sum of extended reals. -/
theorem sum_mul_coe {ι : Type*} (S : Finset ι) (f : ι → EReal) (r : ℝ) (hr : 0 ≤ r) :
    ∑ i ∈ S, f i * (r : EReal) = (∑ i ∈ S, f i) * (r : EReal) := by
  classical
  induction S using Finset.induction_on with
  | empty => simp
  | insert a S ha ih =>
    rw [Finset.sum_insert ha, Finset.sum_insert ha, ih,
      EReal.right_distrib_of_nonneg_of_ne_top (EReal.coe_nonneg.mpr hr) (EReal.coe_ne_top r)]

theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]

/-- The printed word of `1/8`. -/
theorem ofBits_eighth : Ideal.ofBits .f32 0x3E000000#32 = ((1 / 8 : ℝ) : EReal) := by
  simp [Ideal.ofBits, Ideal.ieee, -EReal.coe_mul]; norm_num

/-- The floor under the denominator is positive. -/
theorem tiny_pos : 0 < Ideal.ofBits .f32 0x0DA24260#32 := by
  simp [Ideal.ofBits, Ideal.ieee, -EReal.coe_mul]

end Cert.Attn

end
-- ==== Proof.CmpBody.lean ====
/-
  The compressed attention's body at one grid point, read at an index of the block it stores: head `l / 64` of the
  pair, its lane `l % 64`.
-/
module

public import proofs.«01_k».proof.Proof.Gen.KernelIdeal.Skeleton
public import proofs.«01_k».proof.Proof.CmpMath
public import Idealize.ShloMosaic.Lib.WordCmp

@[expose] public section

set_option maxRecDepth 16384

noncomputable section

namespace Cert.KernelIdeal.Cmp

open Cert.KernelIdeal Cert.KernelIdeal.Gen Idealize.ShloMosaic Idealize.ShloMosaic.WordCmp Idealize.SL.Sem Cert.Attn

theorem sel_low {α : Type} (x : Fin 128) (a b : α) :
    Scalar.select (IntOp.cmpi .slt (BitVec.ofNat 32 x.val) 64#32) a b = if x.val < 64 then a else b := by
  have h : ∀ x : Fin 128, IntOp.cmpi .slt (BitVec.ofNat 32 x.val) 64#32 = if x.val < 64 then 1#1 else 0#1 := by
    decide +kernel
  rw [h]
  split_ifs <;> simp [Scalar.select]

theorem sel_low' {α : Type} (x : ℕ) (hx : x < 128) (a b : α) :
    Scalar.select (IntOp.cmpi .slt (BitVec.ofNat 32 x) 64#32) a b = if x < 64 then a else b :=
  sel_low ⟨x, hx⟩ a b

theorem sel_high {α : Type} (x : Fin 128) (a b : α) :
    Scalar.select (IntOp.xori (IntOp.cmpi .slt (BitVec.ofNat 32 x.val) 64#32) 1#1) a b = if x.val < 64 then b else a := by
  have h : ∀ x : Fin 128, IntOp.xori (IntOp.cmpi .slt (BitVec.ofNat 32 x.val) 64#32) 1#1 = if x.val < 64 then 0#1 else 1#1 := by
    decide +kernel
  rw [h]
  split_ifs <;> simp [Scalar.select]

/-- The masked score of row `r` of the stacked heads (head `r / 128`) against chunk `c`, before the mask. -/
def score (x0 : Vec Ideal S1x128x512 .f32) (x1 : Vec Ideal S1x1x256x128 .f32) (r : Fin 1024) (c : Fin 256) : EReal :=
  ∑ d : Fin 64, x0 (ix3 0 ⟨r.val % 128, by omega⟩ ⟨64 * (r.val / 128) + d.val, by omega⟩)
    * Ideal.ofBits .f32 0x3E000000#32 * x1 (ix4 0 0 c ⟨64 * (r.val / 512) + d.val, by omega⟩)

set_option maxHeartbeats 4000000 in
theorem read14 (x0 : Vec Ideal S1x128x512 .f32) (x1 : Vec Ideal S1x1x256x128 .f32) (r : Fin 1024) (c : Fin 256) :
    k0_pay14 (k0_pay3 x0) k0_pay4 (k0_pay5 x0) (k0_pay6 x0) (k0_pay7 x0) (k0_pay8 x0) (k0_pay9 x0) (k0_pay10 x0)
      k0_pay11 k0_pay12 x1 (ix2 r c) = score x0 x1 r c := by
  pointwise [k0_pay14, k0_pay3, k0_pay4, k0_pay5, k0_pay6, k0_pay7, k0_pay8, k0_pay9, k0_pay10, k0_pay11, k0_pay12]
  simp only [sel_low, sel_high]
  unfold score
  have term : ∀ (a a' : Fin 128) (b b' : Fin 512) (e e' : Fin 128), a.val = a'.val → b.val = b'.val → e.val = e'.val →
      x0 (ix3 0 a b) * Ideal.ofBits .f32 0x3E000000#32 * x1 (ix4 0 0 c e)
        = x0 (ix3 0 a' b') * Ideal.ofBits .f32 0x3E000000#32 * x1 (ix4 0 0 c e') := fun a a' b b' e e' h1 h2 h3 => by
    rw [Fin.ext h1, Fin.ext h2, Fin.ext h3]
  have hr := r.isLt
  split_ifs
  all_goals
    first
    | rw [sum_low]
    | rw [sum_high]
  all_goals
    refine Finset.sum_congr rfl fun d _ => ?_
    have hd := d.isLt
    apply term <;> dsimp only <;> omega

theorem read15 (i : Fin 32) (r : Fin 1024) (c : Fin 256) :
    k0_pay15 (BitVec.ofNat 32 i.val) (ix2 r c)
      = if 16 * c.val + 31 ≤ 128 * i.val + r.val % 128 then 1#1 else 0#1 := by
  pointwise [k0_pay15]
  have h : IntOp.andi (BitVec.ofNat 32 r.val) 127#32 = BitVec.ofNat 32 (r.val % 128) := by
    revert r; decide +kernel
  rw [h]
  have h1 : IntOp.addi (IntOp.muli (BitVec.ofNat 32 c.val) 16#32) 31#32 = BitVec.ofNat 32 (16 * c.val + 31) := by
    revert c; decide +kernel
  have h2 : IntOp.addi (Scalar.addi (0#32) (Scalar.muli (BitVec.ofNat 32 i.val) 128#32)) (BitVec.ofNat 32 (r.val % 128))
      = BitVec.ofNat 32 (128 * i.val + r.val % 128) := by
    have : Scalar.addi (0#32) (Scalar.muli (BitVec.ofNat 32 i.val) 128#32) = BitVec.ofNat 32 (128 * i.val) := by
      revert i; decide +kernel
    rw [this]
    exact (BitVec.ofNat_add ..).symm
  rw [h1, h2, cmpi_sle_ofNat (by omega) (by omega)]
  split_ifs with h <;> simp [h]

/-- The row of masked scores. -/
def mscore (x0 : Vec Ideal S1x128x512 .f32) (x1 : Vec Ideal S1x1x256x128 .f32) (i : Fin 32) (r : Fin 1024) (c : Fin 256) :
    EReal :=
  if 16 * c.val + 31 ≤ 128 * i.val + r.val % 128 then score x0 x1 r c else ⊥

theorem read16 (v61 : FVec Ideal S1024x256 .f32) (v74 : IVec S1024x256 1) (s : Fin 1024 → Fin 256 → EReal)
    (hs : ∀ r c, Scalar.select (v74 (ix2 r c)) (v61 (ix2 r c)) ⊥ = s r c) (r : Fin 1024) (c : Fin 256) :
    k0_pay16 v61 v74 (ix2 r c) = wt (Ideal.ofBits .f32 0x0DA24260#32) (shiftK (rowMax (s r))) (s r) c := by
  pointwise [k0_pay16, multiReduction_maximumf_eq_fold]
  simp only [ofBits_neg_inf, hs]
  rfl

theorem read17 (v60 : FVec Ideal S256x128 .bf16) (v61 : FVec Ideal S1024x256 .f32) (v74 : IVec S1024x256 1)
    (r : Fin 1024) (l : Fin 128) :
    k0_pay17 v60 v61 v74 (ix2 r l) = ∑ c : Fin 256, k0_pay16 v61 v74 (ix2 r c) * v60 (ix2 c l) := by
  pointwise [k0_pay17]

theorem cat8 (f : Fin 8 → FVec Ideal S128x128 .f32)
    (h : Shape.Concatenates ((List.ofFn fun n : Fin 8 => (⟨S128x128, f n⟩ : (s : Shape) × (s.Idx → EReal))).map (·.1)) S1024x128 0)
    (r : Fin 1024) (l : Fin 128) :
    concatenate S1024x128 0 (List.ofFn fun n : Fin 8 => (⟨S128x128, f n⟩ : (s : Shape) × (s.Idx → EReal))) h (ix2 r l)
      = f ⟨r.val / 128, by omega⟩ (ix2 ⟨r.val % 128, by omega⟩ l) :=
  concatenate_ofFn_apply 0 f h rfl 128 rfl (ix2 r l) ⟨r.val / 128, by omega⟩ rfl _ rfl
    (fun b hb => match b with
      | ⟨0, _⟩ => absurd rfl hb
      | ⟨1, _⟩ => rfl)

theorem read27 (v1 v2 v3 v4 v5 v6 v7 v8 v9 : FVec Ideal S128x128 .f32) (r : Fin 128) (l : Fin 512) :
    k0_pay27 v1 v2 v3 v4 v5 v6 v7 v8 v9 (ix3 0 r l)
      = ![v2, v3, v4, v5, v6, v7, v8, mulf v9 (fun j => v1 (ix2 (j 0) 7))] ⟨l.val / 64, by omega⟩
          (ix2 r ⟨64 * (l.val / 256) + l.val % 64, by omega⟩) := by
  unfold k0_pay27
  dsimp only
  have hw : ∀ (R : Fin 1024) (L : Fin 128), concatenate S1024x128 0
      [⟨S128x128, v2⟩, ⟨S128x128, v3⟩, ⟨S128x128, v4⟩, ⟨S128x128, v5⟩, ⟨S128x128, v6⟩, ⟨S128x128, v7⟩, ⟨S128x128, v8⟩,
        ⟨S128x128, mulf v9 (broadcastTo S128x128 (extractStridedSlice S128x1 ![0, 7] v1 slices_S128x128_o0_7_S128x1)
          broadcasts_S128x1_S128x128)⟩]
      concatenates_S128x128_S128x128_S128x128_S128x128_S128x128_S128x128_S128x128_S128x128_S1024x128_d0 (ix2 R L)
      = ![v2, v3, v4, v5, v6, v7, v8, mulf v9 (fun j => v1 (ix2 (j 0) 7))] ⟨R.val / 128, by omega⟩
          (ix2 ⟨R.val % 128, by omega⟩ L) := by
    intro R L
    have e : broadcastTo S128x128 (extractStridedSlice S128x1 ![0, 7] v1 slices_S128x128_o0_7_S128x1)
          broadcasts_S128x1_S128x128 = fun j => v1 (ix2 (j 0) 7) := by
      funext j
      pointwise
    rw [e]
    exact cat8 ![v2, v3, v4, v5, v6, v7, v8, mulf v9 (fun j => v1 (ix2 (j 0) 7))] _ R L
  generalize concatenate S1024x128 0 _ _ = w at hw ⊢
  generalize ![v2, v3, v4, v5, v6, v7, v8, mulf v9 (fun j => v1 (ix2 (j 0) 7))] = f at hw ⊢
  have piece : ∀ (a a' : Fin 8) (b b' e e' : Fin 128), a.val = a'.val → b.val = b'.val → e.val = e'.val →
      f a (ix2 b e) = f a' (ix2 b' e') := fun a a' b b' e e' h1 h2 h3 => by
    rw [Fin.ext h1, Fin.ext h2, Fin.ext h3]
  have hr := r.isLt
  have hl := l.isLt
  pointwise
  simp only [hw]
  split_ifs <;> first
    | omega
    | (rw [sel_low' _ (by omega)]
       split_ifs <;> (apply piece <;> dsimp only <;> omega))

end Cert.KernelIdeal.Cmp

end
-- ==== Proof.CmpOpen.lean ====
/-
  The block of attention outputs one grid point of the compressed attention stores, as the body's own chain of vector
  expressions of its input blocks.
-/
module

public import proofs.«01_k».proof.Proof.Gen.KernelIdeal.Value
public import proofs.«01_k».proof.Proof.CmpBody
public import Idealize.ShloMosaic.Lib.Tactic

@[expose] public section

set_option maxRecDepth 16384

noncomputable section

namespace Cert.KernelIdeal.Cmp

open Cert.KernelIdeal Cert.KernelIdeal.Gen Idealize.ShloMosaic Idealize.ShloMosaic.TcCoe Idealize.SL.Sem Cert.Attn

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The scores of the block: eight heads of 128 positions each, against the 256 chunks. -/
def bScore (x0 : Vec Ideal S1x128x512 .f32) (x1 : Vec Ideal S1x1x256x128 .f32) : Vec Ideal S1024x256 .f32 :=
  k0_pay14 (k0_pay3 x0) k0_pay4 (k0_pay5 x0) (k0_pay6 x0) (k0_pay7 x0) (k0_pay8 x0) (k0_pay9 x0) (k0_pay10 x0)
    k0_pay11 k0_pay12 x1

/-- The block of gated outputs from the values `v`, scores `s`, mask `b` and gates `x4`. -/
def bOut (v : Vec Ideal S256x128 .bf16) (s : Vec Ideal S1024x256 .f32) (b : Vec Ideal S1024x256 .i1)
    (x4 : Vec Ideal S1x128x128 .f32) : Vec Ideal S1x128x512 .f32 :=
  k0_pay27 (k0_pay18 x4) (k0_pay19 v s b x4) (k0_pay20 v s b x4) (k0_pay21 v s b x4) (k0_pay22 v s b x4)
    (k0_pay23 v s b x4) (k0_pay24 v s b x4) (k0_pay25 v s b x4) (k0_pay26 v s b)

theorem out5_eq (c : Dev nD) (i : grid0.Coords) (a3 : Memref sig .tc .vmem S1x128x512 .f32) (h3 : a3.IsWhole)
    (a4 : Memref sig .tc .vmem S1x1x256x128 .f32) (h4 : a4.IsWhole) (a5 : Memref sig .tc .vmem S1x1x256x128 .f32)
    (h5 : a5.IsWhole) (a6 : Memref sig .tc .vmem S64x256 .bf16) (h6 : a6.IsWhole)
    (a7 : Memref sig .tc .vmem S1x128x128 .f32) (h7 : a7.IsWhole) (a8 : Memref sig .tc .vmem S1x128x512 .f32)
    (h8 : a8.IsWhole) (a9 : Memref sig .tc .vmem S1x2x64x128 .f32) (h9 : a9.IsWhole)
    (a10 : Memref sig .tc .vmem S1x2x24x128 .i32) (h10 : a10.IsWhole)
    (x0 : Vec Ideal S1x128x512 .f32) (x1 x2 : Vec Ideal S1x1x256x128 .f32) (x3 : Vec Ideal S64x256 .bf16)
    (x4 : Vec Ideal S1x128x128 .f32) :
    out0_A_5 c i a3 h3 a4 h4 a5 h5 a6 h6 a7 h7 a8 h8 a9 h9 a10 h10 x0 x1 x2 x3 x4
      = bOut (k0_pay13 x2) (bScore x0 x1) (k0_pay15 (BitVec.ofNat 32 (i 2).val)) x4 := by
  unfold out0_A_5
  rw [View.read_writes_eq_canon _ _ _
    (cover0_A_5 c i a3 h3 a4 h4 a5 h5 a6 h6 a7 h7 a8 h8 a9 h9 a10 h10 x0 x1 x2 x3 x4)]
  unfold kernelRun0_A
  dsimp only
  sl_unfold_words
  rw [View.canon_unit_zero hz3]
  simp only [View.readAt_eq_ld, h3.read_unread, h4.read_unread, h5.read_unread, h7.read_unread,
    View.ld_unit_zero (S := S1x128x512) hz3, View.ld_unit_zero (S := S1x1x256x128) hz4,
    View.ld_unit_zero (S := S1x128x128) hz3]
  rfl

end Cert.KernelIdeal.Cmp

end
-- ==== Proof.CmpBlock.lean ====
/-
  One grid point's block of gated attention outputs, read at an index.
-/
module

public import proofs.«01_k».proof.Proof.CmpOpen

@[expose] public section

set_option maxRecDepth 16384

noncomputable section

namespace Cert.KernelIdeal.Cmp

open Cert.KernelIdeal Cert.KernelIdeal.Gen Idealize.ShloMosaic Idealize.ShloMosaic.TcCoe Idealize.SL.Sem Cert.Attn

/-- The gated piece of head `j` of the block at position `r`: its rows of the product, times the gate of the head. -/
theorem piece (v : Vec Ideal S256x128 .bf16) (s : Vec Ideal S1024x256 .f32) (b : Vec Ideal S1024x256 .i1)
    (x4 : Vec Ideal S1x128x128 .f32) (j : Fin 8) (r l : Fin 128) :
    ![k0_pay19 v s b x4, k0_pay20 v s b x4, k0_pay21 v s b x4, k0_pay22 v s b x4, k0_pay23 v s b x4,
      k0_pay24 v s b x4, k0_pay25 v s b x4,
      mulf (k0_pay26 v s b) (fun i : S128x128.Idx => k0_pay18 x4 (ix2 (i 0) (7 : Fin 128)))] j (ix2 r l)
      = k0_pay17 v s b (ix2 ⟨128 * j.val + r.val, by omega⟩ l) * x4 (ix3 0 r ⟨j.val, by omega⟩) := by
  have h0 : ∀ h : 128 * 0 + r.val < 1024, (⟨128 * 0 + r.val, h⟩ : Fin 1024) = ⟨r.val, by omega⟩ :=
    fun h => Fin.ext (by dsimp only; omega)
  fin_cases j
  · show k0_pay19 v s b x4 (ix2 r l) = _
    pointwise [k0_pay19, k0_pay18]
  · show k0_pay20 v s b x4 (ix2 r l) = _
    pointwise [k0_pay20, k0_pay18]
  · show k0_pay21 v s b x4 (ix2 r l) = _
    pointwise [k0_pay21, k0_pay18]
  · show k0_pay22 v s b x4 (ix2 r l) = _
    pointwise [k0_pay22, k0_pay18]
  · show k0_pay23 v s b x4 (ix2 r l) = _
    pointwise [k0_pay23, k0_pay18]
  · show k0_pay24 v s b x4 (ix2 r l) = _
    pointwise [k0_pay24, k0_pay18]
  · show k0_pay25 v s b x4 (ix2 r l) = _
    pointwise [k0_pay25, k0_pay18]
  · show k0_pay26 v s b (ix2 r l) * k0_pay18 x4 (ix2 r (7 : Fin 128)) = _
    pointwise [k0_pay26, k0_pay18]

/-- The row of the block's 1024 that holds lane `l`'s head at position `r`. -/
def rowOf (r : Fin 128) (l : Fin 512) : Fin 1024 := ⟨128 * (l.val / 64) + r.val, by omega⟩

/-- The masked scores of that row: position `128 i + r` sees chunk `c` once the chunk has ended. -/
def brow (x0 : Vec Ideal S1x128x512 .f32) (x1 : Vec Ideal S1x1x256x128 .f32) (i : Fin 32) (r : Fin 128) (l : Fin 512)
    (c : Fin 256) : EReal :=
  if 16 * c.val + 31 ≤ 128 * i.val + r.val then
    ∑ d : Fin 64, x0 (ix3 0 r ⟨64 * (l.val / 64) + d.val, by omega⟩) * Ideal.ofBits .f32 0x3E000000#32
      * x1 (ix4 0 0 c ⟨64 * (l.val / 256) + d.val, by omega⟩)
  else ⊥

theorem brow_eq (x0 : Vec Ideal S1x128x512 .f32) (x1 : Vec Ideal S1x1x256x128 .f32) (i : Fin 32) (r : Fin 128)
    (l : Fin 512) (c : Fin 256) :
    Scalar.select (k0_pay15 (BitVec.ofNat 32 i.val) (ix2 (rowOf r l) c)) (bScore x0 x1 (ix2 (rowOf r l) c)) ⊥
      = brow x0 x1 i r l c := by
  rw [read15]
  have hr : (rowOf r l).val % 128 = r.val := by show (128 * (l.val / 64) + r.val) % 128 = _; omega
  have hq : (rowOf r l).val / 128 = l.val / 64 := by show (128 * (l.val / 64) + r.val) / 128 = _; omega
  have hk : (rowOf r l).val / 512 = l.val / 256 := by show (128 * (l.val / 64) + r.val) / 512 = _; omega
  unfold brow
  rw [hr]
  split_ifs with h
  · show Scalar.select 1#1 _ _ = _
    unfold Scalar.select
    rw [if_pos (show (1#1 : BitVec 1) = 1 from rfl)]
    unfold bScore
    rw [read14]
    unfold score
    refine Finset.sum_congr rfl fun d _ => ?_
    congr 1
    · congr 1
      exact at3 x0 rfl (by dsimp only; exact hr) (by dsimp only; rw [hq])
    · exact at4 x1 rfl rfl rfl (by dsimp only; rw [hk])
  · show Scalar.select 0#1 _ _ = _
    unfold Scalar.select
    rw [if_neg (by decide)]

theorem block_apply (x0 : Vec Ideal S1x128x512 .f32) (x1 x2 : Vec Ideal S1x1x256x128 .f32)
    (x4 : Vec Ideal S1x128x128 .f32) (i : Fin 32) (r : Fin 128) (l : Fin 512) :
    bOut (k0_pay13 x2) (bScore x0 x1) (k0_pay15 (BitVec.ofNat 32 i.val)) x4 (ix3 0 r l)
      = (∑ c : Fin 256, wt (Ideal.ofBits .f32 0x0DA24260#32) (shiftK (rowMax (brow x0 x1 i r l))) (brow x0 x1 i r l) c
          * x2 (ix4 0 0 c ⟨64 * (l.val / 256) + l.val % 64, by omega⟩)) * x4 (ix3 0 r ⟨l.val / 64, by omega⟩) := by
  unfold bOut
  rw [read27]
  refine (piece (k0_pay13 x2) (bScore x0 x1) (k0_pay15 (BitVec.ofNat 32 i.val)) x4 ⟨l.val / 64, by omega⟩ r
    ⟨64 * (l.val / 256) + l.val % 64, by omega⟩).trans ?_
  congr 1
  show k0_pay17 _ _ _ (ix2 (rowOf r l) _) = _
  rw [read17]
  refine Finset.sum_congr rfl fun c _ => ?_
  have hb : ∀ R c, Scalar.select (k0_pay15 (BitVec.ofNat 32 i.val) (ix2 R c)) (bScore x0 x1 (ix2 R c)) ⊥
      = (fun R c => Scalar.select (k0_pay15 (BitVec.ofNat 32 i.val) (ix2 R c)) (bScore x0 x1 (ix2 R c)) ⊥) R c :=
    fun _ _ => rfl
  rw [read16 _ _ _ hb]
  have he : (fun c => Scalar.select (k0_pay15 (BitVec.ofNat 32 i.val) (ix2 (rowOf r l) c))
      (bScore x0 x1 (ix2 (rowOf r l) c)) ⊥) = brow x0 x1 i r l := funext fun c => brow_eq x0 x1 i r l c
  rw [he]
  congr 1
  pointwise [k0_pay13]

end Cert.KernelIdeal.Cmp

end
-- ==== Proof.CmpRef.lean ====
/-
  The reference of the compressed attention, read at an index of its result.
-/
module

public import proofs.«01_k».proof.Proof.Gen.ReferenceIdeal.Read
public import proofs.«01_k».proof.Proof.CmpMath
public import Idealize.ShloMosaic.Lib.WordCmp

@[expose] public section

set_option maxRecDepth 16384

noncomputable section

namespace Cert.ReferenceIdeal.Cmp

open Cert.ReferenceIdeal Cert.ReferenceIdeal.Read Idealize.ShloMosaic Idealize.ShloMosaic.WordCmp Idealize.SL.Sem Cert.Attn

/-- The reference's mask: chunk `c` ends no later than position `t`. -/
theorem mask_apply (t : Fin 4096) (c : Fin 255) :
    val_main_v28 (F := Ideal) (ix2 t c) = if 16 * c.val + 31 ≤ t.val then 1#1 else 0#1 := by
  pointwise [val_main_v28, val_main_v26, val_main_v27, val_main_v24, val_main_v25, val_main_v19, val_main_v18,
    val_main_v17, val_main_c_1, val_main_v16, val_main_v15, val_main_c_0, val_main_v14, val_main_v13, val_main_c,
    val_main_v12]
  have h1 : IntOp.subi (IntOp.addi (IntOp.muli (BitVec.ofNat 32 c.val) 16#32) 32#32) 1#32
      = BitVec.ofNat 32 (16 * c.val + 31) := by
    revert c; decide +kernel
  rw [h1, cmpi_sle_ofNat (by omega) (by omega)]
  split_ifs with h <;> simp [h]

/-- The masked score of query position `t`, head `4 k + g`, against chunk `c`. -/
def sref (u : Vec Ideal S4x4096x5376 .f32) (kv : Vec Ideal S4x2x256x256 .f32) (b : Fin 4) (k g : Fin 4) (t : Fin 4096)
    (c : Fin 255) : EReal :=
  if 16 * c.val + 31 ≤ t.val then
    (∑ d : Fin 64, kv (ix4 b 0 ⟨c.val, by omega⟩ ⟨64 * k.val + d.val, by omega⟩)
      * u (ix3 b t ⟨256 * k.val + 64 * g.val + d.val, by omega⟩)) * Ideal.ofBits .f32 0x3E000000#32
  else ⊥

theorem score_apply (u : Vec Ideal S4x4096x5376 .f32) (kv : Vec Ideal S4x2x256x256 .f32) (b : Fin 4) (k g : Fin 4)
    (t : Fin 4096) (c : Fin 255) :
    val_main_v29 (F := Ideal) u kv (ix5 b k g t c) = sref u kv b k g t c := by
  pointwise [val_main_v29, val_main_call0_v2, val_main_call0_v1, val_main_call0_v0, val_main_cst_2, val_main_v23, val_main_v22, val_main_cst, val_main_v21, val_main_v20,
    val_main_v4, val_main_v3, val_main_v2, val_main_v1, val_main_v0]
  rw [mask_apply]
  unfold sref
  split_ifs with h
  · show Scalar.select 1#1 _ _ = _
    unfold Scalar.select
    rw [if_pos (show (1#1 : BitVec 1) = 1 from rfl)]
    congr 1
    refine Finset.sum_congr rfl fun d _ => ?_
    congr 1
    · exact at4 kv rfl rfl rfl (by dsimp only; omega)
    · exact at3 u rfl rfl (by dsimp only; omega)
  · exact ofBits_neg_inf

theorem max_apply (u : Vec Ideal S4x4096x5376 .f32) (kv : Vec Ideal S4x2x256x256 .f32) (b : Fin 4) (k g : Fin 4)
    (t : Fin 4096) :
    val_main_v30 (F := Ideal) u kv (ix4 b k g t) = rowMax (sref u kv b k g t) := by
  unfold val_main_v30
  have h := score_apply u kv b k g t
  generalize val_main_v29 (F := Ideal) u kv = y at h ⊢
  pointwise [val_main_cst_3, Host.reduce_eq_fold]
  simp only [h, ofBits_neg_inf]
  rfl

/-- The shift the reference subtracts. -/
theorem shift_apply (u : Vec Ideal S4x4096x5376 .f32) (kv : Vec Ideal S4x2x256x256 .f32) (b : Fin 4) (k g : Fin 4)
    (t : Fin 4096) :
    val_main_v35 (F := Ideal) u kv (ix5 b k g t 0) = shiftR (rowMax (sref u kv b k g t)) := by
  have e : idx_main_v31 (ix5 b k g t 0) = ix4 b k g t := funext fun a => by fin_cases a <;> rfl
  rw [val_main_v35_apply, val_main_v34_apply, val_main_v32_apply, val_main_v33_apply, val_main_cst_4_apply,
    val_main_v31_apply, val_main_call1_v1_apply, val_main_call1_v0_apply, val_main_cst_5_apply, e, max_apply]
  generalize rowMax (sref u kv b k g t) = x
  show Scalar.select (Scalar.cmpf CmpFPredicate.olt (max x (-x)) (Ideal.ofBits .f32 0x7F800000#32)) x
    (Ideal.ofBits .f32 0x00000000#32) = _
  rw [ofBits_pos_inf, Ideal.ofBits_zero_f32]
  unfold shiftR
  by_cases h : max x (-x) < ⊤
  · rw [if_pos h]
    simp [Ideal.scalar_cmpf_def, Ideal.cmp, Scalar.select, h]
  · rw [if_neg h]
    simp [Ideal.scalar_cmpf_def, Ideal.cmp, Scalar.select, h]

theorem exp_apply (u : Vec Ideal S4x4096x5376 .f32) (kv : Vec Ideal S4x2x256x256 .f32) (b : Fin 4) (k g : Fin 4)
    (t : Fin 4096) (c : Fin 255) :
    val_main_v38 (F := Ideal) u kv (ix5 b k g t c)
      = Ideal.exp (sref u kv b k g t c - shiftR (rowMax (sref u kv b k g t))) := by
  have e : idx_main_v36 (ix5 b k g t c) = ix5 b k g t 0 := funext fun a => by fin_cases a <;> rfl
  rw [val_main_v38_apply, val_main_v37_apply, val_main_v36_apply, e, shift_apply, score_apply]
  rfl

theorem den_apply (u : Vec Ideal S4x4096x5376 .f32) (kv : Vec Ideal S4x2x256x256 .f32) (b : Fin 4) (k g : Fin 4)
    (t : Fin 4096) :
    val_main_v39 (F := Ideal) u kv (ix4 b k g t)
      = ∑ c, Ideal.exp (sref u kv b k g t c - shiftR (rowMax (sref u kv b k g t))) := by
  rw [val_main_v39_apply, val_main_cst_6_apply]
  show Ideal.ofBits .f32 0x00000000#32 + _ = _
  rw [Ideal.ofBits_zero_f32, zero_add]
  refine Finset.sum_congr rfl fun c _ => ?_
  rw [← exp_apply]
  exact congrArg _ (funext fun a => by fin_cases a <;> rfl)

theorem weight_apply (u : Vec Ideal S4x4096x5376 .f32) (kv : Vec Ideal S4x2x256x256 .f32) (b : Fin 4) (k g : Fin 4)
    (t : Fin 4096) (c : Fin 255) :
    val_main_v44 (F := Ideal) u kv (ix5 b k g t c)
      = wt (Ideal.ofBits .f32 0x0DA24260#32) (shiftR (rowMax (sref u kv b k g t))) (sref u kv b k g t) c := by
  have e : idx_main_v40 (idx_main_v43 (ix5 b k g t c)) = ix4 b k g t := funext fun a => by fin_cases a <;> rfl
  rw [val_main_v44_apply, val_main_v43_apply, val_main_v42_apply, val_main_v41_apply, val_main_cst_7_apply,
    val_main_v40_apply, e, den_apply, exp_apply]
  rfl

theorem out_apply (u : Vec Ideal S4x4096x5376 .f32) (kv : Vec Ideal S4x2x256x256 .f32) (b : Fin 4) (t : Fin 4096) (w : Fin 1024) :
    val_main_v51 (F := Ideal) u kv (ix3 b t w)
      = u (ix3 b t ⟨4608 + 128 * (w.val / 512) + w.val / 64 % 8, by omega⟩)
        * ∑ c : Fin 255, wt (Ideal.ofBits .f32 0x0DA24260#32)
            (shiftR (rowMax (sref u kv b ⟨w.val / 256, by omega⟩ ⟨w.val / 64 % 4, by omega⟩ t)))
            (sref u kv b ⟨w.val / 256, by omega⟩ ⟨w.val / 64 % 4, by omega⟩ t) c
          * kv (ix4 b 1 ⟨c.val, by omega⟩ ⟨64 * (w.val / 256) + w.val % 64, by omega⟩) := by
  have h := weight_apply u kv
  unfold val_main_v51 val_main_v50 val_main_v47 val_main_v46 val_main_v45
  generalize val_main_v44 (F := Ideal) u kv = y at h ⊢
  pointwise [val_main_v49, val_main_v48,
    val_main_v11, val_main_v10, val_main_v9, val_main_v8, val_main_v7, val_main_v6, val_main_v5, h]
  have e : ∀ h, (⟨w.val / 64 / 4, h⟩ : Fin 4) = ⟨w.val / 256, by omega⟩ := fun h => Fin.ext (by dsimp only; omega)
  simp only [e]
  congr 1
  · exact at3 u rfl rfl (by dsimp only; omega)
  · refine Finset.sum_congr rfl fun c _ => ?_
    rw [mul_comm]
    congr 1
    exact at4 kv rfl rfl rfl (by dsimp only; omega)

end Cert.ReferenceIdeal.Cmp

end
-- ==== Proof.CmpValue.lean ====
/-
  The compressed attention: the array the kernel returns is the reference's, index by index.
-/
module

public import proofs.«01_k».proof.Proof.CmpBlock
public import proofs.«01_k».proof.Proof.CmpRef

@[expose] public section

set_option maxRecDepth 16384

noncomputable section

namespace Cert.KernelIdeal.Cmp

open Cert.KernelIdeal Cert.KernelIdeal.Gen Idealize.ShloMosaic Idealize.ShloMosaic.TcCoe Idealize.SL.Sem Cert.Attn
open Idealize.ShloMosaic.Pipeline (Dat)

variable (m : (ℓ : Loc nD τ sig) → Buf (Elt Ideal) ℓ)

/-- The queries and gates, and the compressed keys and values: the call's two arguments on core `c`. -/
abbrev qu (c : Dev nD) : Vec Ideal S4x4096x5376 .f32 := m ((c : Thread nD τ).loc main_arg0)
abbrev kvs (c : Dev nD) : Vec Ideal S4x2x256x256 .f32 := m ((c : Thread nD τ).loc main_arg1)

/-- The three grid coordinates of a point. -/
def pb (t : Fin cfg0.N) : Fin 4 := grid0.coords t 0
def pp (t : Fin cfg0.N) : Fin 2 := grid0.coords t 1
def pi (t : Fin cfg0.N) : Fin 32 := grid0.coords t 2

/-- Where each window's block lies at a point. -/
theorem idx_0 : ∀ t : Fin cfg0.N, win0_0.index t (0 : Fin 3) = (pb t).val ∧ win0_0.index t (1 : Fin 3) = (pi t).val
    ∧ win0_0.index t (2 : Fin 3) = (pp t).val := (by decide +kernel : ∀ t : Fin grid0.N, _)
theorem idx_1 : ∀ t : Fin cfg0.N, win0_1.index t (0 : Fin 4) = (pb t).val ∧ win0_1.index t (1 : Fin 4) = 0
    ∧ win0_1.index t (2 : Fin 4) = 0 ∧ win0_1.index t (3 : Fin 4) = (pp t).val :=
  (by decide +kernel : ∀ t : Fin grid0.N, _)
theorem idx_2 : ∀ t : Fin cfg0.N, win0_2.index t (0 : Fin 4) = (pb t).val ∧ win0_2.index t (1 : Fin 4) = 1
    ∧ win0_2.index t (2 : Fin 4) = 0 ∧ win0_2.index t (3 : Fin 4) = (pp t).val :=
  (by decide +kernel : ∀ t : Fin grid0.N, _)
theorem idx_4 : ∀ t : Fin cfg0.N, win0_4.index t (0 : Fin 3) = (pb t).val ∧ win0_4.index t (1 : Fin 3) = (pi t).val
    ∧ win0_4.index t (2 : Fin 3) = 36 + (pp t).val := (by decide +kernel : ∀ t : Fin grid0.N, _)
theorem idx_5 : ∀ t : Fin cfg0.N, win0_5.index t (0 : Fin 3) = (pb t).val ∧ win0_5.index t (1 : Fin 3) = (pi t).val
    ∧ win0_5.index t (2 : Fin 3) = (pp t).val := (by decide +kernel : ∀ t : Fin grid0.N, _)

/-- The block of queries at a point. -/
theorem read_q (c : Dev nD) (t : Fin cfg0.N) (r : Fin 128) (l : Fin 512) :
    X0_0 m c t (ix3 0 r l) = qu m c (ix3 (pb t) ⟨128 * (pi t).val + r.val, by omega⟩ ⟨512 * (pp t).val + l.val, by omega⟩) := by
  obtain ⟨e0, e1, e2⟩ := idx_0 t
  unfold X0_0 Pipeline.Window.fill
  rw [dif_pos (moved0_0 t _)]
  unfold iblk
  rw [View.read_apply]
  show V m c main_arg0 _ = _
  rw [V_main_arg0]
  refine congrArg (qu m c) (funext fun a => Fin.ext ?_)
  match a with
  | ⟨0, _⟩ => show win0_0.index t 0 * 1 + 1 * 0 = (pb t).val; rw [e0]; omega
  | ⟨1, _⟩ => show win0_0.index t 1 * 128 + 1 * r.val = 128 * (pi t).val + r.val; rw [e1]; omega
  | ⟨2, _⟩ => show win0_0.index t 2 * 512 + 1 * l.val = 512 * (pp t).val + l.val; rw [e2]; omega

/-- The block of keys at a point. -/
theorem read_k (c : Dev nD) (t : Fin cfg0.N) (s : Fin 256) (l : Fin 128) :
    (iblk m c 1 t : Vec Ideal S1x1x256x128 .f32) (ix4 0 0 s l)
      = kvs m c (ix4 (pb t) 0 s ⟨128 * (pp t).val + l.val, by omega⟩) := by
  obtain ⟨e0, e1, e2, e3⟩ := idx_1 t
  unfold iblk
  rw [View.read_apply]
  show V m c main_arg1 _ = _
  rw [V_main_arg1]
  refine congrArg (kvs m c) (funext fun a => Fin.ext ?_)
  match a with
  | ⟨0, _⟩ => show win0_1.index t 0 * 1 + 1 * 0 = (pb t).val; rw [e0]; omega
  | ⟨1, _⟩ => show win0_1.index t 1 * 1 + 1 * 0 = 0; rw [e1]
  | ⟨2, _⟩ => show win0_1.index t 2 * 256 + 1 * s.val = s.val; rw [e2]; omega
  | ⟨3, _⟩ => show win0_1.index t 3 * 128 + 1 * l.val = 128 * (pp t).val + l.val; rw [e3]; omega

/-- The block of values at a point. -/
theorem read_v (c : Dev nD) (t : Fin cfg0.N) (s : Fin 256) (l : Fin 128) :
    (iblk m c 2 t : Vec Ideal S1x1x256x128 .f32) (ix4 0 0 s l)
      = kvs m c (ix4 (pb t) 1 s ⟨128 * (pp t).val + l.val, by omega⟩) := by
  obtain ⟨e0, e1, e2, e3⟩ := idx_2 t
  unfold iblk
  rw [View.read_apply]
  show V m c main_arg1 _ = _
  rw [V_main_arg1]
  refine congrArg (kvs m c) (funext fun a => Fin.ext ?_)
  match a with
  | ⟨0, _⟩ => show win0_2.index t 0 * 1 + 1 * 0 = (pb t).val; rw [e0]; omega
  | ⟨1, _⟩ => show win0_2.index t 1 * 1 + 1 * 0 = 1; rw [e1]
  | ⟨2, _⟩ => show win0_2.index t 2 * 256 + 1 * s.val = s.val; rw [e2]; omega
  | ⟨3, _⟩ => show win0_2.index t 3 * 128 + 1 * l.val = 128 * (pp t).val + l.val; rw [e3]; omega

/-- The block of gates at a point. -/
theorem read_g (c : Dev nD) (t : Fin cfg0.N) (r : Fin 128) (l : Fin 128) :
    (iblk m c 4 t : Vec Ideal S1x128x128 .f32) (ix3 0 r l)
      = qu m c (ix3 (pb t) ⟨128 * (pi t).val + r.val, by omega⟩ ⟨4608 + 128 * (pp t).val + l.val, by omega⟩) := by
  obtain ⟨e0, e1, e2⟩ := idx_4 t
  unfold iblk
  rw [View.read_apply]
  show V m c main_arg0 _ = _
  rw [V_main_arg0]
  refine congrArg (qu m c) (funext fun a => Fin.ext ?_)
  match a with
  | ⟨0, _⟩ => show win0_4.index t 0 * 1 + 1 * 0 = (pb t).val; rw [e0]; omega
  | ⟨1, _⟩ => show win0_4.index t 1 * 128 + 1 * r.val = 128 * (pi t).val + r.val; rw [e1]; omega
  | ⟨2, _⟩ => show win0_4.index t 2 * 128 + 1 * l.val = 4608 + 128 * (pp t).val + l.val; rw [e2]; omega

/-- What the call returns: the reference's gated attention. -/
def G (c : Dev nD) : Vec Ideal S4x4096x1024 .f32 :=
  Cert.ReferenceIdeal.Read.val_main_v51 (F := Ideal) (qu m c) (kvs m c)

/-- The masked scores of a block's row are the reference's row, with one chunk more, which is always masked. -/
theorem brow_cast (c : Dev nD) (t : Fin cfg0.N) (r : Fin 128) (l : Fin 512) (h : Fin 255) (w : Fin 1024) (T : Fin 4096)
    (hw : w.val = 512 * (pp t).val + l.val) (hT : T.val = 128 * (pi t).val + r.val) :
    brow (X0_0 m c t) (iblk m c 1 t) (pi t) r l h.castSucc
      = Cert.ReferenceIdeal.Cmp.sref (qu m c) (kvs m c) (pb t) ⟨w.val / 256, by omega⟩ ⟨w.val / 64 % 4, by omega⟩ T h := by
  unfold brow Cert.ReferenceIdeal.Cmp.sref
  rw [hT]
  have hl := l.isLt
  have hp := (pp t).isLt
  show (if 16 * h.val + 31 ≤ _ then _ else _) = _
  split_ifs with hh
  · rw [ofBits_eighth, ← sum_mul_coe _ _ _ (by norm_num)]
    refine Finset.sum_congr rfl fun d _ => ?_
    rw [read_q, read_k, mul_right_comm, mul_comm (qu m c _)]
    congr 2
    · exact at4 (kvs m c) rfl rfl rfl (by dsimp only; omega)
    · exact at3 (qu m c) rfl (by dsimp only; omega) (by dsimp only; omega)
  · rfl

theorem brow_last (c : Dev nD) (t : Fin cfg0.N) (r : Fin 128) (l : Fin 512) :
    brow (X0_0 m c t) (iblk m c 1 t) (pi t) r l (Fin.last 255) = ⊥ := by
  unfold brow
  have := (pi t).isLt
  rw [if_neg (by show ¬ 16 * 255 + 31 ≤ _; omega)]

theorem point_eq (c : Dev nD) (t : Fin cfg0.N) (r : Fin 128) (l : Fin 512) :
    bOut (k0_pay13 (iblk m c 2 t)) (bScore (X0_0 m c t) (iblk m c 1 t)) (k0_pay15 (BitVec.ofNat 32 (pi t).val))
        (iblk m c 4 t) (ix3 0 r l)
      = G m c (ix3 (pb t) ⟨128 * (pi t).val + r.val, by omega⟩ ⟨512 * (pp t).val + l.val, by omega⟩) := by
  have hl := l.isLt
  have hp := (pp t).isLt
  rw [block_apply]
  unfold G
  rw [Cert.ReferenceIdeal.Cmp.out_apply, mul_comm (qu m c _)]
  congr 1
  · refine (sum_wt _ tiny_pos (brow (X0_0 m c t) (iblk m c 1 t) (pi t) r l) (brow_last m c t r l)
      (fun s => (iblk m c 2 t : Vec Ideal S1x1x256x128 .f32) (ix4 0 0 s ⟨64 * (l.val / 256) + l.val % 64, by omega⟩))).trans ?_
    have e : (fun h : Fin 255 => brow (X0_0 m c t) (iblk m c 1 t) (pi t) r l h.castSucc) = _ := funext fun h =>
      brow_cast m c t r l h ⟨512 * (pp t).val + l.val, by omega⟩ ⟨128 * (pi t).val + r.val, by omega⟩ rfl rfl
    rw [e]
    refine Finset.sum_congr rfl fun h _ => ?_
    congr 1
    rw [read_v]
    exact at4 (kvs m c) rfl rfl rfl (by dsimp only; omega)
  · rw [read_g]
    exact at3 (qu m c) rfl rfl (by dsimp only; omega)

/-- What a point writes back is its block of the reference's array. -/
theorem flushed_eq (c : Dev nD) (t : Fin cfg0.N) (hf : (cfg0.win 5).flush t = true) :
    (dats m 0 c).flushed 5 t = ((cfg0.win 5).blk t).view.read (Elt Ideal) (G m c) := by
  rw [Value.flushed5_A, out5_eq]
  obtain ⟨e0, e1, e2⟩ := idx_5 t
  funext y
  have hy0 : (y 0).val < 1 := (y 0).isLt
  have hy1 : (y 1).val < 128 := (y 1).isLt
  have hy2 : (y 2).val < 512 := (y 2).isLt
  rw [View.read_apply]
  show bOut _ _ _ _ ((cfg0.win 5).xinj (grid0.coords t) y) = _
  have hx : (cfg0.win 5).xinj (grid0.coords t) y = ix3 (0 : Fin 1) (⟨(y 1).val, hy1⟩ : Fin 128) (⟨(y 2).val, hy2⟩ : Fin 512) := by
    funext a; apply Fin.ext
    match a with
    | ⟨0, _⟩ => show (y 0).val = 0; omega
    | ⟨1, _⟩ => rfl
    | ⟨2, _⟩ => rfl
  rw [hx]
  refine (point_eq m c t _ _).trans (congrArg (G m c) (funext fun a => Fin.ext ?_))
  match a with
  | ⟨0, _⟩ => show (pb t).val = win0_5.index t 0 * 1 + 1 * (y 0).val; rw [e0]; omega
  | ⟨1, _⟩ => show 128 * (pi t).val + (y 1).val = win0_5.index t 1 * 128 + 1 * (y 1).val; rw [e1]; omega
  | ⟨2, _⟩ => show 512 * (pp t).val + (y 2).val = win0_5.index t 2 * 512 + 1 * (y 2).val; rw [e2]; omega

/-- The point of three grid coordinates. -/
abbrev ptOf (b : Fin 4) (p : Fin 2) (i : Fin 32) : Fin grid0.N :=
  ⟨64 * b.val + 32 * p.val + i.val, lt_of_lt_of_eq (by omega) N_0.symm⟩

theorem onto (b : Fin 4) (p : Fin 2) (i : Fin 32) : ∃ t : Fin cfg0.N, (cfg0.win 5).flush t = true
    ∧ pb t = b ∧ pp t = p ∧ pi t = i :=
  ⟨ptOf b p i, (by decide +kernel : ∀ (b : Fin 4) (p : Fin 2) (i : Fin 32), win0_5.flush (ptOf b p i) = true
    ∧ pb (ptOf b p i) = b ∧ pp (ptOf b p i) = p ∧ pi (ptOf b p i) = i) b p i⟩

theorem final (c : Dev nD) : (dats m 0 c).arrAt 5 cfg0.N = G m c :=
  (dats m 0 c).arrAt_eq_of_cover 5 (G m c) (flushed_eq m c) fun j => by
    have h0 : (j 0 : Nat) < 4 := (j 0).isLt
    have h1 : (j 1 : Nat) < 4096 := (j 1).isLt
    have h2 : (j 2 : Nat) < 1024 := (j 2).isLt
    obtain ⟨t, hf, hb, hp, hi⟩ := onto ⟨j 0, h0⟩ ⟨(j 2).val / 512, by omega⟩ ⟨(j 1).val / 128, by omega⟩
    obtain ⟨e0, e1, e2⟩ := idx_5 t
    rw [hb] at e0; rw [hi] at e1; rw [hp] at e2
    refine ⟨t, hf, ?_⟩
    show j ∈ ((View.whole main_v36_0).slice (win0_5.rect t)).set
    rw [View.set_slice_whole, Rect.mem_set_unit]
    intro a
    match a with
    | ⟨0, _⟩ => show win0_5.index t 0 * 1 ≤ (j 0 : Nat) ∧ (j 0 : Nat) < win0_5.index t 0 * 1 + 1
                rw [e0]; dsimp only; omega
    | ⟨1, _⟩ => show win0_5.index t 1 * 128 ≤ (j 1 : Nat) ∧ (j 1 : Nat) < win0_5.index t 1 * 128 + 128
                rw [e1]; dsimp only; omega
    | ⟨2, _⟩ => show win0_5.index t 2 * 512 ≤ (j 2 : Nat) ∧ (j 2 : Nat) < win0_5.index t 2 * 512 + 512
                rw [e2]; dsimp only; omega

end Cert.KernelIdeal.Cmp

end
-- ==== Proof.CmpClaim.lean ====
/-
  The value claim of the compressed attention: the kernel and the reference leave one array.
-/
module

public import proofs.«01_k».proof.Defs
public import proofs.«01_k».proof.Proof.CmpValue
public import proofs.«01_k».proof.Proof.Gen.ReferenceIdeal.Run

@[expose] public section

noncomputable section

namespace Cert.Proof.Cmp

open Idealize.ShloMosaic Idealize.ShloMosaic.TcCoe Idealize.SL.Sem

theorem algebraic [hK : Cert.KernelIdeal.Facts] [hR : Cert.ReferenceIdeal.Facts] :
    Cert.algebraic_KernelIdeal_ReferenceIdeal := by
  intro m g m' g' _ hagree
  refine ⟨fun c => Cert.KernelIdeal.Cmp.G m c, ?_, ?_⟩
  · refine (θ_run Cert.KernelIdeal.defs _ _).mono (fun _ h c => ?_) (Cert.KernelIdeal.Value.run_blocks (F := Ideal) m g)
    obtain ⟨h0, _, _, h1, h2⟩ := h c
    exact ⟨h0.trans (Cert.KernelIdeal.Cmp.final m c), h1, h2⟩
  · refine (θ_run Cert.ReferenceIdeal.defs _ _).mono (fun _ h c => ?_) (Cert.ReferenceIdeal.Value.run (F := Ideal) m' g')
    obtain ⟨h0, h1, h2⟩ := h c
    refine ⟨h0.trans ?_, h1, h2⟩
    rw [Cert.ReferenceIdeal.Read.val_main_v51_eq, (hagree c).1, (hagree c).2]
    rfl

end Cert.Proof.Cmp

end
-- ==== Proof.ProjMath.lean ====
/-
  The mathematics of one row of a layer's input projection over the extended reals, free of every program: the
  root-mean-square normalisation, the rotary embedding of one head, and the two spellings of a head's mean square —
  as a sum over the head's 64 lanes divided by 64, and as a product of 256 lanes with a block-diagonal matrix.
-/
module

public import proofs.«01_k».proof.Proof.CmpMath

@[expose] public section

noncomputable section

namespace Cert.Proj

open Idealize.ShloMosaic

/-- Entry `k` of a row divided by its root mean square, with a gain; `c` is the printed row length, `e` the floor. -/
def rms {n : ℕ} (c e : EReal) (x g : Fin n → EReal) (k : Fin n) : EReal :=
  x k * Ideal.rsqrt (Ideal.div (∑ i, x i * x i) c + e) * g k

/-- The printed words of 1024, of 64 and of the floor under the mean square. -/
abbrev c1024 : EReal := Ideal.ofBits .f32 0x44800000#32
abbrev c64 : EReal := Ideal.ofBits .f32 0x42800000#32
abbrev eps : EReal := Ideal.ofBits .f32 0x358637BD#32

/-- Column of the projection: the normalised row against a column of weights. -/
def col {n : ℕ} (x g w : Fin n → EReal) : EReal := ∑ k, rms c1024 eps x g k * w k

/-- The rotary embedding of one head of 64 lanes. -/
def rot (y : Fin 64 → EReal) (cs sn : Fin 32 → EReal) (d : Fin 64) : EReal :=
  if d.val < 32 then
    y d * cs ⟨d.val % 32, by omega⟩ - y ⟨(d.val + 32) % 64, by omega⟩ * sn ⟨d.val % 32, by omega⟩
  else y d * cs ⟨d.val % 32, by omega⟩ + y ⟨(d.val + 32) % 64, by omega⟩ * sn ⟨d.val % 32, by omega⟩

theorem ofBits_c64 : c64 = ((64 : ℝ) : EReal) := by
  simp [c64, Ideal.ofBits, Ideal.ieee, -EReal.coe_mul]; norm_num

/-- 256 lanes of which only head `q`'s 64 are kept. -/
theorem sum_head (f : Fin 256 → EReal) (q : Fin 4) (c : EReal) :
    (∑ k : Fin 256, f k * (if k.val / 64 = q.val then c else 0)) = ∑ d : Fin 64, f ⟨64 * q.val + d.val, by omega⟩ * c := by
  rw [← (finProdFinEquiv (m := 4) (n := 64)).sum_comp, Fintype.sum_prod_type, Finset.sum_eq_single q]
  · refine Finset.sum_congr rfl fun d _ => ?_
    have h : (finProdFinEquiv (m := 4) (n := 64) (q, d)) = (⟨64 * q.val + d.val, by omega⟩ : Fin 256) :=
      Fin.ext (by simp [finProdFinEquiv]; omega)
    rw [h, if_pos (by show (64 * q.val + d.val) / 64 = q.val; omega)]
  · intro p _ hp
    refine Finset.sum_eq_zero fun d _ => ?_
    have hv : (finProdFinEquiv (m := 4) (n := 64) (p, d)).val / 64 = p.val := by
      simp [finProdFinEquiv]; omega
    rw [hv, if_neg (fun h => hp (Fin.ext h)), mul_zero]
  · intro h; exact absurd (Finset.mem_univ q) h

/-- The mean square of a head, from the block-diagonal matrix of `1 / 64`. -/
theorem mean_head (f : Fin 256 → EReal) (q : Fin 4) :
    (∑ k : Fin 256, f k * (if k.val / 64 = q.val then Ideal.div 1 c64 else 0))
      = Ideal.div (∑ d : Fin 64, f ⟨64 * q.val + d.val, by omega⟩) c64 := by
  rw [sum_head, ofBits_c64, Ideal.div_coe (y := 64) (by norm_num), Ideal.div_coe (y := 64) (by norm_num), one_mul,
    Cert.Attn.sum_mul_coe _ _ _ (by norm_num)]

/-- The angle pair `d` of a head is turned by at position `t`: the position times ten thousand to the power `-d / 32`. -/
def ang (t d : ℕ) : EReal :=
  (FloatOps.sitofp (F := Ideal) .f32 (BitVec.ofNat 32 t) : EReal)
    * Ideal.pow (Ideal.ofBits .f32 0x461C4000#32)
        (Ideal.div (-(FloatOps.sitofp (F := Ideal) .f32 (BitVec.ofNat 32 d) : EReal)) (Ideal.ofBits .f32 0x42000000#32))

theorem rms_congr {n : ℕ} (c e : EReal) {x x' g g' : Fin n → EReal} {k k' : Fin n} (hx : ∀ i, x i = x' i)
    (hg : ∀ i, g i = g' i) (hk : k = k') : rms c e x g k = rms c e x' g' k' := by
  obtain rfl : x = x' := funext hx
  obtain rfl : g = g' := funext hg
  rw [hk]

/-- One head of queries or keys at position `t`: normalised, then turned. -/
def head (t : ℕ) (u g : Fin 64 → EReal) : Fin 64 → EReal :=
  rot (rms c64 eps u g) (fun x : Fin 32 => Ideal.cos (ang t x.val)) (fun x => Ideal.sin (ang t x.val))

/-- The rotation with the head's two halves computed apart and joined. -/
theorem rot_halves (y : Fin 64 → EReal) (C S : ℕ → EReal) (d : Fin 64) :
    (if h : d.val < 32 then y d * C d.val - y ⟨32 + d.val, by omega⟩ * S d.val
      else y ⟨32 + (d.val - 32), by omega⟩ * C (d.val - 32) + y ⟨d.val - 32, by omega⟩ * S (d.val - 32))
      = rot y (fun x => C x.val) (fun x => S x.val) d := by
  have hd := d.isLt
  unfold rot
  by_cases h : d.val < 32
  · rw [dif_pos h, if_pos h]
    have e : d.val % 32 = d.val := by omega
    have e' : (⟨32 + d.val, by omega⟩ : Fin 64) = ⟨(d.val + 32) % 64, by omega⟩ := Fin.ext (by show 32 + d.val = (d.val + 32) % 64; omega)
    simp only [e, e']
  · rw [dif_neg h, if_neg h]
    have e : d.val % 32 = d.val - 32 := by omega
    have e' : (⟨d.val - 32, by omega⟩ : Fin 64) = ⟨(d.val + 32) % 64, by omega⟩ := Fin.ext (by show d.val - 32 = (d.val + 32) % 64; omega)
    have e2 : (⟨32 + (d.val - 32), by omega⟩ : Fin 64) = d := Fin.ext (by show 32 + (d.val - 32) = d.val; omega)
    simp only [e, e', e2]

/-- Positions behind 8192 earlier ones, as the programs count them. -/
theorem past_add (n : ℕ) : IntOp.addi (8192#32) (BitVec.ofNat 32 n) = BitVec.ofNat 32 (8192 + n) :=
  (BitVec.ofNat_add 8192 n).symm

end Cert.Proj

end
-- ==== Proof.ProjBody.lean ====
/-
  What one point of the input projection computes, read at an element: the normalised rows, a tile of the product, the
  head normalisation of a tile and its rotary embedding.
-/
module

public import proofs.«01_k».proof.Proof.Gen.ProjAIdeal.Skeleton
public import proofs.«01_k».proof.Proof.ProjMath
public import Idealize.ShloMosaic.Lib.WordCmp

@[expose] public section

set_option maxRecDepth 16384

noncomputable section

namespace Cert.ProjAIdeal.Body

open Cert.ProjAIdeal Cert.ProjAIdeal.Gen Idealize.ShloMosaic Idealize.ShloMosaic.TcCoe Idealize.SL.Sem Cert.Proj

/-- The normalised row. -/
theorem pay1_apply (x : Vec Ideal S1024x1024 .f32) (g : Vec Ideal S1x1024 .f32) (r k : Fin 1024) :
    k0_pay1 x g (ix2 r k) = rms c1024 eps (fun i : Fin 1024 => x (ix2 r i)) (fun i : Fin 1024 => g (ix2 0 i)) k := by
  unfold rms
  pointwise [k0_pay1]

/-- An element of the product's tile. -/
theorem pay2_apply (h : Vec Ideal S1024x1024 .bf16) (w : Vec Ideal S1024x256 .bf16) (r : Fin 1024) (l : Fin 256) :
    k0_pay2 h w (ix2 r l) = ∑ k : Fin 1024, h (ix2 r k) * w (ix2 k l) := by
  pointwise [k0_pay2]

/-- The head normalisation of a tile. -/
def nrm (a : FVec Ideal S1024x256 .f32) (g : Vec Ideal S1x256 .f32) (bd : Vec Ideal S256x256 .bf16) :
    FVec Ideal S1024x256 .f32 :=
  mulf (mulf a (rsqrt (addf (matmul dot_S1024x256_S256x256_S1024x256_1_0_0_1_n_n none
      (truncf .bf16 (mulf a a) bitsLt_bf16_f32 : FVec Ideal S1024x256 .bf16) (shapeCast S256x256 bd shapeCasts_S256x256_S256x256 : FVec Ideal S256x256 .bf16)
      (constant S1024x256 .f32 0x00000000#32)) (broadcast S1024x256 (Scalar.ofBits .f32 0x358637BD#32 : Ideal .f32)))))
    (broadcastTo S1024x256 (shapeCast S1x256 g shapeCasts_S1x256_S1x256) broadcasts_S1x256_S1024x256)

theorem nrm_apply (a : FVec Ideal S1024x256 .f32) (g : Vec Ideal S1x256 .f32) (bd : Vec Ideal S256x256 .bf16)
    (hbd : ∀ k l : Fin 256, bd (ix2 k l) = if k.val / 64 = l.val / 64 then Ideal.div 1 c64 else 0)
    (r : Fin 1024) (l : Fin 256) :
    nrm a g bd (ix2 r l) = rms c64 eps (fun d : Fin 64 => a (ix2 r ⟨64 * (l.val / 64) + d.val, by omega⟩))
      (fun d : Fin 64 => g (ix2 0 ⟨64 * (l.val / 64) + d.val, by omega⟩)) ⟨l.val % 64, by omega⟩ := by
  have e := mean_head (fun k => a (ix2 r k) * a (ix2 r k)) ⟨l.val / 64, by omega⟩
  have hl : (⟨64 * (l.val / 64) + l.val % 64, by omega⟩ : Fin 256) = l := Fin.ext (by dsimp only; omega)
  unfold rms
  dsimp only
  rw [hl, ← e]
  pointwise [nrm]
  simp only [hbd]

/-- The rotary embedding of a tile: each lane times its cosine, plus its partner 32 lanes away times its signed sine. -/
def rope (y : FVec Ideal S1024x256 .f32) (cs sn : Vec Ideal S1024x128 .f32) : FVec Ideal S1024x256 .f32 :=
  have m : IVec S1024x128 1 := cmpi .slt (andi (iota .tc S1024x128 32 [1] iota_S1024x128_d1_w32) (broadcast S1024x128 63#32))
    (broadcast S1024x128 32#32)
  have lo : FVec Ideal S1024x128 .f32 := extractStridedSlice S1024x128 ![0, 0] y slices_S1024x256_o0_0_S1024x128
  have hi : FVec Ideal S1024x128 .f32 := extractStridedSlice S1024x128 ![0, 128] y slices_S1024x256_o0_128_S1024x128
  have half : FVec Ideal S1024x128 .f32 → FVec Ideal S1024x128 .f32 := fun z =>
    addf (mulf z (shapeCast S1024x128 cs shapeCasts_S1024x128_S1024x128))
      (mulf (select m (dynamicRotate 1 96#32 none z rotates_S1024x128_d1) (dynamicRotate 1 32#32 none z rotates_S1024x128_d1))
        (shapeCast S1024x128 sn shapeCasts_S1024x128_S1024x128))
  concatenate S1024x256 1 [⟨S1024x128, half lo⟩, ⟨S1024x128, half hi⟩] concatenates_S1024x128_S1024x128_S1024x256_d1

theorem pay3_eq (h : Vec Ideal S1024x1024 .bf16) (w : Vec Ideal S1024x256 .bf16) (g : Vec Ideal S1x256 .f32)
    (bd : Vec Ideal S256x256 .bf16) (cs sn : Vec Ideal S1024x128 .f32) :
    k0_pay3 h w g bd cs sn = rope (nrm (k0_pay2 h w) g bd) cs sn := rfl

theorem pay4_eq (h : Vec Ideal S1024x1024 .bf16) (w : Vec Ideal S1024x256 .bf16) (g : Vec Ideal S1x256 .f32)
    (bd : Vec Ideal S256x256 .bf16) (cs sn : Vec Ideal S1024x128 .f32) :
    k0_pay4 h w g bd cs sn = rope (nrm (k0_pay2 h w) g bd) cs sn := rfl

/-- The mask of the first half of each head. -/
theorem half_mask : ∀ x : Fin 128, IntOp.cmpi CmpIPredicate.slt (IntOp.andi (BitVec.ofNat 32 x.val) 63#32) 32#32
    = if x.val % 64 < 32 then 1#1 else 0#1 := by decide +kernel

theorem rope_apply (y : FVec Ideal S1024x256 .f32) (cs sn : Vec Ideal S1024x128 .f32) (r : Fin 1024) (l : Fin 256)
    (C S : Fin 32 → EReal)
    (hc : ∀ x : Fin 128, cs (ix2 r x) = C ⟨x.val % 32, by omega⟩)
    (hs : ∀ x : Fin 128, sn (ix2 r x) = if x.val % 64 < 32 then -S ⟨x.val % 32, by omega⟩ else S ⟨x.val % 32, by omega⟩) :
    rope y cs sn (ix2 r l) = rot (fun d : Fin 64 => y (ix2 r ⟨64 * (l.val / 64) + d.val, by omega⟩)) C S
      ⟨l.val % 64, by omega⟩ := by
  pointwise [rope]
  have key : ∀ (x : Fin 128) (b : Fin 2) (hl : l.val = 128 * b.val + x.val) (p q : Fin 256)
      (_ : p.val = 128 * b.val + (x.val + 128 - 96) % 128) (_ : q.val = 128 * b.val + (x.val + 128 - 32) % 128),
      y (ix2 r l) * cs (ix2 r x)
        + Scalar.select (IntOp.cmpi CmpIPredicate.slt (IntOp.andi (BitVec.ofNat 32 x.val) 63#32) 32#32)
            (y (ix2 r p)) (y (ix2 r q)) * sn (ix2 r x)
      = rot (fun d : Fin 64 => y (ix2 r ⟨64 * (l.val / 64) + d.val, by omega⟩)) C S ⟨l.val % 64, by omega⟩ := by
    intro x b hl p q hp hq
    rw [half_mask, hc, hs]
    unfold rot Scalar.select
    dsimp only
    have e1 : (⟨64 * (l.val / 64) + l.val % 64, by omega⟩ : Fin 256) = l := Fin.ext (by dsimp only; omega)
    have e3 : (⟨l.val % 64 % 32, by omega⟩ : Fin 32) = ⟨x.val % 32, by omega⟩ := Fin.ext (by dsimp only; omega)
    rw [e1, e3]
    by_cases h : x.val % 64 < 32
    · have e2 : (⟨64 * (l.val / 64) + (l.val % 64 + 32) % 64, by omega⟩ : Fin 256) = p := Fin.ext (by dsimp only; omega)
      rw [if_pos h, if_pos h, if_pos (show l.val % 64 < 32 by omega), if_pos (show (1#1 : BitVec 1) = 1 from rfl), e2,
        mul_neg, sub_eq_add_neg]
    · have e2 : (⟨64 * (l.val / 64) + (l.val % 64 + 32) % 64, by omega⟩ : Fin 256) = q := Fin.ext (by dsimp only; omega)
      rw [if_neg h, if_neg h, if_neg (show ¬ l.val % 64 < 32 by omega), if_neg (by decide), e2]
  by_cases h : l.val < 128
  · rw [dif_pos h]
    exact key ⟨l.val, h⟩ 0 (by simp) ⟨(l.val + 128 - 96) % 128, by omega⟩ ⟨(l.val + 128 - 32) % 128, by omega⟩ (by simp) (by simp)
  · have e : (⟨128 + (l.val - 128), by omega⟩ : Fin 256) = l := Fin.ext (by dsimp only; omega)
    rw [dif_neg h, e]
    exact key ⟨l.val - 128, by omega⟩ 1 (by show l.val = 128 * 1 + (l.val - 128); omega) ⟨128 + (l.val - 128 + 128 - 96) % 128, by omega⟩
      ⟨128 + (l.val - 128 + 128 - 32) % 128, by omega⟩ rfl rfl

end Cert.ProjAIdeal.Body

end
-- ==== Proof.ProjAOpen.lean ====
/-
  What one grid point of the first projection leaves in its output tile and in the carried normalised rows, as the body's
  own expressions of the point's input blocks: the first point of a row of tiles stores the normalised rows, the others
  keep them.
-/
module

public import proofs.«01_k».proof.Proof.Gen.ProjAIdeal.Value
public import proofs.«01_k».proof.Proof.ProjBody
public import Idealize.ShloMosaic.Lib.Tactic

@[expose] public section

set_option maxRecDepth 16384

noncomputable section

namespace Cert.ProjAIdeal.Body

open Cert.ProjAIdeal Cert.ProjAIdeal.Gen Idealize.ShloMosaic Idealize.ShloMosaic.TcCoe Idealize.SL.Sem

variable (m : (ℓ : Loc nD τ sig) → Buf (Elt Ideal) ℓ)

theorem hz2 : (![0, 0] : Fin 2 → Nat) = fun _ => 0 := funext fun a => by fin_cases a <;> rfl

/-- The normalised rows of a point's block of rows. -/
abbrev hblk (c : Dev nD) (t : Fin cfg0.N) : Vec Ideal S1024x1024 .bf16 := k0_pay1 (iblk m c 0 t) (iblk m c 1 t)

/-- The normalised rows the point before left. -/
abbrev hprev (c : Dev nD) (t : Fin cfg0.N) : Vec Ideal S1024x1024 .bf16 :=
  (outsAt0 m c (t.val - 1) (lt_of_le_of_lt (Nat.sub_le _ _) t.isLt)).2

/-- A whole buffer holding `f` reads as `f`. -/
theorem read_scratch (f : Vec Ideal S1024x1024 .bf16) :
    View.read (Elt Ideal) (View.whole cc0_scratch0)
      ((Memref.isWhole_whole _ : scM0_0.IsWhole).unread f) = f :=
  (Memref.isWhole_whole _ : scM0_0.IsWhole).read_unread f

theorem outs_A (c : Dev nD) (t : Fin cfg0.N) (h0 : t.val % 20 = 0) (h1 : ¬12 ≤ t.val % 20) (h2 : t.val % 20 ≤ 5) (h3 : ¬(6 ≤ t.val % 20 ∧ t.val % 20 ≤ 11)) :
    (outsAt0 m c t.val t.isLt).1
        = k0_pay3 (hblk m c t) (iblk m c 2 t) (iblk m c 5 t) (iblk m c 7 t) (iblk m c 3 t) (iblk m c 4 t)
      ∧ (outsAt0 m c t.val t.isLt).2 = hblk m c t := by
  rw [outsAt0_A m c t h0 h1 h2 h3]
  constructor
  · dsimp only
    unfold out0_A_8
    refine (View.read_writes_eq_canon _ _ _ (fun _ => cover0_A_8 ..)).trans ?_
    unfold kernelRun0_A
    dsimp only
    sl_unfold_words
    rw [View.canon_unit_zero hz2]
    rw [View.readCov_unit_zero (S := S1024x1024) _ hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S1024x1024) hz2, View.ld_unit_zero (S := S1x1024) hz2,
      View.ld_unit_zero (S := S1024x256) hz2, View.ld_unit_zero (S := S1x256) hz2,
      View.ld_unit_zero (S := S256x256) hz2, View.ld_unit_zero (S := S1024x128) hz2]
  · dsimp only
    unfold sout0_A_0
    refine (View.read_writes_eq_canon _ _ _ (fun _ => scover0_A_0 ..)).trans ?_
    unfold kernelRun0_A
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S1024x1024) hz2, View.ld_unit_zero (S := S1x1024) hz2,
      View.ld_unit_zero (S := S1024x256) hz2, View.ld_unit_zero (S := S1x256) hz2,
      View.ld_unit_zero (S := S256x256) hz2, View.ld_unit_zero (S := S1024x128) hz2]

theorem outs_B (c : Dev nD) (t : Fin cfg0.N) (h0 : ¬t.val % 20 = 0) (h1 : ¬12 ≤ t.val % 20) (h2 : t.val % 20 ≤ 5) (h3 : ¬(6 ≤ t.val % 20 ∧ t.val % 20 ≤ 11)) :
    (outsAt0 m c t.val t.isLt).1
        = k0_pay3 (hprev m c t) (iblk m c 2 t) (iblk m c 5 t) (iblk m c 7 t) (iblk m c 3 t) (iblk m c 4 t)
      ∧ (outsAt0 m c t.val t.isLt).2 = hprev m c t := by
  rw [outsAt0_B m c t h0 h1 h2 h3]
  constructor
  · dsimp only
    unfold out0_B_8
    refine (View.read_writes_eq_canon _ _ _ (fun _ => cover0_B_8 ..)).trans ?_
    unfold kernelRun0_B
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S1024x1024) hz2, View.ld_unit_zero (S := S1x1024) hz2,
      View.ld_unit_zero (S := S1024x256) hz2, View.ld_unit_zero (S := S1x256) hz2,
      View.ld_unit_zero (S := S256x256) hz2, View.ld_unit_zero (S := S1024x128) hz2]
    rw [read_scratch]
  · rfl

theorem outs_C (c : Dev nD) (t : Fin cfg0.N) (h0 : ¬t.val % 20 = 0) (h1 : ¬12 ≤ t.val % 20) (h2 : ¬t.val % 20 ≤ 5) (h3 : (6 ≤ t.val % 20 ∧ t.val % 20 ≤ 11)) :
    (outsAt0 m c t.val t.isLt).1
        = k0_pay4 (hprev m c t) (iblk m c 2 t) (iblk m c 6 t) (iblk m c 7 t) (iblk m c 3 t) (iblk m c 4 t)
      ∧ (outsAt0 m c t.val t.isLt).2 = hprev m c t := by
  rw [outsAt0_C m c t h0 h1 h2 h3]
  constructor
  · dsimp only
    unfold out0_C_8
    refine (View.read_writes_eq_canon _ _ _ (fun _ => cover0_C_8 ..)).trans ?_
    unfold kernelRun0_C
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S1024x1024) hz2, View.ld_unit_zero (S := S1x1024) hz2,
      View.ld_unit_zero (S := S1024x256) hz2, View.ld_unit_zero (S := S1x256) hz2,
      View.ld_unit_zero (S := S256x256) hz2, View.ld_unit_zero (S := S1024x128) hz2]
    rw [read_scratch]
  · rfl

theorem outs_D (c : Dev nD) (t : Fin cfg0.N) (h0 : ¬t.val % 20 = 0) (h1 : 12 ≤ t.val % 20) (h2 : ¬t.val % 20 ≤ 5) (h3 : ¬(6 ≤ t.val % 20 ∧ t.val % 20 ≤ 11)) :
    (outsAt0 m c t.val t.isLt).1
        = k0_pay2 (hprev m c t) (iblk m c 2 t)
      ∧ (outsAt0 m c t.val t.isLt).2 = hprev m c t := by
  rw [outsAt0_D m c t h0 h1 h2 h3]
  constructor
  · dsimp only
    unfold out0_D_8
    refine (View.read_writes_eq_canon _ _ _ (fun _ => cover0_D_8 ..)).trans ?_
    unfold kernelRun0_D
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S1024x1024) hz2, View.ld_unit_zero (S := S1x1024) hz2,
      View.ld_unit_zero (S := S1024x256) hz2, View.ld_unit_zero (S := S1x256) hz2,
      View.ld_unit_zero (S := S256x256) hz2, View.ld_unit_zero (S := S1024x128) hz2]
    rw [read_scratch]
  · rfl

end Cert.ProjAIdeal.Body

end
-- ==== Proof.ProjATables.lean ====
/-
  The arrays the first projection is given beside its weights, read at an element: the rows, the gains tiled over the heads,
  the cosine and sine tables, and the block-diagonal matrix.
-/
module

public import proofs.«01_k».proof.Proof.Gen.ProjAIdeal.Value
public import proofs.«01_k».proof.Proof.ProjBody
public import Idealize.ShloMosaic.Lib.StableHlo.ReadAt

@[expose] public section

set_option maxRecDepth 16384

noncomputable section

namespace Cert.ProjAIdeal.Body

open Cert.ProjAIdeal Cert.ProjAIdeal.Gen Idealize.ShloMosaic Idealize.ShloMosaic.TcCoe Idealize.SL.Sem Cert.Proj

variable (m : (ℓ : Loc nD τ sig) → Buf (Elt Ideal) ℓ)

abbrev arg0 (c : Dev nD) : Vec Ideal S4x4096x1024 .f32 := m ((c : Thread nD τ).loc main_arg0)
abbrev arg1 (c : Dev nD) : Vec Ideal S1024 .f32 := m ((c : Thread nD τ).loc main_arg1)
abbrev arg2 (c : Dev nD) : Vec Ideal S1024x5120 .f32 := m ((c : Thread nD τ).loc main_arg2)
abbrev arg3 (c : Dev nD) : Vec Ideal S64 .f32 := m ((c : Thread nD τ).loc main_arg3)
abbrev arg4 (c : Dev nD) : Vec Ideal S64 .f32 := m ((c : Thread nD τ).loc main_arg4)

theorem rows_apply (c : Dev nD) (r : Fin 16384) (k : Fin 1024) :
    (V m c main_v22 : Vec Ideal S16384x1024 .f32) (ix2 r k)
      = arg0 m c (ix3 ⟨r.val / 4096, by omega⟩ ⟨r.val % 4096, by omega⟩ k) := by
  unfold V
  after_reads_at

theorem gain_apply (c : Dev nD) (k : Fin 1024) :
    (V m c main_v43 : Vec Ideal S1x1024 .f32) (ix2 0 k) = arg1 m c (ix1 k) := by
  unfold V
  after_reads_at

theorem weight_apply (c : Dev nD) (k : Fin 1024) (l : Fin 5120) :
    (V m c main_v23 : Vec Ideal S1024x5120 .bf16) (ix2 k l) = arg2 m c (ix2 k l) := by
  unfold V
  after_reads_at

theorem qgain_apply (c : Dev nD) (l : Fin 256) :
    (V m c main_v27 : Vec Ideal S1x256 .f32) (ix2 0 l) = arg3 m c (ix1 ⟨l.val % 64, by omega⟩) := by
  unfold V
  after_reads_at
theorem kgain_apply (c : Dev nD) (l : Fin 256) :
    (V m c main_v31 : Vec Ideal S1x256 .f32) (ix2 0 l) = arg4 m c (ix1 ⟨l.val % 64, by omega⟩) := by
  unfold V
  after_reads_at

theorem cos_apply (c : Dev nD) (r : Fin 16384) (x : Fin 128) :
    (V m c main_v18 : Vec Ideal S16384x128 .f32) (ix2 r x) = Ideal.cos (ang (r.val % 4096) (x.val % 32)) := by
  have hx := x.isLt
  unfold V
  after_reads_at
  by_cases h0 : x.val < 32
  · rw [dif_pos h0]
    after_reads_at
    rw [show x.val % 32 = x.val by omega]
    rfl
  rw [dif_neg h0]
  by_cases h1 : x.val - 32 < 32
  · rw [dif_pos h1]
    after_reads_at
    rw [show x.val % 32 = x.val - 32 by omega]
    rfl
  rw [dif_neg h1]
  by_cases h2 : x.val - 32 - 32 < 32
  · rw [dif_pos h2]
    after_reads_at
    rw [show x.val % 32 = x.val - 32 - 32 by omega]
    rfl
  rw [dif_neg h2]
  after_reads_at
  rw [show x.val % 32 = x.val - 32 - 32 - 32 by omega]
  rfl

theorem sin_apply (c : Dev nD) (r : Fin 16384) (x : Fin 128) :
    (V m c main_v21 : Vec Ideal S16384x128 .f32) (ix2 r x)
      = if x.val % 64 < 32 then -Ideal.sin (ang (r.val % 4096) (x.val % 32)) else Ideal.sin (ang (r.val % 4096) (x.val % 32)) := by
  have hx := x.isLt
  unfold V
  after_reads_at
  by_cases h0 : x.val < 32
  · rw [dif_pos h0]
    rw [if_pos (show x.val % 64 < 32 by omega)]
    after_reads_at
    rw [show x.val % 32 = x.val by omega]
    rfl
  rw [dif_neg h0]
  by_cases h1 : x.val - 32 < 32
  · rw [dif_pos h1]
    rw [if_neg (show ¬ x.val % 64 < 32 by omega)]
    after_reads_at
    rw [show x.val % 32 = x.val - 32 by omega]
    rfl
  rw [dif_neg h1]
  by_cases h2 : x.val - 32 - 32 < 32
  · rw [dif_pos h2]
    rw [if_pos (show x.val % 64 < 32 by omega)]
    after_reads_at
    rw [show x.val % 32 = x.val - 32 - 32 by omega]
    rfl
  rw [dif_neg h2]
  rw [if_neg (show ¬ x.val % 64 < 32 by omega)]
  after_reads_at
  rw [show x.val % 32 = x.val - 32 - 32 - 32 by omega]
  rfl

/-- The floor of a number below 256 by 64, as the program computes it on 32-bit words. -/
def flo (k : BitVec 32) : BitVec 32 :=
  Scalar.select
    (IntOp.andi
      (IntOp.cmpi CmpIPredicate.ne
        (if k = 0 then (0 : BitVec 32) else if k.msb = true then -1 else 1)
        (if (64#32 : BitVec 32) = 0 then (0 : BitVec 32) else if BitVec.msb (64#32) = true then -1 else 1))
      (IntOp.cmpi CmpIPredicate.ne (IntOp.remsi ArithUnit.host k 64#32) 0#32))
    (IntOp.subi (IntOp.divsi ArithUnit.host k 64#32) 1#32)
    (IntOp.divsi ArithUnit.host k 64#32)

theorem flo_eq : ∀ k : Fin 256, flo (BitVec.ofNat 32 k.val) = BitVec.ofNat 32 (k.val / 64) := by
  decide +kernel

theorem head_eq : ∀ a b : Fin 4, IntOp.cmpi CmpIPredicate.eq (BitVec.ofNat 32 a.val) (BitVec.ofNat 32 b.val)
    = if a.val = b.val then 1#1 else 0#1 := by
  decide +kernel

theorem bd_apply (c : Dev nD) (k l : Fin 256) :
    (V m c main_v42 : Vec Ideal S256x256 .bf16) (ix2 k l) = if k.val / 64 = l.val / 64 then Ideal.div 1 c64 else 0 := by
  unfold V
  after_reads_at
  show Ideal.div (FloatOps.uitofp (F := Ideal) FTy.f32
      (IntOp.cmpi CmpIPredicate.eq (flo (BitVec.ofNat 32 k.val)) (flo (BitVec.ofNat 32 l.val)))) c64 = _
  rw [flo_eq k, flo_eq l]
  rw [head_eq ⟨k.val / 64, by omega⟩ ⟨l.val / 64, by omega⟩]
  by_cases h : k.val / 64 = l.val / 64
  · rw [if_pos h, if_pos h]
    exact congrArg (Ideal.div · c64) (by simp [FloatOps.uitofp])
  · rw [if_neg h, if_neg h]
    rw [show (FloatOps.uitofp (F := Ideal) FTy.f32 (0#1 : BitVec 1) : EReal) = 0 by simp [FloatOps.uitofp], ofBits_c64,
      Ideal.div_coe (y := 64) (by norm_num), zero_mul]

end Cert.ProjAIdeal.Body

end
-- ==== Proof.ProjAValue.lean ====
/-
  The first projection: the tile each grid point writes, and the whole array the call returns, in terms of its arguments.
-/
module

public import proofs.«01_k».proof.Proof.ProjAOpen
public import proofs.«01_k».proof.Proof.ProjATables

@[expose] public section

set_option maxRecDepth 16384

noncomputable section

namespace Cert.ProjAIdeal.Body

open Cert.ProjAIdeal Cert.ProjAIdeal.Gen Idealize.ShloMosaic Idealize.ShloMosaic.TcCoe Idealize.SL.Sem Cert.Proj
open Idealize.ShloMosaic.Pipeline (Dat)
open Cert.ProjAIdeal.Value (flushed8 covered_iff8)

variable (m : (ℓ : Loc nD τ sig) → Buf (Elt Ideal) ℓ)

/-- Row `R` of the input, and column `l` of the product of its normalised form with the weights. -/
def xrow (c : Dev nD) (R : Fin 16384) : Fin 1024 → EReal :=
  fun k => arg0 m c (ix3 ⟨R.val / 4096, by omega⟩ ⟨R.val % 4096, by omega⟩ k)
def uu (c : Dev nD) (R : Fin 16384) (l : Fin 5120) : EReal :=
  col (xrow m c R) (fun k => arg1 m c (ix1 k)) (fun k => arg2 m c (ix2 k l))
/-- The 64 columns of the head column `l` belongs to. -/
def uhead (c : Dev nD) (R : Fin 16384) (l : Fin 5120) : Fin 64 → EReal :=
  fun d => uu m c R ⟨64 * (l.val / 64) + d.val, by omega⟩

/-- What the call returns at row `R`, column `l`: turned queries, turned keys, then the product as it is. -/
def spec (c : Dev nD) (R : Fin 16384) (l : Fin 5120) : EReal :=
  if l.val < 1536 then head (R.val % 4096) (uhead m c R l) (fun d => arg3 m c (ix1 d)) ⟨l.val % 64, by omega⟩
  else if l.val < 3072 then head (R.val % 4096) (uhead m c R l) (fun d => arg4 m c (ix1 d)) ⟨l.val % 64, by omega⟩
  else uu m c R l

/-- Row and column of the array that a point's block has at `r`, `l`. -/
abbrev rowAt (t : Fin cfg0.N) (r : Fin 1024) : Fin 16384 :=
  ⟨1024 * (t.val / 20) + r.val, by have : t.val < 320 := t.isLt; omega⟩
abbrev colAt (t : Fin cfg0.N) (l : Fin 256) : Fin 5120 := ⟨256 * (t.val % 20) + l.val, by omega⟩

theorem idx_0 : ∀ t : Fin cfg0.N, win0_0.index t (0 : Fin 2) = t.val / 20 ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = t.val % 20 :=
  (by decide +kernel : ∀ t : Fin grid0.N, _)
theorem idx_3 : ∀ t : Fin cfg0.N, win0_3.index t (0 : Fin 2) = t.val / 20 ∧ win0_3.index t (1 : Fin 2) = 0 :=
  (by decide +kernel : ∀ t : Fin grid0.N, _)
theorem idx_4 : ∀ t : Fin cfg0.N, win0_4.index t (0 : Fin 2) = t.val / 20 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)

theorem read_x (c : Dev nD) (t : Fin cfg0.N) (r k : Fin 1024) :
    (iblk m c 0 t : Vec Ideal S1024x1024 .f32) (ix2 r k) = xrow m c (rowAt t r) k := by
  obtain ⟨e0, e1⟩ := idx_0 t
  refine Eq.trans ?_ (rows_apply m c (rowAt t r) k)
  unfold iblk
  rw [View.read_apply]
  show V m c main_v22 _ = V m c main_v22 _
  refine congrArg (V m c main_v22) (funext fun a => Fin.ext ?_)
  match a with
  | ⟨0, _⟩ => show win0_0.index t 0 * 1024 + 1 * r.val = 1024 * (t.val / 20) + r.val ; rw [e0]; try omega
  | ⟨1, _⟩ => show win0_0.index t 1 * 1024 + 1 * k.val = k.val ; rw [e1]; try omega

theorem read_g (c : Dev nD) (t : Fin cfg0.N) (k : Fin 1024) :
    (iblk m c 1 t : Vec Ideal S1x1024 .f32) (ix2 0 k) = arg1 m c (ix1 k) := by
  obtain ⟨e0, e1⟩ := idx_1 t
  refine Eq.trans ?_ (gain_apply m c k)
  unfold iblk
  rw [View.read_apply]
  show V m c main_v43 _ = V m c main_v43 _
  refine congrArg (V m c main_v43) (funext fun a => Fin.ext ?_)
  match a with
  | ⟨0, _⟩ => show win0_1.index t 0 * 1 + 1 * 0 = 0 ; rw [e0]; try omega
  | ⟨1, _⟩ => show win0_1.index t 1 * 1024 + 1 * k.val = k.val ; rw [e1]; try omega

theorem read_w (c : Dev nD) (t : Fin cfg0.N) (k : Fin 1024) (l : Fin 256) :
    (iblk m c 2 t : Vec Ideal S1024x256 .bf16) (ix2 k l) = arg2 m c (ix2 k (colAt t l)) := by
  obtain ⟨e0, e1⟩ := idx_2 t
  refine Eq.trans ?_ (weight_apply m c k (colAt t l))
  unfold iblk
  rw [View.read_apply]
  show V m c main_v23 _ = V m c main_v23 _
  refine congrArg (V m c main_v23) (funext fun a => Fin.ext ?_)
  match a with
  | ⟨0, _⟩ => show win0_2.index t 0 * 1024 + 1 * k.val = k.val ; rw [e0]; try omega
  | ⟨1, _⟩ => show win0_2.index t 1 * 256 + 1 * l.val = 256 * (t.val % 20) + l.val ; rw [e1]; try omega

theorem read_cos (c : Dev nD) (t : Fin cfg0.N) (r : Fin 1024) (x : Fin 128) :
    (iblk m c 3 t : Vec Ideal S1024x128 .f32) (ix2 r x) = Ideal.cos (ang ((rowAt t r).val % 4096) (x.val % 32)) := by
  obtain ⟨e0, e1⟩ := idx_3 t
  refine Eq.trans ?_ (cos_apply m c (rowAt t r) x)
  unfold iblk
  rw [View.read_apply]
  show V m c main_v18 _ = V m c main_v18 _
  refine congrArg (V m c main_v18) (funext fun a => Fin.ext ?_)
  match a with
  | ⟨0, _⟩ => show win0_3.index t 0 * 1024 + 1 * r.val = 1024 * (t.val / 20) + r.val ; rw [e0]; try omega
  | ⟨1, _⟩ => show win0_3.index t 1 * 128 + 1 * x.val = x.val ; rw [e1]; try omega

theorem read_sin (c : Dev nD) (t : Fin cfg0.N) (r : Fin 1024) (x : Fin 128) :
    (iblk m c 4 t : Vec Ideal S1024x128 .f32) (ix2 r x) = if x.val % 64 < 32 then -Ideal.sin (ang ((rowAt t r).val % 4096) (x.val % 32))
      else Ideal.sin (ang ((rowAt t r).val % 4096) (x.val % 32)) := by
  obtain ⟨e0, e1⟩ := idx_4 t
  refine Eq.trans ?_ (sin_apply m c (rowAt t r) x)
  unfold iblk
  rw [View.read_apply]
  show V m c main_v21 _ = V m c main_v21 _
  refine congrArg (V m c main_v21) (funext fun a => Fin.ext ?_)
  match a with
  | ⟨0, _⟩ => show win0_4.index t 0 * 1024 + 1 * r.val = 1024 * (t.val / 20) + r.val ; rw [e0]; try omega
  | ⟨1, _⟩ => show win0_4.index t 1 * 128 + 1 * x.val = x.val ; rw [e1]; try omega

theorem read_qg (c : Dev nD) (t : Fin cfg0.N) (l : Fin 256) :
    (iblk m c 5 t : Vec Ideal S1x256 .f32) (ix2 0 l) = arg3 m c (ix1 ⟨l.val % 64, by omega⟩) := by
  obtain ⟨e0, e1⟩ := idx_5 t
  refine Eq.trans ?_ (qgain_apply m c l)
  unfold iblk
  rw [View.read_apply]
  show V m c main_v27 _ = V m c main_v27 _
  refine congrArg (V m c main_v27) (funext fun a => Fin.ext ?_)
  match a with
  | ⟨0, _⟩ => show win0_5.index t 0 * 1 + 1 * 0 = 0 ; rw [e0]; try omega
  | ⟨1, _⟩ => show win0_5.index t 1 * 256 + 1 * l.val = l.val ; rw [e1]; try omega

theorem read_kg (c : Dev nD) (t : Fin cfg0.N) (l : Fin 256) :
    (iblk m c 6 t : Vec Ideal S1x256 .f32) (ix2 0 l) = arg4 m c (ix1 ⟨l.val % 64, by omega⟩) := by
  obtain ⟨e0, e1⟩ := idx_6 t
  refine Eq.trans ?_ (kgain_apply m c l)
  unfold iblk
  rw [View.read_apply]
  show V m c main_v31 _ = V m c main_v31 _
  refine congrArg (V m c main_v31) (funext fun a => Fin.ext ?_)
  match a with
  | ⟨0, _⟩ => show win0_6.index t 0 * 1 + 1 * 0 = 0 ; rw [e0]; try omega
  | ⟨1, _⟩ => show win0_6.index t 1 * 256 + 1 * l.val = l.val ; rw [e1]; try omega

theorem read_bd (c : Dev nD) (t : Fin cfg0.N) (k l : Fin 256) :
    (iblk m c 7 t : Vec Ideal S256x256 .bf16) (ix2 k l) = if k.val / 64 = l.val / 64 then Ideal.div 1 c64 else 0 := by
  obtain ⟨e0, e1⟩ := idx_7 t
  refine Eq.trans ?_ (bd_apply m c k l)
  unfold iblk
  rw [View.read_apply]
  show V m c main_v42 _ = V m c main_v42 _
  refine congrArg (V m c main_v42) (funext fun a => Fin.ext ?_)
  match a with
  | ⟨0, _⟩ => show win0_7.index t 0 * 256 + 1 * k.val = k.val ; rw [e0]; try omega
  | ⟨1, _⟩ => show win0_7.index t 1 * 256 + 1 * l.val = l.val ; rw [e1]; try omega

/-- The normalised rows of a point, in terms of the arguments. -/
def Rows (c : Dev nD) (i : ℕ) (h : Vec Ideal S1024x1024 .bf16) : Prop :=
  ∀ (r k : Fin 1024) (R : Fin 16384), R.val = 1024 * i + r.val →
    h (ix2 r k) = rms c1024 eps (xrow m c R) (fun k => arg1 m c (ix1 k)) k

theorem rows_hblk (c : Dev nD) (t : Fin cfg0.N) : Rows m c (t.val / 20) (hblk m c t) := by
  intro r k R hR
  obtain rfl : R = rowAt t r := Fin.ext hR
  rw [hblk, pay1_apply]
  exact rms_congr _ _ (fun i => read_x m c t r i) (fun i => read_g m c t i) rfl

theorem carry (c : Dev nD) (t : Fin cfg0.N) (h0 : ¬t.val % 20 = 0) : (outsAt0 m c t.val t.isLt).2 = hprev m c t := by
  by_cases h1 : 12 ≤ t.val % 20
  · exact (outs_D m c t h0 h1 (by omega) (by omega)).2
  by_cases h2 : t.val % 20 ≤ 5
  · exact (outs_B m c t h0 h1 h2 (by omega)).2
  · exact (outs_C m c t h0 h1 h2 (by omega)).2

/-- The carried rows after a point are the normalised rows of the point's block of rows. -/
theorem rows_scr (c : Dev nD) : ∀ (n : ℕ) (h : n < cfg0.N), Rows m c (n / 20) (outsAt0 m c n h).2 := by
  intro n
  induction n with
  | zero =>
    intro h
    rw [(outs_A m c ⟨0, h⟩ (by show 0 % 20 = 0; decide) (by show ¬12 ≤ 0 % 20; decide) (by show 0 % 20 ≤ 5; decide)
      (by show ¬(6 ≤ 0 % 20 ∧ 0 % 20 ≤ 11); decide)).2]
    exact rows_hblk m c ⟨0, h⟩
  | succ n ih =>
    intro h
    by_cases h0 : (n + 1) % 20 = 0
    · rw [(outs_A m c ⟨n + 1, h⟩ h0 (by show ¬12 ≤ (n + 1) % 20; omega) (by show (n + 1) % 20 ≤ 5; omega)
        (by show ¬(6 ≤ (n + 1) % 20 ∧ (n + 1) % 20 ≤ 11); omega)).2]
      exact rows_hblk m c ⟨n + 1, h⟩
    · rw [carry m c ⟨n + 1, h⟩ h0, show (n + 1) / 20 = n / 20 by omega]
      exact ih _

theorem rows_prev (c : Dev nD) (t : Fin cfg0.N) (h0 : ¬t.val % 20 = 0) : Rows m c (t.val / 20) (hprev m c t) := by
  rw [show t.val / 20 = (t.val - 1) / 20 by omega]
  exact rows_scr m c (t.val - 1) _

/-- The product of a point's rows with its columns of weights. -/
theorem prod_tile (c : Dev nD) (t : Fin cfg0.N) (H : Vec Ideal S1024x1024 .bf16) (hH : Rows m c (t.val / 20) H)
    (r : Fin 1024) (l : Fin 256) : k0_pay2 H (iblk m c 2 t) (ix2 r l) = uu m c (rowAt t r) (colAt t l) := by
  rw [pay2_apply]
  unfold uu col
  exact Finset.sum_congr rfl fun k _ => congrArg₂ (· * ·) (hH r k _ rfl) (read_w m c t k l)

/-- A tile of heads, normalised with a gain and turned. -/
theorem head_tile (c : Dev nD) (t : Fin cfg0.N) (H : Vec Ideal S1024x1024 .bf16) (hH : Rows m c (t.val / 20) H)
    (g : Vec Ideal S1x256 .f32) (gain : Fin 64 → EReal) (hg : ∀ l : Fin 256, g (ix2 0 l) = gain ⟨l.val % 64, by omega⟩)
    (r : Fin 1024) (l : Fin 256) :
    rope (nrm (k0_pay2 H (iblk m c 2 t)) g (iblk m c 7 t)) (iblk m c 3 t) (iblk m c 4 t) (ix2 r l)
      = head ((rowAt t r).val % 4096) (uhead m c (rowAt t r) (colAt t l)) gain ⟨(colAt t l).val % 64, by omega⟩ := by
  have hl := l.isLt
  rw [rope_apply _ _ _ r l (fun x : Fin 32 => Ideal.cos (ang ((rowAt t r).val % 4096) x.val))
    (fun x => Ideal.sin (ang ((rowAt t r).val % 4096) x.val)) (fun x => read_cos m c t r x) (fun x => read_sin m c t r x)]
  unfold head
  have e : (⟨l.val % 64, by omega⟩ : Fin 64) = ⟨(colAt t l).val % 64, by omega⟩ :=
    Fin.ext (by show l.val % 64 = (256 * (t.val % 20) + l.val) % 64; omega)
  rw [e]
  refine congrArg (fun y => rot y _ _ _) (funext fun d => ?_)
  have hd := d.isLt
  rw [nrm_apply _ _ _ (fun k l => read_bd m c t k l)]
  refine rms_congr _ _ (fun i => ?_) (fun i => ?_) (Fin.ext ?_)
  · rw [prod_tile m c t H hH]
    unfold uhead
    refine congrArg (uu m c (rowAt t r)) (Fin.ext ?_)
    show 256 * (t.val % 20) + (64 * ((64 * (l.val / 64) + d.val) / 64) + i.val)
      = 64 * ((256 * (t.val % 20) + l.val) / 64) + i.val
    omega
  · rw [hg]
    have hi := i.isLt
    refine congrArg gain (Fin.ext ?_)
    show (64 * ((64 * (l.val / 64) + d.val) / 64) + i.val) % 64 = i.val
    omega
  · show (64 * (l.val / 64) + d.val) % 64 = d.val
    omega

/-- The tile a point writes. -/
theorem tile (c : Dev nD) (t : Fin cfg0.N) (r : Fin 1024) (l : Fin 256) :
    (outsAt0 m c t.val t.isLt).1 (ix2 r l) = spec m c (rowAt t r) (colAt t l) := by
  have hl := l.isLt
  unfold spec
  by_cases h0 : t.val % 20 = 0
  · rw [(outs_A m c t h0 (by omega) (by omega) (by omega)).1, pay3_eq,
      if_pos (show (colAt t l).val < 1536 by show 256 * (t.val % 20) + l.val < 1536; omega)]
    exact head_tile m c t _ (rows_hblk m c t) _ _ (fun l => read_qg m c t l) r l
  by_cases h2 : t.val % 20 ≤ 5
  · rw [(outs_B m c t h0 (by omega) h2 (by omega)).1, pay3_eq,
      if_pos (show (colAt t l).val < 1536 by show 256 * (t.val % 20) + l.val < 1536; omega)]
    exact head_tile m c t _ (rows_prev m c t h0) _ _ (fun l => read_qg m c t l) r l
  by_cases h1 : 12 ≤ t.val % 20
  · rw [(outs_D m c t h0 h1 (by omega) (by omega)).1,
      if_neg (show ¬(colAt t l).val < 1536 by show ¬256 * (t.val % 20) + l.val < 1536; omega),
      if_neg (show ¬(colAt t l).val < 3072 by show ¬256 * (t.val % 20) + l.val < 3072; omega)]
    exact prod_tile m c t _ (rows_prev m c t h0) r l
  · rw [(outs_C m c t h0 h1 h2 (by omega)).1, pay4_eq,
      if_neg (show ¬(colAt t l).val < 1536 by show ¬256 * (t.val % 20) + l.val < 1536; omega),
      if_pos (show (colAt t l).val < 3072 by show 256 * (t.val % 20) + l.val < 3072; omega)]
    exact head_tile m c t _ (rows_prev m c t h0) _ _ (fun l => read_kg m c t l) r l

theorem idx_8 : ∀ t : Fin cfg0.N, win0_8.index t (0 : Fin 2) = t.val / 20 ∧ win0_8.index t (1 : Fin 2) = t.val % 20 :=
  (by decide +kernel : ∀ t : Fin grid0.N, _)

/-- The whole array. -/
def whole (c : Dev nD) : Vec Ideal S16384x5120 .f32 := fun i => spec m c (i 0) (i 1)

theorem flushed_eq (c : Dev nD) (t : Fin cfg0.N) (_hf : (cfg0.win 8).flush t = true) :
    (dats m 0 c).flushed 8 t = ((cfg0.win 8).blk t).view.read (Elt Ideal) (whole m c) := by
  obtain ⟨e0, e1⟩ := idx_8 t
  rw [flushed8]
  funext y
  have hy0 : (y 0).val < 1024 := (y 0).isLt
  have hy1 : (y 1).val < 256 := (y 1).isLt
  have hb0 : (((cfg0.win 8).blk t).view.emb y 0).val = win0_8.index t (0 : Fin 2) * 1024 + 1 * (y 0).val := rfl
  have hb1 : (((cfg0.win 8).blk t).view.emb y 1).val = win0_8.index t (1 : Fin 2) * 256 + 1 * (y 1).val := rfl
  rw [View.read_apply]
  unfold Pipeline.Window.cut
  have hx : (cfg0.win 8).xinj (grid0.coords t) y = ix2 ⟨(y 0).val, hy0⟩ ⟨(y 1).val, hy1⟩ :=
    funext fun a => Fin.ext (by match a with | ⟨0, _⟩ => rfl | ⟨1, _⟩ => rfl)
  refine (congrArg (outsAt0 m c t.val t.isLt).1 hx).trans ?_
  rw [tile]
  show _ = spec m c (((cfg0.win 8).blk t).view.emb y 0) (((cfg0.win 8).blk t).view.emb y 1)
  rw [e0] at hb0
  rw [e1] at hb1
  have q0 : (((cfg0.win 8).blk t).view.emb y 0 : Fin 16384) = rowAt t ⟨(y 0).val, hy0⟩ :=
    Fin.ext (by rw [hb0]; show t.val / 20 * 1024 + 1 * (y 0).val = 1024 * (t.val / 20) + (y 0).val; omega)
  have q1 : (((cfg0.win 8).blk t).view.emb y 1 : Fin 5120) = colAt t ⟨(y 1).val, hy1⟩ :=
    Fin.ext (by rw [hb1]; show t.val % 20 * 256 + 1 * (y 1).val = 256 * (t.val % 20) + (y 1).val; omega)
  rw [← q0, ← q1]

/-- The array after the run. -/
theorem final (c : Dev nD) : (dats m 0 c).arrAt 8 cfg0.N = whole m c :=
  (dats m 0 c).arrAt_eq_of_cover 8 _ (fun t hf => flushed_eq m c t hf) (fun i => (covered_iff8 i).2 (by
    have h0 : (i 0).val < 16384 := (i 0).isLt; have h1 : (i 1).val < 5120 := (i 1).isLt; omega))

end Cert.ProjAIdeal.Body

end
-- ==== Proof.ProjARef.lean ====
/-
  The first projection's reference, read at an element: the product with the normalised rows, the heads' norms, and the
  rotary embedding.
-/
module

public import proofs.«01_k».proof.Proof.Gen.RefAIdeal.Read
public import proofs.«01_k».proof.Proof.ProjMath
public import Idealize.ShloMosaic.Lib.Pointwise

@[expose] public section

set_option maxRecDepth 16384

noncomputable section

namespace Cert.RefAIdeal.Body

open Cert.RefAIdeal Cert.RefAIdeal.Gen Cert.RefAIdeal.Read Idealize.ShloMosaic Idealize.ShloMosaic.TcCoe Cert.Proj

variable (x0 : Vec Ideal S4x4096x1024 .f32) (x1 : Vec Ideal S1024 .f32) (x2 : Vec Ideal S1024x5120 .f32)
  (x3 x4 : Vec Ideal S64 .f32)

/-- The normalised rows. -/
theorem row_apply (n : Fin 4) (t : Fin 4096) (k : Fin 1024) :
    val_main_v13 (F := Ideal) x0 x1 (ix3 n t k) = rms c1024 eps (fun k => x0 (ix3 n t k)) (fun k => x1 (ix1 k)) k := by
  have e : ∀ i : Fin 1024, idx_main_v2 (idx_main_v3 (idx_main_v9 (ix3 n t k))) i = ix3 n t i :=
    fun i => funext fun a => by fin_cases a <;> rfl
  have e' : idx_main_v11 (idx_main_v12 (ix3 n t k)) = ix1 k := funext fun a => by fin_cases a <;> rfl
  rw [val_main_v13_apply, val_main_v10_apply, val_main_v9_apply, val_main_v8_apply, val_main_v7_apply, val_main_v6_apply,
    val_main_cst_1_apply, val_main_v5_apply, val_main_v4_apply, val_main_cst_0_apply, val_main_v3_apply, val_main_v2_apply,
    val_main_v12_apply, val_main_v11_apply, e', val_main_cst_apply]
  simp only [e, val_main_v1_apply]
  show _ * Ideal.rsqrt (Ideal.div (Ideal.ofBits .f32 0x00000000#32 + ∑ k, _) c1024 + eps) * _ = _
  rw [Ideal.ofBits_zero_f32, zero_add]
  rfl

/-- Their product with the weights. -/
theorem prod_apply (n : Fin 4) (t : Fin 4096) (l : Fin 5120) :
    val_main_v14 (F := Ideal) x0 x1 x2 (ix3 n t l)
      = col (fun k => x0 (ix3 n t k)) (fun k => x1 (ix1 k)) (fun k => x2 (ix2 k l)) := by
  rw [val_main_v14_apply]
  unfold col
  refine Finset.sum_congr rfl fun k _ => ?_
  rw [← row_apply x0 x1 n t k]
  refine congrArg₂ (· * ·) (congrArg _ (funext fun a => ?_)) (congrArg x2 (funext fun a => ?_)) <;>
    fin_cases a <;> rfl

/-- A head of queries, and a head of keys. -/
theorem q_apply (n : Fin 4) (t : Fin 4096) (h : Fin 24) (d : Fin 64) :
    val_main_v16 (F := Ideal) x0 x1 x2 (ix4 n t h d)
      = val_main_v14 (F := Ideal) x0 x1 x2 (ix3 n t ⟨64 * h.val + d.val, by omega⟩) := by
  have hh := h.isLt; have hd := d.isLt; have hn := n.isLt; have ht := t.isLt
  rw [val_main_v16_apply, val_main_v15_apply]
  refine congrArg _ (funext fun a => Fin.ext ?_)
  match a with
  | ⟨0, _⟩ => show (((n.val * 4096 + t.val) * 24 + h.val) * 64 + d.val) / 6291456 = n.val; omega
  | ⟨1, _⟩ => show (((n.val * 4096 + t.val) * 24 + h.val) * 64 + d.val) / 1536 % 4096 = t.val; omega
  | ⟨2, _⟩ => show (((n.val * 4096 + t.val) * 24 + h.val) * 64 + d.val) % 1536 = 64 * h.val + d.val; omega
theorem k_apply (n : Fin 4) (t : Fin 4096) (h : Fin 24) (d : Fin 64) :
    val_main_v18 (F := Ideal) x0 x1 x2 (ix4 n t h d)
      = val_main_v14 (F := Ideal) x0 x1 x2 (ix3 n t ⟨1536 + (64 * h.val + d.val), by omega⟩) := by
  have hh := h.isLt; have hd := d.isLt; have hn := n.isLt; have ht := t.isLt
  rw [val_main_v18_apply, val_main_v17_apply]
  refine congrArg _ (funext fun a => Fin.ext ?_)
  match a with
  | ⟨0, _⟩ => show (((n.val * 4096 + t.val) * 24 + h.val) * 64 + d.val) / 6291456 = n.val; omega
  | ⟨1, _⟩ => show (((n.val * 4096 + t.val) * 24 + h.val) * 64 + d.val) / 1536 % 4096 = t.val; omega
  | ⟨2, _⟩ => show 1536 + (((n.val * 4096 + t.val) * 24 + h.val) * 64 + d.val) % 1536 = 1536 + (64 * h.val + d.val); omega

theorem qn_apply (n : Fin 4) (t : Fin 4096) (h : Fin 24) (d : Fin 64) :
    val_main_v31 (F := Ideal) x0 x1 x2 x3 (ix4 n t h d)
      = rms c64 eps (fun d => val_main_v16 (F := Ideal) x0 x1 x2 (ix4 n t h d)) (fun d => x3 (ix1 d)) d := by
  have e : ∀ k : Fin 64, idx_main_v20 (idx_main_v21 (idx_main_v27 (ix4 n t h d))) k = ix4 n t h k :=
    fun k => funext fun a => by fin_cases a <;> rfl
  have e' : idx_main_v29 (idx_main_v30 (ix4 n t h d)) = ix1 d := funext fun a => by fin_cases a <;> rfl
  rw [val_main_v31_apply, val_main_v28_apply, val_main_v27_apply, val_main_v26_apply, val_main_v25_apply, val_main_v23_apply,
    val_main_v22_apply, val_main_cst_3_apply, val_main_v24_apply, val_main_cst_4_apply, val_main_v21_apply, val_main_v20_apply,
    val_main_v30_apply, val_main_v29_apply, e', val_main_cst_2_apply]
  simp only [e, val_main_v19_apply]
  generalize val_main_v16 (F := Ideal) x0 x1 x2 = y
  show _ * Ideal.rsqrt (Ideal.div (Ideal.ofBits .f32 0x00000000#32 + ∑ k, _) c64 + eps) * _ = _
  rw [Ideal.ofBits_zero_f32, zero_add]
  rfl

theorem kn_apply (n : Fin 4) (t : Fin 4096) (h : Fin 24) (d : Fin 64) :
    val_main_v77 (F := Ideal) x0 x1 x2 x4 (ix4 n t h d)
      = rms c64 eps (fun d => val_main_v18 (F := Ideal) x0 x1 x2 (ix4 n t h d)) (fun d => x4 (ix1 d)) d := by
  have e : ∀ k : Fin 64, idx_main_v66 (idx_main_v67 (idx_main_v73 (ix4 n t h d))) k = ix4 n t h k :=
    fun k => funext fun a => by fin_cases a <;> rfl
  have e' : idx_main_v75 (idx_main_v76 (ix4 n t h d)) = ix1 d := funext fun a => by fin_cases a <;> rfl
  rw [val_main_v77_apply, val_main_v74_apply, val_main_v73_apply, val_main_v72_apply, val_main_v71_apply, val_main_v69_apply,
    val_main_v68_apply, val_main_cst_8_apply, val_main_v70_apply, val_main_cst_9_apply, val_main_v67_apply, val_main_v66_apply,
    val_main_v76_apply, val_main_v75_apply, e', val_main_cst_7_apply]
  simp only [e, val_main_v65_apply]
  generalize val_main_v18 (F := Ideal) x0 x1 x2 = y
  show _ * Ideal.rsqrt (Ideal.div (Ideal.ofBits .f32 0x00000000#32 + ∑ k, _) c64 + eps) * _ = _
  rw [Ideal.ofBits_zero_f32, zero_add]
  rfl

theorem ang_q (t : Fin 4096) (x : Fin 32) : val_main_v43 (F := Ideal) (ix2 t x) = ang t.val x.val := by
  pointwise [val_main_v43, val_main_v42, val_main_v41, val_main_v40, val_main_v39, val_main_v38, val_main_v37, val_main_v36, val_main_v35, val_main_v34, val_main_v33, val_main_v32, val_main_cst_5,
    val_main_cst_6, val_main_v0]
  rfl

theorem ang_k (t : Fin 4096) (x : Fin 32) : val_main_v89 (F := Ideal) (ix2 t x) = ang t.val x.val := by
  pointwise [val_main_v89, val_main_v88, val_main_v87, val_main_v86, val_main_v85, val_main_v84, val_main_v83, val_main_v82, val_main_v81, val_main_v80, val_main_v79, val_main_v78, val_main_cst_10,
    val_main_cst_11, val_main_v0]
  rfl

theorem qr_apply (n : Fin 4) (t : Fin 4096) (h : Fin 24) (d : Fin 64) :
    val_main_v64 (F := Ideal) x0 x1 x2 x3 (ix4 n t h d)
      = rot (fun d => val_main_v31 (F := Ideal) x0 x1 x2 x3 (ix4 n t h d)) (fun x : Fin 32 => Ideal.cos (ang t.val x.val))
          (fun x => Ideal.sin (ang t.val x.val)) d := by
  have hd := d.isLt
  have f := ang_q t
  unfold val_main_v64 val_main_v63 val_main_v62 val_main_v61 val_main_v60 val_main_v59 val_main_v58 val_main_v57 val_main_v56 val_main_v55 val_main_v54 val_main_v53 val_main_v52 val_main_v51 val_main_v50 val_main_v49 val_main_v48
    val_main_v45 val_main_v44 val_main_v47 val_main_v46
  generalize val_main_v31 (F := Ideal) x0 x1 x2 x3 = y
  generalize val_main_v43 (F := Ideal) = an at f ⊢
  pointwise
  simp only [f]
  exact rot_halves (fun d => y (ix4 n t h d)) (fun x => Ideal.cos (ang t.val x)) (fun x => Ideal.sin (ang t.val x)) d

theorem kr_apply (n : Fin 4) (t : Fin 4096) (h : Fin 24) (d : Fin 64) :
    val_main_v110 (F := Ideal) x0 x1 x2 x4 (ix4 n t h d)
      = rot (fun d => val_main_v77 (F := Ideal) x0 x1 x2 x4 (ix4 n t h d)) (fun x : Fin 32 => Ideal.cos (ang t.val x.val))
          (fun x => Ideal.sin (ang t.val x.val)) d := by
  have hd := d.isLt
  have f := ang_k t
  unfold val_main_v110 val_main_v109 val_main_v108 val_main_v107 val_main_v106 val_main_v105 val_main_v104 val_main_v103 val_main_v102 val_main_v101 val_main_v100 val_main_v99 val_main_v98 val_main_v97 val_main_v96 val_main_v95 val_main_v94
    val_main_v91 val_main_v90 val_main_v93 val_main_v92
  generalize val_main_v77 (F := Ideal) x0 x1 x2 x4 = y
  generalize val_main_v89 (F := Ideal) = an at f ⊢
  pointwise
  simp only [f]
  exact rot_halves (fun d => y (ix4 n t h d)) (fun x => Ideal.cos (ang t.val x)) (fun x => Ideal.sin (ang t.val x)) d

/-- The reference's array at row `R`, column `l`. -/
theorem out_apply (R : Fin 16384) (l : Fin 5120) :
    val_main_v115 (F := Ideal) x0 x1 x2 x3 x4 (ix2 R l)
      = if l.val < 1536 then
          head (R.val % 4096) (fun d => val_main_v14 (F := Ideal) x0 x1 x2
            (ix3 ⟨R.val / 4096, by omega⟩ ⟨R.val % 4096, by omega⟩ ⟨64 * (l.val / 64) + d.val, by omega⟩))
            (fun d => x3 (ix1 d)) ⟨l.val % 64, by omega⟩
        else if l.val < 3072 then
          head (R.val % 4096) (fun d => val_main_v14 (F := Ideal) x0 x1 x2
            (ix3 ⟨R.val / 4096, by omega⟩ ⟨R.val % 4096, by omega⟩ ⟨64 * (l.val / 64) + d.val, by omega⟩))
            (fun d => x4 (ix1 d)) ⟨l.val % 64, by omega⟩
        else val_main_v14 (F := Ideal) x0 x1 x2 (ix3 ⟨R.val / 4096, by omega⟩ ⟨R.val % 4096, by omega⟩ l) := by
  have hl := l.isLt
  have hq := qr_apply x0 x1 x2 x3
  have hk := kr_apply x0 x1 x2 x4
  simp only [qn_apply, q_apply] at hq
  simp only [kn_apply, k_apply] at hk
  unfold val_main_v115 val_main_v114 val_main_v113 val_main_v112 val_main_v111
  generalize val_main_v14 (F := Ideal) x0 x1 x2 = u at hq hk ⊢
  generalize val_main_v64 (F := Ideal) x0 x1 x2 x3 = q at hq ⊢
  generalize val_main_v110 (F := Ideal) x0 x1 x2 x4 = k at hk ⊢
  pointwise
  by_cases h0 : l.val < 1536
  · rw [dif_pos h0, if_pos h0, hq]
    rfl
  rw [dif_neg h0, if_neg h0]
  by_cases h1 : l.val < 3072
  · rw [dif_pos (show l.val - 1536 < 1536 by omega), if_pos h1, hk]
    have e : (⟨(l.val - 1536) % 64, by omega⟩ : Fin 64) = ⟨l.val % 64, by omega⟩ :=
      Fin.ext (by show (l.val - 1536) % 64 = l.val % 64; omega)
    have e' : ∀ d : Fin 64, (⟨1536 + (64 * ((l.val - 1536) / 64) + d.val), by omega⟩ : Fin 5120)
        = ⟨64 * (l.val / 64) + d.val, by omega⟩ :=
      fun d => Fin.ext (by show 1536 + (64 * ((l.val - 1536) / 64) + d.val) = 64 * (l.val / 64) + d.val; omega)
    simp only [e, e']
    rfl
  · rw [dif_neg (show ¬l.val - 1536 < 1536 by omega), if_neg h1]
    exact Cert.Attn.at3 u rfl rfl (show 3072 + (l.val - 1536 - 1536) = l.val by omega)

end Cert.RefAIdeal.Body

end
-- ==== Proof.ProjAClaim.lean ====
/-
  The value claim of the first projection: the kernel and the reference leave one array.
-/
module

public import proofs.«01_k».proof.Defs
public import proofs.«01_k».proof.Proof.ProjAValue
public import proofs.«01_k».proof.Proof.ProjARef
public import proofs.«01_k».proof.Proof.Gen.RefAIdeal.Run

@[expose] public section

set_option maxRecDepth 16384

noncomputable section

namespace Cert.Proof.ProjA

open Idealize.ShloMosaic Idealize.ShloMosaic.TcCoe Idealize.SL.Sem Cert.Proj Cert.ProjAIdeal.Body

variable (m : (ℓ : Loc Cert.ProjAIdeal.nD Cert.ProjAIdeal.τ Cert.ProjAIdeal.sig) → Buf (Elt Ideal) ℓ)

/-- What the kernel leaves is the reference's array of the same arguments. -/
theorem spec_eq (c : Dev Cert.ProjAIdeal.nD) (R : Fin 16384) (l : Fin 5120) :
    spec m c R l = Cert.RefAIdeal.Read.val_main_v115 (F := Ideal) (arg0 m c) (arg1 m c) (arg2 m c) (arg3 m c) (arg4 m c) (ix2 R l) := by
  refine Eq.trans ?_ (Cert.RefAIdeal.Body.out_apply _ _ _ _ _ R l).symm
  simp only [Cert.RefAIdeal.Body.prod_apply]
  rfl

theorem whole_eq (c : Dev Cert.ProjAIdeal.nD) :
    whole m c = Cert.RefAIdeal.Read.val_main_v115 (F := Ideal) (arg0 m c) (arg1 m c) (arg2 m c) (arg3 m c) (arg4 m c) := by
  funext i
  have hi : ix2 (i 0) (i 1) = i := funext fun a => by fin_cases a <;> rfl
  exact (spec_eq m c (i 0) (i 1)).trans (congrArg _ hi)

theorem algebraic [hK : Cert.ProjAIdeal.Facts] [hR : Cert.RefAIdeal.Facts] :
    Cert.algebraic_ProjAIdeal_RefAIdeal := by
  intro m g m' g' _ hagree
  refine ⟨fun c => whole m c, ?_, ?_⟩
  · refine (θ_run Cert.ProjAIdeal.defs _ _).mono (fun _ h c => ?_) (Cert.ProjAIdeal.Value.run_blocks (F := Ideal) m g)
    obtain ⟨h0, h1⟩ := h c
    exact ⟨h0.trans (final m c), h1⟩
  · refine (θ_run Cert.RefAIdeal.defs _ _).mono (fun _ h c => ?_) (Cert.RefAIdeal.Value.run (F := Ideal) m' g')
    obtain ⟨h0, h1⟩ := h c
    refine ⟨h0.trans ?_, h1⟩
    obtain ⟨a0, a1, a2, a3, a4⟩ := hagree c
    rw [Cert.RefAIdeal.Read.val_main_v115_eq, a0, a1, a2, a3, a4]
    exact (whole_eq m c).symm

end Cert.Proof.ProjA

end
-- ==== Proof.ProjBBody.lean ====
/-
  What one point of the second projection computes is what a point of the first does: normalised rows, a tile of the
  product, head normalisation, rotary embedding — and, for the gates, the logistic function.
-/
module

public import proofs.«01_k».proof.Proof.Gen.ProjBIdeal.Skeleton
public import proofs.«01_k».proof.Proof.ProjBody

@[expose] public section

set_option maxRecDepth 16384

noncomputable section

namespace Cert.ProjBIdeal.Body

open Cert.ProjBIdeal Cert.ProjBIdeal.Gen Idealize.ShloMosaic Idealize.ShloMosaic.TcCoe Idealize.SL.Sem Cert.Proj
open Cert.ProjAIdeal.Body (nrm rope)

variable (a : FVec Ideal S1024x256 .f32) (h : Vec Ideal S1024x1024 .bf16) (w : Vec Ideal S1024x256 .bf16)
  (g : Vec Ideal S1x256 .f32) (bd : Vec Ideal S256x256 .bf16) (cs sn : Vec Ideal S1024x128 .f32)

theorem pay1_eq : k0_pay1 a g bd = nrm a g bd := rfl
theorem pay2_eq : k0_pay2 a g bd = nrm a g bd := rfl
theorem pay3_eq : k0_pay3 a g bd cs sn = rope (nrm a g bd) cs sn := rfl
theorem pay4_eq : k0_pay4 a g bd cs sn = rope (nrm a g bd) cs sn := rfl

theorem pay5_apply (x : Vec Ideal S1024x1024 .f32) (y : Vec Ideal S1x1024 .f32) (r k : Fin 1024) :
    k0_pay5 x y (ix2 r k) = rms c1024 eps (fun i : Fin 1024 => x (ix2 r i)) (fun i : Fin 1024 => y (ix2 0 i)) k :=
  Cert.ProjAIdeal.Body.pay1_apply x y r k

theorem pay6_apply (r : Fin 1024) (l : Fin 256) : k0_pay6 h w (ix2 r l) = ∑ k : Fin 1024, h (ix2 r k) * w (ix2 k l) :=
  Cert.ProjAIdeal.Body.pay2_apply h w r l

theorem pay7_apply (r : Fin 1024) (l : Fin 256) : k0_pay7 h w (ix2 r l) = Ideal.logistic (k0_pay6 h w (ix2 r l)) := rfl

end Cert.ProjBIdeal.Body

end
-- ==== Proof.ProjBOpen.lean ====
/-
  What one grid point of the second projection leaves in its output tile and in the carried normalised rows, as the body's
  own expressions of the point's input blocks: the first point of a row of tiles stores the normalised rows, the others
  keep them.
-/
module

public import proofs.«01_k».proof.Proof.Gen.ProjBIdeal.Value
public import proofs.«01_k».proof.Proof.ProjBBody
public import Idealize.ShloMosaic.Lib.Tactic

@[expose] public section

set_option maxRecDepth 16384

noncomputable section

namespace Cert.ProjBIdeal.Body

open Cert.ProjBIdeal Cert.ProjBIdeal.Gen Idealize.ShloMosaic Idealize.ShloMosaic.TcCoe Idealize.SL.Sem

variable (m : (ℓ : Loc nD τ sig) → Buf (Elt Ideal) ℓ)

theorem hz2 : (![0, 0] : Fin 2 → Nat) = fun _ => 0 := funext fun a => by fin_cases a <;> rfl

/-- The normalised rows of a point's block of rows. -/
abbrev hblk (c : Dev nD) (t : Fin cfg0.N) : Vec Ideal S1024x1024 .bf16 := k0_pay5 (iblk m c 0 t) (iblk m c 1 t)

/-- The normalised rows the point before left. -/
abbrev hprev (c : Dev nD) (t : Fin cfg0.N) : Vec Ideal S1024x1024 .bf16 :=
  (outsAt0 m c (t.val - 1) (lt_of_le_of_lt (Nat.sub_le _ _) t.isLt)).2

/-- A whole buffer holding `f` reads as `f`. -/
theorem read_scratch (f : Vec Ideal S1024x1024 .bf16) :
    View.read (Elt Ideal) (View.whole cc0_scratch0)
      ((Memref.isWhole_whole _ : scM0_0.IsWhole).unread f) = f :=
  (Memref.isWhole_whole _ : scM0_0.IsWhole).read_unread f

theorem outs_A (c : Dev nD) (t : Fin cfg0.N) (h0 : t.val % 21 = 0) (h1 : ¬(t.val % 21 = 8 ∨ t.val % 21 = 9 ∨ t.val % 21 = 10 ∨ t.val % 21 = 11 ∨ t.val % 21 = 13 ∨ t.val % 21 = 15 ∨ t.val % 21 = 17)) (h2 : ¬18 ≤ t.val % 21) (h3 : t.val % 21 ≤ 3) (h4 : ¬t.val % 21 = 12) (h5 : ¬(4 ≤ t.val % 21 ∧ t.val % 21 ≤ 7)) (h6 : ¬(t.val % 21 = 14 ∨ t.val % 21 = 16)) :
    (outsAt0 m c t.val t.isLt).1
        = k0_pay1 (k0_pay6 (hblk m c t) (iblk m c 2 t)) (iblk m c 5 t) (iblk m c 7 t)
      ∧ (outsAt0 m c t.val t.isLt).2 = hblk m c t := by
  rw [outsAt0_A m c t h0 h1 h2 h3 h4 h5 h6]
  constructor
  · dsimp only
    unfold out0_A_8
    refine (View.read_writes_eq_canon _ _ _ (fun _ => cover0_A_8 ..)).trans ?_
    unfold kernelRun0_A
    dsimp only
    sl_unfold_words
    rw [View.canon_unit_zero hz2]
    rw [View.readCov_unit_zero (S := S1024x1024) _ hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S1024x1024) hz2, View.ld_unit_zero (S := S1x1024) hz2,
      View.ld_unit_zero (S := S1024x256) hz2, View.ld_unit_zero (S := S1x256) hz2,
      View.ld_unit_zero (S := S256x256) hz2, View.ld_unit_zero (S := S1024x128) hz2]
  · dsimp only
    unfold sout0_A_0
    refine (View.read_writes_eq_canon _ _ _ (fun _ => scover0_A_0 ..)).trans ?_
    unfold kernelRun0_A
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S1024x1024) hz2, View.ld_unit_zero (S := S1x1024) hz2,
      View.ld_unit_zero (S := S1024x256) hz2, View.ld_unit_zero (S := S1x256) hz2,
      View.ld_unit_zero (S := S256x256) hz2, View.ld_unit_zero (S := S1024x128) hz2]

theorem outs_B (c : Dev nD) (t : Fin cfg0.N) (h0 : ¬t.val % 21 = 0) (h1 : ¬(t.val % 21 = 8 ∨ t.val % 21 = 9 ∨ t.val % 21 = 10 ∨ t.val % 21 = 11 ∨ t.val % 21 = 13 ∨ t.val % 21 = 15 ∨ t.val % 21 = 17)) (h2 : ¬18 ≤ t.val % 21) (h3 : t.val % 21 ≤ 3) (h4 : ¬t.val % 21 = 12) (h5 : ¬(4 ≤ t.val % 21 ∧ t.val % 21 ≤ 7)) (h6 : ¬(t.val % 21 = 14 ∨ t.val % 21 = 16)) :
    (outsAt0 m c t.val t.isLt).1
        = k0_pay1 (k0_pay6 (hprev m c t) (iblk m c 2 t)) (iblk m c 5 t) (iblk m c 7 t)
      ∧ (outsAt0 m c t.val t.isLt).2 = hprev m c t := by
  rw [outsAt0_B m c t h0 h1 h2 h3 h4 h5 h6]
  constructor
  · dsimp only
    unfold out0_B_8
    refine (View.read_writes_eq_canon _ _ _ (fun _ => cover0_B_8 ..)).trans ?_
    unfold kernelRun0_B
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S1024x1024) hz2, View.ld_unit_zero (S := S1x1024) hz2,
      View.ld_unit_zero (S := S1024x256) hz2, View.ld_unit_zero (S := S1x256) hz2,
      View.ld_unit_zero (S := S256x256) hz2, View.ld_unit_zero (S := S1024x128) hz2]
    rw [read_scratch]
  · rfl

theorem outs_C (c : Dev nD) (t : Fin cfg0.N) (h0 : ¬t.val % 21 = 0) (h1 : ¬(t.val % 21 = 8 ∨ t.val % 21 = 9 ∨ t.val % 21 = 10 ∨ t.val % 21 = 11 ∨ t.val % 21 = 13 ∨ t.val % 21 = 15 ∨ t.val % 21 = 17)) (h2 : ¬18 ≤ t.val % 21) (h3 : ¬t.val % 21 ≤ 3) (h4 : ¬t.val % 21 = 12) (h5 : (4 ≤ t.val % 21 ∧ t.val % 21 ≤ 7)) (h6 : ¬(t.val % 21 = 14 ∨ t.val % 21 = 16)) :
    (outsAt0 m c t.val t.isLt).1
        = k0_pay3 (k0_pay6 (hprev m c t) (iblk m c 2 t)) (iblk m c 5 t) (iblk m c 7 t) (iblk m c 3 t) (iblk m c 4 t)
      ∧ (outsAt0 m c t.val t.isLt).2 = hprev m c t := by
  rw [outsAt0_C m c t h0 h1 h2 h3 h4 h5 h6]
  constructor
  · dsimp only
    unfold out0_C_8
    refine (View.read_writes_eq_canon _ _ _ (fun _ => cover0_C_8 ..)).trans ?_
    unfold kernelRun0_C
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S1024x1024) hz2, View.ld_unit_zero (S := S1x1024) hz2,
      View.ld_unit_zero (S := S1024x256) hz2, View.ld_unit_zero (S := S1x256) hz2,
      View.ld_unit_zero (S := S256x256) hz2, View.ld_unit_zero (S := S1024x128) hz2]
    rw [read_scratch]
  · rfl

theorem outs_D (c : Dev nD) (t : Fin cfg0.N) (h0 : ¬t.val % 21 = 0) (h1 : (t.val % 21 = 8 ∨ t.val % 21 = 9 ∨ t.val % 21 = 10 ∨ t.val % 21 = 11 ∨ t.val % 21 = 13 ∨ t.val % 21 = 15 ∨ t.val % 21 = 17)) (h2 : ¬18 ≤ t.val % 21) (h3 : ¬t.val % 21 ≤ 3) (h4 : ¬t.val % 21 = 12) (h5 : ¬(4 ≤ t.val % 21 ∧ t.val % 21 ≤ 7)) (h6 : ¬(t.val % 21 = 14 ∨ t.val % 21 = 16)) :
    (outsAt0 m c t.val t.isLt).1
        = k0_pay6 (hprev m c t) (iblk m c 2 t)
      ∧ (outsAt0 m c t.val t.isLt).2 = hprev m c t := by
  rw [outsAt0_D m c t h0 h1 h2 h3 h4 h5 h6]
  constructor
  · dsimp only
    unfold out0_D_8
    refine (View.read_writes_eq_canon _ _ _ (fun _ => cover0_D_8 ..)).trans ?_
    unfold kernelRun0_D
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S1024x1024) hz2, View.ld_unit_zero (S := S1x1024) hz2,
      View.ld_unit_zero (S := S1024x256) hz2, View.ld_unit_zero (S := S1x256) hz2,
      View.ld_unit_zero (S := S256x256) hz2, View.ld_unit_zero (S := S1024x128) hz2]
    rw [read_scratch]
  · rfl

theorem outs_E (c : Dev nD) (t : Fin cfg0.N) (h0 : ¬t.val % 21 = 0) (h1 : ¬(t.val % 21 = 8 ∨ t.val % 21 = 9 ∨ t.val % 21 = 10 ∨ t.val % 21 = 11 ∨ t.val % 21 = 13 ∨ t.val % 21 = 15 ∨ t.val % 21 = 17)) (h2 : ¬18 ≤ t.val % 21) (h3 : ¬t.val % 21 ≤ 3) (h4 : t.val % 21 = 12) (h5 : ¬(4 ≤ t.val % 21 ∧ t.val % 21 ≤ 7)) (h6 : ¬(t.val % 21 = 14 ∨ t.val % 21 = 16)) :
    (outsAt0 m c t.val t.isLt).1
        = k0_pay2 (k0_pay6 (hprev m c t) (iblk m c 2 t)) (iblk m c 6 t) (iblk m c 7 t)
      ∧ (outsAt0 m c t.val t.isLt).2 = hprev m c t := by
  rw [outsAt0_E m c t h0 h1 h2 h3 h4 h5 h6]
  constructor
  · dsimp only
    unfold out0_E_8
    refine (View.read_writes_eq_canon _ _ _ (fun _ => cover0_E_8 ..)).trans ?_
    unfold kernelRun0_E
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S1024x1024) hz2, View.ld_unit_zero (S := S1x1024) hz2,
      View.ld_unit_zero (S := S1024x256) hz2, View.ld_unit_zero (S := S1x256) hz2,
      View.ld_unit_zero (S := S256x256) hz2, View.ld_unit_zero (S := S1024x128) hz2]
    rw [read_scratch]
  · rfl

theorem outs_F (c : Dev nD) (t : Fin cfg0.N) (h0 : ¬t.val % 21 = 0) (h1 : ¬(t.val % 21 = 8 ∨ t.val % 21 = 9 ∨ t.val % 21 = 10 ∨ t.val % 21 = 11 ∨ t.val % 21 = 13 ∨ t.val % 21 = 15 ∨ t.val % 21 = 17)) (h2 : ¬18 ≤ t.val % 21) (h3 : ¬t.val % 21 ≤ 3) (h4 : ¬t.val % 21 = 12) (h5 : ¬(4 ≤ t.val % 21 ∧ t.val % 21 ≤ 7)) (h6 : (t.val % 21 = 14 ∨ t.val % 21 = 16)) :
    (outsAt0 m c t.val t.isLt).1
        = k0_pay4 (k0_pay6 (hprev m c t) (iblk m c 2 t)) (iblk m c 6 t) (iblk m c 7 t) (iblk m c 3 t) (iblk m c 4 t)
      ∧ (outsAt0 m c t.val t.isLt).2 = hprev m c t := by
  rw [outsAt0_F m c t h0 h1 h2 h3 h4 h5 h6]
  constructor
  · dsimp only
    unfold out0_F_8
    refine (View.read_writes_eq_canon _ _ _ (fun _ => cover0_F_8 ..)).trans ?_
    unfold kernelRun0_F
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S1024x1024) hz2, View.ld_unit_zero (S := S1x1024) hz2,
      View.ld_unit_zero (S := S1024x256) hz2, View.ld_unit_zero (S := S1x256) hz2,
      View.ld_unit_zero (S := S256x256) hz2, View.ld_unit_zero (S := S1024x128) hz2]
    rw [read_scratch]
  · rfl

theorem outs_G (c : Dev nD) (t : Fin cfg0.N) (h0 : ¬t.val % 21 = 0) (h1 : ¬(t.val % 21 = 8 ∨ t.val % 21 = 9 ∨ t.val % 21 = 10 ∨ t.val % 21 = 11 ∨ t.val % 21 = 13 ∨ t.val % 21 = 15 ∨ t.val % 21 = 17)) (h2 : 18 ≤ t.val % 21) (h3 : ¬t.val % 21 ≤ 3) (h4 : ¬t.val % 21 = 12) (h5 : ¬(4 ≤ t.val % 21 ∧ t.val % 21 ≤ 7)) (h6 : ¬(t.val % 21 = 14 ∨ t.val % 21 = 16)) :
    (outsAt0 m c t.val t.isLt).1
        = k0_pay7 (hprev m c t) (iblk m c 2 t)
      ∧ (outsAt0 m c t.val t.isLt).2 = hprev m c t := by
  rw [outsAt0_G m c t h0 h1 h2 h3 h4 h5 h6]
  constructor
  · dsimp only
    unfold out0_G_8
    refine (View.read_writes_eq_canon _ _ _ (fun _ => cover0_G_8 ..)).trans ?_
    unfold kernelRun0_G
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S1024x1024) hz2, View.ld_unit_zero (S := S1x1024) hz2,
      View.ld_unit_zero (S := S1024x256) hz2, View.ld_unit_zero (S := S1x256) hz2,
      View.ld_unit_zero (S := S256x256) hz2, View.ld_unit_zero (S := S1024x128) hz2]
    rw [read_scratch]
  · rfl

end Cert.ProjBIdeal.Body

end
-- ==== Proof.ProjBTables.lean ====
/-
  The arrays the second projection is given beside its weights, read at an element: the rows, the gains tiled over the heads,
  the cosine and sine tables, and the block-diagonal matrix.
-/
module

public import proofs.«01_k».proof.Proof.Gen.ProjBIdeal.Value
public import proofs.«01_k».proof.Proof.ProjBBody
public import Idealize.ShloMosaic.Lib.StableHlo.ReadAt

@[expose] public section

set_option maxRecDepth 16384

noncomputable section

namespace Cert.ProjBIdeal.Body

open Cert.ProjBIdeal Cert.ProjBIdeal.Gen Idealize.ShloMosaic Idealize.ShloMosaic.TcCoe Idealize.SL.Sem Cert.Proj

variable (m : (ℓ : Loc nD τ sig) → Buf (Elt Ideal) ℓ)

abbrev arg0 (c : Dev nD) : Vec Ideal S4x4096x1024 .f32 := m ((c : Thread nD τ).loc main_arg0)
abbrev arg1 (c : Dev nD) : Vec Ideal S1024 .f32 := m ((c : Thread nD τ).loc main_arg1)
abbrev arg2 (c : Dev nD) : Vec Ideal S1024x3632 .f32 := m ((c : Thread nD τ).loc main_arg2)
abbrev arg3 (c : Dev nD) : Vec Ideal S64 .f32 := m ((c : Thread nD τ).loc main_arg3)
abbrev arg4 (c : Dev nD) : Vec Ideal S64 .f32 := m ((c : Thread nD τ).loc main_arg4)

theorem rows_apply (c : Dev nD) (r : Fin 16384) (k : Fin 1024) :
    (V m c main_v22 : Vec Ideal S16384x1024 .f32) (ix2 r k)
      = arg0 m c (ix3 ⟨r.val / 4096, by omega⟩ ⟨r.val % 4096, by omega⟩ k) := by
  unfold V
  after_reads_at

theorem gain_apply (c : Dev nD) (k : Fin 1024) :
    (V m c main_v60 : Vec Ideal S1x1024 .f32) (ix2 0 k) = arg1 m c (ix1 k) := by
  unfold V
  after_reads_at

/-- Column `l` of the weights as the call lays them out: queries twice, the gate of the output, keys and values, then six
    tiles of eight gate columns and 120 columns of zeros. -/
def wcol (c : Dev nD) (k : Fin 1024) (l : Fin 5376) : EReal :=
  if _ : l.val < 1024 then arg2 m c (ix2 k ⟨l.val, by omega⟩)
  else if _ : l.val < 2048 then arg2 m c (ix2 k ⟨l.val - 1024, by omega⟩)
  else if _ : l.val < 3072 then arg2 m c (ix2 k ⟨560 + l.val, by omega⟩)
  else if _ : l.val < 4608 then arg2 m c (ix2 k ⟨l.val - 2048, by omega⟩)
  else if _ : (l.val - 4608) % 128 < 8 then
    arg2 m c (ix2 k ⟨2560 + 8 * ((l.val - 4608) / 128) + (l.val - 4608) % 128, by omega⟩)
  else 0

/-- The buffers just before the weights are joined. -/
def before (c : Dev nD) :=
  StableHlo.upto (Val := Elt Ideal) [hostOps0, hostOps0_1, hostOps0_2, hostOps0_3, hostOps0_4, hostOps0_5, hostOps0_6, hostOps0_7, hostOps0_8, hostOps0_9, hostOps0_10, hostOps0_11, hostOps0_12, hostOps0_13, hostOps0_14].flatten
    (fun b => m (c, b)) 53

theorem part_23 (c : Dev nD) (k : Fin 1024) (l : Fin 1024) :
    (before m c (Proc.tc.devRef main_v23) : Vec Ideal S1024x1024 .f32) (ix2 k l) = arg2 m c (ix2 k ⟨l.val, by omega⟩) := by
  unfold before
  after_reads_at

theorem part_26 (c : Dev nD) (k : Fin 1024) (l : Fin 1024) :
    (before m c (Proc.tc.devRef main_v26) : Vec Ideal S1024x1024 .f32) (ix2 k l) = arg2 m c (ix2 k ⟨2608 + l.val, by omega⟩) := by
  unfold before
  after_reads_at

theorem part_24 (c : Dev nD) (k : Fin 1024) (l : Fin 1536) :
    (before m c (Proc.tc.devRef main_v24) : Vec Ideal S1024x1536 .f32) (ix2 k l) = arg2 m c (ix2 k ⟨1024 + l.val, by omega⟩) := by
  unfold before
  after_reads_at

theorem part_28 (c : Dev nD) (k : Fin 1024) (l : Fin 128) :
    (before m c (Proc.tc.devRef main_v28) : Vec Ideal S1024x128 .f32) (ix2 k l)
      = if _ : l.val < 8 then arg2 m c (ix2 k ⟨2560 + l.val, by omega⟩) else 0 := by
  unfold before
  after_reads_at
  by_cases h : l.val < 8
  · rw [dif_pos h, dif_pos h]
  · rw [dif_neg h, dif_neg h]
    simp [FloatOps.sitofp]

theorem part_30 (c : Dev nD) (k : Fin 1024) (l : Fin 128) :
    (before m c (Proc.tc.devRef main_v30) : Vec Ideal S1024x128 .f32) (ix2 k l)
      = if _ : l.val < 8 then arg2 m c (ix2 k ⟨2568 + l.val, by omega⟩) else 0 := by
  unfold before
  after_reads_at
  by_cases h : l.val < 8
  · rw [dif_pos h, dif_pos h]
    exact Cert.Attn.at2 (arg2 m c) rfl (show 2560 + (8 + l.val) = 2568 + l.val by omega)
  · rw [dif_neg h, dif_neg h]
    simp [FloatOps.sitofp]

theorem part_32 (c : Dev nD) (k : Fin 1024) (l : Fin 128) :
    (before m c (Proc.tc.devRef main_v32) : Vec Ideal S1024x128 .f32) (ix2 k l)
      = if _ : l.val < 8 then arg2 m c (ix2 k ⟨2576 + l.val, by omega⟩) else 0 := by
  unfold before
  after_reads_at
  by_cases h : l.val < 8
  · rw [dif_pos h, dif_pos h]
    exact Cert.Attn.at2 (arg2 m c) rfl (show 2560 + (16 + l.val) = 2576 + l.val by omega)
  · rw [dif_neg h, dif_neg h]
    simp [FloatOps.sitofp]

theorem part_34 (c : Dev nD) (k : Fin 1024) (l : Fin 128) :
    (before m c (Proc.tc.devRef main_v34) : Vec Ideal S1024x128 .f32) (ix2 k l)
      = if _ : l.val < 8 then arg2 m c (ix2 k ⟨2584 + l.val, by omega⟩) else 0 := by
  unfold before
  after_reads_at
  by_cases h : l.val < 8
  · rw [dif_pos h, dif_pos h]
    exact Cert.Attn.at2 (arg2 m c) rfl (show 2560 + (24 + l.val) = 2584 + l.val by omega)
  · rw [dif_neg h, dif_neg h]
    simp [FloatOps.sitofp]

theorem part_36 (c : Dev nD) (k : Fin 1024) (l : Fin 128) :
    (before m c (Proc.tc.devRef main_v36) : Vec Ideal S1024x128 .f32) (ix2 k l)
      = if _ : l.val < 8 then arg2 m c (ix2 k ⟨2592 + l.val, by omega⟩) else 0 := by
  unfold before
  after_reads_at
  by_cases h : l.val < 8
  · rw [dif_pos h, dif_pos h]
    exact Cert.Attn.at2 (arg2 m c) rfl (show 2560 + (32 + l.val) = 2592 + l.val by omega)
  · rw [dif_neg h, dif_neg h]
    simp [FloatOps.sitofp]

theorem part_38 (c : Dev nD) (k : Fin 1024) (l : Fin 128) :
    (before m c (Proc.tc.devRef main_v38) : Vec Ideal S1024x128 .f32) (ix2 k l)
      = if _ : l.val < 8 then arg2 m c (ix2 k ⟨2600 + l.val, by omega⟩) else 0 := by
  unfold before
  after_reads_at
  by_cases h : l.val < 8
  · rw [dif_pos h, dif_pos h]
    exact Cert.Attn.at2 (arg2 m c) rfl (show 2560 + (40 + l.val) = 2600 + l.val by omega)
  · rw [dif_neg h, dif_neg h]
    simp [FloatOps.sitofp]

theorem joined (c : Dev nD) (k : Fin 1024) (l : Fin 5376) :
    (V m c main_v40 : Vec Ideal S1024x5376 .bf16) (ix2 k l) =
      if _ : l.val < 1024 then (before m c (Proc.tc.devRef main_v23) : Vec Ideal S1024x1024 .f32) (ix2 k ⟨l.val, by omega⟩)
      else
      if _ : l.val - 1024 < 1024 then (before m c (Proc.tc.devRef main_v23) : Vec Ideal S1024x1024 .f32) (ix2 k ⟨l.val - 1024, by omega⟩)
      else
      if _ : l.val - 1024 - 1024 < 1024 then (before m c (Proc.tc.devRef main_v26) : Vec Ideal S1024x1024 .f32) (ix2 k ⟨l.val - 1024 - 1024, by omega⟩)
      else
      if _ : l.val - 1024 - 1024 - 1024 < 1536 then (before m c (Proc.tc.devRef main_v24) : Vec Ideal S1024x1536 .f32) (ix2 k ⟨l.val - 1024 - 1024 - 1024, by omega⟩)
      else
      if _ : l.val - 1024 - 1024 - 1024 - 1536 < 128 then (before m c (Proc.tc.devRef main_v28) : Vec Ideal S1024x128 .f32) (ix2 k ⟨l.val - 1024 - 1024 - 1024 - 1536, by omega⟩)
      else
      if _ : l.val - 1024 - 1024 - 1024 - 1536 - 128 < 128 then (before m c (Proc.tc.devRef main_v30) : Vec Ideal S1024x128 .f32) (ix2 k ⟨l.val - 1024 - 1024 - 1024 - 1536 - 128, by omega⟩)
      else
      if _ : l.val - 1024 - 1024 - 1024 - 1536 - 128 - 128 < 128 then (before m c (Proc.tc.devRef main_v32) : Vec Ideal S1024x128 .f32) (ix2 k ⟨l.val - 1024 - 1024 - 1024 - 1536 - 128 - 128, by omega⟩)
      else
      if _ : l.val - 1024 - 1024 - 1024 - 1536 - 128 - 128 - 128 < 128 then (before m c (Proc.tc.devRef main_v34) : Vec Ideal S1024x128 .f32) (ix2 k ⟨l.val - 1024 - 1024 - 1024 - 1536 - 128 - 128 - 128, by omega⟩)
      else
      if _ : l.val - 1024 - 1024 - 1024 - 1536 - 128 - 128 - 128 - 128 < 128 then (before m c (Proc.tc.devRef main_v36) : Vec Ideal S1024x128 .f32) (ix2 k ⟨l.val - 1024 - 1024 - 1024 - 1536 - 128 - 128 - 128 - 128, by omega⟩)
      else
      (before m c (Proc.tc.devRef main_v38) : Vec Ideal S1024x128 .f32) (ix2 k ⟨l.val - 1024 - 1024 - 1024 - 1536 - 128 - 128 - 128 - 128 - 128, by omega⟩) := by
  unfold V
  after_reads_at
  rfl

set_option maxHeartbeats 2000000 in
theorem weight_apply (c : Dev nD) (k : Fin 1024) (l : Fin 5376) :
    (V m c main_v40 : Vec Ideal S1024x5376 .bf16) (ix2 k l) = wcol m c k l := by
  have hl := l.isLt
  rw [joined]
  unfold wcol
  by_cases h0 : l.val < 1024
  · rw [dif_pos h0, part_23, dif_pos (show l.val < 1024 by omega)]
  rw [dif_neg h0]
  by_cases h1 : l.val - 1024 < 1024
  · rw [dif_pos h1, part_23, dif_neg (show ¬l.val < 1024 by omega), dif_pos (show l.val < 2048 by omega)]
  rw [dif_neg h1]
  by_cases h2 : l.val - 1024 - 1024 < 1024
  · rw [dif_pos h2, part_26, dif_neg (show ¬l.val < 1024 by omega), dif_neg (show ¬l.val < 2048 by omega), dif_pos (show l.val < 3072 by omega)]
    exact Cert.Attn.at2 (arg2 m c) rfl (show 2608 + (l.val - 1024 - 1024) = 560 + l.val by omega)
  rw [dif_neg h2]
  by_cases h3 : l.val - 1024 - 1024 - 1024 < 1536
  · rw [dif_pos h3, part_24, dif_neg (show ¬l.val < 1024 by omega), dif_neg (show ¬l.val < 2048 by omega), dif_neg (show ¬l.val < 3072 by omega), dif_pos (show l.val < 4608 by omega)]
    exact Cert.Attn.at2 (arg2 m c) rfl (show 1024 + (l.val - 1024 - 1024 - 1024) = l.val - 2048 by omega)
  rw [dif_neg h3]
  by_cases h4 : l.val - 1024 - 1024 - 1024 - 1536 < 128
  · rw [dif_pos h4, part_28, dif_neg (show ¬l.val < 1024 by omega), dif_neg (show ¬l.val < 2048 by omega), dif_neg (show ¬l.val < 3072 by omega), dif_neg (show ¬l.val < 4608 by omega)]
    by_cases h : (l.val - 4608) % 128 < 8
    · rw [dif_pos h, dif_pos (show (l.val - 1024 - 1024 - 1024 - 1536) < 8 by omega)]
      exact Cert.Attn.at2 (arg2 m c) rfl (show 2560 + (l.val - 1024 - 1024 - 1024 - 1536)
        = 2560 + 8 * ((l.val - 4608) / 128) + (l.val - 4608) % 128 by omega)
    · rw [dif_neg h, dif_neg (show ¬(l.val - 1024 - 1024 - 1024 - 1536) < 8 by omega)]
  rw [dif_neg h4]
  by_cases h5 : l.val - 1024 - 1024 - 1024 - 1536 - 128 < 128
  · rw [dif_pos h5, part_30, dif_neg (show ¬l.val < 1024 by omega), dif_neg (show ¬l.val < 2048 by omega), dif_neg (show ¬l.val < 3072 by omega), dif_neg (show ¬l.val < 4608 by omega)]
    by_cases h : (l.val - 4608) % 128 < 8
    · rw [dif_pos h, dif_pos (show (l.val - 1024 - 1024 - 1024 - 1536 - 128) < 8 by omega)]
      exact Cert.Attn.at2 (arg2 m c) rfl (show 2568 + (l.val - 1024 - 1024 - 1024 - 1536 - 128)
        = 2560 + 8 * ((l.val - 4608) / 128) + (l.val - 4608) % 128 by omega)
    · rw [dif_neg h, dif_neg (show ¬(l.val - 1024 - 1024 - 1024 - 1536 - 128) < 8 by omega)]
  rw [dif_neg h5]
  by_cases h6 : l.val - 1024 - 1024 - 1024 - 1536 - 128 - 128 < 128
  · rw [dif_pos h6, part_32, dif_neg (show ¬l.val < 1024 by omega), dif_neg (show ¬l.val < 2048 by omega), dif_neg (show ¬l.val < 3072 by omega), dif_neg (show ¬l.val < 4608 by omega)]
    by_cases h : (l.val - 4608) % 128 < 8
    · rw [dif_pos h, dif_pos (show (l.val - 1024 - 1024 - 1024 - 1536 - 128 - 128) < 8 by omega)]
      exact Cert.Attn.at2 (arg2 m c) rfl (show 2576 + (l.val - 1024 - 1024 - 1024 - 1536 - 128 - 128)
        = 2560 + 8 * ((l.val - 4608) / 128) + (l.val - 4608) % 128 by omega)
    · rw [dif_neg h, dif_neg (show ¬(l.val - 1024 - 1024 - 1024 - 1536 - 128 - 128) < 8 by omega)]
  rw [dif_neg h6]
  by_cases h7 : l.val - 1024 - 1024 - 1024 - 1536 - 128 - 128 - 128 < 128
  · rw [dif_pos h7, part_34, dif_neg (show ¬l.val < 1024 by omega), dif_neg (show ¬l.val < 2048 by omega), dif_neg (show ¬l.val < 3072 by omega), dif_neg (show ¬l.val < 4608 by omega)]
    by_cases h : (l.val - 4608) % 128 < 8
    · rw [dif_pos h, dif_pos (show (l.val - 1024 - 1024 - 1024 - 1536 - 128 - 128 - 128) < 8 by omega)]
      exact Cert.Attn.at2 (arg2 m c) rfl (show 2584 + (l.val - 1024 - 1024 - 1024 - 1536 - 128 - 128 - 128)
        = 2560 + 8 * ((l.val - 4608) / 128) + (l.val - 4608) % 128 by omega)
    · rw [dif_neg h, dif_neg (show ¬(l.val - 1024 - 1024 - 1024 - 1536 - 128 - 128 - 128) < 8 by omega)]
  rw [dif_neg h7]
  by_cases h8 : l.val - 1024 - 1024 - 1024 - 1536 - 128 - 128 - 128 - 128 < 128
  · rw [dif_pos h8, part_36, dif_neg (show ¬l.val < 1024 by omega), dif_neg (show ¬l.val < 2048 by omega), dif_neg (show ¬l.val < 3072 by omega), dif_neg (show ¬l.val < 4608 by omega)]
    by_cases h : (l.val - 4608) % 128 < 8
    · rw [dif_pos h, dif_pos (show (l.val - 1024 - 1024 - 1024 - 1536 - 128 - 128 - 128 - 128) < 8 by omega)]
      exact Cert.Attn.at2 (arg2 m c) rfl (show 2592 + (l.val - 1024 - 1024 - 1024 - 1536 - 128 - 128 - 128 - 128)
        = 2560 + 8 * ((l.val - 4608) / 128) + (l.val - 4608) % 128 by omega)
    · rw [dif_neg h, dif_neg (show ¬(l.val - 1024 - 1024 - 1024 - 1536 - 128 - 128 - 128 - 128) < 8 by omega)]
  rw [dif_neg h8]
  rw [part_38, dif_neg (show ¬l.val < 1024 by omega), dif_neg (show ¬l.val < 2048 by omega), dif_neg (show ¬l.val < 3072 by omega), dif_neg (show ¬l.val < 4608 by omega)]
  by_cases h : (l.val - 4608) % 128 < 8
  · rw [dif_pos h, dif_pos (show (l.val - 1024 - 1024 - 1024 - 1536 - 128 - 128 - 128 - 128 - 128) < 8 by omega)]
    exact Cert.Attn.at2 (arg2 m c) rfl (show 2600 + (l.val - 1024 - 1024 - 1024 - 1536 - 128 - 128 - 128 - 128 - 128)
      = 2560 + 8 * ((l.val - 4608) / 128) + (l.val - 4608) % 128 by omega)
  · rw [dif_neg h, dif_neg (show ¬(l.val - 1024 - 1024 - 1024 - 1536 - 128 - 128 - 128 - 128 - 128) < 8 by omega)]

theorem qgain_apply (c : Dev nD) (l : Fin 256) :
    (V m c main_v44 : Vec Ideal S1x256 .f32) (ix2 0 l) = arg3 m c (ix1 ⟨l.val % 64, by omega⟩) := by
  unfold V
  after_reads_at
theorem kgain_apply (c : Dev nD) (l : Fin 256) :
    (V m c main_v48 : Vec Ideal S1x256 .f32) (ix2 0 l) = arg4 m c (ix1 ⟨l.val % 64, by omega⟩) := by
  unfold V
  after_reads_at

theorem cos_apply (c : Dev nD) (r : Fin 16384) (x : Fin 128) :
    (V m c main_v18 : Vec Ideal S16384x128 .f32) (ix2 r x) = Ideal.cos (ang (r.val % 4096) (x.val % 32)) := by
  have hx := x.isLt
  unfold V
  after_reads_at
  by_cases h0 : x.val < 32
  · rw [dif_pos h0]
    after_reads_at
    rw [show x.val % 32 = x.val by omega]
    rfl
  rw [dif_neg h0]
  by_cases h1 : x.val - 32 < 32
  · rw [dif_pos h1]
    after_reads_at
    rw [show x.val % 32 = x.val - 32 by omega]
    rfl
  rw [dif_neg h1]
  by_cases h2 : x.val - 32 - 32 < 32
  · rw [dif_pos h2]
    after_reads_at
    rw [show x.val % 32 = x.val - 32 - 32 by omega]
    rfl
  rw [dif_neg h2]
  after_reads_at
  rw [show x.val % 32 = x.val - 32 - 32 - 32 by omega]
  rfl

theorem sin_apply (c : Dev nD) (r : Fin 16384) (x : Fin 128) :
    (V m c main_v21 : Vec Ideal S16384x128 .f32) (ix2 r x)
      = if x.val % 64 < 32 then -Ideal.sin (ang (r.val % 4096) (x.val % 32)) else Ideal.sin (ang (r.val % 4096) (x.val % 32)) := by
  have hx := x.isLt
  unfold V
  after_reads_at
  by_cases h0 : x.val < 32
  · rw [dif_pos h0]
    rw [if_pos (show x.val % 64 < 32 by omega)]
    after_reads_at
    rw [show x.val % 32 = x.val by omega]
    rfl
  rw [dif_neg h0]
  by_cases h1 : x.val - 32 < 32
  · rw [dif_pos h1]
    rw [if_neg (show ¬ x.val % 64 < 32 by omega)]
    after_reads_at
    rw [show x.val % 32 = x.val - 32 by omega]
    rfl
  rw [dif_neg h1]
  by_cases h2 : x.val - 32 - 32 < 32
  · rw [dif_pos h2]
    rw [if_pos (show x.val % 64 < 32 by omega)]
    after_reads_at
    rw [show x.val % 32 = x.val - 32 - 32 by omega]
    rfl
  rw [dif_neg h2]
  rw [if_neg (show ¬ x.val % 64 < 32 by omega)]
  after_reads_at
  rw [show x.val % 32 = x.val - 32 - 32 - 32 by omega]
  rfl

/-- The floor of a number below 256 by 64, as the program computes it on 32-bit words. -/
def flo (k : BitVec 32) : BitVec 32 :=
  Scalar.select
    (IntOp.andi
      (IntOp.cmpi CmpIPredicate.ne
        (if k = 0 then (0 : BitVec 32) else if k.msb = true then -1 else 1)
        (if (64#32 : BitVec 32) = 0 then (0 : BitVec 32) else if BitVec.msb (64#32) = true then -1 else 1))
      (IntOp.cmpi CmpIPredicate.ne (IntOp.remsi ArithUnit.host k 64#32) 0#32))
    (IntOp.subi (IntOp.divsi ArithUnit.host k 64#32) 1#32)
    (IntOp.divsi ArithUnit.host k 64#32)

theorem flo_eq : ∀ k : Fin 256, flo (BitVec.ofNat 32 k.val) = BitVec.ofNat 32 (k.val / 64) := by
  decide +kernel

theorem head_eq : ∀ a b : Fin 4, IntOp.cmpi CmpIPredicate.eq (BitVec.ofNat 32 a.val) (BitVec.ofNat 32 b.val)
    = if a.val = b.val then 1#1 else 0#1 := by
  decide +kernel

theorem bd_apply (c : Dev nD) (k l : Fin 256) :
    (V m c main_v59 : Vec Ideal S256x256 .bf16) (ix2 k l) = if k.val / 64 = l.val / 64 then Ideal.div 1 c64 else 0 := by
  unfold V
  after_reads_at
  show Ideal.div (FloatOps.uitofp (F := Ideal) FTy.f32
      (IntOp.cmpi CmpIPredicate.eq (flo (BitVec.ofNat 32 k.val)) (flo (BitVec.ofNat 32 l.val)))) c64 = _
  rw [flo_eq k, flo_eq l]
  rw [head_eq ⟨k.val / 64, by omega⟩ ⟨l.val / 64, by omega⟩]
  by_cases h : k.val / 64 = l.val / 64
  · rw [if_pos h, if_pos h]
    exact congrArg (Ideal.div · c64) (by simp [FloatOps.uitofp])
  · rw [if_neg h, if_neg h]
    rw [show (FloatOps.uitofp (F := Ideal) FTy.f32 (0#1 : BitVec 1) : EReal) = 0 by simp [FloatOps.uitofp], ofBits_c64,
      Ideal.div_coe (y := 64) (by norm_num), zero_mul]

end Cert.ProjBIdeal.Body

end
-- ==== Proof.ProjBValue.lean ====
/-
  The second projection: the tile each grid point writes, and the whole array the call returns, in terms of its arguments.
-/
module

public import proofs.«01_k».proof.Proof.ProjBOpen
public import proofs.«01_k».proof.Proof.ProjBTables

@[expose] public section

set_option maxRecDepth 16384

noncomputable section

namespace Cert.ProjBIdeal.Body

open Cert.ProjBIdeal Cert.ProjBIdeal.Gen Idealize.ShloMosaic Idealize.ShloMosaic.TcCoe Idealize.SL.Sem Cert.Proj
open Idealize.ShloMosaic.Pipeline (Dat)
open Cert.ProjAIdeal.Body (nrm rope nrm_apply rope_apply)
open Cert.ProjBIdeal.Value (flushed8 covered_iff8)

variable (m : (ℓ : Loc nD τ sig) → Buf (Elt Ideal) ℓ)

/-- Row `R` of the input, and column `l` of the product of its normalised form with the weights. -/
def xrow (c : Dev nD) (R : Fin 16384) : Fin 1024 → EReal :=
  fun k => arg0 m c (ix3 ⟨R.val / 4096, by omega⟩ ⟨R.val % 4096, by omega⟩ k)
def uu (c : Dev nD) (R : Fin 16384) (l : Fin 5376) : EReal :=
  col (xrow m c R) (fun k => arg1 m c (ix1 k)) (fun k => wcol m c k l)
/-- The 64 columns of the head column `l` belongs to. -/
def uhead (c : Dev nD) (R : Fin 16384) (l : Fin 5376) : Fin 64 → EReal :=
  fun d => uu m c R ⟨64 * (l.val / 64) + d.val, by omega⟩

/-- What the call returns at row `R`, column `l`: queries, turned queries, the gate of the output, keys and values three
    times — the second and third keys turned —, then the branches' gates. -/
def spec (c : Dev nD) (R : Fin 16384) (l : Fin 5376) : EReal :=
  if l.val < 1024 then rms c64 eps (uhead m c R l) (fun d => arg3 m c (ix1 d)) ⟨l.val % 64, by omega⟩
  else if l.val < 2048 then head (R.val % 4096) (uhead m c R l) (fun d => arg3 m c (ix1 d)) ⟨l.val % 64, by omega⟩
  else if l.val < 3072 then uu m c R l
  else if l.val < 3328 then rms c64 eps (uhead m c R l) (fun d => arg4 m c (ix1 d)) ⟨l.val % 64, by omega⟩
  else if l.val < 3584 then uu m c R l
  else if l.val < 3840 then head (R.val % 4096) (uhead m c R l) (fun d => arg4 m c (ix1 d)) ⟨l.val % 64, by omega⟩
  else if l.val < 4096 then uu m c R l
  else if l.val < 4352 then head (R.val % 4096) (uhead m c R l) (fun d => arg4 m c (ix1 d)) ⟨l.val % 64, by omega⟩
  else if l.val < 4608 then uu m c R l
  else Ideal.logistic (uu m c R l)

/-- Row and column of the array that a point's block has at `r`, `l`. -/
abbrev rowAt (t : Fin cfg0.N) (r : Fin 1024) : Fin 16384 :=
  ⟨1024 * (t.val / 21) + r.val, by have : t.val < 336 := t.isLt; omega⟩
abbrev colAt (t : Fin cfg0.N) (l : Fin 256) : Fin 5376 := ⟨256 * (t.val % 21) + l.val, by omega⟩

theorem idx_0 : ∀ t : Fin cfg0.N, win0_0.index t (0 : Fin 2) = t.val / 21 ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = t.val % 21 :=
  (by decide +kernel : ∀ t : Fin grid0.N, _)
theorem idx_3 : ∀ t : Fin cfg0.N, win0_3.index t (0 : Fin 2) = t.val / 21 ∧ win0_3.index t (1 : Fin 2) = 0 :=
  (by decide +kernel : ∀ t : Fin grid0.N, _)
theorem idx_4 : ∀ t : Fin cfg0.N, win0_4.index t (0 : Fin 2) = t.val / 21 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)

theorem read_x (c : Dev nD) (t : Fin cfg0.N) (r k : Fin 1024) :
    (iblk m c 0 t : Vec Ideal S1024x1024 .f32) (ix2 r k) = xrow m c (rowAt t r) k := by
  obtain ⟨e0, e1⟩ := idx_0 t
  refine Eq.trans ?_ (rows_apply m c (rowAt t r) k)
  unfold iblk
  rw [View.read_apply]
  show V m c main_v22 _ = V m c main_v22 _
  refine congrArg (V m c main_v22) (funext fun a => Fin.ext ?_)
  match a with
  | ⟨0, _⟩ => show win0_0.index t 0 * 1024 + 1 * r.val = 1024 * (t.val / 21) + r.val ; rw [e0]; try omega
  | ⟨1, _⟩ => show win0_0.index t 1 * 1024 + 1 * k.val = k.val ; rw [e1]; try omega

theorem read_g (c : Dev nD) (t : Fin cfg0.N) (k : Fin 1024) :
    (iblk m c 1 t : Vec Ideal S1x1024 .f32) (ix2 0 k) = arg1 m c (ix1 k) := by
  obtain ⟨e0, e1⟩ := idx_1 t
  refine Eq.trans ?_ (gain_apply m c k)
  unfold iblk
  rw [View.read_apply]
  show V m c main_v60 _ = V m c main_v60 _
  refine congrArg (V m c main_v60) (funext fun a => Fin.ext ?_)
  match a with
  | ⟨0, _⟩ => show win0_1.index t 0 * 1 + 1 * 0 = 0 ; rw [e0]; try omega
  | ⟨1, _⟩ => show win0_1.index t 1 * 1024 + 1 * k.val = k.val ; rw [e1]; try omega

theorem read_w (c : Dev nD) (t : Fin cfg0.N) (k : Fin 1024) (l : Fin 256) :
    (iblk m c 2 t : Vec Ideal S1024x256 .bf16) (ix2 k l) = wcol m c k (colAt t l) := by
  obtain ⟨e0, e1⟩ := idx_2 t
  refine Eq.trans ?_ (weight_apply m c k (colAt t l))
  unfold iblk
  rw [View.read_apply]
  show V m c main_v40 _ = V m c main_v40 _
  refine congrArg (V m c main_v40) (funext fun a => Fin.ext ?_)
  match a with
  | ⟨0, _⟩ => show win0_2.index t 0 * 1024 + 1 * k.val = k.val ; rw [e0]; try omega
  | ⟨1, _⟩ => show win0_2.index t 1 * 256 + 1 * l.val = 256 * (t.val % 21) + l.val ; rw [e1]; try omega

theorem read_cos (c : Dev nD) (t : Fin cfg0.N) (r : Fin 1024) (x : Fin 128) :
    (iblk m c 3 t : Vec Ideal S1024x128 .f32) (ix2 r x) = Ideal.cos (ang ((rowAt t r).val % 4096) (x.val % 32)) := by
  obtain ⟨e0, e1⟩ := idx_3 t
  refine Eq.trans ?_ (cos_apply m c (rowAt t r) x)
  unfold iblk
  rw [View.read_apply]
  show V m c main_v18 _ = V m c main_v18 _
  refine congrArg (V m c main_v18) (funext fun a => Fin.ext ?_)
  match a with
  | ⟨0, _⟩ => show win0_3.index t 0 * 1024 + 1 * r.val = 1024 * (t.val / 21) + r.val ; rw [e0]; try omega
  | ⟨1, _⟩ => show win0_3.index t 1 * 128 + 1 * x.val = x.val ; rw [e1]; try omega

theorem read_sin (c : Dev nD) (t : Fin cfg0.N) (r : Fin 1024) (x : Fin 128) :
    (iblk m c 4 t : Vec Ideal S1024x128 .f32) (ix2 r x) = if x.val % 64 < 32 then -Ideal.sin (ang ((rowAt t r).val % 4096) (x.val % 32))
      else Ideal.sin (ang ((rowAt t r).val % 4096) (x.val % 32)) := by
  obtain ⟨e0, e1⟩ := idx_4 t
  refine Eq.trans ?_ (sin_apply m c (rowAt t r) x)
  unfold iblk
  rw [View.read_apply]
  show V m c main_v21 _ = V m c main_v21 _
  refine congrArg (V m c main_v21) (funext fun a => Fin.ext ?_)
  match a with
  | ⟨0, _⟩ => show win0_4.index t 0 * 1024 + 1 * r.val = 1024 * (t.val / 21) + r.val ; rw [e0]; try omega
  | ⟨1, _⟩ => show win0_4.index t 1 * 128 + 1 * x.val = x.val ; rw [e1]; try omega

theorem read_qg (c : Dev nD) (t : Fin cfg0.N) (l : Fin 256) :
    (iblk m c 5 t : Vec Ideal S1x256 .f32) (ix2 0 l) = arg3 m c (ix1 ⟨l.val % 64, by omega⟩) := by
  obtain ⟨e0, e1⟩ := idx_5 t
  refine Eq.trans ?_ (qgain_apply m c l)
  unfold iblk
  rw [View.read_apply]
  show V m c main_v44 _ = V m c main_v44 _
  refine congrArg (V m c main_v44) (funext fun a => Fin.ext ?_)
  match a with
  | ⟨0, _⟩ => show win0_5.index t 0 * 1 + 1 * 0 = 0 ; rw [e0]; try omega
  | ⟨1, _⟩ => show win0_5.index t 1 * 256 + 1 * l.val = l.val ; rw [e1]; try omega

theorem read_kg (c : Dev nD) (t : Fin cfg0.N) (l : Fin 256) :
    (iblk m c 6 t : Vec Ideal S1x256 .f32) (ix2 0 l) = arg4 m c (ix1 ⟨l.val % 64, by omega⟩) := by
  obtain ⟨e0, e1⟩ := idx_6 t
  refine Eq.trans ?_ (kgain_apply m c l)
  unfold iblk
  rw [View.read_apply]
  show V m c main_v48 _ = V m c main_v48 _
  refine congrArg (V m c main_v48) (funext fun a => Fin.ext ?_)
  match a with
  | ⟨0, _⟩ => show win0_6.index t 0 * 1 + 1 * 0 = 0 ; rw [e0]; try omega
  | ⟨1, _⟩ => show win0_6.index t 1 * 256 + 1 * l.val = l.val ; rw [e1]; try omega

theorem read_bd (c : Dev nD) (t : Fin cfg0.N) (k l : Fin 256) :
    (iblk m c 7 t : Vec Ideal S256x256 .bf16) (ix2 k l) = if k.val / 64 = l.val / 64 then Ideal.div 1 c64 else 0 := by
  obtain ⟨e0, e1⟩ := idx_7 t
  refine Eq.trans ?_ (bd_apply m c k l)
  unfold iblk
  rw [View.read_apply]
  show V m c main_v59 _ = V m c main_v59 _
  refine congrArg (V m c main_v59) (funext fun a => Fin.ext ?_)
  match a with
  | ⟨0, _⟩ => show win0_7.index t 0 * 256 + 1 * k.val = k.val ; rw [e0]; try omega
  | ⟨1, _⟩ => show win0_7.index t 1 * 256 + 1 * l.val = l.val ; rw [e1]; try omega

/-- The normalised rows of a point, in terms of the arguments. -/
def Rows (c : Dev nD) (i : ℕ) (h : Vec Ideal S1024x1024 .bf16) : Prop :=
  ∀ (r k : Fin 1024) (R : Fin 16384), R.val = 1024 * i + r.val →
    h (ix2 r k) = rms c1024 eps (xrow m c R) (fun k => arg1 m c (ix1 k)) k

theorem rows_hblk (c : Dev nD) (t : Fin cfg0.N) : Rows m c (t.val / 21) (hblk m c t) := by
  intro r k R hR
  obtain rfl : R = rowAt t r := Fin.ext hR
  rw [hblk, pay5_apply]
  exact rms_congr _ _ (fun i => read_x m c t r i) (fun i => read_g m c t i) rfl

theorem carry (c : Dev nD) (t : Fin cfg0.N) (h0 : ¬t.val % 21 = 0) : (outsAt0 m c t.val t.isLt).2 = hprev m c t := by
  by_cases h2 : 18 ≤ t.val % 21
  · exact (outs_G m c t h0 (by omega) h2 (by omega) (by omega) (by omega) (by omega)).2
  by_cases h3 : t.val % 21 ≤ 3
  · exact (outs_B m c t h0 (by omega) h2 h3 (by omega) (by omega) (by omega)).2
  by_cases h5 : 4 ≤ t.val % 21 ∧ t.val % 21 ≤ 7
  · exact (outs_C m c t h0 (by omega) h2 h3 (by omega) h5 (by omega)).2
  by_cases h4 : t.val % 21 = 12
  · exact (outs_E m c t h0 (by omega) h2 h3 h4 h5 (by omega)).2
  by_cases h6 : t.val % 21 = 14 ∨ t.val % 21 = 16
  · exact (outs_F m c t h0 (by omega) h2 h3 h4 h5 h6).2
  · exact (outs_D m c t h0 (by omega) h2 h3 h4 h5 h6).2

/-- The carried rows after a point are the normalised rows of the point's block of rows. -/
theorem rows_scr (c : Dev nD) : ∀ (n : ℕ) (h : n < cfg0.N), Rows m c (n / 21) (outsAt0 m c n h).2 := by
  intro n
  induction n with
  | zero =>
    intro h
    rw [(outs_A m c ⟨0, h⟩ (by show 0 % 21 = 0; decide) (by show ¬(0 % 21 = 8 ∨ 0 % 21 = 9 ∨ 0 % 21 = 10 ∨ 0 % 21 = 11 ∨ 0 % 21 = 13 ∨ 0 % 21 = 15 ∨ 0 % 21 = 17); decide)
      (by show ¬18 ≤ 0 % 21; decide) (by show 0 % 21 ≤ 3; decide) (by show ¬0 % 21 = 12; decide)
      (by show ¬(4 ≤ 0 % 21 ∧ 0 % 21 ≤ 7); decide) (by show ¬(0 % 21 = 14 ∨ 0 % 21 = 16); decide)).2]
    exact rows_hblk m c ⟨0, h⟩
  | succ n ih =>
    intro h
    by_cases h0 : (n + 1) % 21 = 0
    · rw [(outs_A m c ⟨n + 1, h⟩ h0 (by dsimp only; omega) (by dsimp only; omega) (by dsimp only; omega) (by dsimp only; omega)
        (by dsimp only; omega) (by dsimp only; omega)).2]
      exact rows_hblk m c ⟨n + 1, h⟩
    · rw [carry m c ⟨n + 1, h⟩ h0, show (n + 1) / 21 = n / 21 by omega]
      exact ih _

theorem rows_prev (c : Dev nD) (t : Fin cfg0.N) (h0 : ¬t.val % 21 = 0) : Rows m c (t.val / 21) (hprev m c t) := by
  rw [show t.val / 21 = (t.val - 1) / 21 by omega]
  exact rows_scr m c (t.val - 1) _

/-- The product of a point's rows with its columns of weights. -/
theorem prod_tile (c : Dev nD) (t : Fin cfg0.N) (H : Vec Ideal S1024x1024 .bf16) (hH : Rows m c (t.val / 21) H)
    (r : Fin 1024) (l : Fin 256) : k0_pay6 H (iblk m c 2 t) (ix2 r l) = uu m c (rowAt t r) (colAt t l) := by
  rw [pay6_apply]
  unfold uu col
  exact Finset.sum_congr rfl fun k _ => congrArg₂ (· * ·) (hH r k _ rfl) (read_w m c t k l)

/-- A tile of heads, normalised with a gain. -/
theorem norm_tile (c : Dev nD) (t : Fin cfg0.N) (H : Vec Ideal S1024x1024 .bf16) (hH : Rows m c (t.val / 21) H)
    (g : Vec Ideal S1x256 .f32) (gain : Fin 64 → EReal) (hg : ∀ l : Fin 256, g (ix2 0 l) = gain ⟨l.val % 64, by omega⟩)
    (r : Fin 1024) (l : Fin 256) :
    nrm (k0_pay6 H (iblk m c 2 t)) g (iblk m c 7 t) (ix2 r l)
      = rms c64 eps (uhead m c (rowAt t r) (colAt t l)) gain ⟨(colAt t l).val % 64, by omega⟩ := by
  have hl := l.isLt
  rw [nrm_apply _ _ _ (fun k l => read_bd m c t k l)]
  refine rms_congr _ _ (fun i => ?_) (fun i => ?_) (Fin.ext ?_)
  · refine (prod_tile m c t H hH _ _).trans ?_
    unfold uhead
    refine congrArg (uu m c (rowAt t r)) (Fin.ext ?_)
    show 256 * (t.val % 21) + (64 * (l.val / 64) + i.val) = 64 * ((256 * (t.val % 21) + l.val) / 64) + i.val
    omega
  · refine (hg _).trans ?_
    have hi := i.isLt
    refine congrArg gain (Fin.ext ?_)
    show (64 * (l.val / 64) + i.val) % 64 = i.val
    omega
  · show l.val % 64 = (256 * (t.val % 21) + l.val) % 64
    omega

/-- A tile of heads, normalised with a gain and turned. -/
theorem head_tile (c : Dev nD) (t : Fin cfg0.N) (H : Vec Ideal S1024x1024 .bf16) (hH : Rows m c (t.val / 21) H)
    (g : Vec Ideal S1x256 .f32) (gain : Fin 64 → EReal) (hg : ∀ l : Fin 256, g (ix2 0 l) = gain ⟨l.val % 64, by omega⟩)
    (r : Fin 1024) (l : Fin 256) :
    rope (nrm (k0_pay6 H (iblk m c 2 t)) g (iblk m c 7 t)) (iblk m c 3 t) (iblk m c 4 t) (ix2 r l)
      = head ((rowAt t r).val % 4096) (uhead m c (rowAt t r) (colAt t l)) gain ⟨(colAt t l).val % 64, by omega⟩ := by
  have hl := l.isLt
  refine (rope_apply _ _ _ r l (fun x : Fin 32 => Ideal.cos (ang ((rowAt t r).val % 4096) x.val))
    (fun x => Ideal.sin (ang ((rowAt t r).val % 4096) x.val)) (fun x => read_cos m c t r x) (fun x => read_sin m c t r x)).trans ?_
  unfold head
  have e : (⟨l.val % 64, by omega⟩ : Fin 64) = ⟨(colAt t l).val % 64, by omega⟩ :=
    Fin.ext (by show l.val % 64 = (256 * (t.val % 21) + l.val) % 64; omega)
  rw [e]
  refine congrArg (fun y => rot y _ _ _) (funext fun d => ?_)
  have hd := d.isLt
  refine (norm_tile m c t H hH g gain hg r ⟨64 * (l.val / 64) + d.val, by omega⟩).trans ?_
  have e1 : uhead m c (rowAt t r) (colAt t ⟨64 * (l.val / 64) + d.val, by omega⟩) = uhead m c (rowAt t r) (colAt t l) := by
    funext i
    unfold uhead
    refine congrArg (uu m c (rowAt t r)) (Fin.ext ?_)
    show 64 * ((256 * (t.val % 21) + (64 * (l.val / 64) + d.val)) / 64) + i.val
      = 64 * ((256 * (t.val % 21) + l.val) / 64) + i.val
    omega
  rw [e1]
  refine congrArg (rms c64 eps _ gain) (Fin.ext ?_)
  show (256 * (t.val % 21) + (64 * (l.val / 64) + d.val)) % 64 = d.val
  omega

/-- The tile a point writes. -/
theorem tile (c : Dev nD) (t : Fin cfg0.N) (r : Fin 1024) (l : Fin 256) :
    (outsAt0 m c t.val t.isLt).1 (ix2 r l) = spec m c (rowAt t r) (colAt t l) := by
  have hl := l.isLt
  unfold spec
  have hcol : (colAt t l).val = 256 * (t.val % 21) + l.val := rfl
  by_cases h0 : t.val % 21 = 0
  · rw [(outs_A m c t h0 (by omega) (by omega) (by omega) (by omega) (by omega) (by omega)).1, pay1_eq,
      if_pos (show 256 * (t.val % 21) + l.val < 1024 by omega)]
    exact norm_tile m c t _ (rows_hblk m c t) _ _ (fun l => read_qg m c t l) r l
  by_cases h2 : 18 ≤ t.val % 21
  · rw [(outs_G m c t h0 (by omega) h2 (by omega) (by omega) (by omega) (by omega)).1, pay7_apply,
      if_neg (show ¬256 * (t.val % 21) + l.val < 1024 by omega),
      if_neg (show ¬256 * (t.val % 21) + l.val < 2048 by omega),
      if_neg (show ¬256 * (t.val % 21) + l.val < 3072 by omega),
      if_neg (show ¬256 * (t.val % 21) + l.val < 3328 by omega),
      if_neg (show ¬256 * (t.val % 21) + l.val < 3584 by omega),
      if_neg (show ¬256 * (t.val % 21) + l.val < 3840 by omega),
      if_neg (show ¬256 * (t.val % 21) + l.val < 4096 by omega),
      if_neg (show ¬256 * (t.val % 21) + l.val < 4352 by omega),
      if_neg (show ¬256 * (t.val % 21) + l.val < 4608 by omega)]
    exact congrArg Ideal.logistic (prod_tile m c t _ (rows_prev m c t h0) r l)
  by_cases h3 : t.val % 21 ≤ 3
  · rw [(outs_B m c t h0 (by omega) h2 h3 (by omega) (by omega) (by omega)).1, pay1_eq,
      if_pos (show 256 * (t.val % 21) + l.val < 1024 by omega)]
    exact norm_tile m c t _ (rows_prev m c t h0) _ _ (fun l => read_qg m c t l) r l
  by_cases h5 : 4 ≤ t.val % 21 ∧ t.val % 21 ≤ 7
  · rw [(outs_C m c t h0 (by omega) h2 h3 (by omega) h5 (by omega)).1, pay3_eq,
      if_neg (show ¬256 * (t.val % 21) + l.val < 1024 by omega),
      if_pos (show 256 * (t.val % 21) + l.val < 2048 by omega)]
    exact head_tile m c t _ (rows_prev m c t h0) _ _ (fun l => read_qg m c t l) r l
  by_cases h4 : t.val % 21 = 12
  · rw [(outs_E m c t h0 (by omega) h2 h3 h4 h5 (by omega)).1, pay2_eq,
      if_neg (show ¬256 * (t.val % 21) + l.val < 1024 by omega),
      if_neg (show ¬256 * (t.val % 21) + l.val < 2048 by omega),
      if_neg (show ¬256 * (t.val % 21) + l.val < 3072 by omega),
      if_pos (show 256 * (t.val % 21) + l.val < 3328 by omega)]
    exact norm_tile m c t _ (rows_prev m c t h0) _ _ (fun l => read_kg m c t l) r l
  by_cases h6 : t.val % 21 = 14 ∨ t.val % 21 = 16
  · rw [(outs_F m c t h0 (by omega) h2 h3 h4 h5 h6).1, pay4_eq]
    by_cases h7 : t.val % 21 = 14
    · rw [if_neg (show ¬256 * (t.val % 21) + l.val < 1024 by omega),
      if_neg (show ¬256 * (t.val % 21) + l.val < 2048 by omega),
      if_neg (show ¬256 * (t.val % 21) + l.val < 3072 by omega),
      if_neg (show ¬256 * (t.val % 21) + l.val < 3328 by omega),
      if_neg (show ¬256 * (t.val % 21) + l.val < 3584 by omega),
      if_pos (show 256 * (t.val % 21) + l.val < 3840 by omega)]
      exact head_tile m c t _ (rows_prev m c t h0) _ _ (fun l => read_kg m c t l) r l
    · rw [if_neg (show ¬256 * (t.val % 21) + l.val < 1024 by omega),
      if_neg (show ¬256 * (t.val % 21) + l.val < 2048 by omega),
      if_neg (show ¬256 * (t.val % 21) + l.val < 3072 by omega),
      if_neg (show ¬256 * (t.val % 21) + l.val < 3328 by omega),
      if_neg (show ¬256 * (t.val % 21) + l.val < 3584 by omega),
      if_neg (show ¬256 * (t.val % 21) + l.val < 3840 by omega),
      if_neg (show ¬256 * (t.val % 21) + l.val < 4096 by omega),
      if_pos (show 256 * (t.val % 21) + l.val < 4352 by omega)]
      exact head_tile m c t _ (rows_prev m c t h0) _ _ (fun l => read_kg m c t l) r l
  · rw [(outs_D m c t h0 (by omega) h2 h3 h4 h5 h6).1]
    refine (prod_tile m c t _ (rows_prev m c t h0) r l).trans ?_
    by_cases h7 : t.val % 21 < 12
    · rw [if_neg (show ¬256 * (t.val % 21) + l.val < 1024 by omega),
      if_neg (show ¬256 * (t.val % 21) + l.val < 2048 by omega),
      if_pos (show 256 * (t.val % 21) + l.val < 3072 by omega)]
    by_cases h8 : t.val % 21 = 13
    · rw [if_neg (show ¬256 * (t.val % 21) + l.val < 1024 by omega),
      if_neg (show ¬256 * (t.val % 21) + l.val < 2048 by omega),
      if_neg (show ¬256 * (t.val % 21) + l.val < 3072 by omega),
      if_neg (show ¬256 * (t.val % 21) + l.val < 3328 by omega),
      if_pos (show 256 * (t.val % 21) + l.val < 3584 by omega)]
    by_cases h9 : t.val % 21 = 15
    · rw [if_neg (show ¬256 * (t.val % 21) + l.val < 1024 by omega),
      if_neg (show ¬256 * (t.val % 21) + l.val < 2048 by omega),
      if_neg (show ¬256 * (t.val % 21) + l.val < 3072 by omega),
      if_neg (show ¬256 * (t.val % 21) + l.val < 3328 by omega),
      if_neg (show ¬256 * (t.val % 21) + l.val < 3584 by omega),
      if_neg (show ¬256 * (t.val % 21) + l.val < 3840 by omega),
      if_pos (show 256 * (t.val % 21) + l.val < 4096 by omega)]
    · rw [if_neg (show ¬256 * (t.val % 21) + l.val < 1024 by omega),
      if_neg (show ¬256 * (t.val % 21) + l.val < 2048 by omega),
      if_neg (show ¬256 * (t.val % 21) + l.val < 3072 by omega),
      if_neg (show ¬256 * (t.val % 21) + l.val < 3328 by omega),
      if_neg (show ¬256 * (t.val % 21) + l.val < 3584 by omega),
      if_neg (show ¬256 * (t.val % 21) + l.val < 3840 by omega),
      if_neg (show ¬256 * (t.val % 21) + l.val < 4096 by omega),
      if_neg (show ¬256 * (t.val % 21) + l.val < 4352 by omega),
      if_pos (show 256 * (t.val % 21) + l.val < 4608 by omega)]

theorem idx_8 : ∀ t : Fin cfg0.N, win0_8.index t (0 : Fin 2) = t.val / 21 ∧ win0_8.index t (1 : Fin 2) = t.val % 21 :=
  (by decide +kernel : ∀ t : Fin grid0.N, _)

/-- The whole array. -/
def whole (c : Dev nD) : Vec Ideal S16384x5376 .f32 := fun i => spec m c (i 0) (i 1)

theorem flushed_eq (c : Dev nD) (t : Fin cfg0.N) (_hf : (cfg0.win 8).flush t = true) :
    (dats m 0 c).flushed 8 t = ((cfg0.win 8).blk t).view.read (Elt Ideal) (whole m c) := by
  obtain ⟨e0, e1⟩ := idx_8 t
  rw [flushed8]
  funext y
  have hy0 : (y 0).val < 1024 := (y 0).isLt
  have hy1 : (y 1).val < 256 := (y 1).isLt
  have hb0 : (((cfg0.win 8).blk t).view.emb y 0).val = win0_8.index t (0 : Fin 2) * 1024 + 1 * (y 0).val := rfl
  have hb1 : (((cfg0.win 8).blk t).view.emb y 1).val = win0_8.index t (1 : Fin 2) * 256 + 1 * (y 1).val := rfl
  rw [View.read_apply]
  unfold Pipeline.Window.cut
  have hx : (cfg0.win 8).xinj (grid0.coords t) y = ix2 ⟨(y 0).val, hy0⟩ ⟨(y 1).val, hy1⟩ :=
    funext fun a => Fin.ext (by match a with | ⟨0, _⟩ => rfl | ⟨1, _⟩ => rfl)
  refine (congrArg (outsAt0 m c t.val t.isLt).1 hx).trans ?_
  rw [tile]
  show _ = spec m c (((cfg0.win 8).blk t).view.emb y 0) (((cfg0.win 8).blk t).view.emb y 1)
  rw [e0] at hb0
  rw [e1] at hb1
  have q0 : (((cfg0.win 8).blk t).view.emb y 0 : Fin 16384) = rowAt t ⟨(y 0).val, hy0⟩ :=
    Fin.ext (by rw [hb0]; show t.val / 21 * 1024 + 1 * (y 0).val = 1024 * (t.val / 21) + (y 0).val; omega)
  have q1 : (((cfg0.win 8).blk t).view.emb y 1 : Fin 5376) = colAt t ⟨(y 1).val, hy1⟩ :=
    Fin.ext (by rw [hb1]; show t.val % 21 * 256 + 1 * (y 1).val = 256 * (t.val % 21) + (y 1).val; omega)
  rw [← q0, ← q1]

/-- The array after the run. -/
theorem final (c : Dev nD) : (dats m 0 c).arrAt 8 cfg0.N = whole m c :=
  (dats m 0 c).arrAt_eq_of_cover 8 _ (fun t hf => flushed_eq m c t hf) (fun i => (covered_iff8 i).2 (by
    have h0 : (i 0).val < 16384 := (i 0).isLt; have h1 : (i 1).val < 5376 := (i 1).isLt; omega))

end Cert.ProjBIdeal.Body

end
-- ==== Proof.ProjBRef.lean ====
/-
  The second projection's reference, read at an element: the product with the normalised rows, the heads' norms, the
  rotary embedding, and the branches' gates.
-/
module

public import proofs.«01_k».proof.Proof.Gen.RefBIdeal.Read
public import proofs.«01_k».proof.Proof.ProjMath
public import Idealize.ShloMosaic.Lib.Pointwise

@[expose] public section

set_option maxRecDepth 16384

noncomputable section

namespace Cert.RefBIdeal.Body

open Cert.RefBIdeal Cert.RefBIdeal.Gen Cert.RefBIdeal.Read Idealize.ShloMosaic Idealize.ShloMosaic.TcCoe Cert.Proj

variable (x0 : Vec Ideal S4x4096x1024 .f32) (x1 : Vec Ideal S1024 .f32) (x2 : Vec Ideal S1024x3632 .f32)
  (x3 x4 : Vec Ideal S64 .f32)

/-- The normalised rows. -/
theorem row_apply (n : Fin 4) (t : Fin 4096) (k : Fin 1024) :
    val_main_v13 (F := Ideal) x0 x1 (ix3 n t k) = rms c1024 eps (fun k => x0 (ix3 n t k)) (fun k => x1 (ix1 k)) k := by
  have e : ∀ i : Fin 1024, idx_main_v2 (idx_main_v3 (idx_main_v9 (ix3 n t k))) i = ix3 n t i :=
    fun i => funext fun a => by fin_cases a <;> rfl
  have e' : idx_main_v11 (idx_main_v12 (ix3 n t k)) = ix1 k := funext fun a => by fin_cases a <;> rfl
  rw [val_main_v13_apply, val_main_v10_apply, val_main_v9_apply, val_main_v8_apply, val_main_v7_apply, val_main_v6_apply,
    val_main_cst_1_apply, val_main_v5_apply, val_main_v4_apply, val_main_cst_0_apply, val_main_v3_apply, val_main_v2_apply,
    val_main_v12_apply, val_main_v11_apply, e', val_main_cst_apply]
  simp only [e, val_main_v1_apply]
  show _ * Ideal.rsqrt (Ideal.div (Ideal.ofBits .f32 0x00000000#32 + ∑ k, _) c1024 + eps) * _ = _
  rw [Ideal.ofBits_zero_f32, zero_add]
  rfl

/-- Their product with the weights. -/
theorem prod_apply (n : Fin 4) (t : Fin 4096) (l : Fin 3632) :
    val_main_v14 (F := Ideal) x0 x1 x2 (ix3 n t l)
      = col (fun k => x0 (ix3 n t k)) (fun k => x1 (ix1 k)) (fun k => x2 (ix2 k l)) := by
  rw [val_main_v14_apply]
  unfold col
  refine Finset.sum_congr rfl fun k _ => ?_
  rw [← row_apply x0 x1 n t k]
  refine congrArg₂ (· * ·) (congrArg _ (funext fun a => ?_)) (congrArg x2 (funext fun a => ?_)) <;>
    fin_cases a <;> rfl

/-- A head of queries, and a head of each branch's keys. -/
theorem q_apply (n : Fin 4) (t : Fin 4096) (h : Fin 16) (d : Fin 64) :
    val_main_v16 (F := Ideal) x0 x1 x2 (ix4 n t h d)
      = val_main_v14 (F := Ideal) x0 x1 x2 (ix3 n t ⟨64 * h.val + d.val, by omega⟩) := by
  have hh := h.isLt; have hd := d.isLt; have hn := n.isLt; have ht := t.isLt
  rw [val_main_v16_apply, val_main_v15_apply]
  refine congrArg _ (funext fun a => Fin.ext ?_)
  match a with
  | ⟨0, _⟩ => show (((n.val * 4096 + t.val) * 16 + h.val) * 64 + d.val) / 4194304 = n.val; omega
  | ⟨1, _⟩ => show (((n.val * 4096 + t.val) * 16 + h.val) * 64 + d.val) / 1024 % 4096 = t.val; omega
  | ⟨2, _⟩ => show (((n.val * 4096 + t.val) * 16 + h.val) * 64 + d.val) % 1024 = 64 * h.val + d.val; omega
theorem k0_apply (n : Fin 4) (t : Fin 4096) (h : Fin 4) (d : Fin 64) :
    val_main_v36 (F := Ideal) x0 x1 x2 (ix4 n t h d)
      = val_main_v14 (F := Ideal) x0 x1 x2 (ix3 n t ⟨1024 + (64 * h.val + d.val), by omega⟩) := by
  have hh := h.isLt; have hd := d.isLt; have hn := n.isLt; have ht := t.isLt
  rw [val_main_v36_apply, val_main_v30_apply]
  refine congrArg _ (funext fun a => Fin.ext ?_)
  match a with
  | ⟨0, _⟩ => show (((n.val * 4096 + t.val) * 4 + h.val) * 64 + d.val) / 1048576 = n.val; omega
  | ⟨1, _⟩ => show (((n.val * 4096 + t.val) * 4 + h.val) * 64 + d.val) / 256 % 4096 = t.val; omega
  | ⟨2, _⟩ => show 1024 + (((n.val * 4096 + t.val) * 4 + h.val) * 64 + d.val) % 256 = 1024 + (64 * h.val + d.val); omega
theorem k1_apply (n : Fin 4) (t : Fin 4096) (h : Fin 4) (d : Fin 64) :
    val_main_v50 (F := Ideal) x0 x1 x2 (ix4 n t h d)
      = val_main_v14 (F := Ideal) x0 x1 x2 (ix3 n t ⟨1536 + (64 * h.val + d.val), by omega⟩) := by
  have hh := h.isLt; have hd := d.isLt; have hn := n.isLt; have ht := t.isLt
  rw [val_main_v50_apply, val_main_v32_apply]
  refine congrArg _ (funext fun a => Fin.ext ?_)
  match a with
  | ⟨0, _⟩ => show (((n.val * 4096 + t.val) * 4 + h.val) * 64 + d.val) / 1048576 = n.val; omega
  | ⟨1, _⟩ => show (((n.val * 4096 + t.val) * 4 + h.val) * 64 + d.val) / 256 % 4096 = t.val; omega
  | ⟨2, _⟩ => show 1536 + (((n.val * 4096 + t.val) * 4 + h.val) * 64 + d.val) % 256 = 1536 + (64 * h.val + d.val); omega
theorem k2_apply (n : Fin 4) (t : Fin 4096) (h : Fin 4) (d : Fin 64) :
    val_main_v64 (F := Ideal) x0 x1 x2 (ix4 n t h d)
      = val_main_v14 (F := Ideal) x0 x1 x2 (ix3 n t ⟨2048 + (64 * h.val + d.val), by omega⟩) := by
  have hh := h.isLt; have hd := d.isLt; have hn := n.isLt; have ht := t.isLt
  rw [val_main_v64_apply, val_main_v34_apply]
  refine congrArg _ (funext fun a => Fin.ext ?_)
  match a with
  | ⟨0, _⟩ => show (((n.val * 4096 + t.val) * 4 + h.val) * 64 + d.val) / 1048576 = n.val; omega
  | ⟨1, _⟩ => show (((n.val * 4096 + t.val) * 4 + h.val) * 64 + d.val) / 256 % 4096 = t.val; omega
  | ⟨2, _⟩ => show 2048 + (((n.val * 4096 + t.val) * 4 + h.val) * 64 + d.val) % 256 = 2048 + (64 * h.val + d.val); omega

theorem qn_apply (n : Fin 4) (t : Fin 4096) (h : Fin 16) (d : Fin 64) :
    val_main_v29 (F := Ideal) x0 x1 x2 x3 (ix4 n t h d)
      = rms c64 eps (fun d => val_main_v16 (F := Ideal) x0 x1 x2 (ix4 n t h d)) (fun d => x3 (ix1 d)) d := by
  have e : ∀ k : Fin 64, idx_main_v18 (idx_main_v19 (idx_main_v25 (ix4 n t h d))) k = ix4 n t h k :=
    fun k => funext fun a => by fin_cases a <;> rfl
  have e' : idx_main_v27 (idx_main_v28 (ix4 n t h d)) = ix1 d := funext fun a => by fin_cases a <;> rfl
  rw [val_main_v29_apply, val_main_v26_apply, val_main_v25_apply, val_main_v24_apply, val_main_v23_apply, val_main_v21_apply,
    val_main_v20_apply, val_main_cst_3_apply, val_main_v22_apply, val_main_cst_4_apply, val_main_v19_apply, val_main_v18_apply,
    val_main_v28_apply, val_main_v27_apply, e', val_main_cst_2_apply]
  simp only [e, val_main_v17_apply]
  generalize val_main_v16 (F := Ideal) x0 x1 x2 = y
  show _ * Ideal.rsqrt (Ideal.div (Ideal.ofBits .f32 0x00000000#32 + ∑ k, _) c64 + eps) * _ = _
  rw [Ideal.ofBits_zero_f32, zero_add]
  rfl

theorem kn0_apply (n : Fin 4) (t : Fin 4096) (h : Fin 4) (d : Fin 64) :
    val_main_v49 (F := Ideal) x0 x1 x2 x4 (ix4 n t h d)
      = rms c64 eps (fun d => val_main_v36 (F := Ideal) x0 x1 x2 (ix4 n t h d)) (fun d => x4 (ix1 d)) d := by
  have e : ∀ k : Fin 64, idx_main_v38 (idx_main_v39 (idx_main_v45 (ix4 n t h d))) k = ix4 n t h k :=
    fun k => funext fun a => by fin_cases a <;> rfl
  have e' : idx_main_v47 (idx_main_v48 (ix4 n t h d)) = ix1 d := funext fun a => by fin_cases a <;> rfl
  rw [val_main_v49_apply, val_main_v46_apply, val_main_v45_apply, val_main_v44_apply, val_main_v43_apply, val_main_v41_apply,
    val_main_v40_apply, val_main_cst_6_apply, val_main_v42_apply, val_main_cst_7_apply, val_main_v39_apply, val_main_v38_apply,
    val_main_v48_apply, val_main_v47_apply, e', val_main_cst_5_apply]
  simp only [e, val_main_v37_apply]
  generalize val_main_v36 (F := Ideal) x0 x1 x2 = y
  show _ * Ideal.rsqrt (Ideal.div (Ideal.ofBits .f32 0x00000000#32 + ∑ k, _) c64 + eps) * _ = _
  rw [Ideal.ofBits_zero_f32, zero_add]
  rfl

theorem kn1_apply (n : Fin 4) (t : Fin 4096) (h : Fin 4) (d : Fin 64) :
    val_main_v63 (F := Ideal) x0 x1 x2 x4 (ix4 n t h d)
      = rms c64 eps (fun d => val_main_v50 (F := Ideal) x0 x1 x2 (ix4 n t h d)) (fun d => x4 (ix1 d)) d := by
  have e : ∀ k : Fin 64, idx_main_v52 (idx_main_v53 (idx_main_v59 (ix4 n t h d))) k = ix4 n t h k :=
    fun k => funext fun a => by fin_cases a <;> rfl
  have e' : idx_main_v61 (idx_main_v62 (ix4 n t h d)) = ix1 d := funext fun a => by fin_cases a <;> rfl
  rw [val_main_v63_apply, val_main_v60_apply, val_main_v59_apply, val_main_v58_apply, val_main_v57_apply, val_main_v55_apply,
    val_main_v54_apply, val_main_cst_9_apply, val_main_v56_apply, val_main_cst_10_apply, val_main_v53_apply, val_main_v52_apply,
    val_main_v62_apply, val_main_v61_apply, e', val_main_cst_8_apply]
  simp only [e, val_main_v51_apply]
  generalize val_main_v50 (F := Ideal) x0 x1 x2 = y
  show _ * Ideal.rsqrt (Ideal.div (Ideal.ofBits .f32 0x00000000#32 + ∑ k, _) c64 + eps) * _ = _
  rw [Ideal.ofBits_zero_f32, zero_add]
  rfl

theorem kn2_apply (n : Fin 4) (t : Fin 4096) (h : Fin 4) (d : Fin 64) :
    val_main_v77 (F := Ideal) x0 x1 x2 x4 (ix4 n t h d)
      = rms c64 eps (fun d => val_main_v64 (F := Ideal) x0 x1 x2 (ix4 n t h d)) (fun d => x4 (ix1 d)) d := by
  have e : ∀ k : Fin 64, idx_main_v66 (idx_main_v67 (idx_main_v73 (ix4 n t h d))) k = ix4 n t h k :=
    fun k => funext fun a => by fin_cases a <;> rfl
  have e' : idx_main_v75 (idx_main_v76 (ix4 n t h d)) = ix1 d := funext fun a => by fin_cases a <;> rfl
  rw [val_main_v77_apply, val_main_v74_apply, val_main_v73_apply, val_main_v72_apply, val_main_v71_apply, val_main_v69_apply,
    val_main_v68_apply, val_main_cst_12_apply, val_main_v70_apply, val_main_cst_13_apply, val_main_v67_apply, val_main_v66_apply,
    val_main_v76_apply, val_main_v75_apply, e', val_main_cst_11_apply]
  simp only [e, val_main_v65_apply]
  generalize val_main_v64 (F := Ideal) x0 x1 x2 = y
  show _ * Ideal.rsqrt (Ideal.div (Ideal.ofBits .f32 0x00000000#32 + ∑ k, _) c64 + eps) * _ = _
  rw [Ideal.ofBits_zero_f32, zero_add]
  rfl

theorem ang_1 (t : Fin 4096) (x : Fin 32) : val_main_v89 (F := Ideal) (ix2 t x) = ang t.val x.val := by
  pointwise [val_main_v89, val_main_v88, val_main_v87, val_main_v86, val_main_v85, val_main_v84, val_main_v83, val_main_v82, val_main_v81, val_main_v80, val_main_v79, val_main_v78, val_main_cst_14,
    val_main_cst_15, val_main_v0]
  rfl

theorem ang_2 (t : Fin 4096) (x : Fin 32) : val_main_v122 (F := Ideal) (ix2 t x) = ang t.val x.val := by
  pointwise [val_main_v122, val_main_v121, val_main_v120, val_main_v119, val_main_v118, val_main_v117, val_main_v116, val_main_v115, val_main_v114, val_main_v113, val_main_v112, val_main_v111, val_main_cst_16,
    val_main_cst_17, val_main_v0]
  rfl

theorem ang_q (t : Fin 4096) (x : Fin 32) : val_main_v166 (F := Ideal) (ix2 t x) = ang t.val x.val := by
  pointwise [val_main_v166, val_main_v165, val_main_v164, val_main_v163, val_main_v162, val_main_v161, val_main_v160, val_main_v159, val_main_v158, val_main_v157, val_main_v156, val_main_v155, val_main_cst_21,
    val_main_cst_22, val_main_v0]
  rfl

theorem qr_apply (n : Fin 4) (t : Fin 4096) (h : Fin 16) (d : Fin 64) :
    val_main_v187 (F := Ideal) x0 x1 x2 x3 (ix4 n t h d)
      = rot (fun d => val_main_v29 (F := Ideal) x0 x1 x2 x3 (ix4 n t h d)) (fun x : Fin 32 => Ideal.cos (ang t.val x.val))
          (fun x => Ideal.sin (ang t.val x.val)) d := by
  have hd := d.isLt
  have f := ang_q t
  unfold val_main_v187 val_main_v186 val_main_v185 val_main_v184 val_main_v183 val_main_v182 val_main_v181 val_main_v180 val_main_v179 val_main_v178 val_main_v177 val_main_v176 val_main_v175 val_main_v174 val_main_v173 val_main_v172 val_main_v171
    val_main_v168 val_main_v167 val_main_v170 val_main_v169
  generalize val_main_v29 (F := Ideal) x0 x1 x2 x3 = y
  generalize val_main_v166 (F := Ideal) = an at f ⊢
  pointwise
  simp only [f]
  exact rot_halves (fun d => y (ix4 n t h d)) (fun x => Ideal.cos (ang t.val x)) (fun x => Ideal.sin (ang t.val x)) d

theorem kr1_apply (n : Fin 4) (t : Fin 4096) (h : Fin 4) (d : Fin 64) :
    val_main_v110 (F := Ideal) x0 x1 x2 x4 (ix4 n t h d)
      = rot (fun d => val_main_v63 (F := Ideal) x0 x1 x2 x4 (ix4 n t h d)) (fun x : Fin 32 => Ideal.cos (ang t.val x.val))
          (fun x => Ideal.sin (ang t.val x.val)) d := by
  have hd := d.isLt
  have f := ang_1 t
  unfold val_main_v110 val_main_v109 val_main_v108 val_main_v107 val_main_v106 val_main_v105 val_main_v104 val_main_v103 val_main_v102 val_main_v101 val_main_v100 val_main_v99 val_main_v98 val_main_v97 val_main_v96 val_main_v95 val_main_v94
    val_main_v91 val_main_v90 val_main_v93 val_main_v92
  generalize val_main_v63 (F := Ideal) x0 x1 x2 x4 = y
  generalize val_main_v89 (F := Ideal) = an at f ⊢
  pointwise
  simp only [f]
  exact rot_halves (fun d => y (ix4 n t h d)) (fun x => Ideal.cos (ang t.val x)) (fun x => Ideal.sin (ang t.val x)) d

theorem kr2_apply (n : Fin 4) (t : Fin 4096) (h : Fin 4) (d : Fin 64) :
    val_main_v143 (F := Ideal) x0 x1 x2 x4 (ix4 n t h d)
      = rot (fun d => val_main_v77 (F := Ideal) x0 x1 x2 x4 (ix4 n t h d)) (fun x : Fin 32 => Ideal.cos (ang t.val x.val))
          (fun x => Ideal.sin (ang t.val x.val)) d := by
  have hd := d.isLt
  have f := ang_2 t
  unfold val_main_v143 val_main_v142 val_main_v141 val_main_v140 val_main_v139 val_main_v138 val_main_v137 val_main_v136 val_main_v135 val_main_v134 val_main_v133 val_main_v132 val_main_v131 val_main_v130 val_main_v129 val_main_v128 val_main_v127
    val_main_v124 val_main_v123 val_main_v126 val_main_v125
  generalize val_main_v77 (F := Ideal) x0 x1 x2 x4 = y
  generalize val_main_v122 (F := Ideal) = an at f ⊢
  pointwise
  simp only [f]
  exact rot_halves (fun d => y (ix4 n t h d)) (fun x => Ideal.cos (ang t.val x)) (fun x => Ideal.sin (ang t.val x)) d

/-- The gates: the logistic function of their columns, a half in the lanes beside them. -/
theorem gate_apply (n : Fin 4) (t : Fin 4096) (b : Fin 6) (d : Fin 128) :
    val_main_v152 (F := Ideal) x0 x1 x2 (ix4 n t b d)
      = if h : d.val < 8 then
          Ideal.logistic (val_main_v14 (F := Ideal) x0 x1 x2 (ix3 n t ⟨2560 + (8 * b.val + d.val), by omega⟩))
        else Ideal.ofBits .f32 0x3F000000#32 := by
  unfold val_main_v152 val_main_v151 val_main_v150 val_main_v149 val_main_v148 val_main_v147 val_main_v146 val_main_v145
    val_main_v144 val_main_call0_v0 val_main_cst_20 val_main_cst_19 val_main_cst_18
  generalize val_main_v14 (F := Ideal) x0 x1 x2 = u
  pointwise
  by_cases h : d.val < 8
  · rw [dif_pos h, dif_pos h]
    show Ideal.logistic _ = Ideal.logistic _
    exact congrArg Ideal.logistic (Cert.Attn.at3 u rfl rfl (show 2560 + (b.val * 8 + d.val) = 2560 + (8 * b.val + d.val) by omega))
  · rw [dif_neg h, dif_neg h]
    rfl

/-- One row of the result, from the row `u` of the product at position `t`: queries, turned queries, the gate of the output,
    keys and values three times — the second and third keys turned —, and the branches' gates. -/
def layout (t : ℕ) (u : Fin 3632 → EReal) (q k : Fin 64 → EReal) (l : Fin 5376) : EReal :=
  if _ : l.val < 1024 then rms c64 eps (fun d => u ⟨64 * (l.val / 64) + d.val, by omega⟩) q ⟨l.val % 64, by omega⟩
  else if _ : l.val < 2048 then
    head t (fun d => u ⟨64 * ((l.val - 1024) / 64) + d.val, by omega⟩) q ⟨(l.val - 1024) % 64, by omega⟩
  else if _ : l.val < 3072 then u ⟨2608 + (l.val - 2048), by omega⟩
  else if _ : l.val < 3328 then
    rms c64 eps (fun d => u ⟨1024 + (64 * ((l.val - 3072) / 64) + d.val), by omega⟩) k ⟨(l.val - 3072) % 64, by omega⟩
  else if _ : l.val < 3584 then u ⟨1280 + (l.val - 3328), by omega⟩
  else if _ : l.val < 3840 then
    head t (fun d => u ⟨1536 + (64 * ((l.val - 3584) / 64) + d.val), by omega⟩) k ⟨(l.val - 3584) % 64, by omega⟩
  else if _ : l.val < 4096 then u ⟨1792 + (l.val - 3840), by omega⟩
  else if _ : l.val < 4352 then
    head t (fun d => u ⟨2048 + (64 * ((l.val - 4096) / 64) + d.val), by omega⟩) k ⟨(l.val - 4096) % 64, by omega⟩
  else if _ : l.val < 4608 then u ⟨2304 + (l.val - 4352), by omega⟩
  else if _ : (l.val - 4608) % 128 < 8 then
    Ideal.logistic (u ⟨2560 + (8 * ((l.val - 4608) / 128) + (l.val - 4608) % 128), by omega⟩)
  else Ideal.ofBits .f32 0x3F000000#32

set_option maxHeartbeats 2000000 in
/-- The reference's array at row `R`, column `l`. -/
theorem out_apply (R : Fin 16384) (l : Fin 5376) :
    val_main_v194 (F := Ideal) x0 x1 x2 x3 x4 (ix2 R l)
      = layout (R.val % 4096) (fun l => val_main_v14 (F := Ideal) x0 x1 x2
          (ix3 ⟨R.val / 4096, by omega⟩ ⟨R.val % 4096, by omega⟩ l)) (fun d => x3 (ix1 d)) (fun d => x4 (ix1 d)) l := by
  have hl := l.isLt
  have hqn := qn_apply x0 x1 x2 x3
  have hq := qr_apply x0 x1 x2 x3
  have hk0 := kn0_apply x0 x1 x2 x4
  have hk1 := kr1_apply x0 x1 x2 x4
  have hk2 := kr2_apply x0 x1 x2 x4
  have hg := gate_apply x0 x1 x2
  simp only [qn_apply, q_apply] at hq
  simp only [q_apply] at hqn
  simp only [k0_apply] at hk0
  simp only [kn1_apply, k1_apply] at hk1
  simp only [kn2_apply, k2_apply] at hk2
  unfold val_main_v194 val_main_v193 val_main_v154 val_main_v188 val_main_v153 val_main_v189 val_main_v31 val_main_v190
    val_main_v33 val_main_v191 val_main_v35 val_main_v192
  generalize val_main_v14 (F := Ideal) x0 x1 x2 = u at hqn hq hk0 hk1 hk2 hg ⊢
  generalize val_main_v29 (F := Ideal) x0 x1 x2 x3 = qn at hqn ⊢
  generalize val_main_v187 (F := Ideal) x0 x1 x2 x3 = q at hq ⊢
  generalize val_main_v49 (F := Ideal) x0 x1 x2 x4 = k0 at hk0 ⊢
  generalize val_main_v110 (F := Ideal) x0 x1 x2 x4 = k1 at hk1 ⊢
  generalize val_main_v143 (F := Ideal) x0 x1 x2 x4 = k2 at hk2 ⊢
  generalize val_main_v152 (F := Ideal) x0 x1 x2 = g at hg ⊢
  pointwise
  simp only [Nat.sub_sub, Nat.reduceAdd]
  unfold layout
  by_cases h0 : l.val < 1024
  · rw [dif_pos h0, dif_pos h0, hqn]
  rw [dif_neg h0, dif_neg h0]
  by_cases h1 : l.val < 2048
  · rw [dif_pos (show l.val - 1024 < 1024 by omega), dif_pos h1, hq]
    rfl
  rw [dif_neg (show ¬l.val - 1024 < 1024 by omega), dif_neg h1]
  by_cases h2 : l.val < 3072
  · rw [dif_pos (show l.val - 2048 < 1024 by omega), dif_pos h2]
  rw [dif_neg (show ¬l.val - 2048 < 1024 by omega), dif_neg h2]
  by_cases h3 : l.val < 3328
  · rw [dif_pos (show l.val - 3072 < 256 by omega), dif_pos h3, hk0]
  rw [dif_neg (show ¬l.val - 3072 < 256 by omega), dif_neg h3]
  by_cases h4 : l.val < 3584
  · rw [dif_pos (show l.val - 3328 < 256 by omega), dif_pos h4]
  rw [dif_neg (show ¬l.val - 3328 < 256 by omega), dif_neg h4]
  by_cases h5 : l.val < 3840
  · rw [dif_pos (show l.val - 3584 < 256 by omega), dif_pos h5, hk1]
    rfl
  rw [dif_neg (show ¬l.val - 3584 < 256 by omega), dif_neg h5]
  by_cases h6 : l.val < 4096
  · rw [dif_pos (show l.val - 3840 < 256 by omega), dif_pos h6]
  rw [dif_neg (show ¬l.val - 3840 < 256 by omega), dif_neg h6]
  by_cases h7 : l.val < 4352
  · rw [dif_pos (show l.val - 4096 < 256 by omega), dif_pos h7, hk2]
    rfl
  rw [dif_neg (show ¬l.val - 4096 < 256 by omega), dif_neg h7]
  by_cases h8 : l.val < 4608
  · rw [dif_pos (show l.val - 4352 < 256 by omega), dif_pos h8]
  rw [dif_neg (show ¬l.val - 4352 < 256 by omega), dif_neg h8]
  exact hg _ _ _ _

end Cert.RefBIdeal.Body

end
-- ==== Proof.ProjBClaim.lean ====
/-
  The value claim of the second projection: the kernel and the reference leave one array.
-/
module

public import proofs.«01_k».proof.Defs
public import proofs.«01_k».proof.Proof.ProjBValue
public import proofs.«01_k».proof.Proof.ProjBRef
public import proofs.«01_k».proof.Proof.Gen.RefBIdeal.Run

@[expose] public section

set_option maxRecDepth 16384

noncomputable section

namespace Cert.Proof.ProjB

open Idealize.ShloMosaic Idealize.ShloMosaic.TcCoe Idealize.SL.Sem Cert.Proj Cert.ProjBIdeal.Body

variable (m : (ℓ : Loc Cert.ProjBIdeal.nD Cert.ProjBIdeal.τ Cert.ProjBIdeal.sig) → Buf (Elt Ideal) ℓ)

/-- A row of the product with the weights as the reference keeps them. -/
def prd (c : Dev Cert.ProjBIdeal.nD) (R : Fin 16384) (l : Fin 3632) : EReal :=
  col (xrow m c R) (fun k => arg1 m c (ix1 k)) (fun k => arg2 m c (ix2 k l))

/-- The kernel's columns among the reference's: queries twice, gates of the output, keys and values, gates of the branches. -/
theorem uu_q (c : Dev Cert.ProjBIdeal.nD) (R : Fin 16384) (l : Fin 5376) (h : l.val < 1024) :
    uu m c R l = prd m c R ⟨l.val, by omega⟩ := by
  unfold uu prd
  refine congrArg (col _ _) (funext fun k => ?_)
  unfold wcol
  rw [dif_pos h]
theorem uu_r (c : Dev Cert.ProjBIdeal.nD) (R : Fin 16384) (l : Fin 5376) (h0 : ¬l.val < 1024) (h : l.val < 2048) :
    uu m c R l = prd m c R ⟨l.val - 1024, by omega⟩ := by
  unfold uu prd
  refine congrArg (col _ _) (funext fun k => ?_)
  unfold wcol
  rw [dif_neg h0, dif_pos h]
theorem uu_z (c : Dev Cert.ProjBIdeal.nD) (R : Fin 16384) (l : Fin 5376) (h0 : ¬l.val < 2048) (h : l.val < 3072) :
    uu m c R l = prd m c R ⟨560 + l.val, by omega⟩ := by
  unfold uu prd
  refine congrArg (col _ _) (funext fun k => ?_)
  unfold wcol
  rw [dif_neg (show ¬l.val < 1024 by omega), dif_neg h0, dif_pos h]
theorem uu_k (c : Dev Cert.ProjBIdeal.nD) (R : Fin 16384) (l : Fin 5376) (h0 : ¬l.val < 3072) (h : l.val < 4608) :
    uu m c R l = prd m c R ⟨l.val - 2048, by omega⟩ := by
  unfold uu prd
  refine congrArg (col _ _) (funext fun k => ?_)
  unfold wcol
  rw [dif_neg (show ¬l.val < 1024 by omega), dif_neg (show ¬l.val < 2048 by omega), dif_neg h0, dif_pos h]
theorem uu_g (c : Dev Cert.ProjBIdeal.nD) (R : Fin 16384) (l : Fin 5376) (h0 : ¬l.val < 4608) (h : (l.val - 4608) % 128 < 8) :
    uu m c R l = prd m c R ⟨2560 + 8 * ((l.val - 4608) / 128) + (l.val - 4608) % 128, by omega⟩ := by
  unfold uu prd
  refine congrArg (col _ _) (funext fun k => ?_)
  unfold wcol
  rw [dif_neg (show ¬l.val < 1024 by omega), dif_neg (show ¬l.val < 2048 by omega), dif_neg (show ¬l.val < 3072 by omega), dif_neg h0, dif_pos h]
/-- The lanes beside the gates meet columns of zeros. -/
theorem uu_0 (c : Dev Cert.ProjBIdeal.nD) (R : Fin 16384) (l : Fin 5376) (h0 : ¬l.val < 4608) (h : ¬(l.val - 4608) % 128 < 8) :
    uu m c R l = 0 := by
  unfold uu col
  refine Finset.sum_eq_zero fun k _ => ?_
  unfold wcol
  dsimp only
  rw [dif_neg (show ¬l.val < 1024 by omega), dif_neg (show ¬l.val < 2048 by omega), dif_neg (show ¬l.val < 3072 by omega), dif_neg h0, dif_neg h, mul_zero]
/-- The logistic function of zero is a half. -/
theorem logistic_0 : Ideal.logistic 0 = Ideal.ofBits .f32 0x3F000000#32 := by
  have e : Ideal.ofBits .f32 0x3F000000#32 = ((1 / 2 : ℝ) : EReal) := by
    simp [Ideal.ofBits, Ideal.ieee, -EReal.coe_mul]; norm_num
  rw [e]
  unfold Ideal.logistic
  have e1 : Ideal.exp (-0) = ((1 : ℝ) : EReal) := by
    rw [neg_zero]
    show ((Real.exp 0 : ℝ) : EReal) = _
    rw [Real.exp_zero]
  have e2 : (1 : EReal) + ((1 : ℝ) : EReal) = ((2 : ℝ) : EReal) := by
    rw [← EReal.coe_one, ← EReal.coe_add]; norm_num
  rw [e1, e2]
  refine (Ideal.div_coe (y := 2) (by norm_num) 1).trans ?_
  rw [← EReal.coe_one, ← EReal.coe_mul, one_mul]

/-- A row's head of the kernel's product. -/
theorem head_q (c : Dev Cert.ProjBIdeal.nD) (R : Fin 16384) (l : Fin 5376) (h : l.val < 1024) :
    uhead m c R l = fun d => prd m c R ⟨64 * (l.val / 64) + d.val, by omega⟩ :=
  funext fun d => uu_q m c R _ (show 64 * (l.val / 64) + d.val < 1024 by omega)
theorem head_r (c : Dev Cert.ProjBIdeal.nD) (R : Fin 16384) (l : Fin 5376) (h0 : ¬l.val < 1024) (h : l.val < 2048) :
    uhead m c R l = fun d => prd m c R ⟨64 * ((l.val - 1024) / 64) + d.val, by omega⟩ :=
  funext fun d => (uu_r m c R _ (show ¬64 * (l.val / 64) + d.val < 1024 by omega)
    (show 64 * (l.val / 64) + d.val < 2048 by omega)).trans
      (congrArg (prd m c R) (Fin.ext (show 64 * (l.val / 64) + d.val - 1024 = 64 * ((l.val - 1024) / 64) + d.val by omega)))
theorem head_k0 (c : Dev Cert.ProjBIdeal.nD) (R : Fin 16384) (l : Fin 5376) (h0 : ¬l.val < 3072) (h : l.val < 3328) :
    uhead m c R l = fun d => prd m c R ⟨1024 + (64 * ((l.val - 3072) / 64) + d.val), by omega⟩ :=
  funext fun d => (uu_k m c R _ (show ¬64 * (l.val / 64) + d.val < 3072 by omega)
    (show 64 * (l.val / 64) + d.val < 4608 by omega)).trans
      (congrArg (prd m c R) (Fin.ext
        (show 64 * (l.val / 64) + d.val - 2048 = 1024 + (64 * ((l.val - 3072) / 64) + d.val) by omega)))
theorem head_k1 (c : Dev Cert.ProjBIdeal.nD) (R : Fin 16384) (l : Fin 5376) (h0 : ¬l.val < 3584) (h : l.val < 3840) :
    uhead m c R l = fun d => prd m c R ⟨1536 + (64 * ((l.val - 3584) / 64) + d.val), by omega⟩ :=
  funext fun d => (uu_k m c R _ (show ¬64 * (l.val / 64) + d.val < 3072 by omega)
    (show 64 * (l.val / 64) + d.val < 4608 by omega)).trans
      (congrArg (prd m c R) (Fin.ext
        (show 64 * (l.val / 64) + d.val - 2048 = 1536 + (64 * ((l.val - 3584) / 64) + d.val) by omega)))
theorem head_k2 (c : Dev Cert.ProjBIdeal.nD) (R : Fin 16384) (l : Fin 5376) (h0 : ¬l.val < 4096) (h : l.val < 4352) :
    uhead m c R l = fun d => prd m c R ⟨2048 + (64 * ((l.val - 4096) / 64) + d.val), by omega⟩ :=
  funext fun d => (uu_k m c R _ (show ¬64 * (l.val / 64) + d.val < 3072 by omega)
    (show 64 * (l.val / 64) + d.val < 4608 by omega)).trans
      (congrArg (prd m c R) (Fin.ext
        (show 64 * (l.val / 64) + d.val - 2048 = 2048 + (64 * ((l.val - 4096) / 64) + d.val) by omega)))

open Cert.RefBIdeal.Body (layout)

set_option maxHeartbeats 1000000 in
/-- The kernel's row in the reference's layout. -/
theorem spec_layout (c : Dev Cert.ProjBIdeal.nD) (R : Fin 16384) (l : Fin 5376) :
    spec m c R l = layout (R.val % 4096) (prd m c R) (fun d => arg3 m c (ix1 d)) (fun d => arg4 m c (ix1 d)) l := by
  have hl := l.isLt
  unfold spec layout
  by_cases h0 : l.val < 1024
  · rw [if_pos h0, dif_pos h0, head_q m c R l h0]
  rw [if_neg h0, dif_neg h0]
  by_cases h1 : l.val < 2048
  · rw [if_pos h1, dif_pos h1, head_r m c R l h0 h1]
    exact congrArg _ (Fin.ext (show l.val % 64 = (l.val - 1024) % 64 by omega))
  rw [if_neg h1, dif_neg h1]
  by_cases h2 : l.val < 3072
  · rw [if_pos h2, dif_pos h2, uu_z m c R l h1 h2]
    exact congrArg (prd m c R) (Fin.ext (show 560 + l.val = 2608 + (l.val - 2048) by omega))
  rw [if_neg h2, dif_neg h2]
  by_cases h3 : l.val < 3328
  · rw [if_pos h3, dif_pos h3, head_k0 m c R l h2 h3]
    exact congrArg _ (Fin.ext (show l.val % 64 = (l.val - 3072) % 64 by omega))
  rw [if_neg h3, dif_neg h3]
  by_cases h4 : l.val < 3584
  · rw [if_pos h4, dif_pos h4, uu_k m c R l (by omega) (by omega)]
    exact congrArg (prd m c R) (Fin.ext (show l.val - 2048 = 1280 + (l.val - 3328) by omega))
  rw [if_neg h4, dif_neg h4]
  by_cases h5 : l.val < 3840
  · rw [if_pos h5, dif_pos h5, head_k1 m c R l h4 h5]
    exact congrArg _ (Fin.ext (show l.val % 64 = (l.val - 3584) % 64 by omega))
  rw [if_neg h5, dif_neg h5]
  by_cases h6 : l.val < 4096
  · rw [if_pos h6, dif_pos h6, uu_k m c R l (by omega) (by omega)]
    exact congrArg (prd m c R) (Fin.ext (show l.val - 2048 = 1792 + (l.val - 3840) by omega))
  rw [if_neg h6, dif_neg h6]
  by_cases h7 : l.val < 4352
  · rw [if_pos h7, dif_pos h7, head_k2 m c R l h6 h7]
    exact congrArg _ (Fin.ext (show l.val % 64 = (l.val - 4096) % 64 by omega))
  rw [if_neg h7, dif_neg h7]
  by_cases h8 : l.val < 4608
  · rw [if_pos h8, dif_pos h8, uu_k m c R l (by omega) (by omega)]
    exact congrArg (prd m c R) (Fin.ext (show l.val - 2048 = 2304 + (l.val - 4352) by omega))
  rw [if_neg h8, dif_neg h8]
  by_cases h9 : (l.val - 4608) % 128 < 8
  · rw [dif_pos h9, uu_g m c R l h8 h9]
    exact congrArg (fun j => Ideal.logistic (prd m c R j)) (Fin.ext
      (show 2560 + 8 * ((l.val - 4608) / 128) + (l.val - 4608) % 128 = 2560 + (8 * ((l.val - 4608) / 128) + (l.val - 4608) % 128) by omega))
  · rw [dif_neg h9, uu_0 m c R l h8 h9, logistic_0]

/-- What the kernel leaves is the reference's array of the same arguments. -/
theorem spec_eq (c : Dev Cert.ProjBIdeal.nD) (R : Fin 16384) (l : Fin 5376) :
    spec m c R l = Cert.RefBIdeal.Read.val_main_v194 (F := Ideal) (arg0 m c) (arg1 m c) (arg2 m c) (arg3 m c) (arg4 m c) (ix2 R l) := by
  refine Eq.trans ?_ (Cert.RefBIdeal.Body.out_apply _ _ _ _ _ R l).symm
  rw [spec_layout]
  simp only [Cert.RefBIdeal.Body.prod_apply]
  rfl

theorem whole_eq (c : Dev Cert.ProjBIdeal.nD) :
    whole m c = Cert.RefBIdeal.Read.val_main_v194 (F := Ideal) (arg0 m c) (arg1 m c) (arg2 m c) (arg3 m c) (arg4 m c) := by
  funext i
  have hi : ix2 (i 0) (i 1) = i := funext fun a => by fin_cases a <;> rfl
  exact (spec_eq m c (i 0) (i 1)).trans (congrArg _ hi)

theorem algebraic [hK : Cert.ProjBIdeal.Facts] [hR : Cert.RefBIdeal.Facts] :
    Cert.algebraic_ProjBIdeal_RefBIdeal := by
  intro m g m' g' _ hagree
  refine ⟨fun c => whole m c, ?_, ?_⟩
  · refine (θ_run Cert.ProjBIdeal.defs _ _).mono (fun _ h c => ?_) (Cert.ProjBIdeal.Value.run_blocks (F := Ideal) m g)
    obtain ⟨h0, h1⟩ := h c
    exact ⟨h0.trans (final m c), h1⟩
  · refine (θ_run Cert.RefBIdeal.defs _ _).mono (fun _ h c => ?_) (Cert.RefBIdeal.Value.run (F := Ideal) m' g')
    obtain ⟨h0, h1⟩ := h c
    refine ⟨h0.trans ?_, h1⟩
    obtain ⟨a0, a1, a2, a3, a4⟩ := hagree c
    rw [Cert.RefBIdeal.Read.val_main_v194_eq]
    show Cert.RefBIdeal.Read.val_main_v194 (F := Ideal) (m' (c.tc.loc Cert.RefBIdeal.main_arg0))
      (m' (c.tc.loc Cert.RefBIdeal.main_arg1)) (m' (c.tc.loc Cert.RefBIdeal.main_arg2))
      (m' (c.tc.loc Cert.RefBIdeal.main_arg3)) (m' (c.tc.loc Cert.RefBIdeal.main_arg4)) = _
    rw [a0, a1, a2, a3, a4]
    exact (whole_eq m c).symm

end Cert.Proof.ProjB

end
-- ==== Proof.MergeMath.lean ====
/-
  One element of a merge's result: the input's element plus the row of merged branches, gated, times a column of weights.
-/
module

public import Idealize.ShloMosaic.PureOps.Ideal

@[expose] public section

noncomputable section

namespace Cert.Merge

open Idealize.ShloMosaic

/-- An element of the input plus the gated row times a column: the gate of `z` is `z` times its logistic function. -/
def project {n : ℕ} (x : EReal) (o z w : Fin n → EReal) : EReal :=
  x + ∑ k, (o k * (z k * Ideal.logistic (z k))) * w k

/-- Three branches weighted by the softmax of their logarithmic denominators. -/
def mix (l0 l1 l2 o0 o1 o2 : EReal) : EReal :=
  let mx := max (max l0 l1) l2
  let e0 := Ideal.exp (l0 - mx)
  let e1 := Ideal.exp (l1 - mx)
  let e2 := Ideal.exp (l2 - mx)
  let den := e0 + e1 + e2
  Ideal.div e0 den * o0 + Ideal.div e1 den * o1 + Ideal.div e2 den * o2

end Cert.Merge

end
-- ==== Proof.MergeAValue.lean ====
/-
  The output merge of the first mixer: what a tile holds, and the array after the run. Each row of the result is the row of the layer's
  input plus the product of the merged and gated branches with the output weights.
-/
module

public import proofs.«01_k».proof.Proof.Gen.MergeAIdeal.Value
public import proofs.«01_k».proof.Proof.MergeMath
public import Idealize.ShloMosaic.Lib.Pointwise
public import Idealize.ShloMosaic.Lib.StableHlo.ReadAt
public import Idealize.ShloMosaic.Lib.Tactic

@[expose] public section

set_option maxRecDepth 16384

noncomputable section

namespace Cert.MergeAIdeal.Body

open Cert.MergeAIdeal Cert.MergeAIdeal.Gen Idealize.ShloMosaic Idealize.ShloMosaic.TcCoe Idealize.SL.Sem Cert.Merge

variable (m : (ℓ : Loc nD τ sig) → Buf (Elt Ideal) ℓ)
abbrev arg0 (c : Dev nD) : Vec Ideal S16384x512 .f32 := m ((c : Thread nD τ).loc main_arg0)
abbrev arg1 (c : Dev nD) : Vec Ideal S16384x512 .f32 := m ((c : Thread nD τ).loc main_arg1)
abbrev arg2 (c : Dev nD) : Vec Ideal S16384x512 .f32 := m ((c : Thread nD τ).loc main_arg2)
abbrev arg3 (c : Dev nD) : Vec Ideal S16384x512 .f32 := m ((c : Thread nD τ).loc main_arg3)
abbrev arg4 (c : Dev nD) : Vec Ideal S16384x512 .f32 := m ((c : Thread nD τ).loc main_arg4)
abbrev arg5 (c : Dev nD) : Vec Ideal S16384x512 .f32 := m ((c : Thread nD τ).loc main_arg5)
abbrev arg6 (c : Dev nD) : Vec Ideal S16384x5120 .f32 := m ((c : Thread nD τ).loc main_arg6)
abbrev arg7 (c : Dev nD) : Vec Ideal S16384x1024 .f32 := m ((c : Thread nD τ).loc main_arg7)
abbrev arg8 (c : Dev nD) : Vec Ideal S512x1024 .f32 := m ((c : Thread nD τ).loc main_arg8)

/-- What the call returns at row `R`, column `l`. -/
def spec (c : Dev nD) (R : Fin 16384) (l : Fin 1024) : EReal :=
  project (arg7 m c (ix2 R l)) (fun k : Fin 512 => mix (arg3 m c (ix2 R k)) (arg4 m c (ix2 R k)) (arg5 m c (ix2 R k)) (arg0 m c (ix2 R k)) (arg1 m c (ix2 R k)) (arg2 m c (ix2 R k)))
    (fun k => arg6 m c (ix2 R ⟨4608 + k.val, by omega⟩)) (fun k => arg8 m c (ix2 k l))

theorem weight_apply (c : Dev nD) (k : Fin 512) (l : Fin 1024) :
    (V m c main_v0 : Vec Ideal S512x1024 .bf16) (ix2 k l) = arg8 m c (ix2 k l) := by
  unfold V
  after_reads_at

theorem pay_apply (l0 l1 l2 o0 o1 o2 : Vec Ideal S512x512 .f32) (x : Vec Ideal S512x1024 .f32) (z : Vec Ideal S512x512 .f32)
    (w : Vec Ideal S512x1024 .bf16) (r : Fin 512) (l : Fin 1024) :
    k0_pay1 l0 l1 l2 o0 o1 o2 x z w (ix2 r l) = project (x (ix2 r l))
      (fun k => mix (l0 (ix2 r k)) (l1 (ix2 r k)) (l2 (ix2 r k)) (o0 (ix2 r k)) (o1 (ix2 r k)) (o2 (ix2 r k)))
      (fun k => z (ix2 r k)) (fun k => w (ix2 k l)) := by
  unfold project mix
  pointwise [k0_pay1]

/-- Row of the array that a point's block has at `r`. -/
abbrev rowAt (t : Fin cfg0.N) (r : Fin 512) : Fin 16384 := ⟨512 * t.val + r.val, by have : t.val < 32 := t.isLt; omega⟩

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = t.val ∧ win0_3.index t (1 : Fin 2) = 0 :=
  (by decide +kernel : ∀ t : Fin grid0.N, _)
theorem idx_4 : ∀ t : Fin cfg0.N, win0_4.index t (0 : Fin 2) = t.val ∧ win0_4.index t (1 : Fin 2) = 0 :=
  (by decide +kernel : ∀ t : Fin grid0.N, _)
theorem idx_5 : ∀ t : Fin cfg0.N, win0_5.index t (0 : Fin 2) = t.val ∧ win0_5.index t (1 : Fin 2) = 0 :=
  (by decide +kernel : ∀ t : Fin grid0.N, _)
theorem idx_6 : ∀ t : Fin cfg0.N, win0_6.index t (0 : Fin 2) = t.val ∧ win0_6.index t (1 : Fin 2) = 9 :=
  (by decide +kernel : ∀ t : Fin grid0.N, _)
theorem idx_7 : ∀ t : Fin cfg0.N, win0_7.index t (0 : Fin 2) = t.val ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = t.val ∧ win0_9.index t (1 : Fin 2) = 0 :=
  (by decide +kernel : ∀ t : Fin grid0.N, _)

theorem read_0 (c : Dev nD) (t : Fin cfg0.N) (r : Fin 512) (k : Fin 512) :
    (iblk m c 0 t : Vec Ideal S512x512 .f32) (ix2 r k) = arg0 m c (ix2 (rowAt t r) k) := by
  obtain ⟨e0, e1⟩ := idx_0 t
  refine Eq.trans ?_ (congrFun (V_main_arg0 m c) _)
  unfold iblk
  rw [View.read_apply]
  show V m c main_arg0 _ = V m c main_arg0 _
  refine congrArg (V m c main_arg0) (funext fun a => Fin.ext ?_)
  match a with
  | ⟨0, _⟩ => show win0_0.index t 0 * 512 + 1 * r.val = 512 * t.val + r.val; rw [e0]; omega
  | ⟨1, _⟩ => show win0_0.index t 1 * 512 + 1 * k.val = k.val; rw [e1]; omega

theorem read_1 (c : Dev nD) (t : Fin cfg0.N) (r : Fin 512) (k : Fin 512) :
    (iblk m c 1 t : Vec Ideal S512x512 .f32) (ix2 r k) = arg1 m c (ix2 (rowAt t r) k) := by
  obtain ⟨e0, e1⟩ := idx_1 t
  refine Eq.trans ?_ (congrFun (V_main_arg1 m c) _)
  unfold iblk
  rw [View.read_apply]
  show V m c main_arg1 _ = V m c main_arg1 _
  refine congrArg (V m c main_arg1) (funext fun a => Fin.ext ?_)
  match a with
  | ⟨0, _⟩ => show win0_1.index t 0 * 512 + 1 * r.val = 512 * t.val + r.val; rw [e0]; omega
  | ⟨1, _⟩ => show win0_1.index t 1 * 512 + 1 * k.val = k.val; rw [e1]; omega

theorem read_2 (c : Dev nD) (t : Fin cfg0.N) (r : Fin 512) (k : Fin 512) :
    (iblk m c 2 t : Vec Ideal S512x512 .f32) (ix2 r k) = arg2 m c (ix2 (rowAt t r) k) := by
  obtain ⟨e0, e1⟩ := idx_2 t
  refine Eq.trans ?_ (congrFun (V_main_arg2 m c) _)
  unfold iblk
  rw [View.read_apply]
  show V m c main_arg2 _ = V m c main_arg2 _
  refine congrArg (V m c main_arg2) (funext fun a => Fin.ext ?_)
  match a with
  | ⟨0, _⟩ => show win0_2.index t 0 * 512 + 1 * r.val = 512 * t.val + r.val; rw [e0]; omega
  | ⟨1, _⟩ => show win0_2.index t 1 * 512 + 1 * k.val = k.val; rw [e1]; omega

theorem read_3 (c : Dev nD) (t : Fin cfg0.N) (r : Fin 512) (k : Fin 512) :
    (iblk m c 3 t : Vec Ideal S512x512 .f32) (ix2 r k) = arg3 m c (ix2 (rowAt t r) k) := by
  obtain ⟨e0, e1⟩ := idx_3 t
  refine Eq.trans ?_ (congrFun (V_main_arg3 m c) _)
  unfold iblk
  rw [View.read_apply]
  show V m c main_arg3 _ = V m c main_arg3 _
  refine congrArg (V m c main_arg3) (funext fun a => Fin.ext ?_)
  match a with
  | ⟨0, _⟩ => show win0_3.index t 0 * 512 + 1 * r.val = 512 * t.val + r.val; rw [e0]; omega
  | ⟨1, _⟩ => show win0_3.index t 1 * 512 + 1 * k.val = k.val; rw [e1]; omega

theorem read_4 (c : Dev nD) (t : Fin cfg0.N) (r : Fin 512) (k : Fin 512) :
    (iblk m c 4 t : Vec Ideal S512x512 .f32) (ix2 r k) = arg4 m c (ix2 (rowAt t r) k) := by
  obtain ⟨e0, e1⟩ := idx_4 t
  refine Eq.trans ?_ (congrFun (V_main_arg4 m c) _)
  unfold iblk
  rw [View.read_apply]
  show V m c main_arg4 _ = V m c main_arg4 _
  refine congrArg (V m c main_arg4) (funext fun a => Fin.ext ?_)
  match a with
  | ⟨0, _⟩ => show win0_4.index t 0 * 512 + 1 * r.val = 512 * t.val + r.val; rw [e0]; omega
  | ⟨1, _⟩ => show win0_4.index t 1 * 512 + 1 * k.val = k.val; rw [e1]; omega

theorem read_5 (c : Dev nD) (t : Fin cfg0.N) (r : Fin 512) (k : Fin 512) :
    (iblk m c 5 t : Vec Ideal S512x512 .f32) (ix2 r k) = arg5 m c (ix2 (rowAt t r) k) := by
  obtain ⟨e0, e1⟩ := idx_5 t
  refine Eq.trans ?_ (congrFun (V_main_arg5 m c) _)
  unfold iblk
  rw [View.read_apply]
  show V m c main_arg5 _ = V m c main_arg5 _
  refine congrArg (V m c main_arg5) (funext fun a => Fin.ext ?_)
  match a with
  | ⟨0, _⟩ => show win0_5.index t 0 * 512 + 1 * r.val = 512 * t.val + r.val; rw [e0]; omega
  | ⟨1, _⟩ => show win0_5.index t 1 * 512 + 1 * k.val = k.val; rw [e1]; omega

theorem read_6 (c : Dev nD) (t : Fin cfg0.N) (r : Fin 512) (k : Fin 512) :
    (iblk m c 6 t : Vec Ideal S512x512 .f32) (ix2 r k) = arg6 m c (ix2 (rowAt t r) ⟨4608 + k.val, by omega⟩) := by
  obtain ⟨e0, e1⟩ := idx_6 t
  refine Eq.trans ?_ (congrFun (V_main_arg6 m c) _)
  unfold iblk
  rw [View.read_apply]
  show V m c main_arg6 _ = V m c main_arg6 _
  refine congrArg (V m c main_arg6) (funext fun a => Fin.ext ?_)
  match a with
  | ⟨0, _⟩ => show win0_6.index t 0 * 512 + 1 * r.val = 512 * t.val + r.val; rw [e0]; omega
  | ⟨1, _⟩ => show win0_6.index t 1 * 512 + 1 * k.val = 4608 + k.val; rw [e1]; omega

theorem read_7 (c : Dev nD) (t : Fin cfg0.N) (r : Fin 512) (l : Fin 1024) :
    (iblk m c 7 t : Vec Ideal S512x1024 .f32) (ix2 r l) = arg7 m c (ix2 (rowAt t r) l) := by
  obtain ⟨e0, e1⟩ := idx_7 t
  refine Eq.trans ?_ (congrFun (V_main_arg7 m c) _)
  unfold iblk
  rw [View.read_apply]
  show V m c main_arg7 _ = V m c main_arg7 _
  refine congrArg (V m c main_arg7) (funext fun a => Fin.ext ?_)
  match a with
  | ⟨0, _⟩ => show win0_7.index t 0 * 512 + 1 * r.val = 512 * t.val + r.val; rw [e0]; omega
  | ⟨1, _⟩ => show win0_7.index t 1 * 1024 + 1 * l.val = l.val; rw [e1]; omega

theorem read_8 (c : Dev nD) (t : Fin cfg0.N) (k : Fin 512) (l : Fin 1024) :
    (iblk m c 8 t : Vec Ideal S512x1024 .bf16) (ix2 k l) = arg8 m c (ix2 k l) := by
  obtain ⟨e0, e1⟩ := idx_8 t
  refine Eq.trans ?_ (weight_apply m c k l)
  unfold iblk
  rw [View.read_apply]
  show V m c main_v0 _ = V m c main_v0 _
  refine congrArg (V m c main_v0) (funext fun a => Fin.ext ?_)
  match a with
  | ⟨0, _⟩ => show win0_8.index t 0 * 512 + 1 * k.val = k.val; rw [e0]; omega
  | ⟨1, _⟩ => show win0_8.index t 1 * 1024 + 1 * l.val = l.val; rw [e1]; omega

theorem hz2 : (![0, 0] : Fin 2 → Nat) = fun _ => 0 := funext fun a => by fin_cases a <;> rfl

/-- What a point stores. -/
theorem stored (c : Dev nD) (t : Fin cfg0.N) :
    out0_9 (iblk m c 0 t) (iblk m c 1 t) (iblk m c 2 t) (iblk m c 3 t) (iblk m c 4 t) (iblk m c 5 t) (iblk m c 6 t) (iblk m c 7 t) (iblk m c 8 t) = k0_pay1 (iblk m c 3 t) (iblk m c 4 t) (iblk m c 5 t) (iblk m c 0 t) (iblk m c 1 t) (iblk m c 2 t) (iblk m c 7 t) (iblk m c 6 t) (iblk m c 8 t) := by
  unfold out0_9
  rw [View.canon_unit_zero hz2]
  simp only [View.ld_unit_zero (S := S512x512) hz2, View.ld_unit_zero (S := S512x1024) hz2, View.ld_unit_zero (S := S512x1024) hz2]

/-- The tile a point writes. -/
theorem tile (c : Dev nD) (t : Fin cfg0.N) (r : Fin 512) (l : Fin 1024) :
    (out0_9 (iblk m c 0 t) (iblk m c 1 t) (iblk m c 2 t) (iblk m c 3 t) (iblk m c 4 t) (iblk m c 5 t) (iblk m c 6 t) (iblk m c 7 t) (iblk m c 8 t) : Vec Ideal S512x1024 .f32) (ix2 r l) = spec m c (rowAt t r) l := by
  rw [stored, pay_apply, read_7]
  simp only [read_0, read_1, read_2, read_3, read_4, read_5, read_6, read_8]
  rfl

/-- The whole array. -/
def whole (c : Dev nD) : Vec Ideal S16384x1024 .f32 := fun i => spec m c (i 0) (i 1)

theorem flushed_eq (c : Dev nD) (t : Fin cfg0.N) (_hf : (cfg0.win 9).flush t = true) :
    (dats m 0 c).flushed 9 t = ((cfg0.win 9).blk t).view.read (Elt Ideal) (whole m c) := by
  obtain ⟨e0, e1⟩ := idx_9 t
  rw [Cert.MergeAIdeal.Value.flushed9]
  funext y
  have hy0 : (y 0).val < 512 := (y 0).isLt
  have hy1 : (y 1).val < 1024 := (y 1).isLt
  have hb0 : (((cfg0.win 9).blk t).view.emb y 0).val = win0_9.index t (0 : Fin 2) * 512 + 1 * (y 0).val := rfl
  have hb1 : (((cfg0.win 9).blk t).view.emb y 1).val = win0_9.index t (1 : Fin 2) * 1024 + 1 * (y 1).val := rfl
  rw [View.read_apply]
  unfold Pipeline.Window.cut
  have hx : (cfg0.win 9).xinj (grid0.coords t) y = ix2 ⟨(y 0).val, hy0⟩ ⟨(y 1).val, hy1⟩ :=
    funext fun a => Fin.ext (by match a with | ⟨0, _⟩ => rfl | ⟨1, _⟩ => rfl)
  refine (congrArg (out0_9 (iblk m c 0 t) (iblk m c 1 t) (iblk m c 2 t) (iblk m c 3 t) (iblk m c 4 t) (iblk m c 5 t) (iblk m c 6 t) (iblk m c 7 t) (iblk m c 8 t) : Vec Ideal S512x1024 .f32) hx).trans ?_
  rw [tile]
  show _ = spec m c (((cfg0.win 9).blk t).view.emb y 0) (((cfg0.win 9).blk t).view.emb y 1)
  rw [e0] at hb0
  rw [e1] at hb1
  have q0 : (((cfg0.win 9).blk t).view.emb y 0 : Fin 16384) = rowAt t ⟨(y 0).val, hy0⟩ :=
    Fin.ext (by rw [hb0]; show t.val * 512 + 1 * (y 0).val = 512 * t.val + (y 0).val; omega)
  have q1 : (((cfg0.win 9).blk t).view.emb y 1 : Fin 1024) = ⟨(y 1).val, hy1⟩ :=
    Fin.ext (by rw [hb1]; show 0 * 1024 + 1 * (y 1).val = (y 1).val; omega)
  exact congr (congrArg (spec m c) q0.symm) q1.symm

theorem flush_all : ∀ t : Fin cfg0.N, (cfg0.win 9).flush t = true :=
  (by decide +kernel : ∀ t : Fin grid0.N, win0_9.flush t = true)

/-- The array after the run. -/
theorem final (c : Dev nD) : (dats m 0 c).arrAt 9 cfg0.N = whole m c :=
  (dats m 0 c).arrAt_eq_of_cover 9 (whole m c) (flushed_eq m c) fun j => by
    have h0 : (j 0 : Nat) < 16384 := (j 0).isLt
    have h1 : (j 1 : Nat) < 1024 := (j 1).isLt
    have hN : (j 0 : Nat) / 512 < cfg0.N := (show (j 0 : Nat) / 512 < 32 by omega)
    obtain ⟨e0, e1⟩ := idx_9 ⟨(j 0 : Nat) / 512, hN⟩
    refine ⟨⟨(j 0 : Nat) / 512, hN⟩, flush_all _, ?_⟩
    show j ∈ ((View.whole main_v1).slice (win0_9.rect ⟨(j 0 : Nat) / 512, hN⟩)).set
    rw [View.set_slice_whole, Rect.mem_set_unit]
    intro a
    match a with
    | ⟨0, _⟩ => show win0_9.index ⟨(j 0 : Nat) / 512, hN⟩ 0 * 512 ≤ (j 0 : Nat) ∧ (j 0 : Nat) < win0_9.index ⟨(j 0 : Nat) / 512, hN⟩ 0 * 512 + 512
                rw [e0]; dsimp only; omega
    | ⟨1, _⟩ => show win0_9.index ⟨(j 0 : Nat) / 512, hN⟩ 1 * 1024 ≤ (j 1 : Nat) ∧ (j 1 : Nat) < win0_9.index ⟨(j 0 : Nat) / 512, hN⟩ 1 * 1024 + 1024
                rw [e1]; dsimp only; omega

end Cert.MergeAIdeal.Body

end
-- ==== Proof.MergeAClaim.lean ====
/-
  The value claim of the first mixer's output merge: the kernel and the reference leave one array.
-/
module

public import proofs.«01_k».proof.Defs
public import proofs.«01_k».proof.Proof.MergeAValue
public import proofs.«01_k».proof.Proof.Gen.RefMAIdeal.Read
public import proofs.«01_k».proof.Proof.Gen.RefMAIdeal.Run
public import Idealize.ShloMosaic.Lib.Pointwise
public import proofs.«01_k».proof.Proof.CmpMath

@[expose] public section

set_option maxRecDepth 16384

noncomputable section

namespace Cert.RefMAIdeal.Body

open Cert.RefMAIdeal Cert.RefMAIdeal.Read Idealize.ShloMosaic Idealize.SL.Sem Cert.Merge

/-- The gate of a branch element. -/
theorem gate_apply (u : Vec Ideal S16384x5120 .f32) (R : Fin 16384) (k : Fin 512) :
    val_main_v22 (F := Ideal) u (ix2 R k) = u (ix2 R ⟨4608 + k.val, by omega⟩) * Ideal.logistic (u (ix2 R ⟨4608 + k.val, by omega⟩)) := by
  have e : idx_main_v21 (ix2 R k) = ix2 R (⟨4608 + k.val, by omega⟩ : Fin 5120) := funext fun a => by
    match a with
    | ⟨0, _⟩ => exact Fin.ext rfl
    | ⟨1, _⟩ => exact Fin.ext rfl
  rw [val_main_v22_apply, val_main_call0_v5_apply, val_main_call0_v4_apply, val_main_call0_cst_0_apply, val_main_call0_v3_apply, val_main_call0_v2_apply,
    val_main_call0_cst_apply, val_main_call0_v1_apply, val_main_call0_v0_apply, val_main_v21_apply, e]
  generalize u (ix2 R (⟨4608 + k.val, by omega⟩ : Fin 5120)) = z
  show z * Ideal.div (Ideal.ofBits .f32 0x3F800000#32) (Ideal.ofBits .f32 0x3F800000#32 + Ideal.exp (-z)) = z * Ideal.logistic z
  rw [Ideal.ofBits_one_f32]
  rfl

section
variable (l0 l1 l2 o0 o1 o2 : Vec Ideal S16384x512 .f32) (R : Fin 16384) (k : Fin 512)

/-- Three values by number. -/
def pick (x y z : EReal) : Fin 3 → EReal := fun s => match s with
  | ⟨0, _⟩ => x
  | ⟨1, _⟩ => y
  | ⟨2, _⟩ => z

theorem stack_l (s : Fin 3) :
    val_main_v3 (F := Ideal) l0 l1 l2 (ix3 s R k) = pick (l0 (ix2 R k)) (l1 (ix2 R k)) (l2 (ix2 R k)) s := by
  unfold val_main_v3 val_main_v0 val_main_v1 val_main_v2
  pointwise []
  fin_cases s <;> rfl

theorem stack_o (s : Fin 3) :
    val_main_v18 (F := Ideal) o0 o1 o2 (ix3 s R k) = pick (o0 (ix2 R k)) (o1 (ix2 R k)) (o2 (ix2 R k)) s := by
  unfold val_main_v18 val_main_v15 val_main_v16 val_main_v17
  pointwise []
  fin_cases s <;> rfl

/-- The shift the reference subtracts: the largest of the three. -/
theorem shift_apply :
    val_main_v6 (F := Ideal) l0 l1 l2 (ix2 R k) = max (max (l0 (ix2 R k)) (l1 (ix2 R k))) (l2 (ix2 R k)) := by
  rw [val_main_v6_apply, val_main_v5_apply, val_main_cst_0_apply]
  have h := stack_l l0 l1 l2 R k
  unfold val_main_v4
  generalize val_main_v3 (F := Ideal) l0 l1 l2 = y at h ⊢
  have hb : Ideal.ofBits .f32 0xFF800000#32 = ⊥ := Cert.Attn.ofBits_neg_inf
  pointwise [val_main_cst, Host.reduce_eq_fold]
  simp only [h, hb]
  have e : (Finset.univ : Finset (Fin 3)) = insert 0 (insert 1 {2}) := by decide
  rw [e, Finset.fold_insert (by decide), Finset.fold_insert (by decide), Finset.fold_singleton]
  show max ⊥ (max (l0 (ix2 R k)) (max (l1 (ix2 R k)) (max (l2 (ix2 R k)) ⊥))) = _
  rw [max_bot_right, max_bot_left, max_assoc]

theorem exp_apply (s : Fin 3) :
    val_main_v10 (F := Ideal) l0 l1 l2 (ix3 s R k) = Ideal.exp (pick (l0 (ix2 R k)) (l1 (ix2 R k)) (l2 (ix2 R k)) s
      - max (max (l0 (ix2 R k)) (l1 (ix2 R k))) (l2 (ix2 R k))) := by
  have e : idx_main_v7 (idx_main_v8 (ix3 s R k)) = ix2 R k := funext fun a => by fin_cases a <;> rfl
  rw [val_main_v10_apply, val_main_v9_apply, val_main_v8_apply, val_main_v7_apply, e, shift_apply, stack_l]
  rfl

theorem den_apply :
    val_main_v11 (F := Ideal) l0 l1 l2 (ix2 R k) = 0 + ∑ s : Fin 3, val_main_v10 (F := Ideal) l0 l1 l2 (ix3 s R k) := by
  rw [val_main_v11_apply]
  rw [val_main_cst_1_apply]
  have e : ∀ s, idx_main_v11 (ix2 R k) s = ix3 s R k := fun s => funext fun a => by fin_cases a <;> rfl
  simp only [e]
  congr 1
  exact Ideal.ofBits_zero_f32

/-- The merged branches as the reference has them. -/
theorem mix_apply :
    val_main_v20 (F := Ideal) o0 o1 o2 l0 l1 l2 (ix2 R k) = mix (l0 (ix2 R k)) (l1 (ix2 R k)) (l2 (ix2 R k)) (o0 (ix2 R k)) (o1 (ix2 R k)) (o2 (ix2 R k)) := by
  have e : ∀ s, idx_main_v20 (ix2 R k) s = ix3 s R k := fun s => funext fun a => by fin_cases a <;> rfl
  have e' : ∀ s, idx_main_v12 (idx_main_v13 (ix3 s R k)) = ix2 R k := fun s => funext fun a => by fin_cases a <;> rfl
  rw [val_main_v20_apply, val_main_cst_2_apply]
  simp only [e, val_main_v19_apply, val_main_v14_apply, val_main_v13_apply, val_main_v12_apply, e', den_apply, stack_o, exp_apply,
    Fin.sum_univ_three, Ideal.ofBits_zero_f32, zero_add]
  unfold mix
  show Ideal.ofBits .f32 0x00000000#32 + _ = _
  rw [Ideal.ofBits_zero_f32, zero_add]
  rfl
end

/-- The reference's element. -/
theorem out_apply (a0 a1 a2 a3 a4 a5 : Vec Ideal S16384x512 .f32) (u : Vec Ideal S16384x5120 .f32) (x : Vec Ideal S16384x1024 .f32)
    (w : Vec Ideal S512x1024 .f32) (R : Fin 16384) (l : Fin 1024) :
    val_main_v25 (F := Ideal) a0 a1 a2 a3 a4 a5 u x w (ix2 R l) = project (x (ix2 R l)) (fun k : Fin 512 => mix (a3 (ix2 R k)) (a4 (ix2 R k)) (a5 (ix2 R k)) (a0 (ix2 R k)) (a1 (ix2 R k)) (a2 (ix2 R k)))
      (fun k => u (ix2 R ⟨4608 + k.val, by omega⟩)) (fun k => w (ix2 k l)) := by
  rw [val_main_v25_apply, val_main_v24_apply]
  refine congrArg (x (ix2 R l) + ·) (Finset.sum_congr rfl fun k _ => ?_)
  have el : lidx_main_v24 (ix2 R l) k = ix2 R k := funext fun a => by fin_cases a <;> rfl
  have er : ridx_main_v24 (ix2 R l) k = ix2 k l := funext fun a => by fin_cases a <;> rfl
  rw [el, er]
  refine congrArg (· * w (ix2 k l)) ?_
  rw [val_main_v23_apply, gate_apply, mix_apply]
  rfl

end Cert.RefMAIdeal.Body

namespace Cert.Proof.MergeA

open Idealize.ShloMosaic Idealize.ShloMosaic.TcCoe Idealize.SL.Sem Cert.MergeAIdeal.Body

variable (m : (ℓ : Loc Cert.MergeAIdeal.nD Cert.MergeAIdeal.τ Cert.MergeAIdeal.sig) → Buf (Elt Ideal) ℓ)

theorem whole_eq (c : Dev Cert.MergeAIdeal.nD) :
    whole m c = Cert.RefMAIdeal.Read.val_main_v25 (F := Ideal) (arg0 m c) (arg1 m c) (arg2 m c) (arg3 m c) (arg4 m c) (arg5 m c) (arg6 m c) (arg7 m c) (arg8 m c) := by
  funext i
  have hi : ix2 (i 0) (i 1) = i := funext fun a => by fin_cases a <;> rfl
  exact (Cert.RefMAIdeal.Body.out_apply (arg0 m c) (arg1 m c) (arg2 m c) (arg3 m c) (arg4 m c) (arg5 m c) (arg6 m c) (arg7 m c) (arg8 m c) (i 0) (i 1)).symm.trans (congrArg _ hi)

theorem algebraic [hK : Cert.MergeAIdeal.Facts] [hR : Cert.RefMAIdeal.Facts] :
    Cert.algebraic_MergeAIdeal_RefMAIdeal := by
  intro m g m' g' _ hagree
  refine ⟨fun c => whole m c, ?_, ?_⟩
  · refine (θ_run Cert.MergeAIdeal.defs _ _).mono (fun _ h c => ?_) (Cert.MergeAIdeal.Value.run_blocks (F := Ideal) m g)
    obtain ⟨h0, h1⟩ := h c
    exact ⟨h0.trans (final m c), h1⟩
  · refine (θ_run Cert.RefMAIdeal.defs _ _).mono (fun _ h c => ?_) (Cert.RefMAIdeal.Value.run (F := Ideal) m' g')
    obtain ⟨h0, h1⟩ := h c
    refine ⟨h0.trans ?_, h1⟩
    obtain ⟨a0, a1, a2, a3, a4, a5, a6, a7, a8⟩ := hagree c
    rw [Cert.RefMAIdeal.Read.val_main_v25_eq]
    show Cert.RefMAIdeal.Read.val_main_v25 (F := Ideal) (m' (c.tc.loc Cert.RefMAIdeal.main_arg0)) (m' (c.tc.loc Cert.RefMAIdeal.main_arg1)) (m' (c.tc.loc Cert.RefMAIdeal.main_arg2)) (m' (c.tc.loc Cert.RefMAIdeal.main_arg3)) (m' (c.tc.loc Cert.RefMAIdeal.main_arg4)) (m' (c.tc.loc Cert.RefMAIdeal.main_arg5)) (m' (c.tc.loc Cert.RefMAIdeal.main_arg6)) (m' (c.tc.loc Cert.RefMAIdeal.main_arg7)) (m' (c.tc.loc Cert.RefMAIdeal.main_arg8)) = _
    rw [a0, a1, a2, a3, a4, a5, a6, a7, a8]
    exact (whole_eq m c).symm

end Cert.Proof.MergeA

end
-- ==== Proof.MergeBValue.lean ====
/-
  The output merge of the second mixer: what a tile holds, and the array after the run. Each row of the result is the row of the layer's
  input plus the product of the merged and gated branches with the output weights.
-/
module

public import proofs.«01_k».proof.Proof.Gen.MergeBIdeal.Value
public import proofs.«01_k».proof.Proof.MergeMath
public import Idealize.ShloMosaic.Lib.Pointwise
public import Idealize.ShloMosaic.Lib.StableHlo.ReadAt
public import Idealize.ShloMosaic.Lib.Tactic

@[expose] public section

set_option maxRecDepth 16384

noncomputable section

namespace Cert.MergeBIdeal.Body

open Cert.MergeBIdeal Cert.MergeBIdeal.Gen Idealize.ShloMosaic Idealize.ShloMosaic.TcCoe Idealize.SL.Sem Cert.Merge

variable (m : (ℓ : Loc nD τ sig) → Buf (Elt Ideal) ℓ)
abbrev arg0 (c : Dev nD) : Vec Ideal S16384x1024 .f32 := m ((c : Thread nD τ).loc main_arg0)
abbrev arg1 (c : Dev nD) : Vec Ideal S16384x1024 .f32 := m ((c : Thread nD τ).loc main_arg1)
abbrev arg2 (c : Dev nD) : Vec Ideal S16384x1024 .f32 := m ((c : Thread nD τ).loc main_arg2)
abbrev arg3 (c : Dev nD) : Vec Ideal S16384x5376 .f32 := m ((c : Thread nD τ).loc main_arg3)
abbrev arg4 (c : Dev nD) : Vec Ideal S16384x1024 .f32 := m ((c : Thread nD τ).loc main_arg4)
abbrev arg5 (c : Dev nD) : Vec Ideal S1024x1024 .f32 := m ((c : Thread nD τ).loc main_arg5)

/-- What the call returns at row `R`, column `l`. -/
def spec (c : Dev nD) (R : Fin 16384) (l : Fin 1024) : EReal :=
  project (arg4 m c (ix2 R l)) (fun k : Fin 1024 => arg0 m c (ix2 R k) + arg1 m c (ix2 R k) + arg2 m c (ix2 R k))
    (fun k => arg3 m c (ix2 R ⟨2048 + k.val, by omega⟩)) (fun k => arg5 m c (ix2 k l))

theorem weight_apply (c : Dev nD) (k : Fin 1024) (l : Fin 1024) :
    (V m c main_v0 : Vec Ideal S1024x1024 .bf16) (ix2 k l) = arg5 m c (ix2 k l) := by
  unfold V
  after_reads_at

theorem pay_apply (o0 o1 o2 x z : Vec Ideal S512x1024 .f32) (w : Vec Ideal S1024x1024 .bf16) (r : Fin 512) (l : Fin 1024) :
    k0_pay1 o0 o1 o2 x z w (ix2 r l) = project (x (ix2 r l)) (fun k => o0 (ix2 r k) + o1 (ix2 r k) + o2 (ix2 r k))
      (fun k => z (ix2 r k)) (fun k => w (ix2 k l)) := by
  unfold project
  pointwise [k0_pay1]

/-- Row of the array that a point's block has at `r`. -/
abbrev rowAt (t : Fin cfg0.N) (r : Fin 512) : Fin 16384 := ⟨512 * t.val + r.val, by have : t.val < 32 := t.isLt; omega⟩

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = t.val ∧ win0_3.index t (1 : Fin 2) = 2 :=
  (by decide +kernel : ∀ t : Fin grid0.N, _)
theorem idx_4 : ∀ t : Fin cfg0.N, win0_4.index t (0 : Fin 2) = t.val ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = t.val ∧ win0_6.index t (1 : Fin 2) = 0 :=
  (by decide +kernel : ∀ t : Fin grid0.N, _)

theorem read_0 (c : Dev nD) (t : Fin cfg0.N) (r : Fin 512) (k : Fin 1024) :
    (iblk m c 0 t : Vec Ideal S512x1024 .f32) (ix2 r k) = arg0 m c (ix2 (rowAt t r) k) := by
  obtain ⟨e0, e1⟩ := idx_0 t
  refine Eq.trans ?_ (congrFun (V_main_arg0 m c) _)
  unfold iblk
  rw [View.read_apply]
  show V m c main_arg0 _ = V m c main_arg0 _
  refine congrArg (V m c main_arg0) (funext fun a => Fin.ext ?_)
  match a with
  | ⟨0, _⟩ => show win0_0.index t 0 * 512 + 1 * r.val = 512 * t.val + r.val; rw [e0]; omega
  | ⟨1, _⟩ => show win0_0.index t 1 * 1024 + 1 * k.val = k.val; rw [e1]; omega

theorem read_1 (c : Dev nD) (t : Fin cfg0.N) (r : Fin 512) (k : Fin 1024) :
    (iblk m c 1 t : Vec Ideal S512x1024 .f32) (ix2 r k) = arg1 m c (ix2 (rowAt t r) k) := by
  obtain ⟨e0, e1⟩ := idx_1 t
  refine Eq.trans ?_ (congrFun (V_main_arg1 m c) _)
  unfold iblk
  rw [View.read_apply]
  show V m c main_arg1 _ = V m c main_arg1 _
  refine congrArg (V m c main_arg1) (funext fun a => Fin.ext ?_)
  match a with
  | ⟨0, _⟩ => show win0_1.index t 0 * 512 + 1 * r.val = 512 * t.val + r.val; rw [e0]; omega
  | ⟨1, _⟩ => show win0_1.index t 1 * 1024 + 1 * k.val = k.val; rw [e1]; omega

theorem read_2 (c : Dev nD) (t : Fin cfg0.N) (r : Fin 512) (k : Fin 1024) :
    (iblk m c 2 t : Vec Ideal S512x1024 .f32) (ix2 r k) = arg2 m c (ix2 (rowAt t r) k) := by
  obtain ⟨e0, e1⟩ := idx_2 t
  refine Eq.trans ?_ (congrFun (V_main_arg2 m c) _)
  unfold iblk
  rw [View.read_apply]
  show V m c main_arg2 _ = V m c main_arg2 _
  refine congrArg (V m c main_arg2) (funext fun a => Fin.ext ?_)
  match a with
  | ⟨0, _⟩ => show win0_2.index t 0 * 512 + 1 * r.val = 512 * t.val + r.val; rw [e0]; omega
  | ⟨1, _⟩ => show win0_2.index t 1 * 1024 + 1 * k.val = k.val; rw [e1]; omega

theorem read_3 (c : Dev nD) (t : Fin cfg0.N) (r : Fin 512) (k : Fin 1024) :
    (X0_3 m c t : Vec Ideal S512x1024 .f32) (ix2 r k) = arg3 m c (ix2 (rowAt t r) ⟨2048 + k.val, by omega⟩) := by
  obtain ⟨e0, e1⟩ := idx_3 t
  refine Eq.trans ?_ (congrFun (V_main_arg3 m c) _)
  unfold X0_3 Pipeline.Window.fill iblk
  rw [dif_pos (moved0_3 t _), View.read_apply]
  show V m c main_arg3 _ = V m c main_arg3 _
  refine congrArg (V m c main_arg3) (funext fun a => Fin.ext ?_)
  match a with
  | ⟨0, _⟩ => show win0_3.index t 0 * 512 + 1 * r.val = 512 * t.val + r.val; rw [e0]; omega
  | ⟨1, _⟩ => show win0_3.index t 1 * 1024 + 1 * k.val = 2048 + k.val; rw [e1]; omega

theorem read_4 (c : Dev nD) (t : Fin cfg0.N) (r : Fin 512) (l : Fin 1024) :
    (iblk m c 4 t : Vec Ideal S512x1024 .f32) (ix2 r l) = arg4 m c (ix2 (rowAt t r) l) := by
  obtain ⟨e0, e1⟩ := idx_4 t
  refine Eq.trans ?_ (congrFun (V_main_arg4 m c) _)
  unfold iblk
  rw [View.read_apply]
  show V m c main_arg4 _ = V m c main_arg4 _
  refine congrArg (V m c main_arg4) (funext fun a => Fin.ext ?_)
  match a with
  | ⟨0, _⟩ => show win0_4.index t 0 * 512 + 1 * r.val = 512 * t.val + r.val; rw [e0]; omega
  | ⟨1, _⟩ => show win0_4.index t 1 * 1024 + 1 * l.val = l.val; rw [e1]; omega

theorem read_5 (c : Dev nD) (t : Fin cfg0.N) (k : Fin 1024) (l : Fin 1024) :
    (iblk m c 5 t : Vec Ideal S1024x1024 .bf16) (ix2 k l) = arg5 m c (ix2 k l) := by
  obtain ⟨e0, e1⟩ := idx_5 t
  refine Eq.trans ?_ (weight_apply m c k l)
  unfold iblk
  rw [View.read_apply]
  show V m c main_v0 _ = V m c main_v0 _
  refine congrArg (V m c main_v0) (funext fun a => Fin.ext ?_)
  match a with
  | ⟨0, _⟩ => show win0_5.index t 0 * 1024 + 1 * k.val = k.val; rw [e0]; omega
  | ⟨1, _⟩ => show win0_5.index t 1 * 1024 + 1 * l.val = l.val; rw [e1]; omega

theorem hz2 : (![0, 0] : Fin 2 → Nat) = fun _ => 0 := funext fun a => by fin_cases a <;> rfl

/-- What a point stores. -/
theorem stored (c : Dev nD) (t : Fin cfg0.N) : outsAt0 m c t = k0_pay1 (iblk m c 0 t) (iblk m c 1 t) (iblk m c 2 t) (iblk m c 4 t) (X0_3 m c t) (iblk m c 5 t) := by
  unfold outsAt0 out0_A_6
  refine (View.read_writes_eq_canon _ _ _ (fun _ => cover0_A_6 ..)).trans ?_
  unfold kernelRun0_A
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread,
    View.ld_unit_zero (S := S512x1024) hz2, View.ld_unit_zero (S := S1024x1024) hz2]

/-- The tile a point writes. -/
theorem tile (c : Dev nD) (t : Fin cfg0.N) (r : Fin 512) (l : Fin 1024) :
    (outsAt0 m c t : Vec Ideal S512x1024 .f32) (ix2 r l) = spec m c (rowAt t r) l := by
  rw [stored, pay_apply, read_4]
  simp only [read_0, read_1, read_2, read_3, read_5]
  rfl

/-- The whole array. -/
def whole (c : Dev nD) : Vec Ideal S16384x1024 .f32 := fun i => spec m c (i 0) (i 1)

theorem flushed_eq (c : Dev nD) (t : Fin cfg0.N) (_hf : (cfg0.win 6).flush t = true) :
    (dats m 0 c).flushed 6 t = ((cfg0.win 6).blk t).view.read (Elt Ideal) (whole m c) := by
  obtain ⟨e0, e1⟩ := idx_6 t
  rw [Cert.MergeBIdeal.Value.flushed6]
  funext y
  have hy0 : (y 0).val < 512 := (y 0).isLt
  have hy1 : (y 1).val < 1024 := (y 1).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 1024 + 1 * (y 1).val := rfl
  rw [View.read_apply]
  unfold Pipeline.Window.cut
  have hx : (cfg0.win 6).xinj (grid0.coords t) y = ix2 ⟨(y 0).val, hy0⟩ ⟨(y 1).val, hy1⟩ :=
    funext fun a => Fin.ext (by match a with | ⟨0, _⟩ => rfl | ⟨1, _⟩ => rfl)
  refine (congrArg (outsAt0 m c t : Vec Ideal S512x1024 .f32) hx).trans ?_
  rw [tile]
  show _ = spec m c (((cfg0.win 6).blk t).view.emb y 0) (((cfg0.win 6).blk t).view.emb y 1)
  rw [e0] at hb0
  rw [e1] at hb1
  have q0 : (((cfg0.win 6).blk t).view.emb y 0 : Fin 16384) = rowAt t ⟨(y 0).val, hy0⟩ :=
    Fin.ext (by rw [hb0]; show t.val * 512 + 1 * (y 0).val = 512 * t.val + (y 0).val; omega)
  have q1 : (((cfg0.win 6).blk t).view.emb y 1 : Fin 1024) = ⟨(y 1).val, hy1⟩ :=
    Fin.ext (by rw [hb1]; show 0 * 1024 + 1 * (y 1).val = (y 1).val; omega)
  exact congr (congrArg (spec m c) q0.symm) q1.symm

theorem flush_all : ∀ t : Fin cfg0.N, (cfg0.win 6).flush t = true :=
  (by decide +kernel : ∀ t : Fin grid0.N, win0_6.flush t = true)

/-- The array after the run. -/
theorem final (c : Dev nD) : (dats m 0 c).arrAt 6 cfg0.N = whole m c :=
  (dats m 0 c).arrAt_eq_of_cover 6 (whole m c) (flushed_eq m c) fun j => by
    have h0 : (j 0 : Nat) < 16384 := (j 0).isLt
    have h1 : (j 1 : Nat) < 1024 := (j 1).isLt
    have hN : (j 0 : Nat) / 512 < cfg0.N := (show (j 0 : Nat) / 512 < 32 by omega)
    obtain ⟨e0, e1⟩ := idx_6 ⟨(j 0 : Nat) / 512, hN⟩
    refine ⟨⟨(j 0 : Nat) / 512, hN⟩, flush_all _, ?_⟩
    show j ∈ ((View.whole main_v1).slice (win0_6.rect ⟨(j 0 : Nat) / 512, hN⟩)).set
    rw [View.set_slice_whole, Rect.mem_set_unit]
    intro a
    match a with
    | ⟨0, _⟩ => show win0_6.index ⟨(j 0 : Nat) / 512, hN⟩ 0 * 512 ≤ (j 0 : Nat) ∧ (j 0 : Nat) < win0_6.index ⟨(j 0 : Nat) / 512, hN⟩ 0 * 512 + 512
                rw [e0]; dsimp only; omega
    | ⟨1, _⟩ => show win0_6.index ⟨(j 0 : Nat) / 512, hN⟩ 1 * 1024 ≤ (j 1 : Nat) ∧ (j 1 : Nat) < win0_6.index ⟨(j 0 : Nat) / 512, hN⟩ 1 * 1024 + 1024
                rw [e1]; dsimp only; omega

end Cert.MergeBIdeal.Body

end
-- ==== Proof.MergeBClaim.lean ====
/-
  The value claim of the second mixer's output merge: the kernel and the reference leave one array.
-/
module

public import proofs.«01_k».proof.Defs
public import proofs.«01_k».proof.Proof.MergeBValue
public import proofs.«01_k».proof.Proof.Gen.RefMBIdeal.Read
public import proofs.«01_k».proof.Proof.Gen.RefMBIdeal.Run
public import Idealize.ShloMosaic.Lib.Pointwise

@[expose] public section

set_option maxRecDepth 16384

noncomputable section

namespace Cert.RefMBIdeal.Body

open Cert.RefMBIdeal Cert.RefMBIdeal.Read Idealize.ShloMosaic Idealize.SL.Sem Cert.Merge

/-- The gate of a branch element. -/
theorem gate_apply (u : Vec Ideal S16384x5376 .f32) (R : Fin 16384) (k : Fin 1024) :
    val_main_v3 (F := Ideal) u (ix2 R k) = u (ix2 R ⟨2048 + k.val, by omega⟩) * Ideal.logistic (u (ix2 R ⟨2048 + k.val, by omega⟩)) := by
  have e : idx_main_v2 (ix2 R k) = ix2 R (⟨2048 + k.val, by omega⟩ : Fin 5376) := funext fun a => by
    match a with
    | ⟨0, _⟩ => exact Fin.ext rfl
    | ⟨1, _⟩ => exact Fin.ext rfl
  rw [val_main_v3_apply, val_main_call0_v5_apply, val_main_call0_v4_apply, val_main_call0_cst_0_apply, val_main_call0_v3_apply, val_main_call0_v2_apply,
    val_main_call0_cst_apply, val_main_call0_v1_apply, val_main_call0_v0_apply, val_main_v2_apply, e]
  generalize u (ix2 R (⟨2048 + k.val, by omega⟩ : Fin 5376)) = z
  show z * Ideal.div (Ideal.ofBits .f32 0x3F800000#32) (Ideal.ofBits .f32 0x3F800000#32 + Ideal.exp (-z)) = z * Ideal.logistic z
  rw [Ideal.ofBits_one_f32]
  rfl

/-- The reference's element. -/
theorem out_apply (a0 a1 a2 : Vec Ideal S16384x1024 .f32) (u : Vec Ideal S16384x5376 .f32) (x : Vec Ideal S16384x1024 .f32)
    (w : Vec Ideal S1024x1024 .f32) (R : Fin 16384) (l : Fin 1024) :
    val_main_v6 (F := Ideal) a0 a1 a2 u x w (ix2 R l) = project (x (ix2 R l)) (fun k : Fin 1024 => a0 (ix2 R k) + a1 (ix2 R k) + a2 (ix2 R k))
      (fun k => u (ix2 R ⟨2048 + k.val, by omega⟩)) (fun k => w (ix2 k l)) := by
  rw [val_main_v6_apply, val_main_v5_apply]
  refine congrArg (x (ix2 R l) + ·) (Finset.sum_congr rfl fun k _ => ?_)
  have el : lidx_main_v5 (ix2 R l) k = ix2 R k := funext fun a => by fin_cases a <;> rfl
  have er : ridx_main_v5 (ix2 R l) k = ix2 k l := funext fun a => by fin_cases a <;> rfl
  rw [el, er]
  refine congrArg (· * w (ix2 k l)) ?_
  rw [val_main_v4_apply, gate_apply, val_main_v1_apply, val_main_v0_apply]
  rfl

end Cert.RefMBIdeal.Body

namespace Cert.Proof.MergeB

open Idealize.ShloMosaic Idealize.ShloMosaic.TcCoe Idealize.SL.Sem Cert.MergeBIdeal.Body

variable (m : (ℓ : Loc Cert.MergeBIdeal.nD Cert.MergeBIdeal.τ Cert.MergeBIdeal.sig) → Buf (Elt Ideal) ℓ)

theorem whole_eq (c : Dev Cert.MergeBIdeal.nD) :
    whole m c = Cert.RefMBIdeal.Read.val_main_v6 (F := Ideal) (arg0 m c) (arg1 m c) (arg2 m c) (arg3 m c) (arg4 m c) (arg5 m c) := by
  funext i
  have hi : ix2 (i 0) (i 1) = i := funext fun a => by fin_cases a <;> rfl
  exact (Cert.RefMBIdeal.Body.out_apply (arg0 m c) (arg1 m c) (arg2 m c) (arg3 m c) (arg4 m c) (arg5 m c) (i 0) (i 1)).symm.trans (congrArg _ hi)

theorem algebraic [hK : Cert.MergeBIdeal.Facts] [hR : Cert.RefMBIdeal.Facts] :
    Cert.algebraic_MergeBIdeal_RefMBIdeal := by
  intro m g m' g' _ hagree
  refine ⟨fun c => whole m c, ?_, ?_⟩
  · refine (θ_run Cert.MergeBIdeal.defs _ _).mono (fun _ h c => ?_) (Cert.MergeBIdeal.Value.run_blocks (F := Ideal) m g)
    obtain ⟨h0, h1⟩ := h c
    exact ⟨h0.trans (final m c), h1⟩
  · refine (θ_run Cert.RefMBIdeal.defs _ _).mono (fun _ h c => ?_) (Cert.RefMBIdeal.Value.run (F := Ideal) m' g')
    obtain ⟨h0, h1⟩ := h c
    refine ⟨h0.trans ?_, h1⟩
    obtain ⟨a0, a1, a2, a3, a4, a5⟩ := hagree c
    rw [Cert.RefMBIdeal.Read.val_main_v6_eq]
    show Cert.RefMBIdeal.Read.val_main_v6 (F := Ideal) (m' (c.tc.loc Cert.RefMBIdeal.main_arg0)) (m' (c.tc.loc Cert.RefMBIdeal.main_arg1)) (m' (c.tc.loc Cert.RefMBIdeal.main_arg2)) (m' (c.tc.loc Cert.RefMBIdeal.main_arg3)) (m' (c.tc.loc Cert.RefMBIdeal.main_arg4)) (m' (c.tc.loc Cert.RefMBIdeal.main_arg5)) = _
    rw [a0, a1, a2, a3, a4, a5]
    exact (whole_eq m c).symm

end Cert.Proof.MergeB

end
-- ==== Proof.SampleBody.lean ====
/-
  What one point of the input projection of the sample computes, read at an element: the normalised rows, a tile of the product, the
  head normalisation of a tile and its rotary embedding.
-/
module

public import proofs.«01_k».proof.Proof.Gen.SampleAIdeal.Skeleton
public import proofs.«01_k».proof.Proof.ProjMath
public import Idealize.ShloMosaic.Lib.WordCmp

@[expose] public section

set_option maxRecDepth 16384

noncomputable section

namespace Cert.SampleAIdeal.Body

open Cert.SampleAIdeal Cert.SampleAIdeal.Gen Idealize.ShloMosaic Idealize.ShloMosaic.TcCoe Idealize.SL.Sem Cert.Proj

/-- The normalised row. -/
theorem pay1_apply (x : Vec Ideal S128x1024 .f32) (g : Vec Ideal S1x1024 .f32) (r : Fin 128) (k : Fin 1024) :
    k0_pay1 x g (ix2 r k) = rms c1024 eps (fun i : Fin 1024 => x (ix2 r i)) (fun i : Fin 1024 => g (ix2 0 i)) k := by
  unfold rms
  pointwise [k0_pay1]

/-- An element of the product's tile. -/
theorem pay2_apply (h : Vec Ideal S128x1024 .bf16) (w : Vec Ideal S1024x256 .bf16) (r : Fin 128) (l : Fin 256) :
    k0_pay2 h w (ix2 r l) = ∑ k : Fin 1024, h (ix2 r k) * w (ix2 k l) := by
  pointwise [k0_pay2]

/-- The head normalisation of a tile. -/
def nrm (a : FVec Ideal S128x256 .f32) (g : Vec Ideal S1x256 .f32) (bd : Vec Ideal S256x256 .bf16) :
    FVec Ideal S128x256 .f32 :=
  mulf (mulf a (rsqrt (addf (matmul dot_S128x256_S256x256_S128x256_1_0_0_1_n_n none
      (truncf .bf16 (mulf a a) bitsLt_bf16_f32 : FVec Ideal S128x256 .bf16) (shapeCast S256x256 bd shapeCasts_S256x256_S256x256 : FVec Ideal S256x256 .bf16)
      (constant S128x256 .f32 0x00000000#32)) (broadcast S128x256 (Scalar.ofBits .f32 0x358637BD#32 : Ideal .f32)))))
    (broadcastTo S128x256 (shapeCast S1x256 g shapeCasts_S1x256_S1x256) broadcasts_S1x256_S128x256)

theorem nrm_apply (a : FVec Ideal S128x256 .f32) (g : Vec Ideal S1x256 .f32) (bd : Vec Ideal S256x256 .bf16)
    (hbd : ∀ k l : Fin 256, bd (ix2 k l) = if k.val / 64 = l.val / 64 then Ideal.div 1 c64 else 0)
    (r : Fin 128) (l : Fin 256) :
    nrm a g bd (ix2 r l) = rms c64 eps (fun d : Fin 64 => a (ix2 r ⟨64 * (l.val / 64) + d.val, by omega⟩))
      (fun d : Fin 64 => g (ix2 0 ⟨64 * (l.val / 64) + d.val, by omega⟩)) ⟨l.val % 64, by omega⟩ := by
  have e := mean_head (fun k => a (ix2 r k) * a (ix2 r k)) ⟨l.val / 64, by omega⟩
  have hl : (⟨64 * (l.val / 64) + l.val % 64, by omega⟩ : Fin 256) = l := Fin.ext (by dsimp only; omega)
  unfold rms
  dsimp only
  rw [hl, ← e]
  pointwise [nrm]
  simp only [hbd]

/-- The rotary embedding of a tile: each lane times its cosine, plus its partner 32 lanes away times its signed sine. -/
def rope (y : FVec Ideal S128x256 .f32) (cs sn : Vec Ideal S128x128 .f32) : FVec Ideal S128x256 .f32 :=
  have m : IVec S128x128 1 := cmpi .slt (andi (iota .tc S128x128 32 [1] iota_S128x128_d1_w32) (broadcast S128x128 63#32))
    (broadcast S128x128 32#32)
  have lo : FVec Ideal S128x128 .f32 := extractStridedSlice S128x128 ![0, 0] y slices_S128x256_o0_0_S128x128
  have hi : FVec Ideal S128x128 .f32 := extractStridedSlice S128x128 ![0, 128] y slices_S128x256_o0_128_S128x128
  have half : FVec Ideal S128x128 .f32 → FVec Ideal S128x128 .f32 := fun z =>
    addf (mulf z (shapeCast S128x128 cs shapeCasts_S128x128_S128x128))
      (mulf (select m (dynamicRotate 1 96#32 none z rotates_S128x128_d1) (dynamicRotate 1 32#32 none z rotates_S128x128_d1))
        (shapeCast S128x128 sn shapeCasts_S128x128_S128x128))
  concatenate S128x256 1 [⟨S128x128, half lo⟩, ⟨S128x128, half hi⟩] concatenates_S128x128_S128x128_S128x256_d1

theorem pay3_eq (h : Vec Ideal S128x1024 .bf16) (w : Vec Ideal S1024x256 .bf16) (g : Vec Ideal S1x256 .f32)
    (bd : Vec Ideal S256x256 .bf16) (cs sn : Vec Ideal S128x128 .f32) :
    k0_pay3 h w g bd cs sn = rope (nrm (k0_pay2 h w) g bd) cs sn := rfl

theorem pay4_eq (h : Vec Ideal S128x1024 .bf16) (w : Vec Ideal S1024x256 .bf16) (g : Vec Ideal S1x256 .f32)
    (bd : Vec Ideal S256x256 .bf16) (cs sn : Vec Ideal S128x128 .f32) :
    k0_pay4 h w g bd cs sn = rope (nrm (k0_pay2 h w) g bd) cs sn := rfl

/-- The mask of the first half of each head. -/
theorem half_mask : ∀ x : Fin 128, IntOp.cmpi CmpIPredicate.slt (IntOp.andi (BitVec.ofNat 32 x.val) 63#32) 32#32
    = if x.val % 64 < 32 then 1#1 else 0#1 := by decide +kernel

theorem rope_apply (y : FVec Ideal S128x256 .f32) (cs sn : Vec Ideal S128x128 .f32) (r : Fin 128) (l : Fin 256)
    (C S : Fin 32 → EReal)
    (hc : ∀ x : Fin 128, cs (ix2 r x) = C ⟨x.val % 32, by omega⟩)
    (hs : ∀ x : Fin 128, sn (ix2 r x) = if x.val % 64 < 32 then -S ⟨x.val % 32, by omega⟩ else S ⟨x.val % 32, by omega⟩) :
    rope y cs sn (ix2 r l) = rot (fun d : Fin 64 => y (ix2 r ⟨64 * (l.val / 64) + d.val, by omega⟩)) C S
      ⟨l.val % 64, by omega⟩ := by
  pointwise [rope]
  have key : ∀ (x : Fin 128) (b : Fin 2) (hl : l.val = 128 * b.val + x.val) (p q : Fin 256)
      (_ : p.val = 128 * b.val + (x.val + 128 - 96) % 128) (_ : q.val = 128 * b.val + (x.val + 128 - 32) % 128),
      y (ix2 r l) * cs (ix2 r x)
        + Scalar.select (IntOp.cmpi CmpIPredicate.slt (IntOp.andi (BitVec.ofNat 32 x.val) 63#32) 32#32)
            (y (ix2 r p)) (y (ix2 r q)) * sn (ix2 r x)
      = rot (fun d : Fin 64 => y (ix2 r ⟨64 * (l.val / 64) + d.val, by omega⟩)) C S ⟨l.val % 64, by omega⟩ := by
    intro x b hl p q hp hq
    rw [half_mask, hc, hs]
    unfold rot Scalar.select
    dsimp only
    have e1 : (⟨64 * (l.val / 64) + l.val % 64, by omega⟩ : Fin 256) = l := Fin.ext (by dsimp only; omega)
    have e3 : (⟨l.val % 64 % 32, by omega⟩ : Fin 32) = ⟨x.val % 32, by omega⟩ := Fin.ext (by dsimp only; omega)
    rw [e1, e3]
    by_cases h : x.val % 64 < 32
    · have e2 : (⟨64 * (l.val / 64) + (l.val % 64 + 32) % 64, by omega⟩ : Fin 256) = p := Fin.ext (by dsimp only; omega)
      rw [if_pos h, if_pos h, if_pos (show l.val % 64 < 32 by omega), if_pos (show (1#1 : BitVec 1) = 1 from rfl), e2,
        mul_neg, sub_eq_add_neg]
    · have e2 : (⟨64 * (l.val / 64) + (l.val % 64 + 32) % 64, by omega⟩ : Fin 256) = q := Fin.ext (by dsimp only; omega)
      rw [if_neg h, if_neg h, if_neg (show ¬ l.val % 64 < 32 by omega), if_neg (by decide), e2]
  by_cases h : l.val < 128
  · rw [dif_pos h]
    exact key ⟨l.val, h⟩ 0 (by simp) ⟨(l.val + 128 - 96) % 128, by omega⟩ ⟨(l.val + 128 - 32) % 128, by omega⟩ (by simp) (by simp)
  · have e : (⟨128 + (l.val - 128), by omega⟩ : Fin 256) = l := Fin.ext (by dsimp only; omega)
    rw [dif_neg h, e]
    exact key ⟨l.val - 128, by omega⟩ 1 (by show l.val = 128 * 1 + (l.val - 128); omega) ⟨128 + (l.val - 128 + 128 - 96) % 128, by omega⟩
      ⟨128 + (l.val - 128 + 128 - 32) % 128, by omega⟩ rfl rfl

end Cert.SampleAIdeal.Body

end
-- ==== Proof.SampleAOpen.lean ====
/-
  What one grid point of the first projection of the sample leaves in its output tile and in the carried normalised rows, as the body's
  own expressions of the point's input blocks: the first point of a row of tiles stores the normalised rows, the others
  keep them.
-/
module

public import proofs.«01_k».proof.Proof.Gen.SampleAIdeal.Value
public import proofs.«01_k».proof.Proof.SampleBody
public import Idealize.ShloMosaic.Lib.Tactic

@[expose] public section

set_option maxRecDepth 16384

noncomputable section

namespace Cert.SampleAIdeal.Body

open Cert.SampleAIdeal Cert.SampleAIdeal.Gen Idealize.ShloMosaic Idealize.ShloMosaic.TcCoe Idealize.SL.Sem

variable (m : (ℓ : Loc nD τ sig) → Buf (Elt Ideal) ℓ)

theorem hz2 : (![0, 0] : Fin 2 → Nat) = fun _ => 0 := funext fun a => by fin_cases a <;> rfl

/-- The normalised rows of a point's block of rows. -/
abbrev hblk (c : Dev nD) (t : Fin cfg0.N) : Vec Ideal S128x1024 .bf16 := k0_pay1 (iblk m c 0 t) (iblk m c 1 t)

/-- The normalised rows the point before left. -/
abbrev hprev (c : Dev nD) (t : Fin cfg0.N) : Vec Ideal S128x1024 .bf16 :=
  (outsAt0 m c (t.val - 1) (lt_of_le_of_lt (Nat.sub_le _ _) t.isLt)).2

/-- A whole buffer holding `f` reads as `f`. -/
theorem read_scratch (f : Vec Ideal S128x1024 .bf16) :
    View.read (Elt Ideal) (View.whole cc0_scratch0)
      ((Memref.isWhole_whole _ : scM0_0.IsWhole).unread f) = f :=
  (Memref.isWhole_whole _ : scM0_0.IsWhole).read_unread f

theorem outs_A (c : Dev nD) (t : Fin cfg0.N) (h0 : t.val % 20 = 0) (h1 : ¬12 ≤ t.val % 20) (h2 : t.val % 20 ≤ 5) (h3 : ¬(6 ≤ t.val % 20 ∧ t.val % 20 ≤ 11)) :
    (outsAt0 m c t.val t.isLt).1
        = k0_pay3 (hblk m c t) (iblk m c 2 t) (iblk m c 5 t) (iblk m c 7 t) (iblk m c 3 t) (iblk m c 4 t)
      ∧ (outsAt0 m c t.val t.isLt).2 = hblk m c t := by
  have hN : t.val < 20 := t.isLt
  rw [outsAt0_A m c t h0 (by omega) (by omega) (by omega)]
  constructor
  · dsimp only
    unfold out0_A_8
    refine (View.read_writes_eq_canon _ _ _ (fun _ => cover0_A_8 ..)).trans ?_
    unfold kernelRun0_A
    dsimp only
    sl_unfold_words
    rw [View.canon_unit_zero hz2]
    rw [View.readCov_unit_zero (S := S128x1024) _ hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S128x1024) hz2, View.ld_unit_zero (S := S1x1024) hz2,
      View.ld_unit_zero (S := S1024x256) hz2, View.ld_unit_zero (S := S1x256) hz2,
      View.ld_unit_zero (S := S256x256) hz2, View.ld_unit_zero (S := S128x128) hz2]
  · dsimp only
    unfold sout0_A_0
    refine (View.read_writes_eq_canon _ _ _ (fun _ => scover0_A_0 ..)).trans ?_
    unfold kernelRun0_A
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S128x1024) hz2, View.ld_unit_zero (S := S1x1024) hz2,
      View.ld_unit_zero (S := S1024x256) hz2, View.ld_unit_zero (S := S1x256) hz2,
      View.ld_unit_zero (S := S256x256) hz2, View.ld_unit_zero (S := S128x128) hz2]

theorem outs_B (c : Dev nD) (t : Fin cfg0.N) (h0 : ¬t.val % 20 = 0) (h1 : ¬12 ≤ t.val % 20) (h2 : t.val % 20 ≤ 5) (h3 : ¬(6 ≤ t.val % 20 ∧ t.val % 20 ≤ 11)) :
    (outsAt0 m c t.val t.isLt).1
        = k0_pay3 (hprev m c t) (iblk m c 2 t) (iblk m c 5 t) (iblk m c 7 t) (iblk m c 3 t) (iblk m c 4 t)
      ∧ (outsAt0 m c t.val t.isLt).2 = hprev m c t := by
  have hN : t.val < 20 := t.isLt
  rw [outsAt0_B m c t h0 (by omega) (by omega) (by omega)]
  constructor
  · dsimp only
    unfold out0_B_8
    refine (View.read_writes_eq_canon _ _ _ (fun _ => cover0_B_8 ..)).trans ?_
    unfold kernelRun0_B
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S128x1024) hz2, View.ld_unit_zero (S := S1x1024) hz2,
      View.ld_unit_zero (S := S1024x256) hz2, View.ld_unit_zero (S := S1x256) hz2,
      View.ld_unit_zero (S := S256x256) hz2, View.ld_unit_zero (S := S128x128) hz2]
    rw [read_scratch]
  · rfl

theorem outs_C (c : Dev nD) (t : Fin cfg0.N) (h0 : ¬t.val % 20 = 0) (h1 : ¬12 ≤ t.val % 20) (h2 : ¬t.val % 20 ≤ 5) (h3 : (6 ≤ t.val % 20 ∧ t.val % 20 ≤ 11)) :
    (outsAt0 m c t.val t.isLt).1
        = k0_pay4 (hprev m c t) (iblk m c 2 t) (iblk m c 6 t) (iblk m c 7 t) (iblk m c 3 t) (iblk m c 4 t)
      ∧ (outsAt0 m c t.val t.isLt).2 = hprev m c t := by
  have hN : t.val < 20 := t.isLt
  rw [outsAt0_C m c t h0 (by omega) (by omega) (by omega)]
  constructor
  · dsimp only
    unfold out0_C_8
    refine (View.read_writes_eq_canon _ _ _ (fun _ => cover0_C_8 ..)).trans ?_
    unfold kernelRun0_C
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S128x1024) hz2, View.ld_unit_zero (S := S1x1024) hz2,
      View.ld_unit_zero (S := S1024x256) hz2, View.ld_unit_zero (S := S1x256) hz2,
      View.ld_unit_zero (S := S256x256) hz2, View.ld_unit_zero (S := S128x128) hz2]
    rw [read_scratch]
  · rfl

theorem outs_D (c : Dev nD) (t : Fin cfg0.N) (h0 : ¬t.val % 20 = 0) (h1 : 12 ≤ t.val % 20) (h2 : ¬t.val % 20 ≤ 5) (h3 : ¬(6 ≤ t.val % 20 ∧ t.val % 20 ≤ 11)) :
    (outsAt0 m c t.val t.isLt).1
        = k0_pay2 (hprev m c t) (iblk m c 2 t)
      ∧ (outsAt0 m c t.val t.isLt).2 = hprev m c t := by
  have hN : t.val < 20 := t.isLt
  rw [outsAt0_D m c t h0 (by omega) (by omega) (by omega)]
  constructor
  · dsimp only
    unfold out0_D_8
    refine (View.read_writes_eq_canon _ _ _ (fun _ => cover0_D_8 ..)).trans ?_
    unfold kernelRun0_D
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S128x1024) hz2, View.ld_unit_zero (S := S1x1024) hz2,
      View.ld_unit_zero (S := S1024x256) hz2, View.ld_unit_zero (S := S1x256) hz2,
      View.ld_unit_zero (S := S256x256) hz2, View.ld_unit_zero (S := S128x128) hz2]
    rw [read_scratch]
  · rfl

end Cert.SampleAIdeal.Body

end
-- ==== Proof.SampleATables.lean ====
/-
  The arrays the first projection of the sample is given beside its weights, read at an element: the rows, the gains tiled over the
  heads, the cosine and sine tables, and the block-diagonal matrix.
-/
module

public import proofs.«01_k».proof.Proof.Gen.SampleAIdeal.Value
public import proofs.«01_k».proof.Proof.SampleBody
public import Idealize.ShloMosaic.Lib.StableHlo.ReadAt

@[expose] public section

set_option maxRecDepth 16384

noncomputable section

namespace Cert.SampleAIdeal.Body

open Cert.SampleAIdeal Cert.SampleAIdeal.Gen Idealize.ShloMosaic Idealize.ShloMosaic.TcCoe Idealize.SL.Sem Cert.Proj

variable (m : (ℓ : Loc nD τ sig) → Buf (Elt Ideal) ℓ)

abbrev arg0 (c : Dev nD) : Vec Ideal S32x4x1024 .f32 := m ((c : Thread nD τ).loc main_arg0)
abbrev arg1 (c : Dev nD) : Vec Ideal S1024 .f32 := m ((c : Thread nD τ).loc main_arg1)
abbrev arg2 (c : Dev nD) : Vec Ideal S1024x5120 .f32 := m ((c : Thread nD τ).loc main_arg2)
abbrev arg3 (c : Dev nD) : Vec Ideal S64 .f32 := m ((c : Thread nD τ).loc main_arg3)
abbrev arg4 (c : Dev nD) : Vec Ideal S64 .f32 := m ((c : Thread nD τ).loc main_arg4)

theorem rows_apply (c : Dev nD) (r : Fin 128) (k : Fin 1024) :
    (V m c main_v24 : Vec Ideal S128x1024 .f32) (ix2 r k)
      = arg0 m c (ix3 ⟨r.val / 4, by omega⟩ ⟨r.val % 4, by omega⟩ k) := by
  unfold V
  after_reads_at

theorem gain_apply (c : Dev nD) (k : Fin 1024) :
    (V m c main_v45 : Vec Ideal S1x1024 .f32) (ix2 0 k) = arg1 m c (ix1 k) := by
  unfold V
  after_reads_at

theorem weight_apply (c : Dev nD) (k : Fin 1024) (l : Fin 5120) :
    (V m c main_v25 : Vec Ideal S1024x5120 .bf16) (ix2 k l) = arg2 m c (ix2 k l) := by
  unfold V
  after_reads_at

theorem qgain_apply (c : Dev nD) (l : Fin 256) :
    (V m c main_v29 : Vec Ideal S1x256 .f32) (ix2 0 l) = arg3 m c (ix1 ⟨l.val % 64, by omega⟩) := by
  unfold V
  after_reads_at
theorem kgain_apply (c : Dev nD) (l : Fin 256) :
    (V m c main_v33 : Vec Ideal S1x256 .f32) (ix2 0 l) = arg4 m c (ix1 ⟨l.val % 64, by omega⟩) := by
  unfold V
  after_reads_at

theorem cos_apply (c : Dev nD) (r : Fin 128) (x : Fin 128) :
    (V m c main_v20 : Vec Ideal S128x128 .f32) (ix2 r x) = Ideal.cos (ang (8192 + r.val % 4) (x.val % 32)) := by
  have hx := x.isLt
  unfold V
  after_reads_at
  by_cases h0 : x.val < 32
  · rw [dif_pos h0]
    after_reads_at
    rw [show x.val % 32 = x.val by omega, past_add]
    rfl
  rw [dif_neg h0]
  by_cases h1 : x.val - 32 < 32
  · rw [dif_pos h1]
    after_reads_at
    rw [show x.val % 32 = x.val - 32 by omega, past_add]
    rfl
  rw [dif_neg h1]
  by_cases h2 : x.val - 32 - 32 < 32
  · rw [dif_pos h2]
    after_reads_at
    rw [show x.val % 32 = x.val - 32 - 32 by omega, past_add]
    rfl
  rw [dif_neg h2]
  after_reads_at
  rw [show x.val % 32 = x.val - 32 - 32 - 32 by omega, past_add]
  rfl

theorem sin_apply (c : Dev nD) (r : Fin 128) (x : Fin 128) :
    (V m c main_v23 : Vec Ideal S128x128 .f32) (ix2 r x)
      = if x.val % 64 < 32 then -Ideal.sin (ang (8192 + r.val % 4) (x.val % 32)) else Ideal.sin (ang (8192 + r.val % 4) (x.val % 32)) := by
  have hx := x.isLt
  unfold V
  after_reads_at
  by_cases h0 : x.val < 32
  · rw [dif_pos h0]
    rw [if_pos (show x.val % 64 < 32 by omega)]
    after_reads_at
    rw [show x.val % 32 = x.val by omega, past_add]
    rfl
  rw [dif_neg h0]
  by_cases h1 : x.val - 32 < 32
  · rw [dif_pos h1]
    rw [if_neg (show ¬ x.val % 64 < 32 by omega)]
    after_reads_at
    rw [show x.val % 32 = x.val - 32 by omega, past_add]
    rfl
  rw [dif_neg h1]
  by_cases h2 : x.val - 32 - 32 < 32
  · rw [dif_pos h2]
    rw [if_pos (show x.val % 64 < 32 by omega)]
    after_reads_at
    rw [show x.val % 32 = x.val - 32 - 32 by omega, past_add]
    rfl
  rw [dif_neg h2]
  rw [if_neg (show ¬ x.val % 64 < 32 by omega)]
  after_reads_at
  rw [show x.val % 32 = x.val - 32 - 32 - 32 by omega, past_add]
  rfl

/-- The floor of a number below 256 by 64, as the program computes it on 32-bit words. -/
def flo (k : BitVec 32) : BitVec 32 :=
  Scalar.select
    (IntOp.andi
      (IntOp.cmpi CmpIPredicate.ne
        (if k = 0 then (0 : BitVec 32) else if k.msb = true then -1 else 1)
        (if (64#32 : BitVec 32) = 0 then (0 : BitVec 32) else if BitVec.msb (64#32) = true then -1 else 1))
      (IntOp.cmpi CmpIPredicate.ne (IntOp.remsi ArithUnit.host k 64#32) 0#32))
    (IntOp.subi (IntOp.divsi ArithUnit.host k 64#32) 1#32)
    (IntOp.divsi ArithUnit.host k 64#32)

theorem flo_eq : ∀ k : Fin 256, flo (BitVec.ofNat 32 k.val) = BitVec.ofNat 32 (k.val / 64) := by
  decide +kernel

theorem head_eq : ∀ a b : Fin 4, IntOp.cmpi CmpIPredicate.eq (BitVec.ofNat 32 a.val) (BitVec.ofNat 32 b.val)
    = if a.val = b.val then 1#1 else 0#1 := by
  decide +kernel

theorem bd_apply (c : Dev nD) (k l : Fin 256) :
    (V m c main_v44 : Vec Ideal S256x256 .bf16) (ix2 k l) = if k.val / 64 = l.val / 64 then Ideal.div 1 c64 else 0 := by
  unfold V
  after_reads_at
  show Ideal.div (FloatOps.uitofp (F := Ideal) FTy.f32
      (IntOp.cmpi CmpIPredicate.eq (flo (BitVec.ofNat 32 k.val)) (flo (BitVec.ofNat 32 l.val)))) c64 = _
  rw [flo_eq k, flo_eq l]
  rw [head_eq ⟨k.val / 64, by omega⟩ ⟨l.val / 64, by omega⟩]
  by_cases h : k.val / 64 = l.val / 64
  · rw [if_pos h, if_pos h]
    exact congrArg (Ideal.div · c64) (by simp [FloatOps.uitofp])
  · rw [if_neg h, if_neg h]
    rw [show (FloatOps.uitofp (F := Ideal) FTy.f32 (0#1 : BitVec 1) : EReal) = 0 by simp [FloatOps.uitofp], ofBits_c64,
      Ideal.div_coe (y := 64) (by norm_num), zero_mul]

end Cert.SampleAIdeal.Body

end
-- ==== Proof.SampleAValue.lean ====
/-
  The first projection of the sample: the tile each grid point writes, and the whole array the call returns, in terms of its arguments.
-/
module

public import proofs.«01_k».proof.Proof.SampleAOpen
public import proofs.«01_k».proof.Proof.SampleATables

@[expose] public section

set_option maxRecDepth 16384

noncomputable section

namespace Cert.SampleAIdeal.Body

open Cert.SampleAIdeal Cert.SampleAIdeal.Gen Idealize.ShloMosaic Idealize.ShloMosaic.TcCoe Idealize.SL.Sem Cert.Proj
open Idealize.ShloMosaic.Pipeline (Dat)
open Cert.SampleAIdeal.Value (flushed8 covered_iff8)

variable (m : (ℓ : Loc nD τ sig) → Buf (Elt Ideal) ℓ)

/-- Row `R` of the input, and column `l` of the product of its normalised form with the weights. -/
def xrow (c : Dev nD) (R : Fin 128) : Fin 1024 → EReal :=
  fun k => arg0 m c (ix3 ⟨R.val / 4, by omega⟩ ⟨R.val % 4, by omega⟩ k)
def uu (c : Dev nD) (R : Fin 128) (l : Fin 5120) : EReal :=
  col (xrow m c R) (fun k => arg1 m c (ix1 k)) (fun k => arg2 m c (ix2 k l))
/-- The 64 columns of the head column `l` belongs to. -/
def uhead (c : Dev nD) (R : Fin 128) (l : Fin 5120) : Fin 64 → EReal :=
  fun d => uu m c R ⟨64 * (l.val / 64) + d.val, by omega⟩

/-- What the call returns at row `R`, column `l`: turned queries, turned keys, then the product as it is. -/
def spec (c : Dev nD) (R : Fin 128) (l : Fin 5120) : EReal :=
  if l.val < 1536 then head (8192 + R.val % 4) (uhead m c R l) (fun d => arg3 m c (ix1 d)) ⟨l.val % 64, by omega⟩
  else if l.val < 3072 then head (8192 + R.val % 4) (uhead m c R l) (fun d => arg4 m c (ix1 d)) ⟨l.val % 64, by omega⟩
  else uu m c R l

/-- Row and column of the array that a point's block has at `r`, `l`. -/
abbrev rowAt (t : Fin cfg0.N) (r : Fin 128) : Fin 128 :=
  ⟨128 * (t.val / 20) + r.val, by have : t.val < 20 := t.isLt; omega⟩
abbrev colAt (t : Fin cfg0.N) (l : Fin 256) : Fin 5120 := ⟨256 * (t.val % 20) + l.val, by omega⟩

theorem idx_0 : ∀ t : Fin cfg0.N, win0_0.index t (0 : Fin 2) = t.val / 20 ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = t.val % 20 :=
  (by decide +kernel : ∀ t : Fin grid0.N, _)
theorem idx_3 : ∀ t : Fin cfg0.N, win0_3.index t (0 : Fin 2) = t.val / 20 ∧ win0_3.index t (1 : Fin 2) = 0 :=
  (by decide +kernel : ∀ t : Fin grid0.N, _)
theorem idx_4 : ∀ t : Fin cfg0.N, win0_4.index t (0 : Fin 2) = t.val / 20 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)

theorem read_x (c : Dev nD) (t : Fin cfg0.N) (r : Fin 128) (k : Fin 1024) :
    (iblk m c 0 t : Vec Ideal S128x1024 .f32) (ix2 r k) = xrow m c (rowAt t r) k := by
  obtain ⟨e0, e1⟩ := idx_0 t
  refine Eq.trans ?_ (rows_apply m c (rowAt t r) k)
  unfold iblk
  rw [View.read_apply]
  show V m c main_v24 _ = V m c main_v24 _
  refine congrArg (V m c main_v24) (funext fun a => Fin.ext ?_)
  match a with
  | ⟨0, _⟩ => show win0_0.index t 0 * 128 + 1 * r.val = 128 * (t.val / 20) + r.val ; rw [e0]; try omega
  | ⟨1, _⟩ => show win0_0.index t 1 * 1024 + 1 * k.val = k.val ; rw [e1]; try omega

theorem read_g (c : Dev nD) (t : Fin cfg0.N) (k : Fin 1024) :
    (iblk m c 1 t : Vec Ideal S1x1024 .f32) (ix2 0 k) = arg1 m c (ix1 k) := by
  obtain ⟨e0, e1⟩ := idx_1 t
  refine Eq.trans ?_ (gain_apply m c k)
  unfold iblk
  rw [View.read_apply]
  show V m c main_v45 _ = V m c main_v45 _
  refine congrArg (V m c main_v45) (funext fun a => Fin.ext ?_)
  match a with
  | ⟨0, _⟩ => show win0_1.index t 0 * 1 + 1 * 0 = 0 ; rw [e0]; try omega
  | ⟨1, _⟩ => show win0_1.index t 1 * 1024 + 1 * k.val = k.val ; rw [e1]; try omega

theorem read_w (c : Dev nD) (t : Fin cfg0.N) (k : Fin 1024) (l : Fin 256) :
    (iblk m c 2 t : Vec Ideal S1024x256 .bf16) (ix2 k l) = arg2 m c (ix2 k (colAt t l)) := by
  obtain ⟨e0, e1⟩ := idx_2 t
  refine Eq.trans ?_ (weight_apply m c k (colAt t l))
  unfold iblk
  rw [View.read_apply]
  show V m c main_v25 _ = V m c main_v25 _
  refine congrArg (V m c main_v25) (funext fun a => Fin.ext ?_)
  match a with
  | ⟨0, _⟩ => show win0_2.index t 0 * 1024 + 1 * k.val = k.val ; rw [e0]; try omega
  | ⟨1, _⟩ => show win0_2.index t 1 * 256 + 1 * l.val = 256 * (t.val % 20) + l.val ; rw [e1]; try omega

theorem read_cos (c : Dev nD) (t : Fin cfg0.N) (r : Fin 128) (x : Fin 128) :
    (iblk m c 3 t : Vec Ideal S128x128 .f32) (ix2 r x) = Ideal.cos (ang (8192 + (rowAt t r).val % 4) (x.val % 32)) := by
  obtain ⟨e0, e1⟩ := idx_3 t
  refine Eq.trans ?_ (cos_apply m c (rowAt t r) x)
  unfold iblk
  rw [View.read_apply]
  show V m c main_v20 _ = V m c main_v20 _
  refine congrArg (V m c main_v20) (funext fun a => Fin.ext ?_)
  match a with
  | ⟨0, _⟩ => show win0_3.index t 0 * 128 + 1 * r.val = 128 * (t.val / 20) + r.val ; rw [e0]; try omega
  | ⟨1, _⟩ => show win0_3.index t 1 * 128 + 1 * x.val = x.val ; rw [e1]; try omega

theorem read_sin (c : Dev nD) (t : Fin cfg0.N) (r : Fin 128) (x : Fin 128) :
    (iblk m c 4 t : Vec Ideal S128x128 .f32) (ix2 r x) = if x.val % 64 < 32 then -Ideal.sin (ang (8192 + (rowAt t r).val % 4) (x.val % 32))
      else Ideal.sin (ang (8192 + (rowAt t r).val % 4) (x.val % 32)) := by
  obtain ⟨e0, e1⟩ := idx_4 t
  refine Eq.trans ?_ (sin_apply m c (rowAt t r) x)
  unfold iblk
  rw [View.read_apply]
  show V m c main_v23 _ = V m c main_v23 _
  refine congrArg (V m c main_v23) (funext fun a => Fin.ext ?_)
  match a with
  | ⟨0, _⟩ => show win0_4.index t 0 * 128 + 1 * r.val = 128 * (t.val / 20) + r.val ; rw [e0]; try omega
  | ⟨1, _⟩ => show win0_4.index t 1 * 128 + 1 * x.val = x.val ; rw [e1]; try omega

theorem read_qg (c : Dev nD) (t : Fin cfg0.N) (l : Fin 256) :
    (iblk m c 5 t : Vec Ideal S1x256 .f32) (ix2 0 l) = arg3 m c (ix1 ⟨l.val % 64, by omega⟩) := by
  obtain ⟨e0, e1⟩ := idx_5 t
  refine Eq.trans ?_ (qgain_apply m c l)
  unfold iblk
  rw [View.read_apply]
  show V m c main_v29 _ = V m c main_v29 _
  refine congrArg (V m c main_v29) (funext fun a => Fin.ext ?_)
  match a with
  | ⟨0, _⟩ => show win0_5.index t 0 * 1 + 1 * 0 = 0 ; rw [e0]; try omega
  | ⟨1, _⟩ => show win0_5.index t 1 * 256 + 1 * l.val = l.val ; rw [e1]; try omega

theorem read_kg (c : Dev nD) (t : Fin cfg0.N) (l : Fin 256) :
    (iblk m c 6 t : Vec Ideal S1x256 .f32) (ix2 0 l) = arg4 m c (ix1 ⟨l.val % 64, by omega⟩) := by
  obtain ⟨e0, e1⟩ := idx_6 t
  refine Eq.trans ?_ (kgain_apply m c l)
  unfold iblk
  rw [View.read_apply]
  show V m c main_v33 _ = V m c main_v33 _
  refine congrArg (V m c main_v33) (funext fun a => Fin.ext ?_)
  match a with
  | ⟨0, _⟩ => show win0_6.index t 0 * 1 + 1 * 0 = 0 ; rw [e0]; try omega
  | ⟨1, _⟩ => show win0_6.index t 1 * 256 + 1 * l.val = l.val ; rw [e1]; try omega

theorem read_bd (c : Dev nD) (t : Fin cfg0.N) (k l : Fin 256) :
    (iblk m c 7 t : Vec Ideal S256x256 .bf16) (ix2 k l) = if k.val / 64 = l.val / 64 then Ideal.div 1 c64 else 0 := by
  obtain ⟨e0, e1⟩ := idx_7 t
  refine Eq.trans ?_ (bd_apply m c k l)
  unfold iblk
  rw [View.read_apply]
  show V m c main_v44 _ = V m c main_v44 _
  refine congrArg (V m c main_v44) (funext fun a => Fin.ext ?_)
  match a with
  | ⟨0, _⟩ => show win0_7.index t 0 * 256 + 1 * k.val = k.val ; rw [e0]; try omega
  | ⟨1, _⟩ => show win0_7.index t 1 * 256 + 1 * l.val = l.val ; rw [e1]; try omega

/-- The normalised rows of a point, in terms of the arguments. -/
def Rows (c : Dev nD) (i : ℕ) (h : Vec Ideal S128x1024 .bf16) : Prop :=
  ∀ (r : Fin 128) (k : Fin 1024) (R : Fin 128), R.val = 128 * i + r.val →
    h (ix2 r k) = rms c1024 eps (xrow m c R) (fun k => arg1 m c (ix1 k)) k

theorem rows_hblk (c : Dev nD) (t : Fin cfg0.N) : Rows m c (t.val / 20) (hblk m c t) := by
  intro r k R hR
  obtain rfl : R = rowAt t r := Fin.ext hR
  rw [hblk, pay1_apply]
  exact rms_congr _ _ (fun i => read_x m c t r i) (fun i => read_g m c t i) rfl

theorem carry (c : Dev nD) (t : Fin cfg0.N) (h0 : ¬t.val % 20 = 0) : (outsAt0 m c t.val t.isLt).2 = hprev m c t := by
  by_cases h1 : 12 ≤ t.val % 20
  · exact (outs_D m c t h0 h1 (by omega) (by omega)).2
  by_cases h2 : t.val % 20 ≤ 5
  · exact (outs_B m c t h0 h1 h2 (by omega)).2
  · exact (outs_C m c t h0 h1 h2 (by omega)).2

/-- The carried rows after a point are the normalised rows of the point's block of rows. -/
theorem rows_scr (c : Dev nD) : ∀ (n : ℕ) (h : n < cfg0.N), Rows m c (n / 20) (outsAt0 m c n h).2 := by
  intro n
  induction n with
  | zero =>
    intro h
    rw [(outs_A m c ⟨0, h⟩ (by show 0 % 20 = 0; decide) (by show ¬12 ≤ 0 % 20; decide) (by show 0 % 20 ≤ 5; decide)
      (by show ¬(6 ≤ 0 % 20 ∧ 0 % 20 ≤ 11); decide)).2]
    exact rows_hblk m c ⟨0, h⟩
  | succ n ih =>
    intro h
    by_cases h0 : (n + 1) % 20 = 0
    · rw [(outs_A m c ⟨n + 1, h⟩ h0 (by show ¬12 ≤ (n + 1) % 20; omega) (by show (n + 1) % 20 ≤ 5; omega)
        (by show ¬(6 ≤ (n + 1) % 20 ∧ (n + 1) % 20 ≤ 11); omega)).2]
      exact rows_hblk m c ⟨n + 1, h⟩
    · rw [carry m c ⟨n + 1, h⟩ h0, show (n + 1) / 20 = n / 20 by omega]
      exact ih _

theorem rows_prev (c : Dev nD) (t : Fin cfg0.N) (h0 : ¬t.val % 20 = 0) : Rows m c (t.val / 20) (hprev m c t) := by
  rw [show t.val / 20 = (t.val - 1) / 20 by omega]
  exact rows_scr m c (t.val - 1) _

/-- The product of a point's rows with its columns of weights. -/
theorem prod_tile (c : Dev nD) (t : Fin cfg0.N) (H : Vec Ideal S128x1024 .bf16) (hH : Rows m c (t.val / 20) H)
    (r : Fin 128) (l : Fin 256) : k0_pay2 H (iblk m c 2 t) (ix2 r l) = uu m c (rowAt t r) (colAt t l) := by
  rw [pay2_apply]
  unfold uu col
  exact Finset.sum_congr rfl fun k _ => congrArg₂ (· * ·) (hH r k _ rfl) (read_w m c t k l)

/-- A tile of heads, normalised with a gain and turned. -/
theorem head_tile (c : Dev nD) (t : Fin cfg0.N) (H : Vec Ideal S128x1024 .bf16) (hH : Rows m c (t.val / 20) H)
    (g : Vec Ideal S1x256 .f32) (gain : Fin 64 → EReal) (hg : ∀ l : Fin 256, g (ix2 0 l) = gain ⟨l.val % 64, by omega⟩)
    (r : Fin 128) (l : Fin 256) :
    rope (nrm (k0_pay2 H (iblk m c 2 t)) g (iblk m c 7 t)) (iblk m c 3 t) (iblk m c 4 t) (ix2 r l)
      = head (8192 + (rowAt t r).val % 4) (uhead m c (rowAt t r) (colAt t l)) gain ⟨(colAt t l).val % 64, by omega⟩ := by
  have hl := l.isLt
  rw [rope_apply _ _ _ r l (fun x : Fin 32 => Ideal.cos (ang (8192 + (rowAt t r).val % 4) x.val))
    (fun x => Ideal.sin (ang (8192 + (rowAt t r).val % 4) x.val)) (fun x => read_cos m c t r x) (fun x => read_sin m c t r x)]
  unfold head
  have e : (⟨l.val % 64, by omega⟩ : Fin 64) = ⟨(colAt t l).val % 64, by omega⟩ :=
    Fin.ext (by show l.val % 64 = (256 * (t.val % 20) + l.val) % 64; omega)
  rw [e]
  refine congrArg (fun y => rot y _ _ _) (funext fun d => ?_)
  have hd := d.isLt
  rw [nrm_apply _ _ _ (fun k l => read_bd m c t k l)]
  refine rms_congr _ _ (fun i => ?_) (fun i => ?_) (Fin.ext ?_)
  · rw [prod_tile m c t H hH]
    unfold uhead
    refine congrArg (uu m c (rowAt t r)) (Fin.ext ?_)
    show 256 * (t.val % 20) + (64 * ((64 * (l.val / 64) + d.val) / 64) + i.val)
      = 64 * ((256 * (t.val % 20) + l.val) / 64) + i.val
    omega
  · rw [hg]
    have hi := i.isLt
    refine congrArg gain (Fin.ext ?_)
    show (64 * ((64 * (l.val / 64) + d.val) / 64) + i.val) % 64 = i.val
    omega
  · show (64 * (l.val / 64) + d.val) % 64 = d.val
    omega

/-- The tile a point writes. -/
theorem tile (c : Dev nD) (t : Fin cfg0.N) (r : Fin 128) (l : Fin 256) :
    (outsAt0 m c t.val t.isLt).1 (ix2 r l) = spec m c (rowAt t r) (colAt t l) := by
  have hl := l.isLt
  unfold spec
  by_cases h0 : t.val % 20 = 0
  · rw [(outs_A m c t h0 (by omega) (by omega) (by omega)).1, pay3_eq,
      if_pos (show (colAt t l).val < 1536 by show 256 * (t.val % 20) + l.val < 1536; omega)]
    exact head_tile m c t _ (rows_hblk m c t) _ _ (fun l => read_qg m c t l) r l
  by_cases h2 : t.val % 20 ≤ 5
  · rw [(outs_B m c t h0 (by omega) h2 (by omega)).1, pay3_eq,
      if_pos (show (colAt t l).val < 1536 by show 256 * (t.val % 20) + l.val < 1536; omega)]
    exact head_tile m c t _ (rows_prev m c t h0) _ _ (fun l => read_qg m c t l) r l
  by_cases h1 : 12 ≤ t.val % 20
  · rw [(outs_D m c t h0 h1 (by omega) (by omega)).1,
      if_neg (show ¬(colAt t l).val < 1536 by show ¬256 * (t.val % 20) + l.val < 1536; omega),
      if_neg (show ¬(colAt t l).val < 3072 by show ¬256 * (t.val % 20) + l.val < 3072; omega)]
    exact prod_tile m c t _ (rows_prev m c t h0) r l
  · rw [(outs_C m c t h0 h1 h2 (by omega)).1, pay4_eq,
      if_neg (show ¬(colAt t l).val < 1536 by show ¬256 * (t.val % 20) + l.val < 1536; omega),
      if_pos (show (colAt t l).val < 3072 by show 256 * (t.val % 20) + l.val < 3072; omega)]
    exact head_tile m c t _ (rows_prev m c t h0) _ _ (fun l => read_kg m c t l) r l

theorem idx_8 : ∀ t : Fin cfg0.N, win0_8.index t (0 : Fin 2) = t.val / 20 ∧ win0_8.index t (1 : Fin 2) = t.val % 20 :=
  (by decide +kernel : ∀ t : Fin grid0.N, _)

/-- The whole array. -/
def whole (c : Dev nD) : Vec Ideal S128x5120 .f32 := fun i => spec m c (i 0) (i 1)

theorem flushed_eq (c : Dev nD) (t : Fin cfg0.N) (_hf : (cfg0.win 8).flush t = true) :
    (dats m 0 c).flushed 8 t = ((cfg0.win 8).blk t).view.read (Elt Ideal) (whole m c) := by
  obtain ⟨e0, e1⟩ := idx_8 t
  rw [flushed8]
  funext y
  have hy0 : (y 0).val < 128 := (y 0).isLt
  have hy1 : (y 1).val < 256 := (y 1).isLt
  have hb0 : (((cfg0.win 8).blk t).view.emb y 0).val = win0_8.index t (0 : Fin 2) * 128 + 1 * (y 0).val := rfl
  have hb1 : (((cfg0.win 8).blk t).view.emb y 1).val = win0_8.index t (1 : Fin 2) * 256 + 1 * (y 1).val := rfl
  rw [View.read_apply]
  unfold Pipeline.Window.cut
  have hx : (cfg0.win 8).xinj (grid0.coords t) y = ix2 ⟨(y 0).val, hy0⟩ ⟨(y 1).val, hy1⟩ :=
    funext fun a => Fin.ext (by match a with | ⟨0, _⟩ => rfl | ⟨1, _⟩ => rfl)
  refine (congrArg (outsAt0 m c t.val t.isLt).1 hx).trans ?_
  rw [tile]
  show _ = spec m c (((cfg0.win 8).blk t).view.emb y 0) (((cfg0.win 8).blk t).view.emb y 1)
  rw [e0] at hb0
  rw [e1] at hb1
  have q0 : (((cfg0.win 8).blk t).view.emb y 0 : Fin 128) = rowAt t ⟨(y 0).val, hy0⟩ :=
    Fin.ext (by rw [hb0]; show t.val / 20 * 128 + 1 * (y 0).val = 128 * (t.val / 20) + (y 0).val; omega)
  have q1 : (((cfg0.win 8).blk t).view.emb y 1 : Fin 5120) = colAt t ⟨(y 1).val, hy1⟩ :=
    Fin.ext (by rw [hb1]; show t.val % 20 * 256 + 1 * (y 1).val = 256 * (t.val % 20) + (y 1).val; omega)
  rw [← q0, ← q1]

/-- The array after the run. -/
theorem final (c : Dev nD) : (dats m 0 c).arrAt 8 cfg0.N = whole m c :=
  (dats m 0 c).arrAt_eq_of_cover 8 _ (fun t hf => flushed_eq m c t hf) (fun i => (covered_iff8 i).2 (by
    have h0 : (i 0).val < 128 := (i 0).isLt; have h1 : (i 1).val < 5120 := (i 1).isLt; omega))

end Cert.SampleAIdeal.Body

end
-- ==== Proof.SampleARef.lean ====
/-
  The first projection's reference of the sample, read at an element: the product with the normalised rows, the heads' norms, and the
  rotary embedding.
-/
module

public import proofs.«01_k».proof.Proof.Gen.RefSAIdeal.Read
public import proofs.«01_k».proof.Proof.ProjMath
public import Idealize.ShloMosaic.Lib.Pointwise

@[expose] public section

set_option maxRecDepth 16384

noncomputable section

namespace Cert.RefSAIdeal.Body

open Cert.RefSAIdeal Cert.RefSAIdeal.Gen Cert.RefSAIdeal.Read Idealize.ShloMosaic Idealize.ShloMosaic.TcCoe Cert.Proj

variable (x0 : Vec Ideal S32x4x1024 .f32) (x1 : Vec Ideal S1024 .f32) (x2 : Vec Ideal S1024x5120 .f32)
  (x3 x4 : Vec Ideal S64 .f32)

/-- The normalised rows. -/
theorem row_apply (n : Fin 32) (t : Fin 4) (k : Fin 1024) :
    val_main_v15 (F := Ideal) x0 x1 (ix3 n t k) = rms c1024 eps (fun k => x0 (ix3 n t k)) (fun k => x1 (ix1 k)) k := by
  have e : ∀ i : Fin 1024, idx_main_v4 (idx_main_v5 (idx_main_v11 (ix3 n t k))) i = ix3 n t i :=
    fun i => funext fun a => by fin_cases a <;> rfl
  have e' : idx_main_v13 (idx_main_v14 (ix3 n t k)) = ix1 k := funext fun a => by fin_cases a <;> rfl
  rw [val_main_v15_apply, val_main_v12_apply, val_main_v11_apply, val_main_v10_apply, val_main_v9_apply, val_main_v8_apply,
    val_main_cst_1_apply, val_main_v7_apply, val_main_v6_apply, val_main_cst_0_apply, val_main_v5_apply, val_main_v4_apply,
    val_main_v14_apply, val_main_v13_apply, e', val_main_cst_apply]
  simp only [e, val_main_v3_apply]
  show _ * Ideal.rsqrt (Ideal.div (Ideal.ofBits .f32 0x00000000#32 + ∑ k, _) c1024 + eps) * _ = _
  rw [Ideal.ofBits_zero_f32, zero_add]
  rfl

/-- Their product with the weights. -/
theorem prod_apply (n : Fin 32) (t : Fin 4) (l : Fin 5120) :
    val_main_v16 (F := Ideal) x0 x1 x2 (ix3 n t l)
      = col (fun k => x0 (ix3 n t k)) (fun k => x1 (ix1 k)) (fun k => x2 (ix2 k l)) := by
  rw [val_main_v16_apply]
  unfold col
  refine Finset.sum_congr rfl fun k _ => ?_
  rw [← row_apply x0 x1 n t k]
  refine congrArg₂ (· * ·) (congrArg _ (funext fun a => ?_)) (congrArg x2 (funext fun a => ?_)) <;>
    fin_cases a <;> rfl

/-- A head of queries, and a head of keys. -/
theorem q_apply (n : Fin 32) (t : Fin 4) (h : Fin 24) (d : Fin 64) :
    val_main_v18 (F := Ideal) x0 x1 x2 (ix4 n t h d)
      = val_main_v16 (F := Ideal) x0 x1 x2 (ix3 n t ⟨64 * h.val + d.val, by omega⟩) := by
  have hh := h.isLt; have hd := d.isLt; have hn := n.isLt; have ht := t.isLt
  rw [val_main_v18_apply, val_main_v17_apply]
  refine congrArg _ (funext fun a => Fin.ext ?_)
  match a with
  | ⟨0, _⟩ => show (((n.val * 4 + t.val) * 24 + h.val) * 64 + d.val) / 6144 = n.val; omega
  | ⟨1, _⟩ => show (((n.val * 4 + t.val) * 24 + h.val) * 64 + d.val) / 1536 % 4 = t.val; omega
  | ⟨2, _⟩ => show (((n.val * 4 + t.val) * 24 + h.val) * 64 + d.val) % 1536 = 64 * h.val + d.val; omega
theorem k_apply (n : Fin 32) (t : Fin 4) (h : Fin 24) (d : Fin 64) :
    val_main_v20 (F := Ideal) x0 x1 x2 (ix4 n t h d)
      = val_main_v16 (F := Ideal) x0 x1 x2 (ix3 n t ⟨1536 + (64 * h.val + d.val), by omega⟩) := by
  have hh := h.isLt; have hd := d.isLt; have hn := n.isLt; have ht := t.isLt
  rw [val_main_v20_apply, val_main_v19_apply]
  refine congrArg _ (funext fun a => Fin.ext ?_)
  match a with
  | ⟨0, _⟩ => show (((n.val * 4 + t.val) * 24 + h.val) * 64 + d.val) / 6144 = n.val; omega
  | ⟨1, _⟩ => show (((n.val * 4 + t.val) * 24 + h.val) * 64 + d.val) / 1536 % 4 = t.val; omega
  | ⟨2, _⟩ => show 1536 + (((n.val * 4 + t.val) * 24 + h.val) * 64 + d.val) % 1536 = 1536 + (64 * h.val + d.val); omega

theorem qn_apply (n : Fin 32) (t : Fin 4) (h : Fin 24) (d : Fin 64) :
    val_main_v33 (F := Ideal) x0 x1 x2 x3 (ix4 n t h d)
      = rms c64 eps (fun d => val_main_v18 (F := Ideal) x0 x1 x2 (ix4 n t h d)) (fun d => x3 (ix1 d)) d := by
  have e : ∀ k : Fin 64, idx_main_v22 (idx_main_v23 (idx_main_v29 (ix4 n t h d))) k = ix4 n t h k :=
    fun k => funext fun a => by fin_cases a <;> rfl
  have e' : idx_main_v31 (idx_main_v32 (ix4 n t h d)) = ix1 d := funext fun a => by fin_cases a <;> rfl
  rw [val_main_v33_apply, val_main_v30_apply, val_main_v29_apply, val_main_v28_apply, val_main_v27_apply, val_main_v25_apply,
    val_main_v24_apply, val_main_cst_3_apply, val_main_v26_apply, val_main_cst_4_apply, val_main_v23_apply, val_main_v22_apply,
    val_main_v32_apply, val_main_v31_apply, e', val_main_cst_2_apply]
  simp only [e, val_main_v21_apply]
  generalize val_main_v18 (F := Ideal) x0 x1 x2 = y
  show _ * Ideal.rsqrt (Ideal.div (Ideal.ofBits .f32 0x00000000#32 + ∑ k, _) c64 + eps) * _ = _
  rw [Ideal.ofBits_zero_f32, zero_add]
  rfl

theorem kn_apply (n : Fin 32) (t : Fin 4) (h : Fin 24) (d : Fin 64) :
    val_main_v79 (F := Ideal) x0 x1 x2 x4 (ix4 n t h d)
      = rms c64 eps (fun d => val_main_v20 (F := Ideal) x0 x1 x2 (ix4 n t h d)) (fun d => x4 (ix1 d)) d := by
  have e : ∀ k : Fin 64, idx_main_v68 (idx_main_v69 (idx_main_v75 (ix4 n t h d))) k = ix4 n t h k :=
    fun k => funext fun a => by fin_cases a <;> rfl
  have e' : idx_main_v77 (idx_main_v78 (ix4 n t h d)) = ix1 d := funext fun a => by fin_cases a <;> rfl
  rw [val_main_v79_apply, val_main_v76_apply, val_main_v75_apply, val_main_v74_apply, val_main_v73_apply, val_main_v71_apply,
    val_main_v70_apply, val_main_cst_8_apply, val_main_v72_apply, val_main_cst_9_apply, val_main_v69_apply, val_main_v68_apply,
    val_main_v78_apply, val_main_v77_apply, e', val_main_cst_7_apply]
  simp only [e, val_main_v67_apply]
  generalize val_main_v20 (F := Ideal) x0 x1 x2 = y
  show _ * Ideal.rsqrt (Ideal.div (Ideal.ofBits .f32 0x00000000#32 + ∑ k, _) c64 + eps) * _ = _
  rw [Ideal.ofBits_zero_f32, zero_add]
  rfl

theorem ang_q (t : Fin 4) (x : Fin 32) : val_main_v45 (F := Ideal) (ix2 t x) = ang (8192 + t.val) x.val := by
  pointwise [val_main_v45, val_main_v44, val_main_v43, val_main_v42, val_main_v41, val_main_v40, val_main_v39, val_main_v38, val_main_v37, val_main_v36, val_main_v35, val_main_v34, val_main_cst_5,
    val_main_cst_6, val_main_v0, val_main_v1, val_main_v2, val_main_c]
  rw [past_add]
  rfl

theorem ang_k (t : Fin 4) (x : Fin 32) : val_main_v91 (F := Ideal) (ix2 t x) = ang (8192 + t.val) x.val := by
  pointwise [val_main_v91, val_main_v90, val_main_v89, val_main_v88, val_main_v87, val_main_v86, val_main_v85, val_main_v84, val_main_v83, val_main_v82, val_main_v81, val_main_v80, val_main_cst_10,
    val_main_cst_11, val_main_v0, val_main_v1, val_main_v2, val_main_c]
  rw [past_add]
  rfl

theorem qr_apply (n : Fin 32) (t : Fin 4) (h : Fin 24) (d : Fin 64) :
    val_main_v66 (F := Ideal) x0 x1 x2 x3 (ix4 n t h d)
      = rot (fun d => val_main_v33 (F := Ideal) x0 x1 x2 x3 (ix4 n t h d)) (fun x : Fin 32 => Ideal.cos (ang (8192 + t.val) x.val))
          (fun x => Ideal.sin (ang (8192 + t.val) x.val)) d := by
  have hd := d.isLt
  have f := ang_q t
  unfold val_main_v66 val_main_v65 val_main_v64 val_main_v63 val_main_v62 val_main_v61 val_main_v60 val_main_v59 val_main_v58 val_main_v57 val_main_v56 val_main_v55 val_main_v54 val_main_v53 val_main_v52 val_main_v51 val_main_v50
    val_main_v47 val_main_v46 val_main_v49 val_main_v48
  generalize val_main_v33 (F := Ideal) x0 x1 x2 x3 = y
  generalize val_main_v45 (F := Ideal) = an at f ⊢
  pointwise
  simp only [f]
  exact rot_halves (fun d => y (ix4 n t h d)) (fun x => Ideal.cos (ang (8192 + t.val) x)) (fun x => Ideal.sin (ang (8192 + t.val) x)) d

theorem kr_apply (n : Fin 32) (t : Fin 4) (h : Fin 24) (d : Fin 64) :
    val_main_v112 (F := Ideal) x0 x1 x2 x4 (ix4 n t h d)
      = rot (fun d => val_main_v79 (F := Ideal) x0 x1 x2 x4 (ix4 n t h d)) (fun x : Fin 32 => Ideal.cos (ang (8192 + t.val) x.val))
          (fun x => Ideal.sin (ang (8192 + t.val) x.val)) d := by
  have hd := d.isLt
  have f := ang_k t
  unfold val_main_v112 val_main_v111 val_main_v110 val_main_v109 val_main_v108 val_main_v107 val_main_v106 val_main_v105 val_main_v104 val_main_v103 val_main_v102 val_main_v101 val_main_v100 val_main_v99 val_main_v98 val_main_v97 val_main_v96
    val_main_v93 val_main_v92 val_main_v95 val_main_v94
  generalize val_main_v79 (F := Ideal) x0 x1 x2 x4 = y
  generalize val_main_v91 (F := Ideal) = an at f ⊢
  pointwise
  simp only [f]
  exact rot_halves (fun d => y (ix4 n t h d)) (fun x => Ideal.cos (ang (8192 + t.val) x)) (fun x => Ideal.sin (ang (8192 + t.val) x)) d

/-- The reference's array at row `R`, column `l`. -/
theorem out_apply (R : Fin 128) (l : Fin 5120) :
    val_main_v117 (F := Ideal) x0 x1 x2 x3 x4 (ix2 R l)
      = if l.val < 1536 then
          head (8192 + R.val % 4) (fun d => val_main_v16 (F := Ideal) x0 x1 x2
            (ix3 ⟨R.val / 4, by omega⟩ ⟨R.val % 4, by omega⟩ ⟨64 * (l.val / 64) + d.val, by omega⟩))
            (fun d => x3 (ix1 d)) ⟨l.val % 64, by omega⟩
        else if l.val < 3072 then
          head (8192 + R.val % 4) (fun d => val_main_v16 (F := Ideal) x0 x1 x2
            (ix3 ⟨R.val / 4, by omega⟩ ⟨R.val % 4, by omega⟩ ⟨64 * (l.val / 64) + d.val, by omega⟩))
            (fun d => x4 (ix1 d)) ⟨l.val % 64, by omega⟩
        else val_main_v16 (F := Ideal) x0 x1 x2 (ix3 ⟨R.val / 4, by omega⟩ ⟨R.val % 4, by omega⟩ l) := by
  have hl := l.isLt
  have hq := qr_apply x0 x1 x2 x3
  have hk := kr_apply x0 x1 x2 x4
  simp only [qn_apply, q_apply] at hq
  simp only [kn_apply, k_apply] at hk
  unfold val_main_v117 val_main_v116 val_main_v115 val_main_v114 val_main_v113
  generalize val_main_v16 (F := Ideal) x0 x1 x2 = u at hq hk ⊢
  generalize val_main_v66 (F := Ideal) x0 x1 x2 x3 = q at hq ⊢
  generalize val_main_v112 (F := Ideal) x0 x1 x2 x4 = k at hk ⊢
  pointwise
  by_cases h0 : l.val < 1536
  · rw [dif_pos h0, if_pos h0, hq]
    rfl
  rw [dif_neg h0, if_neg h0]
  by_cases h1 : l.val < 3072
  · rw [dif_pos (show l.val - 1536 < 1536 by omega), if_pos h1, hk]
    have e : (⟨(l.val - 1536) % 64, by omega⟩ : Fin 64) = ⟨l.val % 64, by omega⟩ :=
      Fin.ext (by show (l.val - 1536) % 64 = l.val % 64; omega)
    have e' : ∀ d : Fin 64, (⟨1536 + (64 * ((l.val - 1536) / 64) + d.val), by omega⟩ : Fin 5120)
        = ⟨64 * (l.val / 64) + d.val, by omega⟩ :=
      fun d => Fin.ext (by show 1536 + (64 * ((l.val - 1536) / 64) + d.val) = 64 * (l.val / 64) + d.val; omega)
    simp only [e, e']
    rfl
  · rw [dif_neg (show ¬l.val - 1536 < 1536 by omega), if_neg h1]
    exact Cert.Attn.at3 u rfl rfl (show 3072 + (l.val - 1536 - 1536) = l.val by omega)

end Cert.RefSAIdeal.Body

end
-- ==== Proof.SampleAClaim.lean ====
/-
  The value claim of the first projection of the sample: the kernel and the reference leave one array.
-/
module

public import proofs.«01_k».proof.Defs
public import proofs.«01_k».proof.Proof.SampleAValue
public import proofs.«01_k».proof.Proof.SampleARef
public import proofs.«01_k».proof.Proof.Gen.RefSAIdeal.Run

@[expose] public section

set_option maxRecDepth 16384

noncomputable section

namespace Cert.Proof.SampleA

open Idealize.ShloMosaic Idealize.ShloMosaic.TcCoe Idealize.SL.Sem Cert.Proj Cert.SampleAIdeal.Body

variable (m : (ℓ : Loc Cert.SampleAIdeal.nD Cert.SampleAIdeal.τ Cert.SampleAIdeal.sig) → Buf (Elt Ideal) ℓ)

/-- What the kernel leaves is the reference's array of the same arguments. -/
theorem spec_eq (c : Dev Cert.SampleAIdeal.nD) (R : Fin 128) (l : Fin 5120) :
    spec m c R l = Cert.RefSAIdeal.Read.val_main_v117 (F := Ideal) (arg0 m c) (arg1 m c) (arg2 m c) (arg3 m c) (arg4 m c) (ix2 R l) := by
  refine Eq.trans ?_ (Cert.RefSAIdeal.Body.out_apply _ _ _ _ _ R l).symm
  simp only [Cert.RefSAIdeal.Body.prod_apply]
  rfl

theorem whole_eq (c : Dev Cert.SampleAIdeal.nD) :
    whole m c = Cert.RefSAIdeal.Read.val_main_v117 (F := Ideal) (arg0 m c) (arg1 m c) (arg2 m c) (arg3 m c) (arg4 m c) := by
  funext i
  have hi : ix2 (i 0) (i 1) = i := funext fun a => by fin_cases a <;> rfl
  exact (spec_eq m c (i 0) (i 1)).trans (congrArg _ hi)

theorem algebraic [hK : Cert.SampleAIdeal.Facts] [hR : Cert.RefSAIdeal.Facts] :
    Cert.algebraic_SampleAIdeal_RefSAIdeal := by
  intro m g m' g' _ hagree
  refine ⟨fun c => whole m c, ?_, ?_⟩
  · refine (θ_run Cert.SampleAIdeal.defs _ _).mono (fun _ h c => ?_) (Cert.SampleAIdeal.Value.run_blocks (F := Ideal) m g)
    obtain ⟨h0, h1⟩ := h c
    exact ⟨h0.trans (final m c), h1⟩
  · refine (θ_run Cert.RefSAIdeal.defs _ _).mono (fun _ h c => ?_) (Cert.RefSAIdeal.Value.run (F := Ideal) m' g')
    obtain ⟨h0, h1⟩ := h c
    refine ⟨h0.trans ?_, h1⟩
    obtain ⟨a0, a1, a2, a3, a4⟩ := hagree c
    rw [Cert.RefSAIdeal.Read.val_main_v117_eq, a0, a1, a2, a3, a4]
    exact (whole_eq m c).symm

end Cert.Proof.SampleA

end
-- ==== Proof.SampleBBody.lean ====
/-
  What one point of the second projection of the sample computes is what a point of the first does: normalised rows, a tile of the
  product, head normalisation, rotary embedding — and, for the gates, the logistic function.
-/
module

public import proofs.«01_k».proof.Proof.Gen.SampleBIdeal.Skeleton
public import proofs.«01_k».proof.Proof.SampleBody

@[expose] public section

set_option maxRecDepth 16384

noncomputable section

namespace Cert.SampleBIdeal.Body

open Cert.SampleBIdeal Cert.SampleBIdeal.Gen Idealize.ShloMosaic Idealize.ShloMosaic.TcCoe Idealize.SL.Sem Cert.Proj
open Cert.SampleAIdeal.Body (nrm rope)

variable (a : FVec Ideal S128x256 .f32) (h : Vec Ideal S128x1024 .bf16) (w : Vec Ideal S1024x256 .bf16)
  (g : Vec Ideal S1x256 .f32) (bd : Vec Ideal S256x256 .bf16) (cs sn : Vec Ideal S128x128 .f32)

theorem pay1_eq : k0_pay1 a g bd = nrm a g bd := rfl
theorem pay2_eq : k0_pay2 a g bd = nrm a g bd := rfl
theorem pay3_eq : k0_pay3 a g bd cs sn = rope (nrm a g bd) cs sn := rfl
theorem pay4_eq : k0_pay4 a g bd cs sn = rope (nrm a g bd) cs sn := rfl

theorem pay5_apply (x : Vec Ideal S128x1024 .f32) (y : Vec Ideal S1x1024 .f32) (r : Fin 128) (k : Fin 1024) :
    k0_pay5 x y (ix2 r k) = rms c1024 eps (fun i : Fin 1024 => x (ix2 r i)) (fun i : Fin 1024 => y (ix2 0 i)) k :=
  Cert.SampleAIdeal.Body.pay1_apply x y r k

theorem pay6_apply (r : Fin 128) (l : Fin 256) : k0_pay6 h w (ix2 r l) = ∑ k : Fin 1024, h (ix2 r k) * w (ix2 k l) :=
  Cert.SampleAIdeal.Body.pay2_apply h w r l

theorem pay7_apply (r : Fin 128) (l : Fin 256) : k0_pay7 h w (ix2 r l) = Ideal.logistic (k0_pay6 h w (ix2 r l)) := rfl

end Cert.SampleBIdeal.Body

end
-- ==== Proof.SampleBOpen.lean ====
/-
  What one grid point of the second projection of the sample leaves in its output tile and in the carried normalised rows, as the body's
  own expressions of the point's input blocks: the first point of a row of tiles stores the normalised rows, the others
  keep them.
-/
module

public import proofs.«01_k».proof.Proof.Gen.SampleBIdeal.Value
public import proofs.«01_k».proof.Proof.SampleBBody
public import Idealize.ShloMosaic.Lib.Tactic

@[expose] public section

set_option maxRecDepth 16384

noncomputable section

namespace Cert.SampleBIdeal.Body

open Cert.SampleBIdeal Cert.SampleBIdeal.Gen Idealize.ShloMosaic Idealize.ShloMosaic.TcCoe Idealize.SL.Sem

variable (m : (ℓ : Loc nD τ sig) → Buf (Elt Ideal) ℓ)

theorem hz2 : (![0, 0] : Fin 2 → Nat) = fun _ => 0 := funext fun a => by fin_cases a <;> rfl

/-- The normalised rows of a point's block of rows. -/
abbrev hblk (c : Dev nD) (t : Fin cfg0.N) : Vec Ideal S128x1024 .bf16 := k0_pay5 (iblk m c 0 t) (iblk m c 1 t)

/-- The normalised rows the point before left. -/
abbrev hprev (c : Dev nD) (t : Fin cfg0.N) : Vec Ideal S128x1024 .bf16 :=
  (outsAt0 m c (t.val - 1) (lt_of_le_of_lt (Nat.sub_le _ _) t.isLt)).2

/-- A whole buffer holding `f` reads as `f`. -/
theorem read_scratch (f : Vec Ideal S128x1024 .bf16) :
    View.read (Elt Ideal) (View.whole cc0_scratch0)
      ((Memref.isWhole_whole _ : scM0_0.IsWhole).unread f) = f :=
  (Memref.isWhole_whole _ : scM0_0.IsWhole).read_unread f

theorem outs_A (c : Dev nD) (t : Fin cfg0.N) (h0 : t.val % 21 = 0) (h1 : ¬(t.val % 21 = 8 ∨ t.val % 21 = 9 ∨ t.val % 21 = 10 ∨ t.val % 21 = 11 ∨ t.val % 21 = 13 ∨ t.val % 21 = 15 ∨ t.val % 21 = 17)) (h2 : ¬18 ≤ t.val % 21) (h3 : t.val % 21 ≤ 3) (h4 : ¬t.val % 21 = 12) (h5 : ¬(4 ≤ t.val % 21 ∧ t.val % 21 ≤ 7)) (h6 : ¬(t.val % 21 = 14 ∨ t.val % 21 = 16)) :
    (outsAt0 m c t.val t.isLt).1
        = k0_pay1 (k0_pay6 (hblk m c t) (iblk m c 2 t)) (iblk m c 5 t) (iblk m c 7 t)
      ∧ (outsAt0 m c t.val t.isLt).2 = hblk m c t := by
  have hN : t.val < 21 := t.isLt
  rw [outsAt0_A m c t h0 (by omega) (by omega) (by omega) (by omega) (by omega) (by omega)]
  constructor
  · dsimp only
    unfold out0_A_8
    refine (View.read_writes_eq_canon _ _ _ (fun _ => cover0_A_8 ..)).trans ?_
    unfold kernelRun0_A
    dsimp only
    sl_unfold_words
    rw [View.canon_unit_zero hz2]
    rw [View.readCov_unit_zero (S := S128x1024) _ hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S128x1024) hz2, View.ld_unit_zero (S := S1x1024) hz2,
      View.ld_unit_zero (S := S1024x256) hz2, View.ld_unit_zero (S := S1x256) hz2,
      View.ld_unit_zero (S := S256x256) hz2, View.ld_unit_zero (S := S128x128) hz2]
  · dsimp only
    unfold sout0_A_0
    refine (View.read_writes_eq_canon _ _ _ (fun _ => scover0_A_0 ..)).trans ?_
    unfold kernelRun0_A
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S128x1024) hz2, View.ld_unit_zero (S := S1x1024) hz2,
      View.ld_unit_zero (S := S1024x256) hz2, View.ld_unit_zero (S := S1x256) hz2,
      View.ld_unit_zero (S := S256x256) hz2, View.ld_unit_zero (S := S128x128) hz2]

theorem outs_B (c : Dev nD) (t : Fin cfg0.N) (h0 : ¬t.val % 21 = 0) (h1 : ¬(t.val % 21 = 8 ∨ t.val % 21 = 9 ∨ t.val % 21 = 10 ∨ t.val % 21 = 11 ∨ t.val % 21 = 13 ∨ t.val % 21 = 15 ∨ t.val % 21 = 17)) (h2 : ¬18 ≤ t.val % 21) (h3 : t.val % 21 ≤ 3) (h4 : ¬t.val % 21 = 12) (h5 : ¬(4 ≤ t.val % 21 ∧ t.val % 21 ≤ 7)) (h6 : ¬(t.val % 21 = 14 ∨ t.val % 21 = 16)) :
    (outsAt0 m c t.val t.isLt).1
        = k0_pay1 (k0_pay6 (hprev m c t) (iblk m c 2 t)) (iblk m c 5 t) (iblk m c 7 t)
      ∧ (outsAt0 m c t.val t.isLt).2 = hprev m c t := by
  have hN : t.val < 21 := t.isLt
  rw [outsAt0_B m c t h0 (by omega) (by omega) (by omega) (by omega) (by omega) (by omega)]
  constructor
  · dsimp only
    unfold out0_B_8
    refine (View.read_writes_eq_canon _ _ _ (fun _ => cover0_B_8 ..)).trans ?_
    unfold kernelRun0_B
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S128x1024) hz2, View.ld_unit_zero (S := S1x1024) hz2,
      View.ld_unit_zero (S := S1024x256) hz2, View.ld_unit_zero (S := S1x256) hz2,
      View.ld_unit_zero (S := S256x256) hz2, View.ld_unit_zero (S := S128x128) hz2]
    rw [read_scratch]
  · rfl

theorem outs_C (c : Dev nD) (t : Fin cfg0.N) (h0 : ¬t.val % 21 = 0) (h1 : ¬(t.val % 21 = 8 ∨ t.val % 21 = 9 ∨ t.val % 21 = 10 ∨ t.val % 21 = 11 ∨ t.val % 21 = 13 ∨ t.val % 21 = 15 ∨ t.val % 21 = 17)) (h2 : ¬18 ≤ t.val % 21) (h3 : ¬t.val % 21 ≤ 3) (h4 : ¬t.val % 21 = 12) (h5 : (4 ≤ t.val % 21 ∧ t.val % 21 ≤ 7)) (h6 : ¬(t.val % 21 = 14 ∨ t.val % 21 = 16)) :
    (outsAt0 m c t.val t.isLt).1
        = k0_pay3 (k0_pay6 (hprev m c t) (iblk m c 2 t)) (iblk m c 5 t) (iblk m c 7 t) (iblk m c 3 t) (iblk m c 4 t)
      ∧ (outsAt0 m c t.val t.isLt).2 = hprev m c t := by
  have hN : t.val < 21 := t.isLt
  rw [outsAt0_C m c t h0 (by omega) (by omega) (by omega) (by omega) (by omega) (by omega)]
  constructor
  · dsimp only
    unfold out0_C_8
    refine (View.read_writes_eq_canon _ _ _ (fun _ => cover0_C_8 ..)).trans ?_
    unfold kernelRun0_C
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S128x1024) hz2, View.ld_unit_zero (S := S1x1024) hz2,
      View.ld_unit_zero (S := S1024x256) hz2, View.ld_unit_zero (S := S1x256) hz2,
      View.ld_unit_zero (S := S256x256) hz2, View.ld_unit_zero (S := S128x128) hz2]
    rw [read_scratch]
  · rfl

theorem outs_D (c : Dev nD) (t : Fin cfg0.N) (h0 : ¬t.val % 21 = 0) (h1 : (t.val % 21 = 8 ∨ t.val % 21 = 9 ∨ t.val % 21 = 10 ∨ t.val % 21 = 11 ∨ t.val % 21 = 13 ∨ t.val % 21 = 15 ∨ t.val % 21 = 17)) (h2 : ¬18 ≤ t.val % 21) (h3 : ¬t.val % 21 ≤ 3) (h4 : ¬t.val % 21 = 12) (h5 : ¬(4 ≤ t.val % 21 ∧ t.val % 21 ≤ 7)) (h6 : ¬(t.val % 21 = 14 ∨ t.val % 21 = 16)) :
    (outsAt0 m c t.val t.isLt).1
        = k0_pay6 (hprev m c t) (iblk m c 2 t)
      ∧ (outsAt0 m c t.val t.isLt).2 = hprev m c t := by
  have hN : t.val < 21 := t.isLt
  rw [outsAt0_D m c t h0 (by omega) (by omega) (by omega) (by omega) (by omega) (by omega)]
  constructor
  · dsimp only
    unfold out0_D_8
    refine (View.read_writes_eq_canon _ _ _ (fun _ => cover0_D_8 ..)).trans ?_
    unfold kernelRun0_D
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S128x1024) hz2, View.ld_unit_zero (S := S1x1024) hz2,
      View.ld_unit_zero (S := S1024x256) hz2, View.ld_unit_zero (S := S1x256) hz2,
      View.ld_unit_zero (S := S256x256) hz2, View.ld_unit_zero (S := S128x128) hz2]
    rw [read_scratch]
  · rfl

theorem outs_E (c : Dev nD) (t : Fin cfg0.N) (h0 : ¬t.val % 21 = 0) (h1 : ¬(t.val % 21 = 8 ∨ t.val % 21 = 9 ∨ t.val % 21 = 10 ∨ t.val % 21 = 11 ∨ t.val % 21 = 13 ∨ t.val % 21 = 15 ∨ t.val % 21 = 17)) (h2 : ¬18 ≤ t.val % 21) (h3 : ¬t.val % 21 ≤ 3) (h4 : t.val % 21 = 12) (h5 : ¬(4 ≤ t.val % 21 ∧ t.val % 21 ≤ 7)) (h6 : ¬(t.val % 21 = 14 ∨ t.val % 21 = 16)) :
    (outsAt0 m c t.val t.isLt).1
        = k0_pay2 (k0_pay6 (hprev m c t) (iblk m c 2 t)) (iblk m c 6 t) (iblk m c 7 t)
      ∧ (outsAt0 m c t.val t.isLt).2 = hprev m c t := by
  have hN : t.val < 21 := t.isLt
  rw [outsAt0_E m c t h0 (by omega) (by omega) (by omega) (by omega) (by omega) (by omega)]
  constructor
  · dsimp only
    unfold out0_E_8
    refine (View.read_writes_eq_canon _ _ _ (fun _ => cover0_E_8 ..)).trans ?_
    unfold kernelRun0_E
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S128x1024) hz2, View.ld_unit_zero (S := S1x1024) hz2,
      View.ld_unit_zero (S := S1024x256) hz2, View.ld_unit_zero (S := S1x256) hz2,
      View.ld_unit_zero (S := S256x256) hz2, View.ld_unit_zero (S := S128x128) hz2]
    rw [read_scratch]
  · rfl

theorem outs_F (c : Dev nD) (t : Fin cfg0.N) (h0 : ¬t.val % 21 = 0) (h1 : ¬(t.val % 21 = 8 ∨ t.val % 21 = 9 ∨ t.val % 21 = 10 ∨ t.val % 21 = 11 ∨ t.val % 21 = 13 ∨ t.val % 21 = 15 ∨ t.val % 21 = 17)) (h2 : ¬18 ≤ t.val % 21) (h3 : ¬t.val % 21 ≤ 3) (h4 : ¬t.val % 21 = 12) (h5 : ¬(4 ≤ t.val % 21 ∧ t.val % 21 ≤ 7)) (h6 : (t.val % 21 = 14 ∨ t.val % 21 = 16)) :
    (outsAt0 m c t.val t.isLt).1
        = k0_pay4 (k0_pay6 (hprev m c t) (iblk m c 2 t)) (iblk m c 6 t) (iblk m c 7 t) (iblk m c 3 t) (iblk m c 4 t)
      ∧ (outsAt0 m c t.val t.isLt).2 = hprev m c t := by
  have hN : t.val < 21 := t.isLt
  rw [outsAt0_F m c t h0 (by omega) (by omega) (by omega) (by omega) (by omega) (by omega)]
  constructor
  · dsimp only
    unfold out0_F_8
    refine (View.read_writes_eq_canon _ _ _ (fun _ => cover0_F_8 ..)).trans ?_
    unfold kernelRun0_F
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S128x1024) hz2, View.ld_unit_zero (S := S1x1024) hz2,
      View.ld_unit_zero (S := S1024x256) hz2, View.ld_unit_zero (S := S1x256) hz2,
      View.ld_unit_zero (S := S256x256) hz2, View.ld_unit_zero (S := S128x128) hz2]
    rw [read_scratch]
  · rfl

theorem outs_G (c : Dev nD) (t : Fin cfg0.N) (h0 : ¬t.val % 21 = 0) (h1 : ¬(t.val % 21 = 8 ∨ t.val % 21 = 9 ∨ t.val % 21 = 10 ∨ t.val % 21 = 11 ∨ t.val % 21 = 13 ∨ t.val % 21 = 15 ∨ t.val % 21 = 17)) (h2 : 18 ≤ t.val % 21) (h3 : ¬t.val % 21 ≤ 3) (h4 : ¬t.val % 21 = 12) (h5 : ¬(4 ≤ t.val % 21 ∧ t.val % 21 ≤ 7)) (h6 : ¬(t.val % 21 = 14 ∨ t.val % 21 = 16)) :
    (outsAt0 m c t.val t.isLt).1
        = k0_pay7 (hprev m c t) (iblk m c 2 t)
      ∧ (outsAt0 m c t.val t.isLt).2 = hprev m c t := by
  have hN : t.val < 21 := t.isLt
  rw [outsAt0_G m c t h0 (by omega) (by omega) (by omega) (by omega) (by omega) (by omega)]
  constructor
  · dsimp only
    unfold out0_G_8
    refine (View.read_writes_eq_canon _ _ _ (fun _ => cover0_G_8 ..)).trans ?_
    unfold kernelRun0_G
    dsimp only
    sl_unfold_words
    rw [View.canon_unit_zero hz2]
    simp only [View.readAt_eq_ld, (hs0_0 t).read_unread, (hs0_1 t).read_unread, (hs0_2 t).read_unread,
      (hs0_3 t).read_unread, (hs0_4 t).read_unread, (hs0_5 t).read_unread, (hs0_6 t).read_unread,
      (hs0_7 t).read_unread, View.ld_unit_zero (S := S128x1024) hz2, View.ld_unit_zero (S := S1x1024) hz2,
      View.ld_unit_zero (S := S1024x256) hz2, View.ld_unit_zero (S := S1x256) hz2,
      View.ld_unit_zero (S := S256x256) hz2, View.ld_unit_zero (S := S128x128) hz2]
    rw [read_scratch]
  · rfl

end Cert.SampleBIdeal.Body

end
-- ==== Proof.SampleBTables.lean ====
/-
  The arrays the second projection of the sample is given beside its weights, read at an element: the rows, the gains tiled over the
  heads, the cosine and sine tables, and the block-diagonal matrix.
-/
module

public import proofs.«01_k».proof.Proof.Gen.SampleBIdeal.Value
public import proofs.«01_k».proof.Proof.SampleBBody
public import Idealize.ShloMosaic.Lib.StableHlo.ReadAt

@[expose] public section

set_option maxRecDepth 16384

noncomputable section

namespace Cert.SampleBIdeal.Body

open Cert.SampleBIdeal Cert.SampleBIdeal.Gen Idealize.ShloMosaic Idealize.ShloMosaic.TcCoe Idealize.SL.Sem Cert.Proj

variable (m : (ℓ : Loc nD τ sig) → Buf (Elt Ideal) ℓ)

abbrev arg0 (c : Dev nD) : Vec Ideal S32x4x1024 .f32 := m ((c : Thread nD τ).loc main_arg0)
abbrev arg1 (c : Dev nD) : Vec Ideal S1024 .f32 := m ((c : Thread nD τ).loc main_arg1)
abbrev arg2 (c : Dev nD) : Vec Ideal S1024x3632 .f32 := m ((c : Thread nD τ).loc main_arg2)
abbrev arg3 (c : Dev nD) : Vec Ideal S64 .f32 := m ((c : Thread nD τ).loc main_arg3)
abbrev arg4 (c : Dev nD) : Vec Ideal S64 .f32 := m ((c : Thread nD τ).loc main_arg4)

theorem rows_apply (c : Dev nD) (r : Fin 128) (k : Fin 1024) :
    (V m c main_v24 : Vec Ideal S128x1024 .f32) (ix2 r k)
      = arg0 m c (ix3 ⟨r.val / 4, by omega⟩ ⟨r.val % 4, by omega⟩ k) := by
  unfold V
  after_reads_at

theorem gain_apply (c : Dev nD) (k : Fin 1024) :
    (V m c main_v62 : Vec Ideal S1x1024 .f32) (ix2 0 k) = arg1 m c (ix1 k) := by
  unfold V
  after_reads_at

/-- Column `l` of the weights as the call lays them out: queries twice, the gate of the output, keys and values, then six
    tiles of eight gate columns and 120 columns of zeros. -/
def wcol (c : Dev nD) (k : Fin 1024) (l : Fin 5376) : EReal :=
  if _ : l.val < 1024 then arg2 m c (ix2 k ⟨l.val, by omega⟩)
  else if _ : l.val < 2048 then arg2 m c (ix2 k ⟨l.val - 1024, by omega⟩)
  else if _ : l.val < 3072 then arg2 m c (ix2 k ⟨560 + l.val, by omega⟩)
  else if _ : l.val < 4608 then arg2 m c (ix2 k ⟨l.val - 2048, by omega⟩)
  else if _ : (l.val - 4608) % 128 < 8 then
    arg2 m c (ix2 k ⟨2560 + 8 * ((l.val - 4608) / 128) + (l.val - 4608) % 128, by omega⟩)
  else 0

/-- The buffers just before the weights are joined. -/
def before (c : Dev nD) :=
  StableHlo.upto (Val := Elt Ideal) [hostOps0, hostOps0_1, hostOps0_2, hostOps0_3, hostOps0_4, hostOps0_5, hostOps0_6, hostOps0_7, hostOps0_8, hostOps0_9, hostOps0_10, hostOps0_11, hostOps0_12, hostOps0_13, hostOps0_14].flatten
    (fun b => m (c, b)) 56

theorem part_25 (c : Dev nD) (k : Fin 1024) (l : Fin 1024) :
    (before m c (Proc.tc.devRef main_v25) : Vec Ideal S1024x1024 .f32) (ix2 k l) = arg2 m c (ix2 k ⟨l.val, by omega⟩) := by
  unfold before
  after_reads_at

theorem part_28 (c : Dev nD) (k : Fin 1024) (l : Fin 1024) :
    (before m c (Proc.tc.devRef main_v28) : Vec Ideal S1024x1024 .f32) (ix2 k l) = arg2 m c (ix2 k ⟨2608 + l.val, by omega⟩) := by
  unfold before
  after_reads_at

theorem part_26 (c : Dev nD) (k : Fin 1024) (l : Fin 1536) :
    (before m c (Proc.tc.devRef main_v26) : Vec Ideal S1024x1536 .f32) (ix2 k l) = arg2 m c (ix2 k ⟨1024 + l.val, by omega⟩) := by
  unfold before
  after_reads_at

theorem part_30 (c : Dev nD) (k : Fin 1024) (l : Fin 128) :
    (before m c (Proc.tc.devRef main_v30) : Vec Ideal S1024x128 .f32) (ix2 k l)
      = if _ : l.val < 8 then arg2 m c (ix2 k ⟨2560 + l.val, by omega⟩) else 0 := by
  unfold before
  after_reads_at
  by_cases h : l.val < 8
  · rw [dif_pos h, dif_pos h]
  · rw [dif_neg h, dif_neg h]
    simp [FloatOps.sitofp]

theorem part_32 (c : Dev nD) (k : Fin 1024) (l : Fin 128) :
    (before m c (Proc.tc.devRef main_v32) : Vec Ideal S1024x128 .f32) (ix2 k l)
      = if _ : l.val < 8 then arg2 m c (ix2 k ⟨2568 + l.val, by omega⟩) else 0 := by
  unfold before
  after_reads_at
  by_cases h : l.val < 8
  · rw [dif_pos h, dif_pos h]
    exact Cert.Attn.at2 (arg2 m c) rfl (show 2560 + (8 + l.val) = 2568 + l.val by omega)
  · rw [dif_neg h, dif_neg h]
    simp [FloatOps.sitofp]

theorem part_34 (c : Dev nD) (k : Fin 1024) (l : Fin 128) :
    (before m c (Proc.tc.devRef main_v34) : Vec Ideal S1024x128 .f32) (ix2 k l)
      = if _ : l.val < 8 then arg2 m c (ix2 k ⟨2576 + l.val, by omega⟩) else 0 := by
  unfold before
  after_reads_at
  by_cases h : l.val < 8
  · rw [dif_pos h, dif_pos h]
    exact Cert.Attn.at2 (arg2 m c) rfl (show 2560 + (16 + l.val) = 2576 + l.val by omega)
  · rw [dif_neg h, dif_neg h]
    simp [FloatOps.sitofp]

theorem part_36 (c : Dev nD) (k : Fin 1024) (l : Fin 128) :
    (before m c (Proc.tc.devRef main_v36) : Vec Ideal S1024x128 .f32) (ix2 k l)
      = if _ : l.val < 8 then arg2 m c (ix2 k ⟨2584 + l.val, by omega⟩) else 0 := by
  unfold before
  after_reads_at
  by_cases h : l.val < 8
  · rw [dif_pos h, dif_pos h]
    exact Cert.Attn.at2 (arg2 m c) rfl (show 2560 + (24 + l.val) = 2584 + l.val by omega)
  · rw [dif_neg h, dif_neg h]
    simp [FloatOps.sitofp]

theorem part_38 (c : Dev nD) (k : Fin 1024) (l : Fin 128) :
    (before m c (Proc.tc.devRef main_v38) : Vec Ideal S1024x128 .f32) (ix2 k l)
      = if _ : l.val < 8 then arg2 m c (ix2 k ⟨2592 + l.val, by omega⟩) else 0 := by
  unfold before
  after_reads_at
  by_cases h : l.val < 8
  · rw [dif_pos h, dif_pos h]
    exact Cert.Attn.at2 (arg2 m c) rfl (show 2560 + (32 + l.val) = 2592 + l.val by omega)
  · rw [dif_neg h, dif_neg h]
    simp [FloatOps.sitofp]

theorem part_40 (c : Dev nD) (k : Fin 1024) (l : Fin 128) :
    (before m c (Proc.tc.devRef main_v40) : Vec Ideal S1024x128 .f32) (ix2 k l)
      = if _ : l.val < 8 then arg2 m c (ix2 k ⟨2600 + l.val, by omega⟩) else 0 := by
  unfold before
  after_reads_at
  by_cases h : l.val < 8
  · rw [dif_pos h, dif_pos h]
    exact Cert.Attn.at2 (arg2 m c) rfl (show 2560 + (40 + l.val) = 2600 + l.val by omega)
  · rw [dif_neg h, dif_neg h]
    simp [FloatOps.sitofp]

theorem joined (c : Dev nD) (k : Fin 1024) (l : Fin 5376) :
    (V m c main_v42 : Vec Ideal S1024x5376 .bf16) (ix2 k l) =
      if _ : l.val < 1024 then (before m c (Proc.tc.devRef main_v25) : Vec Ideal S1024x1024 .f32) (ix2 k ⟨l.val, by omega⟩)
      else
      if _ : l.val - 1024 < 1024 then (before m c (Proc.tc.devRef main_v25) : Vec Ideal S1024x1024 .f32) (ix2 k ⟨l.val - 1024, by omega⟩)
      else
      if _ : l.val - 1024 - 1024 < 1024 then (before m c (Proc.tc.devRef main_v28) : Vec Ideal S1024x1024 .f32) (ix2 k ⟨l.val - 1024 - 1024, by omega⟩)
      else
      if _ : l.val - 1024 - 1024 - 1024 < 1536 then (before m c (Proc.tc.devRef main_v26) : Vec Ideal S1024x1536 .f32) (ix2 k ⟨l.val - 1024 - 1024 - 1024, by omega⟩)
      else
      if _ : l.val - 1024 - 1024 - 1024 - 1536 < 128 then (before m c (Proc.tc.devRef main_v30) : Vec Ideal S1024x128 .f32) (ix2 k ⟨l.val - 1024 - 1024 - 1024 - 1536, by omega⟩)
      else
      if _ : l.val - 1024 - 1024 - 1024 - 1536 - 128 < 128 then (before m c (Proc.tc.devRef main_v32) : Vec Ideal S1024x128 .f32) (ix2 k ⟨l.val - 1024 - 1024 - 1024 - 1536 - 128, by omega⟩)
      else
      if _ : l.val - 1024 - 1024 - 1024 - 1536 - 128 - 128 < 128 then (before m c (Proc.tc.devRef main_v34) : Vec Ideal S1024x128 .f32) (ix2 k ⟨l.val - 1024 - 1024 - 1024 - 1536 - 128 - 128, by omega⟩)
      else
      if _ : l.val - 1024 - 1024 - 1024 - 1536 - 128 - 128 - 128 < 128 then (before m c (Proc.tc.devRef main_v36) : Vec Ideal S1024x128 .f32) (ix2 k ⟨l.val - 1024 - 1024 - 1024 - 1536 - 128 - 128 - 128, by omega⟩)
      else
      if _ : l.val - 1024 - 1024 - 1024 - 1536 - 128 - 128 - 128 - 128 < 128 then (before m c (Proc.tc.devRef main_v38) : Vec Ideal S1024x128 .f32) (ix2 k ⟨l.val - 1024 - 1024 - 1024 - 1536 - 128 - 128 - 128 - 128, by omega⟩)
      else
      (before m c (Proc.tc.devRef main_v40) : Vec Ideal S1024x128 .f32) (ix2 k ⟨l.val - 1024 - 1024 - 1024 - 1536 - 128 - 128 - 128 - 128 - 128, by omega⟩) := by
  unfold V
  after_reads_at
  rfl

set_option maxHeartbeats 2000000 in
theorem weight_apply (c : Dev nD) (k : Fin 1024) (l : Fin 5376) :
    (V m c main_v42 : Vec Ideal S1024x5376 .bf16) (ix2 k l) = wcol m c k l := by
  have hl := l.isLt
  rw [joined]
  unfold wcol
  by_cases h0 : l.val < 1024
  · rw [dif_pos h0, part_25, dif_pos (show l.val < 1024 by omega)]
  rw [dif_neg h0]
  by_cases h1 : l.val - 1024 < 1024
  · rw [dif_pos h1, part_25, dif_neg (show ¬l.val < 1024 by omega), dif_pos (show l.val < 2048 by omega)]
  rw [dif_neg h1]
  by_cases h2 : l.val - 1024 - 1024 < 1024
  · rw [dif_pos h2, part_28, dif_neg (show ¬l.val < 1024 by omega), dif_neg (show ¬l.val < 2048 by omega), dif_pos (show l.val < 3072 by omega)]
    exact Cert.Attn.at2 (arg2 m c) rfl (show 2608 + (l.val - 1024 - 1024) = 560 + l.val by omega)
  rw [dif_neg h2]
  by_cases h3 : l.val - 1024 - 1024 - 1024 < 1536
  · rw [dif_pos h3, part_26, dif_neg (show ¬l.val < 1024 by omega), dif_neg (show ¬l.val < 2048 by omega), dif_neg (show ¬l.val < 3072 by omega), dif_pos (show l.val < 4608 by omega)]
    exact Cert.Attn.at2 (arg2 m c) rfl (show 1024 + (l.val - 1024 - 1024 - 1024) = l.val - 2048 by omega)
  rw [dif_neg h3]
  by_cases h4 : l.val - 1024 - 1024 - 1024 - 1536 < 128
  · rw [dif_pos h4, part_30, dif_neg (show ¬l.val < 1024 by omega), dif_neg (show ¬l.val < 2048 by omega), dif_neg (show ¬l.val < 3072 by omega), dif_neg (show ¬l.val < 4608 by omega)]
    by_cases h : (l.val - 4608) % 128 < 8
    · rw [dif_pos h, dif_pos (show (l.val - 1024 - 1024 - 1024 - 1536) < 8 by omega)]
      exact Cert.Attn.at2 (arg2 m c) rfl (show 2560 + (l.val - 1024 - 1024 - 1024 - 1536)
        = 2560 + 8 * ((l.val - 4608) / 128) + (l.val - 4608) % 128 by omega)
    · rw [dif_neg h, dif_neg (show ¬(l.val - 1024 - 1024 - 1024 - 1536) < 8 by omega)]
  rw [dif_neg h4]
  by_cases h5 : l.val - 1024 - 1024 - 1024 - 1536 - 128 < 128
  · rw [dif_pos h5, part_32, dif_neg (show ¬l.val < 1024 by omega), dif_neg (show ¬l.val < 2048 by omega), dif_neg (show ¬l.val < 3072 by omega), dif_neg (show ¬l.val < 4608 by omega)]
    by_cases h : (l.val - 4608) % 128 < 8
    · rw [dif_pos h, dif_pos (show (l.val - 1024 - 1024 - 1024 - 1536 - 128) < 8 by omega)]
      exact Cert.Attn.at2 (arg2 m c) rfl (show 2568 + (l.val - 1024 - 1024 - 1024 - 1536 - 128)
        = 2560 + 8 * ((l.val - 4608) / 128) + (l.val - 4608) % 128 by omega)
    · rw [dif_neg h, dif_neg (show ¬(l.val - 1024 - 1024 - 1024 - 1536 - 128) < 8 by omega)]
  rw [dif_neg h5]
  by_cases h6 : l.val - 1024 - 1024 - 1024 - 1536 - 128 - 128 < 128
  · rw [dif_pos h6, part_34, dif_neg (show ¬l.val < 1024 by omega), dif_neg (show ¬l.val < 2048 by omega), dif_neg (show ¬l.val < 3072 by omega), dif_neg (show ¬l.val < 4608 by omega)]
    by_cases h : (l.val - 4608) % 128 < 8
    · rw [dif_pos h, dif_pos (show (l.val - 1024 - 1024 - 1024 - 1536 - 128 - 128) < 8 by omega)]
      exact Cert.Attn.at2 (arg2 m c) rfl (show 2576 + (l.val - 1024 - 1024 - 1024 - 1536 - 128 - 128)
        = 2560 + 8 * ((l.val - 4608) / 128) + (l.val - 4608) % 128 by omega)
    · rw [dif_neg h, dif_neg (show ¬(l.val - 1024 - 1024 - 1024 - 1536 - 128 - 128) < 8 by omega)]
  rw [dif_neg h6]
  by_cases h7 : l.val - 1024 - 1024 - 1024 - 1536 - 128 - 128 - 128 < 128
  · rw [dif_pos h7, part_36, dif_neg (show ¬l.val < 1024 by omega), dif_neg (show ¬l.val < 2048 by omega), dif_neg (show ¬l.val < 3072 by omega), dif_neg (show ¬l.val < 4608 by omega)]
    by_cases h : (l.val - 4608) % 128 < 8
    · rw [dif_pos h, dif_pos (show (l.val - 1024 - 1024 - 1024 - 1536 - 128 - 128 - 128) < 8 by omega)]
      exact Cert.Attn.at2 (arg2 m c) rfl (show 2584 + (l.val - 1024 - 1024 - 1024 - 1536 - 128 - 128 - 128)
        = 2560 + 8 * ((l.val - 4608) / 128) + (l.val - 4608) % 128 by omega)
    · rw [dif_neg h, dif_neg (show ¬(l.val - 1024 - 1024 - 1024 - 1536 - 128 - 128 - 128) < 8 by omega)]
  rw [dif_neg h7]
  by_cases h8 : l.val - 1024 - 1024 - 1024 - 1536 - 128 - 128 - 128 - 128 < 128
  · rw [dif_pos h8, part_38, dif_neg (show ¬l.val < 1024 by omega), dif_neg (show ¬l.val < 2048 by omega), dif_neg (show ¬l.val < 3072 by omega), dif_neg (show ¬l.val < 4608 by omega)]
    by_cases h : (l.val - 4608) % 128 < 8
    · rw [dif_pos h, dif_pos (show (l.val - 1024 - 1024 - 1024 - 1536 - 128 - 128 - 128 - 128) < 8 by omega)]
      exact Cert.Attn.at2 (arg2 m c) rfl (show 2592 + (l.val - 1024 - 1024 - 1024 - 1536 - 128 - 128 - 128 - 128)
        = 2560 + 8 * ((l.val - 4608) / 128) + (l.val - 4608) % 128 by omega)
    · rw [dif_neg h, dif_neg (show ¬(l.val - 1024 - 1024 - 1024 - 1536 - 128 - 128 - 128 - 128) < 8 by omega)]
  rw [dif_neg h8]
  rw [part_40, dif_neg (show ¬l.val < 1024 by omega), dif_neg (show ¬l.val < 2048 by omega), dif_neg (show ¬l.val < 3072 by omega), dif_neg (show ¬l.val < 4608 by omega)]
  by_cases h : (l.val - 4608) % 128 < 8
  · rw [dif_pos h, dif_pos (show (l.val - 1024 - 1024 - 1024 - 1536 - 128 - 128 - 128 - 128 - 128) < 8 by omega)]
    exact Cert.Attn.at2 (arg2 m c) rfl (show 2600 + (l.val - 1024 - 1024 - 1024 - 1536 - 128 - 128 - 128 - 128 - 128)
      = 2560 + 8 * ((l.val - 4608) / 128) + (l.val - 4608) % 128 by omega)
  · rw [dif_neg h, dif_neg (show ¬(l.val - 1024 - 1024 - 1024 - 1536 - 128 - 128 - 128 - 128 - 128) < 8 by omega)]

theorem qgain_apply (c : Dev nD) (l : Fin 256) :
    (V m c main_v46 : Vec Ideal S1x256 .f32) (ix2 0 l) = arg3 m c (ix1 ⟨l.val % 64, by omega⟩) := by
  unfold V
  after_reads_at
theorem kgain_apply (c : Dev nD) (l : Fin 256) :
    (V m c main_v50 : Vec Ideal S1x256 .f32) (ix2 0 l) = arg4 m c (ix1 ⟨l.val % 64, by omega⟩) := by
  unfold V
  after_reads_at

theorem cos_apply (c : Dev nD) (r : Fin 128) (x : Fin 128) :
    (V m c main_v20 : Vec Ideal S128x128 .f32) (ix2 r x) = Ideal.cos (ang (8192 + r.val % 4) (x.val % 32)) := by
  have hx := x.isLt
  unfold V
  after_reads_at
  by_cases h0 : x.val < 32
  · rw [dif_pos h0]
    after_reads_at
    rw [show x.val % 32 = x.val by omega, past_add]
    rfl
  rw [dif_neg h0]
  by_cases h1 : x.val - 32 < 32
  · rw [dif_pos h1]
    after_reads_at
    rw [show x.val % 32 = x.val - 32 by omega, past_add]
    rfl
  rw [dif_neg h1]
  by_cases h2 : x.val - 32 - 32 < 32
  · rw [dif_pos h2]
    after_reads_at
    rw [show x.val % 32 = x.val - 32 - 32 by omega, past_add]
    rfl
  rw [dif_neg h2]
  after_reads_at
  rw [show x.val % 32 = x.val - 32 - 32 - 32 by omega, past_add]
  rfl

theorem sin_apply (c : Dev nD) (r : Fin 128) (x : Fin 128) :
    (V m c main_v23 : Vec Ideal S128x128 .f32) (ix2 r x)
      = if x.val % 64 < 32 then -Ideal.sin (ang (8192 + r.val % 4) (x.val % 32)) else Ideal.sin (ang (8192 + r.val % 4) (x.val % 32)) := by
  have hx := x.isLt
  unfold V
  after_reads_at
  by_cases h0 : x.val < 32
  · rw [dif_pos h0]
    rw [if_pos (show x.val % 64 < 32 by omega)]
    after_reads_at
    rw [show x.val % 32 = x.val by omega, past_add]
    rfl
  rw [dif_neg h0]
  by_cases h1 : x.val - 32 < 32
  · rw [dif_pos h1]
    rw [if_neg (show ¬ x.val % 64 < 32 by omega)]
    after_reads_at
    rw [show x.val % 32 = x.val - 32 by omega, past_add]
    rfl
  rw [dif_neg h1]
  by_cases h2 : x.val - 32 - 32 < 32
  · rw [dif_pos h2]
    rw [if_pos (show x.val % 64 < 32 by omega)]
    after_reads_at
    rw [show x.val % 32 = x.val - 32 - 32 by omega, past_add]
    rfl
  rw [dif_neg h2]
  rw [if_neg (show ¬ x.val % 64 < 32 by omega)]
  after_reads_at
  rw [show x.val % 32 = x.val - 32 - 32 - 32 by omega, past_add]
  rfl

/-- The floor of a number below 256 by 64, as the program computes it on 32-bit words. -/
def flo (k : BitVec 32) : BitVec 32 :=
  Scalar.select
    (IntOp.andi
      (IntOp.cmpi CmpIPredicate.ne
        (if k = 0 then (0 : BitVec 32) else if k.msb = true then -1 else 1)
        (if (64#32 : BitVec 32) = 0 then (0 : BitVec 32) else if BitVec.msb (64#32) = true then -1 else 1))
      (IntOp.cmpi CmpIPredicate.ne (IntOp.remsi ArithUnit.host k 64#32) 0#32))
    (IntOp.subi (IntOp.divsi ArithUnit.host k 64#32) 1#32)
    (IntOp.divsi ArithUnit.host k 64#32)

theorem flo_eq : ∀ k : Fin 256, flo (BitVec.ofNat 32 k.val) = BitVec.ofNat 32 (k.val / 64) := by
  decide +kernel

theorem head_eq : ∀ a b : Fin 4, IntOp.cmpi CmpIPredicate.eq (BitVec.ofNat 32 a.val) (BitVec.ofNat 32 b.val)
    = if a.val = b.val then 1#1 else 0#1 := by
  decide +kernel

theorem bd_apply (c : Dev nD) (k l : Fin 256) :
    (V m c main_v61 : Vec Ideal S256x256 .bf16) (ix2 k l) = if k.val / 64 = l.val / 64 then Ideal.div 1 c64 else 0 := by
  unfold V
  after_reads_at
  show Ideal.div (FloatOps.uitofp (F := Ideal) FTy.f32
      (IntOp.cmpi CmpIPredicate.eq (flo (BitVec.ofNat 32 k.val)) (flo (BitVec.ofNat 32 l.val)))) c64 = _
  rw [flo_eq k, flo_eq l]
  rw [head_eq ⟨k.val / 64, by omega⟩ ⟨l.val / 64, by omega⟩]
  by_cases h : k.val / 64 = l.val / 64
  · rw [if_pos h, if_pos h]
    exact congrArg (Ideal.div · c64) (by simp [FloatOps.uitofp])
  · rw [if_neg h, if_neg h]
    rw [show (FloatOps.uitofp (F := Ideal) FTy.f32 (0#1 : BitVec 1) : EReal) = 0 by simp [FloatOps.uitofp], ofBits_c64,
      Ideal.div_coe (y := 64) (by norm_num), zero_mul]

end Cert.SampleBIdeal.Body

end
-- ==== Proof.SampleBValue.lean ====
/-
  The second projection of the sample: the tile each grid point writes, and the whole array the call returns, in terms of its arguments.
-/
module

public import proofs.«01_k».proof.Proof.SampleBOpen
public import proofs.«01_k».proof.Proof.SampleBTables

@[expose] public section

set_option maxRecDepth 16384

noncomputable section

namespace Cert.SampleBIdeal.Body

open Cert.SampleBIdeal Cert.SampleBIdeal.Gen Idealize.ShloMosaic Idealize.ShloMosaic.TcCoe Idealize.SL.Sem Cert.Proj
open Idealize.ShloMosaic.Pipeline (Dat)
open Cert.SampleAIdeal.Body (nrm rope nrm_apply rope_apply)
open Cert.SampleBIdeal.Value (flushed8 covered_iff8)

variable (m : (ℓ : Loc nD τ sig) → Buf (Elt Ideal) ℓ)

/-- Row `R` of the input, and column `l` of the product of its normalised form with the weights. -/
def xrow (c : Dev nD) (R : Fin 128) : Fin 1024 → EReal :=
  fun k => arg0 m c (ix3 ⟨R.val / 4, by omega⟩ ⟨R.val % 4, by omega⟩ k)
def uu (c : Dev nD) (R : Fin 128) (l : Fin 5376) : EReal :=
  col (xrow m c R) (fun k => arg1 m c (ix1 k)) (fun k => wcol m c k l)
/-- The 64 columns of the head column `l` belongs to. -/
def uhead (c : Dev nD) (R : Fin 128) (l : Fin 5376) : Fin 64 → EReal :=
  fun d => uu m c R ⟨64 * (l.val / 64) + d.val, by omega⟩

/-- What the call returns at row `R`, column `l`: queries, turned queries, the gate of the output, keys and values three
    times — the second and third keys turned —, then the branches' gates. -/
def spec (c : Dev nD) (R : Fin 128) (l : Fin 5376) : EReal :=
  if l.val < 1024 then rms c64 eps (uhead m c R l) (fun d => arg3 m c (ix1 d)) ⟨l.val % 64, by omega⟩
  else if l.val < 2048 then head (8192 + R.val % 4) (uhead m c R l) (fun d => arg3 m c (ix1 d)) ⟨l.val % 64, by omega⟩
  else if l.val < 3072 then uu m c R l
  else if l.val < 3328 then rms c64 eps (uhead m c R l) (fun d => arg4 m c (ix1 d)) ⟨l.val % 64, by omega⟩
  else if l.val < 3584 then uu m c R l
  else if l.val < 3840 then head (8192 + R.val % 4) (uhead m c R l) (fun d => arg4 m c (ix1 d)) ⟨l.val % 64, by omega⟩
  else if l.val < 4096 then uu m c R l
  else if l.val < 4352 then head (8192 + R.val % 4) (uhead m c R l) (fun d => arg4 m c (ix1 d)) ⟨l.val % 64, by omega⟩
  else if l.val < 4608 then uu m c R l
  else Ideal.logistic (uu m c R l)

/-- Row and column of the array that a point's block has at `r`, `l`. -/
abbrev rowAt (t : Fin cfg0.N) (r : Fin 128) : Fin 128 :=
  ⟨128 * (t.val / 21) + r.val, by have : t.val < 21 := t.isLt; omega⟩
abbrev colAt (t : Fin cfg0.N) (l : Fin 256) : Fin 5376 := ⟨256 * (t.val % 21) + l.val, by omega⟩

theorem idx_0 : ∀ t : Fin cfg0.N, win0_0.index t (0 : Fin 2) = t.val / 21 ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = t.val % 21 :=
  (by decide +kernel : ∀ t : Fin grid0.N, _)
theorem idx_3 : ∀ t : Fin cfg0.N, win0_3.index t (0 : Fin 2) = t.val / 21 ∧ win0_3.index t (1 : Fin 2) = 0 :=
  (by decide +kernel : ∀ t : Fin grid0.N, _)
theorem idx_4 : ∀ t : Fin cfg0.N, win0_4.index t (0 : Fin 2) = t.val / 21 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)

theorem read_x (c : Dev nD) (t : Fin cfg0.N) (r : Fin 128) (k : Fin 1024) :
    (iblk m c 0 t : Vec Ideal S128x1024 .f32) (ix2 r k) = xrow m c (rowAt t r) k := by
  obtain ⟨e0, e1⟩ := idx_0 t
  refine Eq.trans ?_ (rows_apply m c (rowAt t r) k)
  unfold iblk
  rw [View.read_apply]
  show V m c main_v24 _ = V m c main_v24 _
  refine congrArg (V m c main_v24) (funext fun a => Fin.ext ?_)
  match a with
  | ⟨0, _⟩ => show win0_0.index t 0 * 128 + 1 * r.val = 128 * (t.val / 21) + r.val ; rw [e0]; try omega
  | ⟨1, _⟩ => show win0_0.index t 1 * 1024 + 1 * k.val = k.val ; rw [e1]; try omega

theorem read_g (c : Dev nD) (t : Fin cfg0.N) (k : Fin 1024) :
    (iblk m c 1 t : Vec Ideal S1x1024 .f32) (ix2 0 k) = arg1 m c (ix1 k) := by
  obtain ⟨e0, e1⟩ := idx_1 t
  refine Eq.trans ?_ (gain_apply m c k)
  unfold iblk
  rw [View.read_apply]
  show V m c main_v62 _ = V m c main_v62 _
  refine congrArg (V m c main_v62) (funext fun a => Fin.ext ?_)
  match a with
  | ⟨0, _⟩ => show win0_1.index t 0 * 1 + 1 * 0 = 0 ; rw [e0]; try omega
  | ⟨1, _⟩ => show win0_1.index t 1 * 1024 + 1 * k.val = k.val ; rw [e1]; try omega

theorem read_w (c : Dev nD) (t : Fin cfg0.N) (k : Fin 1024) (l : Fin 256) :
    (iblk m c 2 t : Vec Ideal S1024x256 .bf16) (ix2 k l) = wcol m c k (colAt t l) := by
  obtain ⟨e0, e1⟩ := idx_2 t
  refine Eq.trans ?_ (weight_apply m c k (colAt t l))
  unfold iblk
  rw [View.read_apply]
  show V m c main_v42 _ = V m c main_v42 _
  refine congrArg (V m c main_v42) (funext fun a => Fin.ext ?_)
  match a with
  | ⟨0, _⟩ => show win0_2.index t 0 * 1024 + 1 * k.val = k.val ; rw [e0]; try omega
  | ⟨1, _⟩ => show win0_2.index t 1 * 256 + 1 * l.val = 256 * (t.val % 21) + l.val ; rw [e1]; try omega

theorem read_cos (c : Dev nD) (t : Fin cfg0.N) (r : Fin 128) (x : Fin 128) :
    (iblk m c 3 t : Vec Ideal S128x128 .f32) (ix2 r x) = Ideal.cos (ang (8192 + (rowAt t r).val % 4) (x.val % 32)) := by
  obtain ⟨e0, e1⟩ := idx_3 t
  refine Eq.trans ?_ (cos_apply m c (rowAt t r) x)
  unfold iblk
  rw [View.read_apply]
  show V m c main_v20 _ = V m c main_v20 _
  refine congrArg (V m c main_v20) (funext fun a => Fin.ext ?_)
  match a with
  | ⟨0, _⟩ => show win0_3.index t 0 * 128 + 1 * r.val = 128 * (t.val / 21) + r.val ; rw [e0]; try omega
  | ⟨1, _⟩ => show win0_3.index t 1 * 128 + 1 * x.val = x.val ; rw [e1]; try omega

theorem read_sin (c : Dev nD) (t : Fin cfg0.N) (r : Fin 128) (x : Fin 128) :
    (iblk m c 4 t : Vec Ideal S128x128 .f32) (ix2 r x) = if x.val % 64 < 32 then -Ideal.sin (ang (8192 + (rowAt t r).val % 4) (x.val % 32))
      else Ideal.sin (ang (8192 + (rowAt t r).val % 4) (x.val % 32)) := by
  obtain ⟨e0, e1⟩ := idx_4 t
  refine Eq.trans ?_ (sin_apply m c (rowAt t r) x)
  unfold iblk
  rw [View.read_apply]
  show V m c main_v23 _ = V m c main_v23 _
  refine congrArg (V m c main_v23) (funext fun a => Fin.ext ?_)
  match a with
  | ⟨0, _⟩ => show win0_4.index t 0 * 128 + 1 * r.val = 128 * (t.val / 21) + r.val ; rw [e0]; try omega
  | ⟨1, _⟩ => show win0_4.index t 1 * 128 + 1 * x.val = x.val ; rw [e1]; try omega

theorem read_qg (c : Dev nD) (t : Fin cfg0.N) (l : Fin 256) :
    (iblk m c 5 t : Vec Ideal S1x256 .f32) (ix2 0 l) = arg3 m c (ix1 ⟨l.val % 64, by omega⟩) := by
  obtain ⟨e0, e1⟩ := idx_5 t
  refine Eq.trans ?_ (qgain_apply m c l)
  unfold iblk
  rw [View.read_apply]
  show V m c main_v46 _ = V m c main_v46 _
  refine congrArg (V m c main_v46) (funext fun a => Fin.ext ?_)
  match a with
  | ⟨0, _⟩ => show win0_5.index t 0 * 1 + 1 * 0 = 0 ; rw [e0]; try omega
  | ⟨1, _⟩ => show win0_5.index t 1 * 256 + 1 * l.val = l.val ; rw [e1]; try omega

theorem read_kg (c : Dev nD) (t : Fin cfg0.N) (l : Fin 256) :
    (iblk m c 6 t : Vec Ideal S1x256 .f32) (ix2 0 l) = arg4 m c (ix1 ⟨l.val % 64, by omega⟩) := by
  obtain ⟨e0, e1⟩ := idx_6 t
  refine Eq.trans ?_ (kgain_apply m c l)
  unfold iblk
  rw [View.read_apply]
  show V m c main_v50 _ = V m c main_v50 _
  refine congrArg (V m c main_v50) (funext fun a => Fin.ext ?_)
  match a with
  | ⟨0, _⟩ => show win0_6.index t 0 * 1 + 1 * 0 = 0 ; rw [e0]; try omega
  | ⟨1, _⟩ => show win0_6.index t 1 * 256 + 1 * l.val = l.val ; rw [e1]; try omega

theorem read_bd (c : Dev nD) (t : Fin cfg0.N) (k l : Fin 256) :
    (iblk m c 7 t : Vec Ideal S256x256 .bf16) (ix2 k l) = if k.val / 64 = l.val / 64 then Ideal.div 1 c64 else 0 := by
  obtain ⟨e0, e1⟩ := idx_7 t
  refine Eq.trans ?_ (bd_apply m c k l)
  unfold iblk
  rw [View.read_apply]
  show V m c main_v61 _ = V m c main_v61 _
  refine congrArg (V m c main_v61) (funext fun a => Fin.ext ?_)
  match a with
  | ⟨0, _⟩ => show win0_7.index t 0 * 256 + 1 * k.val = k.val ; rw [e0]; try omega
  | ⟨1, _⟩ => show win0_7.index t 1 * 256 + 1 * l.val = l.val ; rw [e1]; try omega

/-- The normalised rows of a point, in terms of the arguments. -/
def Rows (c : Dev nD) (i : ℕ) (h : Vec Ideal S128x1024 .bf16) : Prop :=
  ∀ (r : Fin 128) (k : Fin 1024) (R : Fin 128), R.val = 128 * i + r.val →
    h (ix2 r k) = rms c1024 eps (xrow m c R) (fun k => arg1 m c (ix1 k)) k

theorem rows_hblk (c : Dev nD) (t : Fin cfg0.N) : Rows m c (t.val / 21) (hblk m c t) := by
  intro r k R hR
  obtain rfl : R = rowAt t r := Fin.ext hR
  rw [hblk, pay5_apply]
  exact rms_congr _ _ (fun i => read_x m c t r i) (fun i => read_g m c t i) rfl

theorem carry (c : Dev nD) (t : Fin cfg0.N) (h0 : ¬t.val % 21 = 0) : (outsAt0 m c t.val t.isLt).2 = hprev m c t := by
  by_cases h2 : 18 ≤ t.val % 21
  · exact (outs_G m c t h0 (by omega) h2 (by omega) (by omega) (by omega) (by omega)).2
  by_cases h3 : t.val % 21 ≤ 3
  · exact (outs_B m c t h0 (by omega) h2 h3 (by omega) (by omega) (by omega)).2
  by_cases h5 : 4 ≤ t.val % 21 ∧ t.val % 21 ≤ 7
  · exact (outs_C m c t h0 (by omega) h2 h3 (by omega) h5 (by omega)).2
  by_cases h4 : t.val % 21 = 12
  · exact (outs_E m c t h0 (by omega) h2 h3 h4 h5 (by omega)).2
  by_cases h6 : t.val % 21 = 14 ∨ t.val % 21 = 16
  · exact (outs_F m c t h0 (by omega) h2 h3 h4 h5 h6).2
  · exact (outs_D m c t h0 (by omega) h2 h3 h4 h5 h6).2

/-- The carried rows after a point are the normalised rows of the point's block of rows. -/
theorem rows_scr (c : Dev nD) : ∀ (n : ℕ) (h : n < cfg0.N), Rows m c (n / 21) (outsAt0 m c n h).2 := by
  intro n
  induction n with
  | zero =>
    intro h
    rw [(outs_A m c ⟨0, h⟩ (by show 0 % 21 = 0; decide) (by show ¬(0 % 21 = 8 ∨ 0 % 21 = 9 ∨ 0 % 21 = 10 ∨ 0 % 21 = 11 ∨ 0 % 21 = 13 ∨ 0 % 21 = 15 ∨ 0 % 21 = 17); decide)
      (by show ¬18 ≤ 0 % 21; decide) (by show 0 % 21 ≤ 3; decide) (by show ¬0 % 21 = 12; decide)
      (by show ¬(4 ≤ 0 % 21 ∧ 0 % 21 ≤ 7); decide) (by show ¬(0 % 21 = 14 ∨ 0 % 21 = 16); decide)).2]
    exact rows_hblk m c ⟨0, h⟩
  | succ n ih =>
    intro h
    by_cases h0 : (n + 1) % 21 = 0
    · rw [(outs_A m c ⟨n + 1, h⟩ h0 (by dsimp only; omega) (by dsimp only; omega) (by dsimp only; omega) (by dsimp only; omega)
        (by dsimp only; omega) (by dsimp only; omega)).2]
      exact rows_hblk m c ⟨n + 1, h⟩
    · rw [carry m c ⟨n + 1, h⟩ h0, show (n + 1) / 21 = n / 21 by omega]
      exact ih _

theorem rows_prev (c : Dev nD) (t : Fin cfg0.N) (h0 : ¬t.val % 21 = 0) : Rows m c (t.val / 21) (hprev m c t) := by
  rw [show t.val / 21 = (t.val - 1) / 21 by omega]
  exact rows_scr m c (t.val - 1) _

/-- The product of a point's rows with its columns of weights. -/
theorem prod_tile (c : Dev nD) (t : Fin cfg0.N) (H : Vec Ideal S128x1024 .bf16) (hH : Rows m c (t.val / 21) H)
    (r : Fin 128) (l : Fin 256) : k0_pay6 H (iblk m c 2 t) (ix2 r l) = uu m c (rowAt t r) (colAt t l) := by
  rw [pay6_apply]
  unfold uu col
  exact Finset.sum_congr rfl fun k _ => congrArg₂ (· * ·) (hH r k _ rfl) (read_w m c t k l)

/-- A tile of heads, normalised with a gain. -/
theorem norm_tile (c : Dev nD) (t : Fin cfg0.N) (H : Vec Ideal S128x1024 .bf16) (hH : Rows m c (t.val / 21) H)
    (g : Vec Ideal S1x256 .f32) (gain : Fin 64 → EReal) (hg : ∀ l : Fin 256, g (ix2 0 l) = gain ⟨l.val % 64, by omega⟩)
    (r : Fin 128) (l : Fin 256) :
    nrm (k0_pay6 H (iblk m c 2 t)) g (iblk m c 7 t) (ix2 r l)
      = rms c64 eps (uhead m c (rowAt t r) (colAt t l)) gain ⟨(colAt t l).val % 64, by omega⟩ := by
  have hl := l.isLt
  rw [nrm_apply _ _ _ (fun k l => read_bd m c t k l)]
  refine rms_congr _ _ (fun i => ?_) (fun i => ?_) (Fin.ext ?_)
  · refine (prod_tile m c t H hH _ _).trans ?_
    unfold uhead
    refine congrArg (uu m c (rowAt t r)) (Fin.ext ?_)
    show 256 * (t.val % 21) + (64 * (l.val / 64) + i.val) = 64 * ((256 * (t.val % 21) + l.val) / 64) + i.val
    omega
  · refine (hg _).trans ?_
    have hi := i.isLt
    refine congrArg gain (Fin.ext ?_)
    show (64 * (l.val / 64) + i.val) % 64 = i.val
    omega
  · show l.val % 64 = (256 * (t.val % 21) + l.val) % 64
    omega

/-- A tile of heads, normalised with a gain and turned. -/
theorem head_tile (c : Dev nD) (t : Fin cfg0.N) (H : Vec Ideal S128x1024 .bf16) (hH : Rows m c (t.val / 21) H)
    (g : Vec Ideal S1x256 .f32) (gain : Fin 64 → EReal) (hg : ∀ l : Fin 256, g (ix2 0 l) = gain ⟨l.val % 64, by omega⟩)
    (r : Fin 128) (l : Fin 256) :
    rope (nrm (k0_pay6 H (iblk m c 2 t)) g (iblk m c 7 t)) (iblk m c 3 t) (iblk m c 4 t) (ix2 r l)
      = head (8192 + (rowAt t r).val % 4) (uhead m c (rowAt t r) (colAt t l)) gain ⟨(colAt t l).val % 64, by omega⟩ := by
  have hl := l.isLt
  refine (rope_apply _ _ _ r l (fun x : Fin 32 => Ideal.cos (ang (8192 + (rowAt t r).val % 4) x.val))
    (fun x => Ideal.sin (ang (8192 + (rowAt t r).val % 4) x.val)) (fun x => read_cos m c t r x) (fun x => read_sin m c t r x)).trans ?_
  unfold head
  have e : (⟨l.val % 64, by omega⟩ : Fin 64) = ⟨(colAt t l).val % 64, by omega⟩ :=
    Fin.ext (by show l.val % 64 = (256 * (t.val % 21) + l.val) % 64; omega)
  rw [e]
  refine congrArg (fun y => rot y _ _ _) (funext fun d => ?_)
  have hd := d.isLt
  refine (norm_tile m c t H hH g gain hg r ⟨64 * (l.val / 64) + d.val, by omega⟩).trans ?_
  have e1 : uhead m c (rowAt t r) (colAt t ⟨64 * (l.val / 64) + d.val, by omega⟩) = uhead m c (rowAt t r) (colAt t l) := by
    funext i
    unfold uhead
    refine congrArg (uu m c (rowAt t r)) (Fin.ext ?_)
    show 64 * ((256 * (t.val % 21) + (64 * (l.val / 64) + d.val)) / 64) + i.val
      = 64 * ((256 * (t.val % 21) + l.val) / 64) + i.val
    omega
  rw [e1]
  refine congrArg (rms c64 eps _ gain) (Fin.ext ?_)
  show (256 * (t.val % 21) + (64 * (l.val / 64) + d.val)) % 64 = d.val
  omega

/-- The tile a point writes. -/
theorem tile (c : Dev nD) (t : Fin cfg0.N) (r : Fin 128) (l : Fin 256) :
    (outsAt0 m c t.val t.isLt).1 (ix2 r l) = spec m c (rowAt t r) (colAt t l) := by
  have hl := l.isLt
  unfold spec
  have hcol : (colAt t l).val = 256 * (t.val % 21) + l.val := rfl
  by_cases h0 : t.val % 21 = 0
  · rw [(outs_A m c t h0 (by omega) (by omega) (by omega) (by omega) (by omega) (by omega)).1, pay1_eq,
      if_pos (show 256 * (t.val % 21) + l.val < 1024 by omega)]
    exact norm_tile m c t _ (rows_hblk m c t) _ _ (fun l => read_qg m c t l) r l
  by_cases h2 : 18 ≤ t.val % 21
  · rw [(outs_G m c t h0 (by omega) h2 (by omega) (by omega) (by omega) (by omega)).1, pay7_apply,
      if_neg (show ¬256 * (t.val % 21) + l.val < 1024 by omega),
      if_neg (show ¬256 * (t.val % 21) + l.val < 2048 by omega),
      if_neg (show ¬256 * (t.val % 21) + l.val < 3072 by omega),
      if_neg (show ¬256 * (t.val % 21) + l.val < 3328 by omega),
      if_neg (show ¬256 * (t.val % 21) + l.val < 3584 by omega),
      if_neg (show ¬256 * (t.val % 21) + l.val < 3840 by omega),
      if_neg (show ¬256 * (t.val % 21) + l.val < 4096 by omega),
      if_neg (show ¬256 * (t.val % 21) + l.val < 4352 by omega),
      if_neg (show ¬256 * (t.val % 21) + l.val < 4608 by omega)]
    exact congrArg Ideal.logistic (prod_tile m c t _ (rows_prev m c t h0) r l)
  by_cases h3 : t.val % 21 ≤ 3
  · rw [(outs_B m c t h0 (by omega) h2 h3 (by omega) (by omega) (by omega)).1, pay1_eq,
      if_pos (show 256 * (t.val % 21) + l.val < 1024 by omega)]
    exact norm_tile m c t _ (rows_prev m c t h0) _ _ (fun l => read_qg m c t l) r l
  by_cases h5 : 4 ≤ t.val % 21 ∧ t.val % 21 ≤ 7
  · rw [(outs_C m c t h0 (by omega) h2 h3 (by omega) h5 (by omega)).1, pay3_eq,
      if_neg (show ¬256 * (t.val % 21) + l.val < 1024 by omega),
      if_pos (show 256 * (t.val % 21) + l.val < 2048 by omega)]
    exact head_tile m c t _ (rows_prev m c t h0) _ _ (fun l => read_qg m c t l) r l
  by_cases h4 : t.val % 21 = 12
  · rw [(outs_E m c t h0 (by omega) h2 h3 h4 h5 (by omega)).1, pay2_eq,
      if_neg (show ¬256 * (t.val % 21) + l.val < 1024 by omega),
      if_neg (show ¬256 * (t.val % 21) + l.val < 2048 by omega),
      if_neg (show ¬256 * (t.val % 21) + l.val < 3072 by omega),
      if_pos (show 256 * (t.val % 21) + l.val < 3328 by omega)]
    exact norm_tile m c t _ (rows_prev m c t h0) _ _ (fun l => read_kg m c t l) r l
  by_cases h6 : t.val % 21 = 14 ∨ t.val % 21 = 16
  · rw [(outs_F m c t h0 (by omega) h2 h3 h4 h5 h6).1, pay4_eq]
    by_cases h7 : t.val % 21 = 14
    · rw [if_neg (show ¬256 * (t.val % 21) + l.val < 1024 by omega),
      if_neg (show ¬256 * (t.val % 21) + l.val < 2048 by omega),
      if_neg (show ¬256 * (t.val % 21) + l.val < 3072 by omega),
      if_neg (show ¬256 * (t.val % 21) + l.val < 3328 by omega),
      if_neg (show ¬256 * (t.val % 21) + l.val < 3584 by omega),
      if_pos (show 256 * (t.val % 21) + l.val < 3840 by omega)]
      exact head_tile m c t _ (rows_prev m c t h0) _ _ (fun l => read_kg m c t l) r l
    · rw [if_neg (show ¬256 * (t.val % 21) + l.val < 1024 by omega),
      if_neg (show ¬256 * (t.val % 21) + l.val < 2048 by omega),
      if_neg (show ¬256 * (t.val % 21) + l.val < 3072 by omega),
      if_neg (show ¬256 * (t.val % 21) + l.val < 3328 by omega),
      if_neg (show ¬256 * (t.val % 21) + l.val < 3584 by omega),
      if_neg (show ¬256 * (t.val % 21) + l.val < 3840 by omega),
      if_neg (show ¬256 * (t.val % 21) + l.val < 4096 by omega),
      if_pos (show 256 * (t.val % 21) + l.val < 4352 by omega)]
      exact head_tile m c t _ (rows_prev m c t h0) _ _ (fun l => read_kg m c t l) r l
  · rw [(outs_D m c t h0 (by omega) h2 h3 h4 h5 h6).1]
    refine (prod_tile m c t _ (rows_prev m c t h0) r l).trans ?_
    by_cases h7 : t.val % 21 < 12
    · rw [if_neg (show ¬256 * (t.val % 21) + l.val < 1024 by omega),
      if_neg (show ¬256 * (t.val % 21) + l.val < 2048 by omega),
      if_pos (show 256 * (t.val % 21) + l.val < 3072 by omega)]
    by_cases h8 : t.val % 21 = 13
    · rw [if_neg (show ¬256 * (t.val % 21) + l.val < 1024 by omega),
      if_neg (show ¬256 * (t.val % 21) + l.val < 2048 by omega),
      if_neg (show ¬256 * (t.val % 21) + l.val < 3072 by omega),
      if_neg (show ¬256 * (t.val % 21) + l.val < 3328 by omega),
      if_pos (show 256 * (t.val % 21) + l.val < 3584 by omega)]
    by_cases h9 : t.val % 21 = 15
    · rw [if_neg (show ¬256 * (t.val % 21) + l.val < 1024 by omega),
      if_neg (show ¬256 * (t.val % 21) + l.val < 2048 by omega),
      if_neg (show ¬256 * (t.val % 21) + l.val < 3072 by omega),
      if_neg (show ¬256 * (t.val % 21) + l.val < 3328 by omega),
      if_neg (show ¬256 * (t.val % 21) + l.val < 3584 by omega),
      if_neg (show ¬256 * (t.val % 21) + l.val < 3840 by omega),
      if_pos (show 256 * (t.val % 21) + l.val < 4096 by omega)]
    · rw [if_neg (show ¬256 * (t.val % 21) + l.val < 1024 by omega),
      if_neg (show ¬256 * (t.val % 21) + l.val < 2048 by omega),
      if_neg (show ¬256 * (t.val % 21) + l.val < 3072 by omega),
      if_neg (show ¬256 * (t.val % 21) + l.val < 3328 by omega),
      if_neg (show ¬256 * (t.val % 21) + l.val < 3584 by omega),
      if_neg (show ¬256 * (t.val % 21) + l.val < 3840 by omega),
      if_neg (show ¬256 * (t.val % 21) + l.val < 4096 by omega),
      if_neg (show ¬256 * (t.val % 21) + l.val < 4352 by omega),
      if_pos (show 256 * (t.val % 21) + l.val < 4608 by omega)]

theorem idx_8 : ∀ t : Fin cfg0.N, win0_8.index t (0 : Fin 2) = t.val / 21 ∧ win0_8.index t (1 : Fin 2) = t.val % 21 :=
  (by decide +kernel : ∀ t : Fin grid0.N, _)

/-- The whole array. -/
def whole (c : Dev nD) : Vec Ideal S128x5376 .f32 := fun i => spec m c (i 0) (i 1)

theorem flushed_eq (c : Dev nD) (t : Fin cfg0.N) (_hf : (cfg0.win 8).flush t = true) :
    (dats m 0 c).flushed 8 t = ((cfg0.win 8).blk t).view.read (Elt Ideal) (whole m c) := by
  obtain ⟨e0, e1⟩ := idx_8 t
  rw [flushed8]
  funext y
  have hy0 : (y 0).val < 128 := (y 0).isLt
  have hy1 : (y 1).val < 256 := (y 1).isLt
  have hb0 : (((cfg0.win 8).blk t).view.emb y 0).val = win0_8.index t (0 : Fin 2) * 128 + 1 * (y 0).val := rfl
  have hb1 : (((cfg0.win 8).blk t).view.emb y 1).val = win0_8.index t (1 : Fin 2) * 256 + 1 * (y 1).val := rfl
  rw [View.read_apply]
  unfold Pipeline.Window.cut
  have hx : (cfg0.win 8).xinj (grid0.coords t) y = ix2 ⟨(y 0).val, hy0⟩ ⟨(y 1).val, hy1⟩ :=
    funext fun a => Fin.ext (by match a with | ⟨0, _⟩ => rfl | ⟨1, _⟩ => rfl)
  refine (congrArg (outsAt0 m c t.val t.isLt).1 hx).trans ?_
  rw [tile]
  show _ = spec m c (((cfg0.win 8).blk t).view.emb y 0) (((cfg0.win 8).blk t).view.emb y 1)
  rw [e0] at hb0
  rw [e1] at hb1
  have q0 : (((cfg0.win 8).blk t).view.emb y 0 : Fin 128) = rowAt t ⟨(y 0).val, hy0⟩ :=
    Fin.ext (by rw [hb0]; show t.val / 21 * 128 + 1 * (y 0).val = 128 * (t.val / 21) + (y 0).val; omega)
  have q1 : (((cfg0.win 8).blk t).view.emb y 1 : Fin 5376) = colAt t ⟨(y 1).val, hy1⟩ :=
    Fin.ext (by rw [hb1]; show t.val % 21 * 256 + 1 * (y 1).val = 256 * (t.val % 21) + (y 1).val; omega)
  rw [← q0, ← q1]

/-- The array after the run. -/
theorem final (c : Dev nD) : (dats m 0 c).arrAt 8 cfg0.N = whole m c :=
  (dats m 0 c).arrAt_eq_of_cover 8 _ (fun t hf => flushed_eq m c t hf) (fun i => (covered_iff8 i).2 (by
    have h0 : (i 0).val < 128 := (i 0).isLt; have h1 : (i 1).val < 5376 := (i 1).isLt; omega))

end Cert.SampleBIdeal.Body

end
-- ==== Proof.SampleBRef.lean ====
/-
  The second projection's reference of the sample, read at an element: the product with the normalised rows, the heads' norms, the
  rotary embedding, and the branches' gates.
-/
module

public import proofs.«01_k».proof.Proof.Gen.RefSBIdeal.Read
public import proofs.«01_k».proof.Proof.ProjMath
public import Idealize.ShloMosaic.Lib.Pointwise

@[expose] public section

set_option maxRecDepth 16384

noncomputable section

namespace Cert.RefSBIdeal.Body

open Cert.RefSBIdeal Cert.RefSBIdeal.Gen Cert.RefSBIdeal.Read Idealize.ShloMosaic Idealize.ShloMosaic.TcCoe Cert.Proj

variable (x0 : Vec Ideal S32x4x1024 .f32) (x1 : Vec Ideal S1024 .f32) (x2 : Vec Ideal S1024x3632 .f32)
  (x3 x4 : Vec Ideal S64 .f32)

/-- The normalised rows. -/
theorem row_apply (n : Fin 32) (t : Fin 4) (k : Fin 1024) :
    val_main_v15 (F := Ideal) x0 x1 (ix3 n t k) = rms c1024 eps (fun k => x0 (ix3 n t k)) (fun k => x1 (ix1 k)) k := by
  have e : ∀ i : Fin 1024, idx_main_v4 (idx_main_v5 (idx_main_v11 (ix3 n t k))) i = ix3 n t i :=
    fun i => funext fun a => by fin_cases a <;> rfl
  have e' : idx_main_v13 (idx_main_v14 (ix3 n t k)) = ix1 k := funext fun a => by fin_cases a <;> rfl
  rw [val_main_v15_apply, val_main_v12_apply, val_main_v11_apply, val_main_v10_apply, val_main_v9_apply, val_main_v8_apply,
    val_main_cst_1_apply, val_main_v7_apply, val_main_v6_apply, val_main_cst_0_apply, val_main_v5_apply, val_main_v4_apply,
    val_main_v14_apply, val_main_v13_apply, e', val_main_cst_apply]
  simp only [e, val_main_v3_apply]
  show _ * Ideal.rsqrt (Ideal.div (Ideal.ofBits .f32 0x00000000#32 + ∑ k, _) c1024 + eps) * _ = _
  rw [Ideal.ofBits_zero_f32, zero_add]
  rfl

/-- Their product with the weights. -/
theorem prod_apply (n : Fin 32) (t : Fin 4) (l : Fin 3632) :
    val_main_v16 (F := Ideal) x0 x1 x2 (ix3 n t l)
      = col (fun k => x0 (ix3 n t k)) (fun k => x1 (ix1 k)) (fun k => x2 (ix2 k l)) := by
  rw [val_main_v16_apply]
  unfold col
  refine Finset.sum_congr rfl fun k _ => ?_
  rw [← row_apply x0 x1 n t k]
  refine congrArg₂ (· * ·) (congrArg _ (funext fun a => ?_)) (congrArg x2 (funext fun a => ?_)) <;>
    fin_cases a <;> rfl

/-- A head of queries, and a head of each branch's keys. -/
theorem q_apply (n : Fin 32) (t : Fin 4) (h : Fin 16) (d : Fin 64) :
    val_main_v18 (F := Ideal) x0 x1 x2 (ix4 n t h d)
      = val_main_v16 (F := Ideal) x0 x1 x2 (ix3 n t ⟨64 * h.val + d.val, by omega⟩) := by
  have hh := h.isLt; have hd := d.isLt; have hn := n.isLt; have ht := t.isLt
  rw [val_main_v18_apply, val_main_v17_apply]
  refine congrArg _ (funext fun a => Fin.ext ?_)
  match a with
  | ⟨0, _⟩ => show (((n.val * 4 + t.val) * 16 + h.val) * 64 + d.val) / 4096 = n.val; omega
  | ⟨1, _⟩ => show (((n.val * 4 + t.val) * 16 + h.val) * 64 + d.val) / 1024 % 4 = t.val; omega
  | ⟨2, _⟩ => show (((n.val * 4 + t.val) * 16 + h.val) * 64 + d.val) % 1024 = 64 * h.val + d.val; omega
theorem k0_apply (n : Fin 32) (t : Fin 4) (h : Fin 4) (d : Fin 64) :
    val_main_v38 (F := Ideal) x0 x1 x2 (ix4 n t h d)
      = val_main_v16 (F := Ideal) x0 x1 x2 (ix3 n t ⟨1024 + (64 * h.val + d.val), by omega⟩) := by
  have hh := h.isLt; have hd := d.isLt; have hn := n.isLt; have ht := t.isLt
  rw [val_main_v38_apply, val_main_v32_apply]
  refine congrArg _ (funext fun a => Fin.ext ?_)
  match a with
  | ⟨0, _⟩ => show (((n.val * 4 + t.val) * 4 + h.val) * 64 + d.val) / 1024 = n.val; omega
  | ⟨1, _⟩ => show (((n.val * 4 + t.val) * 4 + h.val) * 64 + d.val) / 256 % 4 = t.val; omega
  | ⟨2, _⟩ => show 1024 + (((n.val * 4 + t.val) * 4 + h.val) * 64 + d.val) % 256 = 1024 + (64 * h.val + d.val); omega
theorem k1_apply (n : Fin 32) (t : Fin 4) (h : Fin 4) (d : Fin 64) :
    val_main_v52 (F := Ideal) x0 x1 x2 (ix4 n t h d)
      = val_main_v16 (F := Ideal) x0 x1 x2 (ix3 n t ⟨1536 + (64 * h.val + d.val), by omega⟩) := by
  have hh := h.isLt; have hd := d.isLt; have hn := n.isLt; have ht := t.isLt
  rw [val_main_v52_apply, val_main_v34_apply]
  refine congrArg _ (funext fun a => Fin.ext ?_)
  match a with
  | ⟨0, _⟩ => show (((n.val * 4 + t.val) * 4 + h.val) * 64 + d.val) / 1024 = n.val; omega
  | ⟨1, _⟩ => show (((n.val * 4 + t.val) * 4 + h.val) * 64 + d.val) / 256 % 4 = t.val; omega
  | ⟨2, _⟩ => show 1536 + (((n.val * 4 + t.val) * 4 + h.val) * 64 + d.val) % 256 = 1536 + (64 * h.val + d.val); omega
theorem k2_apply (n : Fin 32) (t : Fin 4) (h : Fin 4) (d : Fin 64) :
    val_main_v66 (F := Ideal) x0 x1 x2 (ix4 n t h d)
      = val_main_v16 (F := Ideal) x0 x1 x2 (ix3 n t ⟨2048 + (64 * h.val + d.val), by omega⟩) := by
  have hh := h.isLt; have hd := d.isLt; have hn := n.isLt; have ht := t.isLt
  rw [val_main_v66_apply, val_main_v36_apply]
  refine congrArg _ (funext fun a => Fin.ext ?_)
  match a with
  | ⟨0, _⟩ => show (((n.val * 4 + t.val) * 4 + h.val) * 64 + d.val) / 1024 = n.val; omega
  | ⟨1, _⟩ => show (((n.val * 4 + t.val) * 4 + h.val) * 64 + d.val) / 256 % 4 = t.val; omega
  | ⟨2, _⟩ => show 2048 + (((n.val * 4 + t.val) * 4 + h.val) * 64 + d.val) % 256 = 2048 + (64 * h.val + d.val); omega

theorem qn_apply (n : Fin 32) (t : Fin 4) (h : Fin 16) (d : Fin 64) :
    val_main_v31 (F := Ideal) x0 x1 x2 x3 (ix4 n t h d)
      = rms c64 eps (fun d => val_main_v18 (F := Ideal) x0 x1 x2 (ix4 n t h d)) (fun d => x3 (ix1 d)) d := by
  have e : ∀ k : Fin 64, idx_main_v20 (idx_main_v21 (idx_main_v27 (ix4 n t h d))) k = ix4 n t h k :=
    fun k => funext fun a => by fin_cases a <;> rfl
  have e' : idx_main_v29 (idx_main_v30 (ix4 n t h d)) = ix1 d := funext fun a => by fin_cases a <;> rfl
  rw [val_main_v31_apply, val_main_v28_apply, val_main_v27_apply, val_main_v26_apply, val_main_v25_apply, val_main_v23_apply,
    val_main_v22_apply, val_main_cst_3_apply, val_main_v24_apply, val_main_cst_4_apply, val_main_v21_apply, val_main_v20_apply,
    val_main_v30_apply, val_main_v29_apply, e', val_main_cst_2_apply]
  simp only [e, val_main_v19_apply]
  generalize val_main_v18 (F := Ideal) x0 x1 x2 = y
  show _ * Ideal.rsqrt (Ideal.div (Ideal.ofBits .f32 0x00000000#32 + ∑ k, _) c64 + eps) * _ = _
  rw [Ideal.ofBits_zero_f32, zero_add]
  rfl

theorem kn0_apply (n : Fin 32) (t : Fin 4) (h : Fin 4) (d : Fin 64) :
    val_main_v51 (F := Ideal) x0 x1 x2 x4 (ix4 n t h d)
      = rms c64 eps (fun d => val_main_v38 (F := Ideal) x0 x1 x2 (ix4 n t h d)) (fun d => x4 (ix1 d)) d := by
  have e : ∀ k : Fin 64, idx_main_v40 (idx_main_v41 (idx_main_v47 (ix4 n t h d))) k = ix4 n t h k :=
    fun k => funext fun a => by fin_cases a <;> rfl
  have e' : idx_main_v49 (idx_main_v50 (ix4 n t h d)) = ix1 d := funext fun a => by fin_cases a <;> rfl
  rw [val_main_v51_apply, val_main_v48_apply, val_main_v47_apply, val_main_v46_apply, val_main_v45_apply, val_main_v43_apply,
    val_main_v42_apply, val_main_cst_6_apply, val_main_v44_apply, val_main_cst_7_apply, val_main_v41_apply, val_main_v40_apply,
    val_main_v50_apply, val_main_v49_apply, e', val_main_cst_5_apply]
  simp only [e, val_main_v39_apply]
  generalize val_main_v38 (F := Ideal) x0 x1 x2 = y
  show _ * Ideal.rsqrt (Ideal.div (Ideal.ofBits .f32 0x00000000#32 + ∑ k, _) c64 + eps) * _ = _
  rw [Ideal.ofBits_zero_f32, zero_add]
  rfl

theorem kn1_apply (n : Fin 32) (t : Fin 4) (h : Fin 4) (d : Fin 64) :
    val_main_v65 (F := Ideal) x0 x1 x2 x4 (ix4 n t h d)
      = rms c64 eps (fun d => val_main_v52 (F := Ideal) x0 x1 x2 (ix4 n t h d)) (fun d => x4 (ix1 d)) d := by
  have e : ∀ k : Fin 64, idx_main_v54 (idx_main_v55 (idx_main_v61 (ix4 n t h d))) k = ix4 n t h k :=
    fun k => funext fun a => by fin_cases a <;> rfl
  have e' : idx_main_v63 (idx_main_v64 (ix4 n t h d)) = ix1 d := funext fun a => by fin_cases a <;> rfl
  rw [val_main_v65_apply, val_main_v62_apply, val_main_v61_apply, val_main_v60_apply, val_main_v59_apply, val_main_v57_apply,
    val_main_v56_apply, val_main_cst_9_apply, val_main_v58_apply, val_main_cst_10_apply, val_main_v55_apply, val_main_v54_apply,
    val_main_v64_apply, val_main_v63_apply, e', val_main_cst_8_apply]
  simp only [e, val_main_v53_apply]
  generalize val_main_v52 (F := Ideal) x0 x1 x2 = y
  show _ * Ideal.rsqrt (Ideal.div (Ideal.ofBits .f32 0x00000000#32 + ∑ k, _) c64 + eps) * _ = _
  rw [Ideal.ofBits_zero_f32, zero_add]
  rfl

theorem kn2_apply (n : Fin 32) (t : Fin 4) (h : Fin 4) (d : Fin 64) :
    val_main_v79 (F := Ideal) x0 x1 x2 x4 (ix4 n t h d)
      = rms c64 eps (fun d => val_main_v66 (F := Ideal) x0 x1 x2 (ix4 n t h d)) (fun d => x4 (ix1 d)) d := by
  have e : ∀ k : Fin 64, idx_main_v68 (idx_main_v69 (idx_main_v75 (ix4 n t h d))) k = ix4 n t h k :=
    fun k => funext fun a => by fin_cases a <;> rfl
  have e' : idx_main_v77 (idx_main_v78 (ix4 n t h d)) = ix1 d := funext fun a => by fin_cases a <;> rfl
  rw [val_main_v79_apply, val_main_v76_apply, val_main_v75_apply, val_main_v74_apply, val_main_v73_apply, val_main_v71_apply,
    val_main_v70_apply, val_main_cst_12_apply, val_main_v72_apply, val_main_cst_13_apply, val_main_v69_apply, val_main_v68_apply,
    val_main_v78_apply, val_main_v77_apply, e', val_main_cst_11_apply]
  simp only [e, val_main_v67_apply]
  generalize val_main_v66 (F := Ideal) x0 x1 x2 = y
  show _ * Ideal.rsqrt (Ideal.div (Ideal.ofBits .f32 0x00000000#32 + ∑ k, _) c64 + eps) * _ = _
  rw [Ideal.ofBits_zero_f32, zero_add]
  rfl

theorem ang_1 (t : Fin 4) (x : Fin 32) : val_main_v91 (F := Ideal) (ix2 t x) = ang (8192 + t.val) x.val := by
  pointwise [val_main_v91, val_main_v90, val_main_v89, val_main_v88, val_main_v87, val_main_v86, val_main_v85, val_main_v84, val_main_v83, val_main_v82, val_main_v81, val_main_v80, val_main_cst_14,
    val_main_cst_15, val_main_v0, val_main_v1, val_main_v2, val_main_c]
  rw [past_add]
  rfl

theorem ang_2 (t : Fin 4) (x : Fin 32) : val_main_v124 (F := Ideal) (ix2 t x) = ang (8192 + t.val) x.val := by
  pointwise [val_main_v124, val_main_v123, val_main_v122, val_main_v121, val_main_v120, val_main_v119, val_main_v118, val_main_v117, val_main_v116, val_main_v115, val_main_v114, val_main_v113, val_main_cst_16,
    val_main_cst_17, val_main_v0, val_main_v1, val_main_v2, val_main_c]
  rw [past_add]
  rfl

theorem ang_q (t : Fin 4) (x : Fin 32) : val_main_v168 (F := Ideal) (ix2 t x) = ang (8192 + t.val) x.val := by
  pointwise [val_main_v168, val_main_v167, val_main_v166, val_main_v165, val_main_v164, val_main_v163, val_main_v162, val_main_v161, val_main_v160, val_main_v159, val_main_v158, val_main_v157, val_main_cst_21,
    val_main_cst_22, val_main_v0, val_main_v1, val_main_v2, val_main_c]
  rw [past_add]
  rfl

theorem qr_apply (n : Fin 32) (t : Fin 4) (h : Fin 16) (d : Fin 64) :
    val_main_v189 (F := Ideal) x0 x1 x2 x3 (ix4 n t h d)
      = rot (fun d => val_main_v31 (F := Ideal) x0 x1 x2 x3 (ix4 n t h d)) (fun x : Fin 32 => Ideal.cos (ang (8192 + t.val) x.val))
          (fun x => Ideal.sin (ang (8192 + t.val) x.val)) d := by
  have hd := d.isLt
  have f := ang_q t
  unfold val_main_v189 val_main_v188 val_main_v187 val_main_v186 val_main_v185 val_main_v184 val_main_v183 val_main_v182 val_main_v181 val_main_v180 val_main_v179 val_main_v178 val_main_v177 val_main_v176 val_main_v175 val_main_v174 val_main_v173
    val_main_v170 val_main_v169 val_main_v172 val_main_v171
  generalize val_main_v31 (F := Ideal) x0 x1 x2 x3 = y
  generalize val_main_v168 (F := Ideal) = an at f ⊢
  pointwise
  simp only [f]
  exact rot_halves (fun d => y (ix4 n t h d)) (fun x => Ideal.cos (ang (8192 + t.val) x)) (fun x => Ideal.sin (ang (8192 + t.val) x)) d

theorem kr1_apply (n : Fin 32) (t : Fin 4) (h : Fin 4) (d : Fin 64) :
    val_main_v112 (F := Ideal) x0 x1 x2 x4 (ix4 n t h d)
      = rot (fun d => val_main_v65 (F := Ideal) x0 x1 x2 x4 (ix4 n t h d)) (fun x : Fin 32 => Ideal.cos (ang (8192 + t.val) x.val))
          (fun x => Ideal.sin (ang (8192 + t.val) x.val)) d := by
  have hd := d.isLt
  have f := ang_1 t
  unfold val_main_v112 val_main_v111 val_main_v110 val_main_v109 val_main_v108 val_main_v107 val_main_v106 val_main_v105 val_main_v104 val_main_v103 val_main_v102 val_main_v101 val_main_v100 val_main_v99 val_main_v98 val_main_v97 val_main_v96
    val_main_v93 val_main_v92 val_main_v95 val_main_v94
  generalize val_main_v65 (F := Ideal) x0 x1 x2 x4 = y
  generalize val_main_v91 (F := Ideal) = an at f ⊢
  pointwise
  simp only [f]
  exact rot_halves (fun d => y (ix4 n t h d)) (fun x => Ideal.cos (ang (8192 + t.val) x)) (fun x => Ideal.sin (ang (8192 + t.val) x)) d

theorem kr2_apply (n : Fin 32) (t : Fin 4) (h : Fin 4) (d : Fin 64) :
    val_main_v145 (F := Ideal) x0 x1 x2 x4 (ix4 n t h d)
      = rot (fun d => val_main_v79 (F := Ideal) x0 x1 x2 x4 (ix4 n t h d)) (fun x : Fin 32 => Ideal.cos (ang (8192 + t.val) x.val))
          (fun x => Ideal.sin (ang (8192 + t.val) x.val)) d := by
  have hd := d.isLt
  have f := ang_2 t
  unfold val_main_v145 val_main_v144 val_main_v143 val_main_v142 val_main_v141 val_main_v140 val_main_v139 val_main_v138 val_main_v137 val_main_v136 val_main_v135 val_main_v134 val_main_v133 val_main_v132 val_main_v131 val_main_v130 val_main_v129
    val_main_v126 val_main_v125 val_main_v128 val_main_v127
  generalize val_main_v79 (F := Ideal) x0 x1 x2 x4 = y
  generalize val_main_v124 (F := Ideal) = an at f ⊢
  pointwise
  simp only [f]
  exact rot_halves (fun d => y (ix4 n t h d)) (fun x => Ideal.cos (ang (8192 + t.val) x)) (fun x => Ideal.sin (ang (8192 + t.val) x)) d

/-- The gates: the logistic function of their columns, a half in the lanes beside them. -/
theorem gate_apply (n : Fin 32) (t : Fin 4) (b : Fin 6) (d : Fin 128) :
    val_main_v154 (F := Ideal) x0 x1 x2 (ix4 n t b d)
      = if h : d.val < 8 then
          Ideal.logistic (val_main_v16 (F := Ideal) x0 x1 x2 (ix3 n t ⟨2560 + (8 * b.val + d.val), by omega⟩))
        else Ideal.ofBits .f32 0x3F000000#32 := by
  unfold val_main_v154 val_main_v153 val_main_v152 val_main_v151 val_main_v150 val_main_v149 val_main_v148 val_main_v147
    val_main_v146 val_main_call0_v0 val_main_cst_20 val_main_cst_19 val_main_cst_18
  generalize val_main_v16 (F := Ideal) x0 x1 x2 = u
  pointwise
  by_cases h : d.val < 8
  · rw [dif_pos h, dif_pos h]
    show Ideal.logistic _ = Ideal.logistic _
    exact congrArg Ideal.logistic (Cert.Attn.at3 u rfl rfl (show 2560 + (b.val * 8 + d.val) = 2560 + (8 * b.val + d.val) by omega))
  · rw [dif_neg h, dif_neg h]
    rfl

/-- One row of the result, from the row `u` of the product at position `t`: queries, turned queries, the gate of the output,
    keys and values three times — the second and third keys turned —, and the branches' gates. -/
def layout (t : ℕ) (u : Fin 3632 → EReal) (q k : Fin 64 → EReal) (l : Fin 5376) : EReal :=
  if _ : l.val < 1024 then rms c64 eps (fun d => u ⟨64 * (l.val / 64) + d.val, by omega⟩) q ⟨l.val % 64, by omega⟩
  else if _ : l.val < 2048 then
    head t (fun d => u ⟨64 * ((l.val - 1024) / 64) + d.val, by omega⟩) q ⟨(l.val - 1024) % 64, by omega⟩
  else if _ : l.val < 3072 then u ⟨2608 + (l.val - 2048), by omega⟩
  else if _ : l.val < 3328 then
    rms c64 eps (fun d => u ⟨1024 + (64 * ((l.val - 3072) / 64) + d.val), by omega⟩) k ⟨(l.val - 3072) % 64, by omega⟩
  else if _ : l.val < 3584 then u ⟨1280 + (l.val - 3328), by omega⟩
  else if _ : l.val < 3840 then
    head t (fun d => u ⟨1536 + (64 * ((l.val - 3584) / 64) + d.val), by omega⟩) k ⟨(l.val - 3584) % 64, by omega⟩
  else if _ : l.val < 4096 then u ⟨1792 + (l.val - 3840), by omega⟩
  else if _ : l.val < 4352 then
    head t (fun d => u ⟨2048 + (64 * ((l.val - 4096) / 64) + d.val), by omega⟩) k ⟨(l.val - 4096) % 64, by omega⟩
  else if _ : l.val < 4608 then u ⟨2304 + (l.val - 4352), by omega⟩
  else if _ : (l.val - 4608) % 128 < 8 then
    Ideal.logistic (u ⟨2560 + (8 * ((l.val - 4608) / 128) + (l.val - 4608) % 128), by omega⟩)
  else Ideal.ofBits .f32 0x3F000000#32

set_option maxHeartbeats 2000000 in
/-- The reference's array at row `R`, column `l`. -/
theorem out_apply (R : Fin 128) (l : Fin 5376) :
    val_main_v196 (F := Ideal) x0 x1 x2 x3 x4 (ix2 R l)
      = layout (8192 + R.val % 4) (fun l => val_main_v16 (F := Ideal) x0 x1 x2
          (ix3 ⟨R.val / 4, by omega⟩ ⟨R.val % 4, by omega⟩ l)) (fun d => x3 (ix1 d)) (fun d => x4 (ix1 d)) l := by
  have hl := l.isLt
  have hqn := qn_apply x0 x1 x2 x3
  have hq := qr_apply x0 x1 x2 x3
  have hk0 := kn0_apply x0 x1 x2 x4
  have hk1 := kr1_apply x0 x1 x2 x4
  have hk2 := kr2_apply x0 x1 x2 x4
  have hg := gate_apply x0 x1 x2
  simp only [qn_apply, q_apply] at hq
  simp only [q_apply] at hqn
  simp only [k0_apply] at hk0
  simp only [kn1_apply, k1_apply] at hk1
  simp only [kn2_apply, k2_apply] at hk2
  unfold val_main_v196 val_main_v195 val_main_v156 val_main_v190 val_main_v155 val_main_v191 val_main_v33 val_main_v192
    val_main_v35 val_main_v193 val_main_v37 val_main_v194
  generalize val_main_v16 (F := Ideal) x0 x1 x2 = u at hqn hq hk0 hk1 hk2 hg ⊢
  generalize val_main_v31 (F := Ideal) x0 x1 x2 x3 = qn at hqn ⊢
  generalize val_main_v189 (F := Ideal) x0 x1 x2 x3 = q at hq ⊢
  generalize val_main_v51 (F := Ideal) x0 x1 x2 x4 = k0 at hk0 ⊢
  generalize val_main_v112 (F := Ideal) x0 x1 x2 x4 = k1 at hk1 ⊢
  generalize val_main_v145 (F := Ideal) x0 x1 x2 x4 = k2 at hk2 ⊢
  generalize val_main_v154 (F := Ideal) x0 x1 x2 = g at hg ⊢
  pointwise
  simp only [Nat.sub_sub, Nat.reduceAdd]
  unfold layout
  by_cases h0 : l.val < 1024
  · rw [dif_pos h0, dif_pos h0, hqn]
  rw [dif_neg h0, dif_neg h0]
  by_cases h1 : l.val < 2048
  · rw [dif_pos (show l.val - 1024 < 1024 by omega), dif_pos h1, hq]
    rfl
  rw [dif_neg (show ¬l.val - 1024 < 1024 by omega), dif_neg h1]
  by_cases h2 : l.val < 3072
  · rw [dif_pos (show l.val - 2048 < 1024 by omega), dif_pos h2]
  rw [dif_neg (show ¬l.val - 2048 < 1024 by omega), dif_neg h2]
  by_cases h3 : l.val < 3328
  · rw [dif_pos (show l.val - 3072 < 256 by omega), dif_pos h3, hk0]
  rw [dif_neg (show ¬l.val - 3072 < 256 by omega), dif_neg h3]
  by_cases h4 : l.val < 3584
  · rw [dif_pos (show l.val - 3328 < 256 by omega), dif_pos h4]
  rw [dif_neg (show ¬l.val - 3328 < 256 by omega), dif_neg h4]
  by_cases h5 : l.val < 3840
  · rw [dif_pos (show l.val - 3584 < 256 by omega), dif_pos h5, hk1]
    rfl
  rw [dif_neg (show ¬l.val - 3584 < 256 by omega), dif_neg h5]
  by_cases h6 : l.val < 4096
  · rw [dif_pos (show l.val - 3840 < 256 by omega), dif_pos h6]
  rw [dif_neg (show ¬l.val - 3840 < 256 by omega), dif_neg h6]
  by_cases h7 : l.val < 4352
  · rw [dif_pos (show l.val - 4096 < 256 by omega), dif_pos h7, hk2]
    rfl
  rw [dif_neg (show ¬l.val - 4096 < 256 by omega), dif_neg h7]
  by_cases h8 : l.val < 4608
  · rw [dif_pos (show l.val - 4352 < 256 by omega), dif_pos h8]
  rw [dif_neg (show ¬l.val - 4352 < 256 by omega), dif_neg h8]
  exact hg _ _ _ _

end Cert.RefSBIdeal.Body

end
-- ==== Proof.SampleBClaim.lean ====
/-
  The value claim of the second projection of the sample: the kernel and the reference leave one array.
-/
module

public import proofs.«01_k».proof.Defs
public import proofs.«01_k».proof.Proof.SampleBValue
public import proofs.«01_k».proof.Proof.SampleBRef
public import proofs.«01_k».proof.Proof.Gen.RefSBIdeal.Run

@[expose] public section

set_option maxRecDepth 16384

noncomputable section

namespace Cert.Proof.SampleB

open Idealize.ShloMosaic Idealize.ShloMosaic.TcCoe Idealize.SL.Sem Cert.Proj Cert.SampleBIdeal.Body

variable (m : (ℓ : Loc Cert.SampleBIdeal.nD Cert.SampleBIdeal.τ Cert.SampleBIdeal.sig) → Buf (Elt Ideal) ℓ)

/-- A row of the product with the weights as the reference keeps them. -/
def prd (c : Dev Cert.SampleBIdeal.nD) (R : Fin 128) (l : Fin 3632) : EReal :=
  col (xrow m c R) (fun k => arg1 m c (ix1 k)) (fun k => arg2 m c (ix2 k l))

/-- The kernel's columns among the reference's: queries twice, gates of the output, keys and values, gates of the branches. -/
theorem uu_q (c : Dev Cert.SampleBIdeal.nD) (R : Fin 128) (l : Fin 5376) (h : l.val < 1024) :
    uu m c R l = prd m c R ⟨l.val, by omega⟩ := by
  unfold uu prd
  refine congrArg (col _ _) (funext fun k => ?_)
  unfold wcol
  rw [dif_pos h]
theorem uu_r (c : Dev Cert.SampleBIdeal.nD) (R : Fin 128) (l : Fin 5376) (h0 : ¬l.val < 1024) (h : l.val < 2048) :
    uu m c R l = prd m c R ⟨l.val - 1024, by omega⟩ := by
  unfold uu prd
  refine congrArg (col _ _) (funext fun k => ?_)
  unfold wcol
  rw [dif_neg h0, dif_pos h]
theorem uu_z (c : Dev Cert.SampleBIdeal.nD) (R : Fin 128) (l : Fin 5376) (h0 : ¬l.val < 2048) (h : l.val < 3072) :
    uu m c R l = prd m c R ⟨560 + l.val, by omega⟩ := by
  unfold uu prd
  refine congrArg (col _ _) (funext fun k => ?_)
  unfold wcol
  rw [dif_neg (show ¬l.val < 1024 by omega), dif_neg h0, dif_pos h]
theorem uu_k (c : Dev Cert.SampleBIdeal.nD) (R : Fin 128) (l : Fin 5376) (h0 : ¬l.val < 3072) (h : l.val < 4608) :
    uu m c R l = prd m c R ⟨l.val - 2048, by omega⟩ := by
  unfold uu prd
  refine congrArg (col _ _) (funext fun k => ?_)
  unfold wcol
  rw [dif_neg (show ¬l.val < 1024 by omega), dif_neg (show ¬l.val < 2048 by omega), dif_neg h0, dif_pos h]
theorem uu_g (c : Dev Cert.SampleBIdeal.nD) (R : Fin 128) (l : Fin 5376) (h0 : ¬l.val < 4608) (h : (l.val - 4608) % 128 < 8) :
    uu m c R l = prd m c R ⟨2560 + 8 * ((l.val - 4608) / 128) + (l.val - 4608) % 128, by omega⟩ := by
  unfold uu prd
  refine congrArg (col _ _) (funext fun k => ?_)
  unfold wcol
  rw [dif_neg (show ¬l.val < 1024 by omega), dif_neg (show ¬l.val < 2048 by omega), dif_neg (show ¬l.val < 3072 by omega), dif_neg h0, dif_pos h]
/-- The lanes beside the gates meet columns of zeros. -/
theorem uu_0 (c : Dev Cert.SampleBIdeal.nD) (R : Fin 128) (l : Fin 5376) (h0 : ¬l.val < 4608) (h : ¬(l.val - 4608) % 128 < 8) :
    uu m c R l = 0 := by
  unfold uu col
  refine Finset.sum_eq_zero fun k _ => ?_
  unfold wcol
  dsimp only
  rw [dif_neg (show ¬l.val < 1024 by omega), dif_neg (show ¬l.val < 2048 by omega), dif_neg (show ¬l.val < 3072 by omega), dif_neg h0, dif_neg h, mul_zero]
/-- The logistic function of zero is a half. -/
theorem logistic_0 : Ideal.logistic 0 = Ideal.ofBits .f32 0x3F000000#32 := by
  have e : Ideal.ofBits .f32 0x3F000000#32 = ((1 / 2 : ℝ) : EReal) := by
    simp [Ideal.ofBits, Ideal.ieee, -EReal.coe_mul]; norm_num
  rw [e]
  unfold Ideal.logistic
  have e1 : Ideal.exp (-0) = ((1 : ℝ) : EReal) := by
    rw [neg_zero]
    show ((Real.exp 0 : ℝ) : EReal) = _
    rw [Real.exp_zero]
  have e2 : (1 : EReal) + ((1 : ℝ) : EReal) = ((2 : ℝ) : EReal) := by
    rw [← EReal.coe_one, ← EReal.coe_add]; norm_num
  rw [e1, e2]
  refine (Ideal.div_coe (y := 2) (by norm_num) 1).trans ?_
  rw [← EReal.coe_one, ← EReal.coe_mul, one_mul]

/-- A row's head of the kernel's product. -/
theorem head_q (c : Dev Cert.SampleBIdeal.nD) (R : Fin 128) (l : Fin 5376) (h : l.val < 1024) :
    uhead m c R l = fun d => prd m c R ⟨64 * (l.val / 64) + d.val, by omega⟩ :=
  funext fun d => uu_q m c R _ (show 64 * (l.val / 64) + d.val < 1024 by omega)
theorem head_r (c : Dev Cert.SampleBIdeal.nD) (R : Fin 128) (l : Fin 5376) (h0 : ¬l.val < 1024) (h : l.val < 2048) :
    uhead m c R l = fun d => prd m c R ⟨64 * ((l.val - 1024) / 64) + d.val, by omega⟩ :=
  funext fun d => (uu_r m c R _ (show ¬64 * (l.val / 64) + d.val < 1024 by omega)
    (show 64 * (l.val / 64) + d.val < 2048 by omega)).trans
      (congrArg (prd m c R) (Fin.ext (show 64 * (l.val / 64) + d.val - 1024 = 64 * ((l.val - 1024) / 64) + d.val by omega)))
theorem head_k0 (c : Dev Cert.SampleBIdeal.nD) (R : Fin 128) (l : Fin 5376) (h0 : ¬l.val < 3072) (h : l.val < 3328) :
    uhead m c R l = fun d => prd m c R ⟨1024 + (64 * ((l.val - 3072) / 64) + d.val), by omega⟩ :=
  funext fun d => (uu_k m c R _ (show ¬64 * (l.val / 64) + d.val < 3072 by omega)
    (show 64 * (l.val / 64) + d.val < 4608 by omega)).trans
      (congrArg (prd m c R) (Fin.ext
        (show 64 * (l.val / 64) + d.val - 2048 = 1024 + (64 * ((l.val - 3072) / 64) + d.val) by omega)))
theorem head_k1 (c : Dev Cert.SampleBIdeal.nD) (R : Fin 128) (l : Fin 5376) (h0 : ¬l.val < 3584) (h : l.val < 3840) :
    uhead m c R l = fun d => prd m c R ⟨1536 + (64 * ((l.val - 3584) / 64) + d.val), by omega⟩ :=
  funext fun d => (uu_k m c R _ (show ¬64 * (l.val / 64) + d.val < 3072 by omega)
    (show 64 * (l.val / 64) + d.val < 4608 by omega)).trans
      (congrArg (prd m c R) (Fin.ext
        (show 64 * (l.val / 64) + d.val - 2048 = 1536 + (64 * ((l.val - 3584) / 64) + d.val) by omega)))
theorem head_k2 (c : Dev Cert.SampleBIdeal.nD) (R : Fin 128) (l : Fin 5376) (h0 : ¬l.val < 4096) (h : l.val < 4352) :
    uhead m c R l = fun d => prd m c R ⟨2048 + (64 * ((l.val - 4096) / 64) + d.val), by omega⟩ :=
  funext fun d => (uu_k m c R _ (show ¬64 * (l.val / 64) + d.val < 3072 by omega)
    (show 64 * (l.val / 64) + d.val < 4608 by omega)).trans
      (congrArg (prd m c R) (Fin.ext
        (show 64 * (l.val / 64) + d.val - 2048 = 2048 + (64 * ((l.val - 4096) / 64) + d.val) by omega)))

open Cert.RefSBIdeal.Body (layout)

set_option maxHeartbeats 1000000 in
/-- The kernel's row in the reference's layout. -/
theorem spec_layout (c : Dev Cert.SampleBIdeal.nD) (R : Fin 128) (l : Fin 5376) :
    spec m c R l = layout (8192 + R.val % 4) (prd m c R) (fun d => arg3 m c (ix1 d)) (fun d => arg4 m c (ix1 d)) l := by
  have hl := l.isLt
  unfold spec layout
  by_cases h0 : l.val < 1024
  · rw [if_pos h0, dif_pos h0, head_q m c R l h0]
  rw [if_neg h0, dif_neg h0]
  by_cases h1 : l.val < 2048
  · rw [if_pos h1, dif_pos h1, head_r m c R l h0 h1]
    exact congrArg _ (Fin.ext (show l.val % 64 = (l.val - 1024) % 64 by omega))
  rw [if_neg h1, dif_neg h1]
  by_cases h2 : l.val < 3072
  · rw [if_pos h2, dif_pos h2, uu_z m c R l h1 h2]
    exact congrArg (prd m c R) (Fin.ext (show 560 + l.val = 2608 + (l.val - 2048) by omega))
  rw [if_neg h2, dif_neg h2]
  by_cases h3 : l.val < 3328
  · rw [if_pos h3, dif_pos h3, head_k0 m c R l h2 h3]
    exact congrArg _ (Fin.ext (show l.val % 64 = (l.val - 3072) % 64 by omega))
  rw [if_neg h3, dif_neg h3]
  by_cases h4 : l.val < 3584
  · rw [if_pos h4, dif_pos h4, uu_k m c R l (by omega) (by omega)]
    exact congrArg (prd m c R) (Fin.ext (show l.val - 2048 = 1280 + (l.val - 3328) by omega))
  rw [if_neg h4, dif_neg h4]
  by_cases h5 : l.val < 3840
  · rw [if_pos h5, dif_pos h5, head_k1 m c R l h4 h5]
    exact congrArg _ (Fin.ext (show l.val % 64 = (l.val - 3584) % 64 by omega))
  rw [if_neg h5, dif_neg h5]
  by_cases h6 : l.val < 4096
  · rw [if_pos h6, dif_pos h6, uu_k m c R l (by omega) (by omega)]
    exact congrArg (prd m c R) (Fin.ext (show l.val - 2048 = 1792 + (l.val - 3840) by omega))
  rw [if_neg h6, dif_neg h6]
  by_cases h7 : l.val < 4352
  · rw [if_pos h7, dif_pos h7, head_k2 m c R l h6 h7]
    exact congrArg _ (Fin.ext (show l.val % 64 = (l.val - 4096) % 64 by omega))
  rw [if_neg h7, dif_neg h7]
  by_cases h8 : l.val < 4608
  · rw [if_pos h8, dif_pos h8, uu_k m c R l (by omega) (by omega)]
    exact congrArg (prd m c R) (Fin.ext (show l.val - 2048 = 2304 + (l.val - 4352) by omega))
  rw [if_neg h8, dif_neg h8]
  by_cases h9 : (l.val - 4608) % 128 < 8
  · rw [dif_pos h9, uu_g m c R l h8 h9]
    exact congrArg (fun j => Ideal.logistic (prd m c R j)) (Fin.ext
      (show 2560 + 8 * ((l.val - 4608) / 128) + (l.val - 4608) % 128 = 2560 + (8 * ((l.val - 4608) / 128) + (l.val - 4608) % 128) by omega))
  · rw [dif_neg h9, uu_0 m c R l h8 h9, logistic_0]

/-- What the kernel leaves is the reference's array of the same arguments. -/
theorem spec_eq (c : Dev Cert.SampleBIdeal.nD) (R : Fin 128) (l : Fin 5376) :
    spec m c R l = Cert.RefSBIdeal.Read.val_main_v196 (F := Ideal) (arg0 m c) (arg1 m c) (arg2 m c) (arg3 m c) (arg4 m c) (ix2 R l) := by
  refine Eq.trans ?_ (Cert.RefSBIdeal.Body.out_apply _ _ _ _ _ R l).symm
  rw [spec_layout]
  simp only [Cert.RefSBIdeal.Body.prod_apply]
  rfl

theorem whole_eq (c : Dev Cert.SampleBIdeal.nD) :
    whole m c = Cert.RefSBIdeal.Read.val_main_v196 (F := Ideal) (arg0 m c) (arg1 m c) (arg2 m c) (arg3 m c) (arg4 m c) := by
  funext i
  have hi : ix2 (i 0) (i 1) = i := funext fun a => by fin_cases a <;> rfl
  exact (spec_eq m c (i 0) (i 1)).trans (congrArg _ hi)

theorem algebraic [hK : Cert.SampleBIdeal.Facts] [hR : Cert.RefSBIdeal.Facts] :
    Cert.algebraic_SampleBIdeal_RefSBIdeal := by
  intro m g m' g' _ hagree
  refine ⟨fun c => whole m c, ?_, ?_⟩
  · refine (θ_run Cert.SampleBIdeal.defs _ _).mono (fun _ h c => ?_) (Cert.SampleBIdeal.Value.run_blocks (F := Ideal) m g)
    obtain ⟨h0, h1⟩ := h c
    exact ⟨h0.trans (final m c), h1⟩
  · refine (θ_run Cert.RefSBIdeal.defs _ _).mono (fun _ h c => ?_) (Cert.RefSBIdeal.Value.run (F := Ideal) m' g')
    obtain ⟨h0, h1⟩ := h c
    refine ⟨h0.trans ?_, h1⟩
    obtain ⟨a0, a1, a2, a3, a4⟩ := hagree c
    rw [Cert.RefSBIdeal.Read.val_main_v196_eq]
    show Cert.RefSBIdeal.Read.val_main_v196 (F := Ideal) (m' (c.tc.loc Cert.RefSBIdeal.main_arg0))
      (m' (c.tc.loc Cert.RefSBIdeal.main_arg1)) (m' (c.tc.loc Cert.RefSBIdeal.main_arg2))
      (m' (c.tc.loc Cert.RefSBIdeal.main_arg3)) (m' (c.tc.loc Cert.RefSBIdeal.main_arg4)) = _
    rw [a0, a1, a2, a3, a4]
    exact (whole_eq m c).symm

end Cert.Proof.SampleB

end
-- ==== Proof.SMergeBValue.lean ====
/-
  The sample's output merge of the second mixer: what a tile holds, and the array after the run. Each row of the result is the row of the layer's
  input plus the product of the merged and gated branches with the output weights.
-/
module

public import proofs.«01_k».proof.Proof.Gen.SMergeBIdeal.Value
public import proofs.«01_k».proof.Proof.MergeMath
public import Idealize.ShloMosaic.Lib.Pointwise
public import Idealize.ShloMosaic.Lib.StableHlo.ReadAt
public import Idealize.ShloMosaic.Lib.Tactic

@[expose] public section

set_option maxRecDepth 16384

noncomputable section

namespace Cert.SMergeBIdeal.Body

open Cert.SMergeBIdeal Cert.SMergeBIdeal.Gen Idealize.ShloMosaic Idealize.ShloMosaic.TcCoe Idealize.SL.Sem Cert.Merge

variable (m : (ℓ : Loc nD τ sig) → Buf (Elt Ideal) ℓ)
abbrev arg0 (c : Dev nD) : Vec Ideal S128x1024 .f32 := m ((c : Thread nD τ).loc main_arg0)
abbrev arg1 (c : Dev nD) : Vec Ideal S128x1024 .f32 := m ((c : Thread nD τ).loc main_arg1)
abbrev arg2 (c : Dev nD) : Vec Ideal S128x1024 .f32 := m ((c : Thread nD τ).loc main_arg2)
abbrev arg3 (c : Dev nD) : Vec Ideal S128x5376 .f32 := m ((c : Thread nD τ).loc main_arg3)
abbrev arg4 (c : Dev nD) : Vec Ideal S128x1024 .f32 := m ((c : Thread nD τ).loc main_arg4)
abbrev arg5 (c : Dev nD) : Vec Ideal S1024x1024 .f32 := m ((c : Thread nD τ).loc main_arg5)

/-- What the call returns at row `R`, column `l`. -/
def spec (c : Dev nD) (R : Fin 128) (l : Fin 1024) : EReal :=
  project (arg4 m c (ix2 R l)) (fun k : Fin 1024 => arg0 m c (ix2 R k) + arg1 m c (ix2 R k) + arg2 m c (ix2 R k))
    (fun k => arg3 m c (ix2 R ⟨2048 + k.val, by omega⟩)) (fun k => arg5 m c (ix2 k l))

theorem weight_apply (c : Dev nD) (k : Fin 1024) (l : Fin 1024) :
    (V m c main_v0 : Vec Ideal S1024x1024 .bf16) (ix2 k l) = arg5 m c (ix2 k l) := by
  unfold V
  after_reads_at

theorem pay_apply (o0 o1 o2 x z : Vec Ideal S128x1024 .f32) (w : Vec Ideal S1024x1024 .bf16) (r : Fin 128) (l : Fin 1024) :
    k0_pay1 o0 o1 o2 x z w (ix2 r l) = project (x (ix2 r l)) (fun k => o0 (ix2 r k) + o1 (ix2 r k) + o2 (ix2 r k))
      (fun k => z (ix2 r k)) (fun k => w (ix2 k l)) := by
  unfold project
  pointwise [k0_pay1]

/-- Row of the array that a point's block has at `r`. -/
abbrev rowAt (t : Fin cfg0.N) (r : Fin 128) : Fin 128 := ⟨128 * t.val + r.val, by have : t.val < 1 := t.isLt; omega⟩

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = t.val ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)
theorem idx_3 : ∀ t : Fin cfg0.N, win0_3.index t (0 : Fin 2) = t.val ∧ win0_3.index t (1 : Fin 2) = 2 :=
  (by decide +kernel : ∀ t : Fin grid0.N, _)
theorem idx_4 : ∀ t : Fin cfg0.N, win0_4.index t (0 : Fin 2) = t.val ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = t.val ∧ win0_6.index t (1 : Fin 2) = 0 :=
  (by decide +kernel : ∀ t : Fin grid0.N, _)

theorem read_0 (c : Dev nD) (t : Fin cfg0.N) (r : Fin 128) (k : Fin 1024) :
    (iblk m c 0 t : Vec Ideal S128x1024 .f32) (ix2 r k) = arg0 m c (ix2 (rowAt t r) k) := by
  obtain ⟨e0, e1⟩ := idx_0 t
  refine Eq.trans ?_ (congrFun (V_main_arg0 m c) _)
  unfold iblk
  rw [View.read_apply]
  show V m c main_arg0 _ = V m c main_arg0 _
  refine congrArg (V m c main_arg0) (funext fun a => Fin.ext ?_)
  match a with
  | ⟨0, _⟩ => show win0_0.index t 0 * 128 + 1 * r.val = 128 * t.val + r.val; rw [e0]; omega
  | ⟨1, _⟩ => show win0_0.index t 1 * 1024 + 1 * k.val = k.val; rw [e1]; omega

theorem read_1 (c : Dev nD) (t : Fin cfg0.N) (r : Fin 128) (k : Fin 1024) :
    (iblk m c 1 t : Vec Ideal S128x1024 .f32) (ix2 r k) = arg1 m c (ix2 (rowAt t r) k) := by
  obtain ⟨e0, e1⟩ := idx_1 t
  refine Eq.trans ?_ (congrFun (V_main_arg1 m c) _)
  unfold iblk
  rw [View.read_apply]
  show V m c main_arg1 _ = V m c main_arg1 _
  refine congrArg (V m c main_arg1) (funext fun a => Fin.ext ?_)
  match a with
  | ⟨0, _⟩ => show win0_1.index t 0 * 128 + 1 * r.val = 128 * t.val + r.val; rw [e0]; omega
  | ⟨1, _⟩ => show win0_1.index t 1 * 1024 + 1 * k.val = k.val; rw [e1]; omega

theorem read_2 (c : Dev nD) (t : Fin cfg0.N) (r : Fin 128) (k : Fin 1024) :
    (iblk m c 2 t : Vec Ideal S128x1024 .f32) (ix2 r k) = arg2 m c (ix2 (rowAt t r) k) := by
  obtain ⟨e0, e1⟩ := idx_2 t
  refine Eq.trans ?_ (congrFun (V_main_arg2 m c) _)
  unfold iblk
  rw [View.read_apply]
  show V m c main_arg2 _ = V m c main_arg2 _
  refine congrArg (V m c main_arg2) (funext fun a => Fin.ext ?_)
  match a with
  | ⟨0, _⟩ => show win0_2.index t 0 * 128 + 1 * r.val = 128 * t.val + r.val; rw [e0]; omega
  | ⟨1, _⟩ => show win0_2.index t 1 * 1024 + 1 * k.val = k.val; rw [e1]; omega

theorem read_3 (c : Dev nD) (t : Fin cfg0.N) (r : Fin 128) (k : Fin 1024) :
    (X0_3 m c t : Vec Ideal S128x1024 .f32) (ix2 r k) = arg3 m c (ix2 (rowAt t r) ⟨2048 + k.val, by omega⟩) := by
  obtain ⟨e0, e1⟩ := idx_3 t
  refine Eq.trans ?_ (congrFun (V_main_arg3 m c) _)
  unfold X0_3 Pipeline.Window.fill iblk
  rw [dif_pos (moved0_3 t _), View.read_apply]
  show V m c main_arg3 _ = V m c main_arg3 _
  refine congrArg (V m c main_arg3) (funext fun a => Fin.ext ?_)
  match a with
  | ⟨0, _⟩ => show win0_3.index t 0 * 128 + 1 * r.val = 128 * t.val + r.val; rw [e0]; omega
  | ⟨1, _⟩ => show win0_3.index t 1 * 1024 + 1 * k.val = 2048 + k.val; rw [e1]; omega

theorem read_4 (c : Dev nD) (t : Fin cfg0.N) (r : Fin 128) (l : Fin 1024) :
    (iblk m c 4 t : Vec Ideal S128x1024 .f32) (ix2 r l) = arg4 m c (ix2 (rowAt t r) l) := by
  obtain ⟨e0, e1⟩ := idx_4 t
  refine Eq.trans ?_ (congrFun (V_main_arg4 m c) _)
  unfold iblk
  rw [View.read_apply]
  show V m c main_arg4 _ = V m c main_arg4 _
  refine congrArg (V m c main_arg4) (funext fun a => Fin.ext ?_)
  match a with
  | ⟨0, _⟩ => show win0_4.index t 0 * 128 + 1 * r.val = 128 * t.val + r.val; rw [e0]; omega
  | ⟨1, _⟩ => show win0_4.index t 1 * 1024 + 1 * l.val = l.val; rw [e1]; omega

theorem read_5 (c : Dev nD) (t : Fin cfg0.N) (k : Fin 1024) (l : Fin 1024) :
    (iblk m c 5 t : Vec Ideal S1024x1024 .bf16) (ix2 k l) = arg5 m c (ix2 k l) := by
  obtain ⟨e0, e1⟩ := idx_5 t
  refine Eq.trans ?_ (weight_apply m c k l)
  unfold iblk
  rw [View.read_apply]
  show V m c main_v0 _ = V m c main_v0 _
  refine congrArg (V m c main_v0) (funext fun a => Fin.ext ?_)
  match a with
  | ⟨0, _⟩ => show win0_5.index t 0 * 1024 + 1 * k.val = k.val; rw [e0]; omega
  | ⟨1, _⟩ => show win0_5.index t 1 * 1024 + 1 * l.val = l.val; rw [e1]; omega

theorem hz2 : (![0, 0] : Fin 2 → Nat) = fun _ => 0 := funext fun a => by fin_cases a <;> rfl

/-- What a point stores. -/
theorem stored (c : Dev nD) (t : Fin cfg0.N) : outsAt0 m c t = k0_pay1 (iblk m c 0 t) (iblk m c 1 t) (iblk m c 2 t) (iblk m c 4 t) (X0_3 m c t) (iblk m c 5 t) := by
  unfold outsAt0 out0_A_6
  refine (View.read_writes_eq_canon _ _ _ (fun _ => cover0_A_6 ..)).trans ?_
  unfold kernelRun0_A
  dsimp only
  sl_unfold_words
  rw [View.canon_unit_zero hz2]
  simp only [View.readAt_eq_ld, (hs0_0 t).read_unread, (hs0_1 t).read_unread, (hs0_2 t).read_unread, (hs0_3 t).read_unread, (hs0_4 t).read_unread, (hs0_5 t).read_unread,
    View.ld_unit_zero (S := S128x1024) hz2, View.ld_unit_zero (S := S1024x1024) hz2]

/-- The tile a point writes. -/
theorem tile (c : Dev nD) (t : Fin cfg0.N) (r : Fin 128) (l : Fin 1024) :
    (outsAt0 m c t : Vec Ideal S128x1024 .f32) (ix2 r l) = spec m c (rowAt t r) l := by
  rw [stored, pay_apply, read_4]
  simp only [read_0, read_1, read_2, read_3, read_5]
  rfl

/-- The whole array. -/
def whole (c : Dev nD) : Vec Ideal S128x1024 .f32 := fun i => spec m c (i 0) (i 1)

theorem flushed_eq (c : Dev nD) (t : Fin cfg0.N) (_hf : (cfg0.win 6).flush t = true) :
    (dats m 0 c).flushed 6 t = ((cfg0.win 6).blk t).view.read (Elt Ideal) (whole m c) := by
  obtain ⟨e0, e1⟩ := idx_6 t
  rw [Cert.SMergeBIdeal.Value.flushed6]
  funext y
  have hy0 : (y 0).val < 128 := (y 0).isLt
  have hy1 : (y 1).val < 1024 := (y 1).isLt
  have hb0 : (((cfg0.win 6).blk t).view.emb y 0).val = win0_6.index t (0 : Fin 2) * 128 + 1 * (y 0).val := rfl
  have hb1 : (((cfg0.win 6).blk t).view.emb y 1).val = win0_6.index t (1 : Fin 2) * 1024 + 1 * (y 1).val := rfl
  rw [View.read_apply]
  unfold Pipeline.Window.cut
  have hx : (cfg0.win 6).xinj (grid0.coords t) y = ix2 ⟨(y 0).val, hy0⟩ ⟨(y 1).val, hy1⟩ :=
    funext fun a => Fin.ext (by match a with | ⟨0, _⟩ => rfl | ⟨1, _⟩ => rfl)
  refine (congrArg (outsAt0 m c t : Vec Ideal S128x1024 .f32) hx).trans ?_
  rw [tile]
  show _ = spec m c (((cfg0.win 6).blk t).view.emb y 0) (((cfg0.win 6).blk t).view.emb y 1)
  rw [e0] at hb0
  rw [e1] at hb1
  have q0 : (((cfg0.win 6).blk t).view.emb y 0 : Fin 128) = rowAt t ⟨(y 0).val, hy0⟩ :=
    Fin.ext (by rw [hb0]; show t.val * 128 + 1 * (y 0).val = 128 * t.val + (y 0).val; omega)
  have q1 : (((cfg0.win 6).blk t).view.emb y 1 : Fin 1024) = ⟨(y 1).val, hy1⟩ :=
    Fin.ext (by rw [hb1]; show 0 * 1024 + 1 * (y 1).val = (y 1).val; omega)
  exact congr (congrArg (spec m c) q0.symm) q1.symm

theorem flush_all : ∀ t : Fin cfg0.N, (cfg0.win 6).flush t = true :=
  (by decide +kernel : ∀ t : Fin grid0.N, win0_6.flush t = true)

/-- The array after the run. -/
theorem final (c : Dev nD) : (dats m 0 c).arrAt 6 cfg0.N = whole m c :=
  (dats m 0 c).arrAt_eq_of_cover 6 (whole m c) (flushed_eq m c) fun j => by
    have h0 : (j 0 : Nat) < 128 := (j 0).isLt
    have h1 : (j 1 : Nat) < 1024 := (j 1).isLt
    have hN : (j 0 : Nat) / 128 < cfg0.N := (show (j 0 : Nat) / 128 < 1 by omega)
    obtain ⟨e0, e1⟩ := idx_6 ⟨(j 0 : Nat) / 128, hN⟩
    refine ⟨⟨(j 0 : Nat) / 128, hN⟩, flush_all _, ?_⟩
    show j ∈ ((View.whole main_v1).slice (win0_6.rect ⟨(j 0 : Nat) / 128, hN⟩)).set
    rw [View.set_slice_whole, Rect.mem_set_unit]
    intro a
    match a with
    | ⟨0, _⟩ => show win0_6.index ⟨(j 0 : Nat) / 128, hN⟩ 0 * 128 ≤ (j 0 : Nat) ∧ (j 0 : Nat) < win0_6.index ⟨(j 0 : Nat) / 128, hN⟩ 0 * 128 + 128
                rw [e0]; dsimp only; omega
    | ⟨1, _⟩ => show win0_6.index ⟨(j 0 : Nat) / 128, hN⟩ 1 * 1024 ≤ (j 1 : Nat) ∧ (j 1 : Nat) < win0_6.index ⟨(j 0 : Nat) / 128, hN⟩ 1 * 1024 + 1024
                rw [e1]; dsimp only; omega

end Cert.SMergeBIdeal.Body

end
-- ==== Proof.SMergeBClaim.lean ====
/-
  The value claim of the second mixer's output merge of the sample: the kernel and the reference leave one array.
-/
module

public import proofs.«01_k».proof.Defs
public import proofs.«01_k».proof.Proof.SMergeBValue
public import proofs.«01_k».proof.Proof.Gen.RefSMBIdeal.Read
public import proofs.«01_k».proof.Proof.Gen.RefSMBIdeal.Run
public import Idealize.ShloMosaic.Lib.Pointwise

@[expose] public section

set_option maxRecDepth 16384

noncomputable section

namespace Cert.RefSMBIdeal.Body

open Cert.RefSMBIdeal Cert.RefSMBIdeal.Read Idealize.ShloMosaic Idealize.SL.Sem Cert.Merge

/-- The gate of a branch element. -/
theorem gate_apply (u : Vec Ideal S128x5376 .f32) (R : Fin 128) (k : Fin 1024) :
    val_main_v3 (F := Ideal) u (ix2 R k) = u (ix2 R ⟨2048 + k.val, by omega⟩) * Ideal.logistic (u (ix2 R ⟨2048 + k.val, by omega⟩)) := by
  have e : idx_main_v2 (ix2 R k) = ix2 R (⟨2048 + k.val, by omega⟩ : Fin 5376) := funext fun a => by
    match a with
    | ⟨0, _⟩ => exact Fin.ext rfl
    | ⟨1, _⟩ => exact Fin.ext rfl
  rw [val_main_v3_apply, val_main_call0_v5_apply, val_main_call0_v4_apply, val_main_call0_cst_0_apply, val_main_call0_v3_apply, val_main_call0_v2_apply,
    val_main_call0_cst_apply, val_main_call0_v1_apply, val_main_call0_v0_apply, val_main_v2_apply, e]
  generalize u (ix2 R (⟨2048 + k.val, by omega⟩ : Fin 5376)) = z
  show z * Ideal.div (Ideal.ofBits .f32 0x3F800000#32) (Ideal.ofBits .f32 0x3F800000#32 + Ideal.exp (-z)) = z * Ideal.logistic z
  rw [Ideal.ofBits_one_f32]
  rfl

/-- The reference's element. -/
theorem out_apply (a0 a1 a2 : Vec Ideal S128x1024 .f32) (u : Vec Ideal S128x5376 .f32) (x : Vec Ideal S128x1024 .f32)
    (w : Vec Ideal S1024x1024 .f32) (R : Fin 128) (l : Fin 1024) :
    val_main_v6 (F := Ideal) a0 a1 a2 u x w (ix2 R l) = project (x (ix2 R l)) (fun k : Fin 1024 => a0 (ix2 R k) + a1 (ix2 R k) + a2 (ix2 R k))
      (fun k => u (ix2 R ⟨2048 + k.val, by omega⟩)) (fun k => w (ix2 k l)) := by
  rw [val_main_v6_apply, val_main_v5_apply]
  refine congrArg (x (ix2 R l) + ·) (Finset.sum_congr rfl fun k _ => ?_)
  have el : lidx_main_v5 (ix2 R l) k = ix2 R k := funext fun a => by fin_cases a <;> rfl
  have er : ridx_main_v5 (ix2 R l) k = ix2 k l := funext fun a => by fin_cases a <;> rfl
  rw [el, er]
  refine congrArg (· * w (ix2 k l)) ?_
  rw [val_main_v4_apply, gate_apply, val_main_v1_apply, val_main_v0_apply]
  rfl

end Cert.RefSMBIdeal.Body

namespace Cert.Proof.SMergeB

open Idealize.ShloMosaic Idealize.ShloMosaic.TcCoe Idealize.SL.Sem Cert.SMergeBIdeal.Body

variable (m : (ℓ : Loc Cert.SMergeBIdeal.nD Cert.SMergeBIdeal.τ Cert.SMergeBIdeal.sig) → Buf (Elt Ideal) ℓ)

theorem whole_eq (c : Dev Cert.SMergeBIdeal.nD) :
    whole m c = Cert.RefSMBIdeal.Read.val_main_v6 (F := Ideal) (arg0 m c) (arg1 m c) (arg2 m c) (arg3 m c) (arg4 m c) (arg5 m c) := by
  funext i
  have hi : ix2 (i 0) (i 1) = i := funext fun a => by fin_cases a <;> rfl
  exact (Cert.RefSMBIdeal.Body.out_apply (arg0 m c) (arg1 m c) (arg2 m c) (arg3 m c) (arg4 m c) (arg5 m c) (i 0) (i 1)).symm.trans (congrArg _ hi)

theorem algebraic [hK : Cert.SMergeBIdeal.Facts] [hR : Cert.RefSMBIdeal.Facts] :
    Cert.algebraic_SMergeBIdeal_RefSMBIdeal := by
  intro m g m' g' _ hagree
  refine ⟨fun c => whole m c, ?_, ?_⟩
  · refine (θ_run Cert.SMergeBIdeal.defs _ _).mono (fun _ h c => ?_) (Cert.SMergeBIdeal.Value.run_blocks (F := Ideal) m g)
    obtain ⟨h0, h1⟩ := h c
    exact ⟨h0.trans (final m c), h1⟩
  · refine (θ_run Cert.RefSMBIdeal.defs _ _).mono (fun _ h c => ?_) (Cert.RefSMBIdeal.Value.run (F := Ideal) m' g')
    obtain ⟨h0, h1⟩ := h c
    refine ⟨h0.trans ?_, h1⟩
    obtain ⟨a0, a1, a2, a3, a4, a5⟩ := hagree c
    rw [Cert.RefSMBIdeal.Read.val_main_v6_eq]
    show Cert.RefSMBIdeal.Read.val_main_v6 (F := Ideal) (m' (c.tc.loc Cert.RefSMBIdeal.main_arg0)) (m' (c.tc.loc Cert.RefSMBIdeal.main_arg1)) (m' (c.tc.loc Cert.RefSMBIdeal.main_arg2)) (m' (c.tc.loc Cert.RefSMBIdeal.main_arg3)) (m' (c.tc.loc Cert.RefSMBIdeal.main_arg4)) (m' (c.tc.loc Cert.RefSMBIdeal.main_arg5)) = _
    rw [a0, a1, a2, a3, a4, a5]
    exact (whole_eq m c).symm

end Cert.Proof.SMergeB

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ProjA
public import proofs.«01_k».proof.Proof.Gen.ProjA.Skeleton
public import proofs.«01_k».proof.Proof.Gen.ProjA.Launch
public import proofs.«01_k».proof.Proof.Gen.ProjA.Points
public import proofs.«01_k».proof.Proof.Gen.ProjA.Frame
public import proofs.«01_k».proof.Proof.Gen.ProjAIdeal
public import proofs.«01_k».proof.Proof.Gen.ProjAIdeal.Skeleton
public import proofs.«01_k».proof.Proof.Gen.ProjAIdeal.Launch
public import proofs.«01_k».proof.Proof.Gen.ProjAIdeal.Points
public import proofs.«01_k».proof.Proof.Gen.ProjAIdeal.Frame
public import proofs.«01_k».proof.Proof.Gen.RefAIdeal
public import proofs.«01_k».proof.Proof.Gen.ProjB
public import proofs.«01_k».proof.Proof.Gen.ProjB.Skeleton
public import proofs.«01_k».proof.Proof.Gen.ProjB.Launch
public import proofs.«01_k».proof.Proof.Gen.ProjB.Points
public import proofs.«01_k».proof.Proof.Gen.ProjB.Frame
public import proofs.«01_k».proof.Proof.Gen.ProjBIdeal
public import proofs.«01_k».proof.Proof.Gen.ProjBIdeal.Skeleton
public import proofs.«01_k».proof.Proof.Gen.ProjBIdeal.Launch
public import proofs.«01_k».proof.Proof.Gen.ProjBIdeal.Points
public import proofs.«01_k».proof.Proof.Gen.ProjBIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ProjAIdeal.Value
public import proofs.«01_k».proof.Proof.Gen.RefAIdeal.Run
public import proofs.«01_k».proof.Proof.Gen.RefAIdeal.Read
public import proofs.«01_k».proof.Proof.Gen.ProjBIdeal.Value
public import Idealize.ShloMosaic.Adequacy
public import Idealize.ShloMosaic.Init
public import proofs.«01_k».proof.Proof.Gen.RefBIdeal
public import proofs.«01_k».proof.Proof.Gen.RefBIdeal.Run
public import proofs.«01_k».proof.Proof.Gen.RefBIdeal.Read
public import proofs.«01_k».proof.Proof.Gen.MergeA
public import proofs.«01_k».proof.Proof.Gen.MergeA.Skeleton
public import proofs.«01_k».proof.Proof.Gen.MergeA.Launch
public import proofs.«01_k».proof.Proof.Gen.MergeA.Points
public import proofs.«01_k».proof.Proof.Gen.MergeA.Frame
public import proofs.«01_k».proof.Proof.Gen.MergeAIdeal
public import proofs.«01_k».proof.Proof.Gen.MergeAIdeal.Skeleton
public import proofs.«01_k».proof.Proof.Gen.MergeAIdeal.Launch
public import proofs.«01_k».proof.Proof.Gen.MergeAIdeal.Points
public import proofs.«01_k».proof.Proof.Gen.MergeAIdeal.Frame
public import proofs.«01_k».proof.Proof.Gen.MergeAIdeal.Value
public import proofs.«01_k».proof.Proof.Gen.RefMAIdeal
public import proofs.«01_k».proof.Proof.Gen.RefMAIdeal.Run
public import proofs.«01_k».proof.Proof.Gen.RefMAIdeal.Read
public import proofs.«01_k».proof.Proof.Gen.MergeB
public import proofs.«01_k».proof.Proof.Gen.MergeB.Skeleton
public import proofs.«01_k».proof.Proof.Gen.MergeB.Launch
public import proofs.«01_k».proof.Proof.Gen.MergeB.Points
public import proofs.«01_k».proof.Proof.Gen.MergeB.Frame
public import proofs.«01_k».proof.Proof.Gen.MergeBIdeal
public import proofs.«01_k».proof.Proof.Gen.MergeBIdeal.Skeleton
public import proofs.«01_k».proof.Proof.Gen.MergeBIdeal.Launch
public import proofs.«01_k».proof.Proof.Gen.MergeBIdeal.Points
public import proofs.«01_k».proof.Proof.Gen.MergeBIdeal.Frame
public import proofs.«01_k».proof.Proof.Gen.MergeBIdeal.Value
public import proofs.«01_k».proof.Proof.Gen.RefMBIdeal
public import proofs.«01_k».proof.Proof.Gen.RefMBIdeal.Run
public import proofs.«01_k».proof.Proof.Gen.RefMBIdeal.Read
public import proofs.«01_k».proof.Proof.Gen.SampleA
public import proofs.«01_k».proof.Proof.Gen.SampleA.Skeleton
public import proofs.«01_k».proof.Proof.Gen.SampleA.Launch
public import proofs.«01_k».proof.Proof.Gen.SampleA.Points
public import proofs.«01_k».proof.Proof.Gen.SampleA.Frame
public import proofs.«01_k».proof.Proof.Gen.SampleAIdeal
public import proofs.«01_k».proof.Proof.Gen.SampleAIdeal.Skeleton
public import proofs.«01_k».proof.Proof.Gen.SampleAIdeal.Launch
public import proofs.«01_k».proof.Proof.Gen.SampleAIdeal.Points
public import proofs.«01_k».proof.Proof.Gen.SampleAIdeal.Frame
public import proofs.«01_k».proof.Proof.Gen.SampleAIdeal.Value
public import proofs.«01_k».proof.Proof.Gen.RefSAIdeal
public import proofs.«01_k».proof.Proof.Gen.RefSAIdeal.Run
public import proofs.«01_k».proof.Proof.Gen.RefSAIdeal.Read
public import proofs.«01_k».proof.Proof.Gen.SampleB
public import proofs.«01_k».proof.Proof.Gen.SampleB.Skeleton
public import proofs.«01_k».proof.Proof.Gen.SampleB.Launch
public import proofs.«01_k».proof.Proof.Gen.SampleB.Points
public import proofs.«01_k».proof.Proof.Gen.SampleB.Frame
public import proofs.«01_k».proof.Proof.Gen.SampleBIdeal
public import proofs.«01_k».proof.Proof.Gen.SampleBIdeal.Skeleton
public import proofs.«01_k».proof.Proof.Gen.SampleBIdeal.Launch
public import proofs.«01_k».proof.Proof.Gen.SampleBIdeal.Points
public import proofs.«01_k».proof.Proof.Gen.SampleBIdeal.Frame
public import proofs.«01_k».proof.Proof.Gen.SampleBIdeal.Value
public import proofs.«01_k».proof.Proof.Gen.RefSBIdeal
public import proofs.«01_k».proof.Proof.Gen.RefSBIdeal.Run
public import proofs.«01_k».proof.Proof.Gen.RefSBIdeal.Read
public import proofs.«01_k».proof.Proof.Gen.SMergeB
public import proofs.«01_k».proof.Proof.Gen.SMergeB.Skeleton
public import proofs.«01_k».proof.Proof.Gen.SMergeB.Launch
public import proofs.«01_k».proof.Proof.Gen.SMergeB.Points
public import proofs.«01_k».proof.Proof.Gen.SMergeB.Frame
public import proofs.«01_k».proof.Proof.Gen.SMergeBIdeal
public import proofs.«01_k».proof.Proof.Gen.SMergeBIdeal.Skeleton
public import proofs.«01_k».proof.Proof.Gen.SMergeBIdeal.Launch
public import proofs.«01_k».proof.Proof.Gen.SMergeBIdeal.Points
public import proofs.«01_k».proof.Proof.Gen.SMergeBIdeal.Frame
public import proofs.«01_k».proof.Proof.Gen.SMergeBIdeal.Value
public import proofs.«01_k».proof.Proof.Gen.RefSMBIdeal
public import proofs.«01_k».proof.Proof.Gen.RefSMBIdeal.Run
public import proofs.«01_k».proof.Proof.Gen.RefSMBIdeal.Read
public import proofs.«01_k».proof.Proof.CmpClaim
public import proofs.«01_k».proof.Proof.ProjAClaim
public import proofs.«01_k».proof.Proof.ProjBClaim
public import proofs.«01_k».proof.Proof.MergeAClaim
public import proofs.«01_k».proof.Proof.MergeBClaim
public import proofs.«01_k».proof.Proof.SampleAClaim
public import proofs.«01_k».proof.Proof.SampleBClaim
public import proofs.«01_k».proof.Proof.SMergeBClaim

@[expose] public section

noncomputable section

namespace Cert.Proof

open Idealize.ShloMosaic Idealize.SL.Sem Cert.Kernel

/-- A host-only reference runs, keeps its arguments and declares no semaphore. -/
theorem frame_ri : Cert.quiescent_ReferenceIdeal := fun m ρ _ =>
  (θ_run Cert.ReferenceIdeal.defs _ _).mono (fun r h => ⟨fun c => (h c).2,
    Idealize.ShloMosaic.sem_eq_zero_of_no_sems (by decide) r.2⟩) (Cert.ReferenceIdeal.Value.run (F := Ideal) m ρ)

theorem frame_rai : Cert.quiescent_RefAIdeal := fun m ρ _ =>
  (θ_run Cert.RefAIdeal.defs _ _).mono (fun r h => ⟨fun c => (h c).2,
    Idealize.ShloMosaic.sem_eq_zero_of_no_sems (by decide) r.2⟩) (Cert.RefAIdeal.Value.run (F := Ideal) m ρ)

theorem frame_rbi : Cert.quiescent_RefBIdeal := fun m ρ _ =>
  (θ_run Cert.RefBIdeal.defs _ _).mono (fun r h => ⟨fun c => (h c).2,
    Idealize.ShloMosaic.sem_eq_zero_of_no_sems (by decide) r.2⟩) (Cert.RefBIdeal.Value.run (F := Ideal) m ρ)

theorem frame_rmai : Cert.quiescent_RefMAIdeal := fun m ρ _ =>
  (θ_run Cert.RefMAIdeal.defs _ _).mono (fun r h => ⟨fun c => (h c).2,
    Idealize.ShloMosaic.sem_eq_zero_of_no_sems (by decide) r.2⟩) (Cert.RefMAIdeal.Value.run (F := Ideal) m ρ)

theorem frame_rmbi : Cert.quiescent_RefMBIdeal := fun m ρ _ =>
  (θ_run Cert.RefMBIdeal.defs _ _).mono (fun r h => ⟨fun c => (h c).2,
    Idealize.ShloMosaic.sem_eq_zero_of_no_sems (by decide) r.2⟩) (Cert.RefMBIdeal.Value.run (F := Ideal) m ρ)

theorem frame_rsai : Cert.quiescent_RefSAIdeal := fun m ρ _ =>
  (θ_run Cert.RefSAIdeal.defs _ _).mono (fun r h => ⟨fun c => (h c).2,
    Idealize.ShloMosaic.sem_eq_zero_of_no_sems (by decide) r.2⟩) (Cert.RefSAIdeal.Value.run (F := Ideal) m ρ)

theorem frame_rsbi : Cert.quiescent_RefSBIdeal := fun m ρ _ =>
  (θ_run Cert.RefSBIdeal.defs _ _).mono (fun r h => ⟨fun c => (h c).2,
    Idealize.ShloMosaic.sem_eq_zero_of_no_sems (by decide) r.2⟩) (Cert.RefSBIdeal.Value.run (F := Ideal) m ρ)

theorem frame_rsmbi : Cert.quiescent_RefSMBIdeal := fun m ρ _ =>
  (θ_run Cert.RefSMBIdeal.defs _ _).mono (fun r h => ⟨fun c => (h c).2,
    Idealize.ShloMosaic.sem_eq_zero_of_no_sems (by decide) r.2⟩) (Cert.RefSMBIdeal.Value.run (F := Ideal) m ρ)

theorem claim : Cert.Claim :=
  ⟨Cert.Kernel.Gen.facts, Cert.KernelIdeal.Gen.facts, Cert.ReferenceIdeal.Gen.facts, Cert.ProjA.Gen.facts,
    Cert.ProjAIdeal.Gen.facts, Cert.RefAIdeal.Gen.facts, Cert.ProjB.Gen.facts, Cert.ProjBIdeal.Gen.facts,
    Cert.RefBIdeal.Gen.facts, Cert.MergeA.Gen.facts, Cert.MergeAIdeal.Gen.facts, Cert.RefMAIdeal.Gen.facts,
    Cert.MergeB.Gen.facts, Cert.MergeBIdeal.Gen.facts, Cert.RefMBIdeal.Gen.facts,
    Cert.SampleA.Gen.facts, Cert.SampleAIdeal.Gen.facts, Cert.RefSAIdeal.Gen.facts,
    Cert.SampleB.Gen.facts, Cert.SampleBIdeal.Gen.facts, Cert.RefSBIdeal.Gen.facts,
    Cert.SMergeB.Gen.facts, Cert.SMergeBIdeal.Gen.facts, Cert.RefSMBIdeal.Gen.facts,
    fun m ρ _ => Cert.Kernel.Gen.frame m ρ, fun m ρ _ => Cert.KernelIdeal.Gen.frame m ρ, frame_ri,
    fun m ρ _ => Cert.ProjA.Gen.frame m ρ, fun m ρ _ => Cert.ProjAIdeal.Gen.frame m ρ, frame_rai,
    fun m ρ _ => Cert.ProjB.Gen.frame m ρ, fun m ρ _ => Cert.ProjBIdeal.Gen.frame m ρ, frame_rbi,
    fun m ρ _ => Cert.MergeA.Gen.frame m ρ, fun m ρ _ => Cert.MergeAIdeal.Gen.frame m ρ, frame_rmai,
    fun m ρ _ => Cert.MergeB.Gen.frame m ρ, fun m ρ _ => Cert.MergeBIdeal.Gen.frame m ρ, frame_rmbi,
    fun m ρ _ => Cert.SampleA.Gen.frame m ρ, fun m ρ _ => Cert.SampleAIdeal.Gen.frame m ρ, frame_rsai,
    fun m ρ _ => Cert.SampleB.Gen.frame m ρ, fun m ρ _ => Cert.SampleBIdeal.Gen.frame m ρ, frame_rsbi,
    fun m ρ _ => Cert.SMergeB.Gen.frame m ρ, fun m ρ _ => Cert.SMergeBIdeal.Gen.frame m ρ, frame_rsmbi,
    trivial, Cert.Proof.Cmp.algebraic, trivial, Cert.Proof.ProjA.algebraic, trivial, Cert.Proof.ProjB.algebraic,
    trivial, Cert.Proof.MergeA.algebraic, trivial, Cert.Proof.MergeB.algebraic,
    trivial, Cert.Proof.SampleA.algebraic, trivial, Cert.Proof.SampleB.algebraic, trivial, Cert.Proof.SMergeB.algebraic⟩

end Cert.Proof
